-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_unit_row [hPre_finite_scores_unit_row : Cert.Pre_finite_scores_unit_row.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_unit_row.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_unit_row [hPre_finite_scores_unit_row : Cert.Pre_finite_scores_unit_row.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_unit_row.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_scores_unit_row_of_context [hPre_finite_scores_unit_row_of_context : Cert.Pre_finite_scores_unit_row_of_context.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_scores_unit_row_of_context.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_scores_unit_row_of_context [hPre_finite_scores_unit_row_of_context : Cert.Pre_finite_scores_unit_row_of_context.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_scores_unit_row_of_context.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_scores_unit_row [hKernelIdeal : Cert.KernelIdeal.Facts] [hPre_finite_scores_unit_row : Cert.Pre_finite_scores_unit_row.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_unit_row m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_scores_unit_row [hReferenceIdeal : Cert.ReferenceIdeal.Facts] [hPre_finite_scores_unit_row : Cert.Pre_finite_scores_unit_row.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_unit_row m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_finite_scores_unit_row_of_context [hKernel4Ideal : Cert.Kernel4Ideal.Facts] [hPre_finite_scores_unit_row_of_context : Cert.Pre_finite_scores_unit_row_of_context.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_scores_unit_row_of_context m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite_scores_unit_row_of_context [hReference4Ideal : Cert.Reference4Ideal.Facts] [hPre_finite_scores_unit_row_of_context : Cert.Pre_finite_scores_unit_row_of_context.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_scores_unit_row_of_context m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def preserves_Kernel_KernelIdeal : Prop :=
  True

def algebraic_KernelIdeal_ReferenceIdeal_on_latent_columns_pre_finite_scores_unit_row [hKernelIdeal : Cert.KernelIdeal.Facts] [hReferenceIdeal : Cert.ReferenceIdeal.Facts] [hPre_finite_scores_unit_row : Cert.Pre_finite_scores_unit_row.Facts] [hOn_latent_columns : Cert.On_latent_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_unit_row m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![2, 1024, 8448]⟩ : Shape).Idx, (Cert.On_latent_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) i = 1#1 → r.2.mem ((c.tc : Thread Cert.KernelIdeal.nD Cert.KernelIdeal.τ).loc Cert.KernelIdeal.main_v7) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![2, 1024, 8448]⟩ : Shape).Idx, (Cert.On_latent_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) i = 1#1 → r.2.mem ((c.tc : Thread Cert.ReferenceIdeal.nD Cert.ReferenceIdeal.τ).loc Cert.ReferenceIdeal.main_v80) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v137) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite_scores_unit_row_of_context [hKernel4Ideal : Cert.Kernel4Ideal.Facts] [hReference4Ideal : Cert.Reference4Ideal.Facts] [hPre_finite_scores_unit_row_of_context : Cert.Pre_finite_scores_unit_row_of_context.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_scores_unit_row_of_context m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v85) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v68) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v176_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v176_2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v78) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_scores_unit_row : Cert.Pre_finite_scores_unit_row.Facts) (hPre_finite_scores_unit_row_of_context : Cert.Pre_finite_scores_unit_row_of_context.Facts) (hOn_latent_columns : Cert.On_latent_columns.Facts),
    quiescent_Kernel (hKernel := hKernel)
    ∧ quiescent_KernelIdeal (hKernelIdeal := hKernelIdeal)
    ∧ quiescent_KernelIdeal_pre_finite_scores_unit_row (hKernelIdeal := hKernelIdeal) (hPre_finite_scores_unit_row := hPre_finite_scores_unit_row)
    ∧ quiescent_ReferenceIdeal (hReferenceIdeal := hReferenceIdeal)
    ∧ quiescent_ReferenceIdeal_pre_finite_scores_unit_row (hReferenceIdeal := hReferenceIdeal) (hPre_finite_scores_unit_row := hPre_finite_scores_unit_row)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_scores_unit_row_of_context (hKernel4Ideal := hKernel4Ideal) (hPre_finite_scores_unit_row_of_context := hPre_finite_scores_unit_row_of_context)
    ∧ quiescent_Reference4Ideal (hReference4Ideal := hReference4Ideal)
    ∧ quiescent_Reference4Ideal_pre_finite_scores_unit_row_of_context (hReference4Ideal := hReference4Ideal) (hPre_finite_scores_unit_row_of_context := hPre_finite_scores_unit_row_of_context)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_on_latent_columns_pre_finite_scores_unit_row (hKernelIdeal := hKernelIdeal) (hReferenceIdeal := hReferenceIdeal) (hPre_finite_scores_unit_row := hPre_finite_scores_unit_row) (hOn_latent_columns := hOn_latent_columns)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_scores_unit_row_of_context (hKernel4Ideal := hKernel4Ideal) (hReference4Ideal := hReference4Ideal) (hPre_finite_scores_unit_row_of_context := hPre_finite_scores_unit_row_of_context)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== On_latent_columns.lean ====
abbrev S2x20x128x8448 : Shape := ⟨4, ![2, 20, 128, 8448]⟩
abbrev S2x8448x896 : Shape := ⟨3, ![2, 8448, 896]⟩
abbrev S2x10x80x8448 : Shape := ⟨4, ![2, 10, 80, 8448]⟩
abbrev S32 : Shape := ⟨1, ![32]⟩
abbrev S64 : Shape := ⟨1, ![64]⟩
abbrev S2x1024x8448 : Shape := ⟨3, ![2, 1024, 8448]⟩
abbrev S_ : Shape := ⟨0, ![]⟩

class Facts : Prop where
  bcast_S_S2x1024x8448 : S_.BroadcastsInDim S2x1024x8448 (![] : Fin 0 → Fin S2x1024x8448.rank)

variable [Facts]

def fn {F : FTy → Type} [FloatOps F] (main_arg0 : FVec F S2x20x128x8448 .bf16) (main_arg1 : FVec F S2x8448x896 .bf16) (main_arg2 : FVec F S2x10x80x8448 .bf16) (main_arg3 : FVec F S32 .f32) (main_arg4 : FVec F S32 .f32) (main_arg5 : FVec F S32 .f32) (main_arg6 : FVec F S32 .f32) (main_arg7 : FVec F S64 .f32) : IVec S2x1024x8448 1 :=
  let main_v0 : IVec S2x1024x8448 32 := iotaInDim S2x1024x8448 32 2
  let main_c : IVec S_ 32 := constantI S_ 32 8192#32
  let main_v1 : IVec S2x1024x8448 32 := broadcastInDim S2x1024x8448 ![] bcast_S_S2x1024x8448 main_c
  let main_v2 : IVec S2x1024x8448 1 := cmpi .slt main_v0 main_v1
  main_v2
-- ==== Pre_finite_scores_unit_row.lean ====
abbrev S2x20x128x8448 : Shape := ⟨4, ![2, 20, 128, 8448]⟩
abbrev S2x8448x896 : Shape := ⟨3, ![2, 8448, 896]⟩
abbrev S2x10x80x8448 : Shape := ⟨4, ![2, 10, 80, 8448]⟩
abbrev S32 : Shape := ⟨1, ![32]⟩
abbrev S64 : Shape := ⟨1, ![64]⟩
abbrev S_ : Shape := ⟨0, ![]⟩
abbrev S2x10x1x8448 : Shape := ⟨4, ![2, 10, 1, 8448]⟩
abbrev S2x10x8448 : Shape := ⟨3, ![2, 10, 8448]⟩

class Facts : Prop where
  bitsLt_bf16_f32 : FTy.bits .bf16 < FTy.bits .f32
  bcast_S_S2x20x128x8448 : S_.BroadcastsInDim S2x20x128x8448 (![] : Fin 0 → Fin S2x20x128x8448.rank)
  reducesTo_S2x20x128x8448_S_d0_1_2_3 : S2x20x128x8448.ReducesTo [0, 1, 2, 3] S_
  h_S_ : 0 < S_.numel
  bcast_S_S2x8448x896 : S_.BroadcastsInDim S2x8448x896 (![] : Fin 0 → Fin S2x8448x896.rank)
  reducesTo_S2x8448x896_S_d0_1_2 : S2x8448x896.ReducesTo [0, 1, 2] S_
  slices_S2x10x80x8448_S2x10x1x8448_0_0_64_0 : S2x10x80x8448.Slices ![0, 0, 64, 0] S2x10x1x8448
  shapeCasts_S2x10x1x8448_S2x10x8448 : S2x10x1x8448.ShapeCasts S2x10x8448
  bcast_S_S2x10x8448 : S_.BroadcastsInDim S2x10x8448 (![] : Fin 0 → Fin S2x10x8448.rank)
  reducesTo_S2x10x8448_S_d0_1_2 : S2x10x8448.ReducesTo [0, 1, 2] S_

variable [Facts]

def fn {F : FTy → Type} [FloatOps F] (main_arg0 : FVec F S2x20x128x8448 .bf16) (main_arg1 : FVec F S2x8448x896 .bf16) (main_arg2 : FVec F S2x10x80x8448 .bf16) (main_arg3 : FVec F S32 .f32) (main_arg4 : FVec F S32 .f32) (main_arg5 : FVec F S32 .f32) (main_arg6 : FVec F S32 .f32) (main_arg7 : FVec F S64 .f32) : IVec S_ 1 :=
  let main_v0 : FVec F S2x20x128x8448 .f32 := (extf .f32 · bitsLt_bf16_f32) main_arg0
  let main_v1 : FVec F S2x20x128x8448 .f32 := Host.absf main_v0
  let main_cst : FVec F S_ .f32 := constant S_ .f32 0x7F800000#32
  let main_v2 : FVec F S2x20x128x8448 .f32 := broadcastInDim S2x20x128x8448 ![] bcast_S_S2x20x128x8448 main_cst
  let main_v3 : IVec S2x20x128x8448 1 := cmpf .olt main_v1 main_v2
  let main_c : IVec S_ 1 := constantI S_ 1 1#1
  let main_v4 : IVec S_ 1 := (fun x v => Host.reduce IntOp.andi x v reducesTo_S2x20x128x8448_S_d0_1_2_3 h_S_) main_v3 main_c
  let main_v5 : FVec F S2x8448x896 .f32 := (extf .f32 · bitsLt_bf16_f32) main_arg1
  let main_v6 : FVec F S2x8448x896 .f32 := Host.absf main_v5
  let main_cst_0 : FVec F S_ .f32 := constant S_ .f32 0x7F800000#32
  let main_v7 : FVec F S2x8448x896 .f32 := broadcastInDim S2x8448x896 ![] bcast_S_S2x8448x896 main_cst_0
  let main_v8 : IVec S2x8448x896 1 := cmpf .olt main_v6 main_v7
  let main_c_1 : IVec S_ 1 := constantI S_ 1 1#1
  let main_v9 : IVec S_ 1 := (fun x v => Host.reduce IntOp.andi x v reducesTo_S2x8448x896_S_d0_1_2 h_S_) main_v8 main_c_1
  let main_v10 : IVec S_ 1 := andi main_v4 main_v9
  let main_v11 : FVec F S2x10x1x8448 .bf16 := (extractStridedSlice S2x10x1x8448 ![0, 0, 64, 0] · slices_S2x10x80x8448_S2x10x1x8448_0_0_64_0) main_arg2
  let main_v12 : FVec F S2x10x8448 .bf16 := shapeCast S2x10x8448 main_v11 shapeCasts_S2x10x1x8448_S2x10x8448
  let main_v13 : FVec F S2x10x8448 .f32 := (extf .f32 · bitsLt_bf16_f32) main_v12
  let main_cst_2 : FVec F S_ .f32 := constant S_ .f32 0x3F800000#32
  let main_v14 : FVec F S2x10x8448 .f32 := broadcastInDim S2x10x8448 ![] bcast_S_S2x10x8448 main_cst_2
  let main_v15 : IVec S2x10x8448 1 := cmpf .oeq main_v13 main_v14
  let main_c_3 : IVec S_ 1 := constantI S_ 1 1#1
  let main_v16 : IVec S_ 1 := (fun x v => Host.reduce IntOp.andi x v reducesTo_S2x10x8448_S_d0_1_2 h_S_) main_v15 main_c_3
  let main_v17 : IVec S_ 1 := andi main_v10 main_v16
  main_v17
-- ==== Pre_finite_scores_unit_row_of_context.lean ====
abbrev S2x20x128x8448 : Shape := ⟨4, ![2, 20, 128, 8448]⟩
abbrev S2x8448x896 : Shape := ⟨3, ![2, 8448, 896]⟩
abbrev S2x10x80x8448 : Shape := ⟨4, ![2, 10, 80, 8448]⟩
abbrev S32 : Shape := ⟨1, ![32]⟩
abbrev S64 : Shape := ⟨1, ![64]⟩
abbrev S2x1024x8448 : Shape := ⟨3, ![2, 1024, 8448]⟩
abbrev S_ : Shape := ⟨0, ![]⟩
abbrev S2x10x1x8448 : Shape := ⟨4, ![2, 10, 1, 8448]⟩
abbrev S2x10x8448 : Shape := ⟨3, ![2, 10, 8448]⟩

class Facts : Prop where
  bitsLt_bf16_f32 : FTy.bits .bf16 < FTy.bits .f32
  bcast_S_S2x20x128x8448 : S_.BroadcastsInDim S2x20x128x8448 (![] : Fin 0 → Fin S2x20x128x8448.rank)
  reducesTo_S2x20x128x8448_S_d0_1_2_3 : S2x20x128x8448.ReducesTo [0, 1, 2, 3] S_
  h_S_ : 0 < S_.numel
  bcast_S_S2x8448x896 : S_.BroadcastsInDim S2x8448x896 (![] : Fin 0 → Fin S2x8448x896.rank)
  reducesTo_S2x8448x896_S_d0_1_2 : S2x8448x896.ReducesTo [0, 1, 2] S_
  slices_S2x10x80x8448_S2x10x1x8448_0_0_64_0 : S2x10x80x8448.Slices ![0, 0, 64, 0] S2x10x1x8448
  shapeCasts_S2x10x1x8448_S2x10x8448 : S2x10x1x8448.ShapeCasts S2x10x8448
  bcast_S_S2x10x8448 : S_.BroadcastsInDim S2x10x8448 (![] : Fin 0 → Fin S2x10x8448.rank)
  reducesTo_S2x10x8448_S_d0_1_2 : S2x10x8448.ReducesTo [0, 1, 2] S_

variable [Facts]

def fn {F : FTy → Type} [FloatOps F] (main_arg0 : FVec F S2x20x128x8448 .bf16) (main_arg1 : FVec F S2x8448x896 .bf16) (main_arg2 : FVec F S2x10x80x8448 .bf16) (main_arg3 : FVec F S32 .f32) (main_arg4 : FVec F S32 .f32) (main_arg5 : FVec F S32 .f32) (main_arg6 : FVec F S32 .f32) (main_arg7 : FVec F S64 .f32) (main_arg8 : FVec F S2x1024x8448 .bf16) : IVec S_ 1 :=
  let main_v0 : FVec F S2x20x128x8448 .f32 := (extf .f32 · bitsLt_bf16_f32) main_arg0
  let main_v1 : FVec F S2x20x128x8448 .f32 := Host.absf main_v0
  let main_cst : FVec F S_ .f32 := constant S_ .f32 0x7F800000#32
  let main_v2 : FVec F S2x20x128x8448 .f32 := broadcastInDim S2x20x128x8448 ![] bcast_S_S2x20x128x8448 main_cst
  let main_v3 : IVec S2x20x128x8448 1 := cmpf .olt main_v1 main_v2
  let main_c : IVec S_ 1 := constantI S_ 1 1#1
  let main_v4 : IVec S_ 1 := (fun x v => Host.reduce IntOp.andi x v reducesTo_S2x20x128x8448_S_d0_1_2_3 h_S_) main_v3 main_c
  let main_v5 : FVec F S2x8448x896 .f32 := (extf .f32 · bitsLt_bf16_f32) main_arg1
  let main_v6 : FVec F S2x8448x896 .f32 := Host.absf main_v5
  let main_cst_0 : FVec F S_ .f32 := constant S_ .f32 0x7F800000#32
  let main_v7 : FVec F S2x8448x896 .f32 := broadcastInDim S2x8448x896 ![] bcast_S_S2x8448x896 main_cst_0
  let main_v8 : IVec S2x8448x896 1 := cmpf .olt main_v6 main_v7
  let main_c_1 : IVec S_ 1 := constantI S_ 1 1#1
  let main_v9 : IVec S_ 1 := (fun x v => Host.reduce IntOp.andi x v reducesTo_S2x8448x896_S_d0_1_2 h_S_) main_v8 main_c_1
  let main_v10 : IVec S_ 1 := andi main_v4 main_v9
  let main_v11 : FVec F S2x10x1x8448 .bf16 := (extractStridedSlice S2x10x1x8448 ![0, 0, 64, 0] · slices_S2x10x80x8448_S2x10x1x8448_0_0_64_0) main_arg2
  let main_v12 : FVec F S2x10x8448 .bf16 := shapeCast S2x10x8448 main_v11 shapeCasts_S2x10x1x8448_S2x10x8448
  let main_v13 : FVec F S2x10x8448 .f32 := (extf .f32 · bitsLt_bf16_f32) main_v12
  let main_cst_2 : FVec F S_ .f32 := constant S_ .f32 0x3F800000#32
  let main_v14 : FVec F S2x10x8448 .f32 := broadcastInDim S2x10x8448 ![] bcast_S_S2x10x8448 main_cst_2
  let main_v15 : IVec S2x10x8448 1 := cmpf .oeq main_v13 main_v14
  let main_c_3 : IVec S_ 1 := constantI S_ 1 1#1
  let main_v16 : IVec S_ 1 := (fun x v => Host.reduce IntOp.andi x v reducesTo_S2x10x8448_S_d0_1_2 h_S_) main_v15 main_c_3
  let main_v17 : IVec S_ 1 := andi main_v10 main_v16
  main_v17
-- ==== Kernel.lean ====
abbrev S2x20x128x8448 : Shape := ⟨4, ![2, 20, 128, 8448]⟩
abbrev S2x8448x896 : Shape := ⟨3, ![2, 8448, 896]⟩
abbrev S2x10x80x8448 : Shape := ⟨4, ![2, 10, 80, 8448]⟩
abbrev S32 : Shape := ⟨1, ![32]⟩
abbrev S64 : Shape := ⟨1, ![64]⟩
abbrev S1x32 : Shape := ⟨2, ![1, 32]⟩
abbrev S4x32 : Shape := ⟨2, ![4, 32]⟩
abbrev S64x1 : Shape := ⟨2, ![64, 1]⟩
abbrev S64x512 : Shape := ⟨2, ![64, 512]⟩
abbrev S2x1024x8448 : Shape := ⟨3, ![2, 1024, 8448]⟩
abbrev S1x20x128x512 : Shape := ⟨4, ![1, 20, 128, 512]⟩
abbrev S1x768x896 : Shape := ⟨3, ![1, 768, 896]⟩
abbrev S1x10x80x768 : Shape := ⟨4, ![1, 10, 80, 768]⟩
abbrev S1x1024x512 : Shape := ⟨3, ![1, 1024, 512]⟩
abbrev S20x80x512 : Shape := ⟨3, ![20, 80, 512]⟩
abbrev S20x1x512 : Shape := ⟨3, ![20, 1, 512]⟩
abbrev S1x768x128 : Shape := ⟨3, ![1, 768, 128]⟩
abbrev S768x128 : Shape := ⟨2, ![768, 128]⟩
abbrev S1x1x128x512 : Shape := ⟨4, ![1, 1, 128, 512]⟩
abbrev S128x512 : Shape := ⟨2, ![128, 512]⟩
abbrev S768x512 : Shape := ⟨2, ![768, 512]⟩
abbrev S1x1x512 : Shape := ⟨3, ![1, 1, 512]⟩
abbrev S1x512 : Shape := ⟨2, ![1, 512]⟩
abbrev S512 : Shape := ⟨1, ![512]⟩
abbrev S1x1x80x768 : Shape := ⟨4, ![1, 1, 80, 768]⟩
abbrev S80x768 : Shape := ⟨2, ![80, 768]⟩
abbrev S80x512 : Shape := ⟨2, ![80, 512]⟩
abbrev S1x80x512 : Shape := ⟨3, ![1, 80, 512]⟩
abbrev S1x64x512 : Shape := ⟨3, ![1, 64, 512]⟩
abbrev S1 : Shape := ⟨1, ![1]⟩
abbrev S1x1 : Shape := ⟨2, ![1, 1]⟩

abbrev nBuf : Space → Nat
  | .hbm => 16
  | .vmem => 12
  | .smem => 0
  | _ => 0

abbrev bufTy : (tb : Table) → Fin (tcTables nBuf tb) → BufTy
  | .hbm, ⟨0, _⟩ => ⟨S2x20x128x8448, .bf16⟩
  | .hbm, ⟨1, _⟩ => ⟨S2x8448x896, .bf16⟩
  | .hbm, ⟨2, _⟩ => ⟨S2x10x80x8448, .bf16⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S64, .f32⟩
  | .hbm, ⟨8, _⟩ => ⟨S1x32, .f32⟩
  | .hbm, ⟨9, _⟩ => ⟨S1x32, .f32⟩
  | .hbm, ⟨10, _⟩ => ⟨S1x32, .f32⟩
  | .hbm, ⟨11, _⟩ => ⟨S1x32, .f32⟩
  | .hbm, ⟨12, _⟩ => ⟨S4x32, .f32⟩
  | .hbm, ⟨13, _⟩ => ⟨S64x1, .f32⟩
  | .hbm, ⟨14, _⟩ => ⟨S64x512, .f32⟩
  | .hbm, ⟨15, _⟩ => ⟨S2x1024x8448, .bf16⟩
  | .local _ .vmem, ⟨0, _⟩ => ⟨S1x20x128x512, .bf16⟩
  | .local _ .vmem, ⟨1, _⟩ => ⟨S1x20x128x512, .bf16⟩
  | .local _ .vmem, ⟨2, _⟩ => ⟨S1x768x896, .bf16⟩
  | .local _ .vmem, ⟨3, _⟩ => ⟨S1x768x896, .bf16⟩
  | .local _ .vmem, ⟨4, _⟩ => ⟨S1x10x80x768, .bf16⟩
  | .local _ .vmem, ⟨5, _⟩ => ⟨S1x10x80x768, .bf16⟩
  | .local _ .vmem, ⟨6, _⟩ => ⟨S4x32, .f32⟩
  | .local _ .vmem, ⟨7, _⟩ => ⟨S64x512, .f32⟩
  | .local _ .vmem, ⟨8, _⟩ => ⟨S1x1024x512, .bf16⟩
  | .local _ .vmem, ⟨9, _⟩ => ⟨S1x1024x512, .bf16⟩
  | .local _ .vmem, ⟨10, _⟩ => ⟨S20x80x512, .f32⟩
  | .local _ .vmem, ⟨11, _⟩ => ⟨S20x1x512, .f32⟩
  | _, _ => ⟨S2x20x128x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 16, 11], ![false, false, false]⟩

def k0_cond2 (i : grid0.Coords) : BitVec 1 :=
  let arg2 : BitVec 32 := BitVec.ofNat 32 (i 2).val
  let c10_i32 : BitVec 32 := 10#32
  let v603 : BitVec 1 := Scalar.cmpi .eq arg2 c10_i32
  let v604 : BitVec 32 := Scalar.extui v603
  let c0_i32_494 : BitVec 32 := 0#32
  let v605 : BitVec 1 := Scalar.cmpi .ne v604 c0_i32_494
  v605

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![arg0.toNat, c0_i32_0.toNat, c0_i32_1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![arg0.toNat, v0.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  let c0_i32_2 : BitVec 32 := 0#32
  ![arg0.toNat, c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![arg0.toNat, c0_i32_0.toNat, v0.toNat]

abbrev stage0_0 : Fin 2 → Memref sig .tc .vmem S1x20x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x768x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x10x80x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S4x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S2x20x128x8448 : Shape := ⟨4, ![2, 20, 128, 8448]⟩
abbrev S2x8448x896 : Shape := ⟨3, ![2, 8448, 896]⟩
abbrev S2x10x80x8448 : Shape := ⟨4, ![2, 10, 80, 8448]⟩
abbrev S32 : Shape := ⟨1, ![32]⟩
abbrev S64 : Shape := ⟨1, ![64]⟩
abbrev S2x8448x7x128 : Shape := ⟨4, ![2, 8448, 7, 128]⟩
abbrev S2x7x8448x128 : Shape := ⟨4, ![2, 7, 8448, 128]⟩
abbrev S2x10x64x8448 : Shape := ⟨4, ![2, 10, 64, 8448]⟩
abbrev S2x4x8448x128 : Shape := ⟨4, ![2, 4, 8448, 128]⟩
abbrev S2x2x8448x128 : Shape := ⟨4, ![2, 2, 8448, 128]⟩
abbrev S2x2x1x8448x128 : Shape := ⟨5, ![2, 2, 1, 8448, 128]⟩
abbrev S2x2x4x8448x128 : Shape := ⟨5, ![2, 2, 4, 8448, 128]⟩
abbrev S2x8x8448x128 : Shape := ⟨4, ![2, 8, 8448, 128]⟩
abbrev S2x1x8448x128 : Shape := ⟨4, ![2, 1, 8448, 128]⟩
abbrev S2x1x1x8448x128 : Shape := ⟨5, ![2, 1, 1, 8448, 128]⟩
abbrev S2x1x8x8448x128 : Shape := ⟨5, ![2, 1, 8, 8448, 128]⟩
abbrev S2x20x8448x128 : Shape := ⟨4, ![2, 20, 8448, 128]⟩
abbrev S2x4x64x8448 : Shape := ⟨4, ![2, 4, 64, 8448]⟩
abbrev S2x4x1x64x8448 : Shape := ⟨5, ![2, 4, 1, 64, 8448]⟩
abbrev S2x4x2x64x8448 : Shape := ⟨5, ![2, 4, 2, 64, 8448]⟩
abbrev S2x8x64x8448 : Shape := ⟨4, ![2, 8, 64, 8448]⟩
abbrev S2x2x64x8448 : Shape := ⟨4, ![2, 2, 64, 8448]⟩
abbrev S2x2x1x64x8448 : Shape := ⟨5, ![2, 2, 1, 64, 8448]⟩
abbrev S2x2x4x64x8448 : Shape := ⟨5, ![2, 2, 4, 64, 8448]⟩
abbrev S2x20x64x8448 : Shape := ⟨4, ![2, 20, 64, 8448]⟩
abbrev S2x20x8448x8448 : Shape := ⟨4, ![2, 20, 8448, 8448]⟩
abbrev S_ : Shape := ⟨0, ![]⟩
abbrev S2x20x8448 : Shape := ⟨3, ![2, 20, 8448]⟩
abbrev S2x20x8448x1 : Shape := ⟨4, ![2, 20, 8448, 1]⟩
abbrev S2x20x8448x64 : Shape := ⟨4, ![2, 20, 8448, 64]⟩
abbrev S2x8x8448x64 : Shape := ⟨4, ![2, 8, 8448, 64]⟩
abbrev S2x4x2x8448x64 : Shape := ⟨5, ![2, 4, 2, 8448, 64]⟩
abbrev S2x4x1x8448x64 : Shape := ⟨5, ![2, 4, 1, 8448, 64]⟩
abbrev S2x4x8448x64 : Shape := ⟨4, ![2, 4, 8448, 64]⟩
abbrev S2x4x8448 : Shape := ⟨3, ![2, 4, 8448]⟩
abbrev S2x4x8448x1 : Shape := ⟨4, ![2, 4, 8448, 1]⟩
abbrev S1x1x1x64 : Shape := ⟨4, ![1, 1, 1, 64]⟩
abbrev S2x16x8448x64 : Shape := ⟨4, ![2, 16, 8448, 64]⟩
abbrev S2x16x64x8448 : Shape := ⟨4, ![2, 16, 64, 8448]⟩
abbrev S2x1024x8448 : Shape := ⟨3, ![2, 1024, 8448]⟩

abbrev nBuf : Space → Nat
  | .hbm => 100
  | .vmem => 0
  | .smem => 0
  | _ => 0

abbrev bufTy : (tb : Table) → Fin (tcTables nBuf tb) → BufTy
  | .hbm, ⟨0, _⟩ => ⟨S2x20x128x8448, .bf16⟩
  | .hbm, ⟨1, _⟩ => ⟨S2x8448x896, .bf16⟩
  | .hbm, ⟨2, _⟩ => ⟨S2x10x80x8448, .bf16⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S64, .f32⟩
  | .hbm, ⟨8, _⟩ => ⟨S2x20x128x8448, .f32⟩
  | .hbm, ⟨9, _⟩ => ⟨S2x8448x896, .f32⟩
  | .hbm, ⟨10, _⟩ => ⟨S2x8448x7x128, .f32⟩
  | .hbm, ⟨11, _⟩ => ⟨S2x7x8448x128, .f32⟩
  | .hbm, ⟨12, _⟩ => ⟨S2x10x64x8448, .bf16⟩
  | .hbm, ⟨13, _⟩ => ⟨S2x10x64x8448, .f32⟩
  | .hbm, ⟨14, _⟩ => ⟨S2x4x8448x128, .f32⟩
  | .hbm, ⟨15, _⟩ => ⟨S2x2x8448x128, .f32⟩
  | .hbm, ⟨16, _⟩ => ⟨S2x2x1x8448x128, .f32⟩
  | .hbm, ⟨17, _⟩ => ⟨S2x2x4x8448x128, .f32⟩
  | .hbm, ⟨18, _⟩ => ⟨S2x8x8448x128, .f32⟩
  | .hbm, ⟨19, _⟩ => ⟨S2x1x8448x128, .f32⟩
  | .hbm, ⟨20, _⟩ => ⟨S2x1x1x8448x128, .f32⟩
  | .hbm, ⟨21, _⟩ => ⟨S2x1x8x8448x128, .f32⟩
  | .hbm, ⟨22, _⟩ => ⟨S2x8x8448x128, .f32⟩
  | .hbm, ⟨23, _⟩ => ⟨S2x20x8448x128, .f32⟩
  | .hbm, ⟨24, _⟩ => ⟨S2x4x64x8448, .f32⟩
  | .hbm, ⟨25, _⟩ => ⟨S2x4x64x8448, .f32⟩
  | .hbm, ⟨26, _⟩ => ⟨S2x4x1x64x8448, .f32⟩
  | .hbm, ⟨27, _⟩ => ⟨S2x4x2x64x8448, .f32⟩
  | .hbm, ⟨28, _⟩ => ⟨S2x8x64x8448, .f32⟩
  | .hbm, ⟨29, _⟩ => ⟨S2x2x64x8448, .f32⟩
  | .hbm, ⟨30, _⟩ => ⟨S2x2x1x64x8448, .f32⟩
  | .hbm, ⟨31, _⟩ => ⟨S2x2x4x64x8448, .f32⟩
  | .hbm, ⟨32, _⟩ => ⟨S2x8x64x8448, .f32⟩
  | .hbm, ⟨33, _⟩ => ⟨S2x20x64x8448, .f32⟩
  | .hbm, ⟨34, _⟩ => ⟨S2x20x8448x8448, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S2x20x8448x8448, .f32⟩
  | .hbm, ⟨39, _⟩ => ⟨S2x20x8448x8448, .f32⟩
  | .hbm, ⟨40, _⟩ => ⟨S_, .f32⟩
  | .hbm, ⟨41, _⟩ => ⟨S2x20x8448, .f32⟩
  | .hbm, ⟨42, _⟩ => ⟨S_, .f32⟩
  | .hbm, ⟨43, _⟩ => ⟨S2x20x8448, .f32⟩
  | .hbm, ⟨44, _⟩ => ⟨S2x20x8448, .f32⟩
  | .hbm, ⟨45, _⟩ => ⟨S2x20x8448x1, .f32⟩
  | .hbm, ⟨46, _⟩ => ⟨S2x20x8448x8448, .f32⟩
  | .hbm, ⟨47, _⟩ => ⟨S2x20x8448x8448, .f32⟩
  | .hbm, ⟨48, _⟩ => ⟨S2x20x8448x8448, .f32⟩
  | .hbm, ⟨49, _⟩ => ⟨S_, .f32⟩
  | .hbm, ⟨50, _⟩ => ⟨S2x20x8448, .f32⟩
  | .hbm, ⟨51, _⟩ => ⟨S2x20x8448x1, .f32⟩
  | .hbm, ⟨52, _⟩ => ⟨S2x20x8448x8448, .f32⟩
  | .hbm, ⟨53, _⟩ => ⟨S2x20x8448x8448, .f32⟩
  | .hbm, ⟨54, _⟩ => ⟨S2x20x8448x64, .f32⟩
  | .hbm, ⟨55, _⟩ => ⟨S32, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S32, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S2x8x8448x64, .f32⟩
  | .hbm, ⟨67, _⟩ => ⟨S2x4x2x8448x64, .f32⟩
  | .hbm, ⟨68, _⟩ => ⟨S2x4x1x8448x64, .f32⟩
  | .hbm, ⟨69, _⟩ => ⟨S2x4x8448x64, .f32⟩
  | .hbm, ⟨70, _⟩ => ⟨S2x4x1x8448x64, .f32⟩
  | .hbm, ⟨71, _⟩ => ⟨S2x4x8448x64, .f32⟩
  | .hbm, ⟨72, _⟩ => ⟨S2x4x8448x64, .f32⟩
  | .hbm, ⟨73, _⟩ => ⟨S2x4x8448x64, .f32⟩
  | .hbm, ⟨74, _⟩ => ⟨S2x4x8448x64, .f32⟩
  | .hbm, ⟨75, _⟩ => ⟨S2x4x8448x64, .f32⟩
  | .hbm, ⟨76, _⟩ => ⟨S_, .f32⟩
  | .hbm, ⟨77, _⟩ => ⟨S2x4x8448, .f32⟩
  | .hbm, ⟨78, _⟩ => ⟨S2x4x8448x1, .f32⟩
  | .hbm, ⟨79, _⟩ => ⟨S_, .f32⟩
  | .hbm, ⟨80, _⟩ => ⟨S2x4x8448x1, .f32⟩
  | .hbm, ⟨81, _⟩ => ⟨S2x4x8448x1, .f32⟩
  | .hbm, ⟨82, _⟩ => ⟨S_, .f32⟩
  | .hbm, ⟨83, _⟩ => ⟨S2x4x8448x1, .f32⟩
  | .hbm, ⟨84, _⟩ => ⟨S2x4x8448x1, .f32⟩
  | .hbm, ⟨85, _⟩ => ⟨S2x4x8448x1, .f32⟩
  | .hbm, ⟨86, _⟩ => ⟨S2x4x8448x64, .f32⟩
  | .hbm, ⟨87, _⟩ => ⟨S2x4x8448x64, .f32⟩
  | .hbm, ⟨88, _⟩ => ⟨S1x1x1x64, .f32⟩
  | .hbm, ⟨89, _⟩ => ⟨S2x4x8448x64, .f32⟩
  | .hbm, ⟨90, _⟩ => ⟨S2x4x8448x64, .f32⟩
  | .hbm, ⟨91, _⟩ => ⟨S_, .f32⟩
  | .hbm, ⟨92, _⟩ => ⟨S2x4x8448x64, .f32⟩
  | .hbm, ⟨93, _⟩ => ⟨S2x4x8448x64, .f32⟩
  | .hbm, ⟨94, _⟩ => ⟨S2x4x8448x64, .f32⟩
  | .hbm, ⟨95, _⟩ => ⟨S2x8x8448x64, .f32⟩
  | .hbm, ⟨96, _⟩ => ⟨S2x16x8448x64, .f32⟩
  | .hbm, ⟨97, _⟩ => ⟨S2x16x64x8448, .f32⟩
  | .hbm, ⟨98, _⟩ => ⟨S2x1024x8448, .f32⟩
  | .hbm, ⟨99, _⟩ => ⟨S2x1024x8448, .bf16⟩
  | _, _ => ⟨S2x20x128x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_0 : Ref sig .tc := ⟨.hbm, 40, rfl⟩
abbrev main_v31 : Ref sig .tc := ⟨.hbm, 41, rfl⟩
abbrev main_cst_1 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_2 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_3 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_4 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_5 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_6 : Ref sig .tc := ⟨.hbm, 76, rfl⟩
abbrev main_v61 : Ref sig .tc := ⟨.hbm, 77, rfl⟩
abbrev main_v62 : Ref sig .tc := ⟨.hbm, 78, rfl⟩
abbrev main_cst_7 : Ref sig .tc := ⟨.hbm, 79, rfl⟩
abbrev main_v63 : Ref sig .tc := ⟨.hbm, 80, rfl⟩
abbrev main_v64 : Ref sig .tc := ⟨.hbm, 81, rfl⟩
abbrev main_cst_8 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_9 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩

abbrev nD : Nat := 1
abbrev τ : Topo := Topo.v7x

variable {F : FTy → Type} [FloatOps F]
-- ==== Kernel2.lean ====
abbrev S2x1024x8448 : Shape := ⟨3, ![2, 1024, 8448]⟩
abbrev S2x8448x1024 : Shape := ⟨3, ![2, 8448, 1024]⟩
abbrev S8x6144 : Shape := ⟨2, ![8, 6144]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S1x1024 : Shape := ⟨2, ![1, 1024]⟩
abbrev S8x1x6144 : Shape := ⟨3, ![8, 1, 6144]⟩
abbrev S1x1024x256 : Shape := ⟨3, ![1, 1024, 256]⟩
abbrev S1x256x1024 : Shape := ⟨3, ![1, 256, 1024]⟩
abbrev S1x1x6144 : Shape := ⟨3, ![1, 1, 6144]⟩
abbrev S1024x256 : Shape := ⟨2, ![1024, 256]⟩
abbrev S256x1024 : Shape := ⟨2, ![256, 1024]⟩
abbrev S1x6144 : Shape := ⟨2, ![1, 6144]⟩
abbrev S256 : Shape := ⟨1, ![256]⟩
abbrev S256x1 : Shape := ⟨2, ![256, 1]⟩
abbrev S256x2816 : Shape := ⟨2, ![256, 2816]⟩

abbrev nBuf : Space → Nat
  | .hbm => 19
  | .vmem => 15
  | .smem => 0
  | _ => 0

abbrev bufTy : (tb : Table) → Fin (tcTables nBuf tb) → BufTy
  | .hbm, ⟨0, _⟩ => ⟨S2x1024x8448, .bf16⟩
  | .hbm, ⟨1, _⟩ => ⟨S2x8448x1024, .f32⟩
  | .hbm, ⟨2, _⟩ => ⟨S8x6144, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1024x1024, .bf16⟩
  | .hbm, ⟨14, _⟩ => ⟨S1024x2816, .bf16⟩
  | .hbm, ⟨15, _⟩ => ⟨S1024x2816, .bf16⟩
  | .hbm, ⟨16, _⟩ => ⟨S2816x1024, .bf16⟩
  | .hbm, ⟨17, _⟩ => ⟨S8x1x6144, .f32⟩
  | .hbm, ⟨18, _⟩ => ⟨S2x8448x1024, .f32⟩
  | .local _ .vmem, ⟨0, _⟩ => ⟨S1x1024x256, .bf16⟩
  | .local _ .vmem, ⟨1, _⟩ => ⟨S1x1024x256, .bf16⟩
  | .local _ .vmem, ⟨2, _⟩ => ⟨S1x256x1024, .f32⟩
  | .local _ .vmem, ⟨3, _⟩ => ⟨S1x256x1024, .f32⟩
  | .local _ .vmem, ⟨4, _⟩ => ⟨S1x1x6144, .f32⟩
  | .local _ .vmem, ⟨5, _⟩ => ⟨S1x1x6144, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .bf16⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S1x256x1024, .f32⟩
  | .local _ .vmem, ⟨14, _⟩ => ⟨S1x256x1024, .f32⟩
  | _, _ => ⟨S2x1024x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .eq arg1 c32_i32
  let c2_i32 : BitVec 32 := 2#32
  let v1 : BitVec 32 := Scalar.select v0 c2_i32 arg0
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S2x1024x8448 : Shape := ⟨3, ![2, 1024, 8448]⟩
abbrev S2x8448x1024 : Shape := ⟨3, ![2, 8448, 1024]⟩
abbrev S8x6144 : Shape := ⟨2, ![8, 6144]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S2x8192x1024 : Shape := ⟨3, ![2, 8192, 1024]⟩
abbrev S2x6144 : Shape := ⟨2, ![2, 6144]⟩
abbrev S2x1x6144 : Shape := ⟨3, ![2, 1, 6144]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩
abbrev S2x256x1024 : Shape := ⟨3, ![2, 256, 1024]⟩
abbrev S1x6144 : Shape := ⟨2, ![1, 6144]⟩
abbrev S6144 : Shape := ⟨1, ![6144]⟩
abbrev S1x1x6144 : Shape := ⟨3, ![1, 1, 6144]⟩
abbrev S2x256 : Shape := ⟨2, ![2, 256]⟩
abbrev S2x256x1 : Shape := ⟨3, ![2, 256, 1]⟩
abbrev S2x256x2816 : Shape := ⟨3, ![2, 256, 2816]⟩

abbrev nBuf : Space → Nat
  | .hbm => 184
  | .vmem => 0
  | .smem => 0
  | _ => 0

abbrev hbmTy0_0 (i : Nat) : BufTy := match i % 128 with
  | 0 => ⟨S2x1024x8448, .bf16⟩
  | 1 => ⟨S2x8448x1024, .f32⟩
  | 2 => ⟨S8x6144, .f32⟩
  | 3 => ⟨S1024, .f32⟩
  | 4 => ⟨S1024, .f32⟩
  | 5 => ⟨S1024, .f32⟩
  | 6 => ⟨S1024x1024, .f32⟩
  | 7 => ⟨S1024x2816, .f32⟩
  | 8 => ⟨S1024x2816, .f32⟩
  | 9 => ⟨S2816x1024, .f32⟩
  | 10 => ⟨S2x1024x8448, .f32⟩
  | 11 => ⟨S2x8448x1024, .f32⟩
  | 12 => ⟨S2x8192x1024, .f32⟩
  | 13 => ⟨S2x8192x1024, .f32⟩
  | 14 => ⟨S2x6144, .f32⟩
  | 15 => ⟨S2x1x6144, .f32⟩
  | 16 => ⟨S2x1x1024, .f32⟩
  | 17 => ⟨S2x1x1024, .f32⟩
  | 18 => ⟨S2x1x1024, .f32⟩
  | 19 => ⟨S2x1x1024, .f32⟩
  | 20 => ⟨S2x1x1024, .f32⟩
  | 21 => ⟨S2x1x1024, .f32⟩
  | 22 => ⟨S2x8192x1024, .f32⟩
  | 23 => ⟨S2x8192x1024, .f32⟩
  | 24 => ⟨S_, .f32⟩
  | 25 => ⟨S2x8192, .f32⟩
  | 26 => ⟨S2x8192x1, .f32⟩
  | 27 => ⟨S_, .f32⟩
  | 28 => ⟨S2x8192x1, .f32⟩
  | 29 => ⟨S2x8192x1, .f32⟩
  | 30 => ⟨S_, .f32⟩
  | 31 => ⟨S2x8192x1, .f32⟩
  | 32 => ⟨S2x8192x1, .f32⟩
  | 33 => ⟨S2x8192x1, .f32⟩
  | 34 => ⟨S2x8192x1024, .f32⟩
  | 35 => ⟨S2x8192x1024, .f32⟩
  | 36 => ⟨S1x1x1024, .f32⟩
  | 37 => ⟨S2x8192x1024, .f32⟩
  | 38 => ⟨S2x8192x1024, .f32⟩
  | 39 => ⟨S2x8192x1024, .f32⟩
  | 40 => ⟨S2x8192x1024, .f32⟩
  | 41 => ⟨S2x8192x1024, .f32⟩
  | 42 => ⟨S2x8192x1024, .f32⟩
  | 43 => ⟨S_, .f32⟩
  | 44 => ⟨S2x8192, .f32⟩
  | 45 => ⟨S2x8192x1, .f32⟩
  | 46 => ⟨S_, .f32⟩
  | 47 => ⟨S2x8192x1, .f32⟩
  | 48 => ⟨S2x8192x1, .f32⟩
  | 49 => ⟨S_, .f32⟩
  | 50 => ⟨S2x8192x1, .f32⟩
  | 51 => ⟨S2x8192x1, .f32⟩
  | 52 => ⟨S2x8192x1, .f32⟩
  | 53 => ⟨S2x8192x1024, .f32⟩
  | 54 => ⟨S2x8192x1024, .f32⟩
  | 55 => ⟨S1x1x1024, .f32⟩
  | 56 => ⟨S2x8192x1024, .f32⟩
  | 57 => ⟨S2x8192x1024, .f32⟩
  | 58 => ⟨S_, .f32⟩
  | 59 => ⟨S2x1x1024, .f32⟩
  | 60 => ⟨S2x1x1024, .f32⟩
  | 61 => ⟨S2x8192x1024, .f32⟩
  | 62 => ⟨S2x8192x1024, .f32⟩
  | 63 => ⟨S2x8192x1024, .f32⟩
  | 64 => ⟨S2x8192x1024, .f32⟩
  | 65 => ⟨S2x8192x2816, .f32⟩
  | 66 => ⟨S2x8192x2816, .f32⟩
  | 67 => ⟨S2x8192x2816, .f32⟩
  | 68 => ⟨S_, .f32⟩
  | 69 => ⟨S2x8192x2816, .f32⟩
  | 70 => ⟨S2x8192x2816, .f32⟩
  | 71 => ⟨S_, .f32⟩
  | 72 => ⟨S2x8192x2816, .f32⟩
  | 73 => ⟨S2x8192x2816, .f32⟩
  | 74 => ⟨S2x8192x2816, .f32⟩
  | 75 => ⟨S2x8192x2816, .f32⟩
  | 76 => ⟨S2x8192x2816, .f32⟩
  | 77 => ⟨S2x8192x1024, .f32⟩
  | 78 => ⟨S2x8192x1024, .f32⟩
  | 79 => ⟨S_, .f32⟩
  | 80 => ⟨S2x8192, .f32⟩
  | 81 => ⟨S2x8192x1, .f32⟩
  | 82 => ⟨S_, .f32⟩
  | 83 => ⟨S2x8192x1, .f32⟩
  | 84 => ⟨S2x8192x1, .f32⟩
  | 85 => ⟨S_, .f32⟩
  | 86 => ⟨S2x8192x1, .f32⟩
  | 87 => ⟨S2x8192x1, .f32⟩
  | 88 => ⟨S2x8192x1, .f32⟩
  | 89 => ⟨S2x8192x1024, .f32⟩
  | 90 => ⟨S2x8192x1024, .f32⟩
  | 91 => ⟨S1x1x1024, .f32⟩
  | 92 => ⟨S2x8192x1024, .f32⟩
  | 93 => ⟨S2x8192x1024, .f32⟩
  | 94 => ⟨S2x8192x1024, .f32⟩
  | 95 => ⟨S2x8192x1024, .f32⟩
  | 96 => ⟨S2x8192x1024, .f32⟩
  | 97 => ⟨S2x256x1024, .f32⟩
  | 98 => ⟨S2x256x1024, .f32⟩
  | 99 => ⟨S1x6144, .f32⟩
  | 100 => ⟨S6144, .f32⟩
  | 101 => ⟨S1x1x6144, .f32⟩
  | 102 => ⟨S1x1x1024, .f32⟩
  | 103 => ⟨S1x1x1024, .f32⟩
  | 104 => ⟨S1x1x1024, .f32⟩
  | 105 => ⟨S1x1x1024, .f32⟩
  | 106 => ⟨S1x1x1024, .f32⟩
  | 107 => ⟨S1x1x1024, .f32⟩
  | 108 => ⟨S2x256x1024, .f32⟩
  | 109 => ⟨S2x256x1024, .f32⟩
  | 110 => ⟨S_, .f32⟩
  | 111 => ⟨S2x256, .f32⟩
  | 112 => ⟨S2x256x1, .f32⟩
  | 113 => ⟨S_, .f32⟩
  | 114 => ⟨S2x256x1, .f32⟩
  | 115 => ⟨S2x256x1, .f32⟩
  | 116 => ⟨S_, .f32⟩
  | 117 => ⟨S2x256x1, .f32⟩
  | 118 => ⟨S2x256x1, .f32⟩
  | 119 => ⟨S2x256x1, .f32⟩
  | 120 => ⟨S2x256x1024, .f32⟩
  | 121 => ⟨S2x256x1024, .f32⟩
  | 122 => ⟨S1x1x1024, .f32⟩
  | 123 => ⟨S2x256x1024, .f32⟩
  | 124 => ⟨S2x256x1024, .f32⟩
  | 125 => ⟨S2x256x1024, .f32⟩
  | 126 => ⟨S2x256x1024, .f32⟩
  | 127 => ⟨S2x256x1024, .f32⟩
  | _ => ⟨S2x1024x8448, .bf16⟩

abbrev hbmTy0_1 (i : Nat) : BufTy := match i % 128 with
  | 0 => ⟨S2x256x1024, .f32⟩
  | 1 => ⟨S_, .f32⟩
  | 2 => ⟨S2x256, .f32⟩
  | 3 => ⟨S2x256x1, .f32⟩
  | 4 => ⟨S_, .f32⟩
  | 5 => ⟨S2x256x1, .f32⟩
  | 6 => ⟨S2x256x1, .f32⟩
  | 7 => ⟨S_, .f32⟩
  | 8 => ⟨S2x256x1, .f32⟩
  | 9 => ⟨S2x256x1, .f32⟩
  | 10 => ⟨S2x256x1, .f32⟩
  | 11 => ⟨S2x256x1024, .f32⟩
  | 12 => ⟨S2x256x1024, .f32⟩
  | 13 => ⟨S1x1x1024, .f32⟩
  | 14 => ⟨S2x256x1024, .f32⟩
  | 15 => ⟨S2x256x1024, .f32⟩
  | 16 => ⟨S_, .f32⟩
  | 17 => ⟨S1x1x1024, .f32⟩
  | 18 => ⟨S1x1x1024, .f32⟩
  | 19 => ⟨S2x256x1024, .f32⟩
  | 20 => ⟨S2x256x1024, .f32⟩
  | 21 => ⟨S2x256x1024, .f32⟩
  | 22 => ⟨S2x256x1024, .f32⟩
  | 23 => ⟨S2x256x2816, .f32⟩
  | 24 => ⟨S2x256x2816, .f32⟩
  | 25 => ⟨S2x256x2816, .f32⟩
  | 26 => ⟨S_, .f32⟩
  | 27 => ⟨S2x256x2816, .f32⟩
  | 28 => ⟨S2x256x2816, .f32⟩
  | 29 => ⟨S_, .f32⟩
  | 30 => ⟨S2x256x2816, .f32⟩
  | 31 => ⟨S2x256x2816, .f32⟩
  | 32 => ⟨S2x256x2816, .f32⟩
  | 33 => ⟨S2x256x2816, .f32⟩
  | 34 => ⟨S2x256x2816, .f32⟩
  | 35 => ⟨S2x256x1024, .f32⟩
  | 36 => ⟨S2x256x1024, .f32⟩
  | 37 => ⟨S_, .f32⟩
  | 38 => ⟨S2x256, .f32⟩
  | 39 => ⟨S2x256x1, .f32⟩
  | 40 => ⟨S_, .f32⟩
  | 41 => ⟨S2x256x1, .f32⟩
  | 42 => ⟨S2x256x1, .f32⟩
  | 43 => ⟨S_, .f32⟩
  | 44 => ⟨S2x256x1, .f32⟩
  | 45 => ⟨S2x256x1, .f32⟩
  | 46 => ⟨S2x256x1, .f32⟩
  | 47 => ⟨S2x256x1024, .f32⟩
  | 48 => ⟨S2x256x1024, .f32⟩
  | 49 => ⟨S1x1x1024, .f32⟩
  | 50 => ⟨S2x256x1024, .f32⟩
  | 51 => ⟨S2x256x1024, .f32⟩
  | 52 => ⟨S2x256x1024, .f32⟩
  | 53 => ⟨S2x256x1024, .f32⟩
  | 54 => ⟨S2x256x1024, .f32⟩
  | 55 => ⟨S2x8448x1024, .f32⟩
  | _ => ⟨S2x1024x8448, .bf16⟩

abbrev hbmTy (i : Nat) : BufTy := match i / 128 with
  | 0 => hbmTy0_0 i
  | 1 => hbmTy0_1 i
  | _ => ⟨S2x1024x8448, .bf16⟩

abbrev bufTy : (tb : Table) → Fin (tcTables nBuf tb) → BufTy
  | .hbm, ⟨i, _⟩ => hbmTy i
  | _, _ => ⟨S2x1024x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call0_v0 : Ref sig .tc := ⟨.hbm, 66, rfl⟩
abbrev main_call0_v1 : Ref sig .tc := ⟨.hbm, 67, rfl⟩
abbrev main_call0_cst : Ref sig .tc := ⟨.hbm, 68, rfl⟩
abbrev main_call0_v2 : Ref sig .tc := ⟨.hbm, 69, rfl⟩
abbrev main_call0_v3 : Ref sig .tc := ⟨.hbm, 70, rfl⟩
abbrev main_call0_cst_0 : Ref sig .tc := ⟨.hbm, 71, rfl⟩
abbrev main_call0_v4 : Ref sig .tc := ⟨.hbm, 72, rfl⟩
abbrev main_call0_v5 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_6 : Ref sig .tc := ⟨.hbm, 79, rfl⟩
abbrev main_v54 : Ref sig .tc := ⟨.hbm, 80, rfl⟩
abbrev main_v55 : Ref sig .tc := ⟨.hbm, 81, rfl⟩
abbrev main_cst_7 : Ref sig .tc := ⟨.hbm, 82, rfl⟩
abbrev main_v56 : Ref sig .tc := ⟨.hbm, 83, rfl⟩
abbrev main_v57 : Ref sig .tc := ⟨.hbm, 84, rfl⟩
abbrev main_cst_8 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_9 : Ref sig .tc := ⟨.hbm, 110, rfl⟩
abbrev main_v82 : Ref sig .tc := ⟨.hbm, 111, rfl⟩
abbrev main_v83 : Ref sig .tc := ⟨.hbm, 112, rfl⟩
abbrev main_cst_10 : Ref sig .tc := ⟨.hbm, 113, rfl⟩
abbrev main_v84 : Ref sig .tc := ⟨.hbm, 114, rfl⟩
abbrev main_v85 : Ref sig .tc := ⟨.hbm, 115, rfl⟩
abbrev main_cst_11 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_12 : Ref sig .tc := ⟨.hbm, 129, rfl⟩
abbrev main_v98 : Ref sig .tc := ⟨.hbm, 130, rfl⟩
abbrev main_v99 : Ref sig .tc := ⟨.hbm, 131, rfl⟩
abbrev main_cst_13 : Ref sig .tc := ⟨.hbm, 132, rfl⟩
abbrev main_v100 : Ref sig .tc := ⟨.hbm, 133, rfl⟩
abbrev main_v101 : Ref sig .tc := ⟨.hbm, 134, rfl⟩
abbrev main_cst_14 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_15 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_call1_v0 : Ref sig .tc := ⟨.hbm, 152, rfl⟩
abbrev main_call1_v1 : Ref sig .tc := ⟨.hbm, 153, rfl⟩
abbrev main_call1_cst : Ref sig .tc := ⟨.hbm, 154, rfl⟩
abbrev main_call1_v2 : Ref sig .tc := ⟨.hbm, 155, rfl⟩
abbrev main_call1_v3 : Ref sig .tc := ⟨.hbm, 156, rfl⟩
abbrev main_call1_cst_0 : Ref sig .tc := ⟨.hbm, 157, rfl⟩
abbrev main_call1_v4 : Ref sig .tc := ⟨.hbm, 158, rfl⟩
abbrev main_call1_v5 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_cst_16 : Ref sig .tc := ⟨.hbm, 165, rfl⟩
abbrev main_v122 : Ref sig .tc := ⟨.hbm, 166, rfl⟩
abbrev main_v123 : Ref sig .tc := ⟨.hbm, 167, rfl⟩
abbrev main_cst_17 : Ref sig .tc := ⟨.hbm, 168, rfl⟩
abbrev main_v124 : Ref sig .tc := ⟨.hbm, 169, rfl⟩
abbrev main_v125 : Ref sig .tc := ⟨.hbm, 170, rfl⟩
abbrev main_cst_18 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩

abbrev nD : Nat := 1
abbrev τ : Topo := Topo.v7x

variable {F : FTy → Type} [FloatOps F]
-- ==== Kernel3.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S2x1x6144 : Shape := ⟨3, ![2, 1, 6144]⟩
abbrev S2x8x6144 : Shape := ⟨3, ![2, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S2x1x6144, .f32⟩
  | .hbm, ⟨9, _⟩ => ⟨S2x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 45
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S1x1024x6144, .f32⟩
  | .hbm, ⟨18, _⟩ => ⟨S1024x6144, .f32⟩
  | .hbm, ⟨19, _⟩ => ⟨S8x6144, .f32⟩
  | .hbm, ⟨20, _⟩ => ⟨S1x6144, .f32⟩
  | .hbm, ⟨21, _⟩ => ⟨S6144, .f32⟩
  | .hbm, ⟨22, _⟩ => ⟨S1x6144, .f32⟩
  | .hbm, ⟨23, _⟩ => ⟨S8x6144, .f32⟩
  | .hbm, ⟨24, _⟩ => ⟨S8x6144, .f32⟩
  | .hbm, ⟨25, _⟩ => ⟨S8x1024, .f32⟩
  | .hbm, ⟨26, _⟩ => ⟨S8x1024, .f32⟩
  | .hbm, ⟨27, _⟩ => ⟨S_, .f32⟩
  | .hbm, ⟨28, _⟩ => ⟨S8x1024, .f32⟩
  | .hbm, ⟨29, _⟩ => ⟨S8x1024, .f32⟩
  | .hbm, ⟨30, _⟩ => ⟨S_, .f32⟩
  | .hbm, ⟨31, _⟩ => ⟨S8x1024, .f32⟩
  | .hbm, ⟨32, _⟩ => ⟨S8x1024, .f32⟩
  | .hbm, ⟨33, _⟩ => ⟨S8x1024, .f32⟩
  | .hbm, ⟨34, _⟩ => ⟨S1x1024x6144, .f32⟩
  | .hbm, ⟨35, _⟩ => ⟨S1024x6144, .f32⟩
  | .hbm, ⟨36, _⟩ => ⟨S8x6144, .f32⟩
  | .hbm, ⟨37, _⟩ => ⟨S1x6144, .f32⟩
  | .hbm, ⟨38, _⟩ => ⟨S6144, .f32⟩
  | .hbm, ⟨39, _⟩ => ⟨S1x6144, .f32⟩
  | .hbm, ⟨40, _⟩ => ⟨S8x6144, .f32⟩
  | .hbm, ⟨41, _⟩ => ⟨S8x6144, .f32⟩
  | .hbm, ⟨42, _⟩ => ⟨S1x8x6144, .f32⟩
  | .hbm, ⟨43, _⟩ => ⟨S1x8x6144, .f32⟩
  | .hbm, ⟨44, _⟩ => ⟨S2x8x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Kernel4.lean ====
abbrev S2x20x128x8448 : Shape := ⟨4, ![2, 20, 128, 8448]⟩
abbrev S2x8448x896 : Shape := ⟨3, ![2, 8448, 896]⟩
abbrev S2x10x80x8448 : Shape := ⟨4, ![2, 10, 80, 8448]⟩
abbrev S32 : Shape := ⟨1, ![32]⟩
abbrev S64 : Shape := ⟨1, ![64]⟩
abbrev S2x1024x8448 : Shape := ⟨3, ![2, 1024, 8448]⟩
abbrev S1x32 : Shape := ⟨2, ![1, 32]⟩
abbrev S4x32 : Shape := ⟨2, ![4, 32]⟩
abbrev S64x1 : Shape := ⟨2, ![64, 1]⟩
abbrev S64x512 : Shape := ⟨2, ![64, 512]⟩
abbrev S64x256 : Shape := ⟨2, ![64, 256]⟩
abbrev S1x20x128x256 : Shape := ⟨4, ![1, 20, 128, 256]⟩
abbrev S1x256x896 : Shape := ⟨3, ![1, 256, 896]⟩
abbrev S1x10x80x256 : Shape := ⟨4, ![1, 10, 80, 256]⟩
abbrev S1x1024x256 : Shape := ⟨3, ![1, 1024, 256]⟩
abbrev S20x80x256 : Shape := ⟨3, ![20, 80, 256]⟩
abbrev S20x1x256 : Shape := ⟨3, ![20, 1, 256]⟩
abbrev S1x256x128 : Shape := ⟨3, ![1, 256, 128]⟩
abbrev S256x128 : Shape := ⟨2, ![256, 128]⟩
abbrev S1x1x128x256 : Shape := ⟨4, ![1, 1, 128, 256]⟩
abbrev S128x256 : Shape := ⟨2, ![128, 256]⟩
abbrev S256x256 : Shape := ⟨2, ![256, 256]⟩
abbrev S1x1x256 : Shape := ⟨3, ![1, 1, 256]⟩
abbrev S1x256 : Shape := ⟨2, ![1, 256]⟩
abbrev S256 : Shape := ⟨1, ![256]⟩
abbrev S1x1x80x256 : Shape := ⟨4, ![1, 1, 80, 256]⟩
abbrev S80x256 : Shape := ⟨2, ![80, 256]⟩
abbrev S1x80x256 : Shape := ⟨3, ![1, 80, 256]⟩
abbrev S1x64x256 : Shape := ⟨3, ![1, 64, 256]⟩
abbrev S1 : Shape := ⟨1, ![1]⟩
abbrev S1x1 : Shape := ⟨2, ![1, 1]⟩

abbrev nBuf : Space → Nat
  | .hbm => 18
  | .vmem => 12
  | .smem => 0
  | _ => 0

abbrev bufTy : (tb : Table) → Fin (tcTables nBuf tb) → BufTy
  | .hbm, ⟨0, _⟩ => ⟨S2x20x128x8448, .bf16⟩
  | .hbm, ⟨1, _⟩ => ⟨S2x8448x896, .bf16⟩
  | .hbm, ⟨2, _⟩ => ⟨S2x10x80x8448, .bf16⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S64, .f32⟩
  | .hbm, ⟨8, _⟩ => ⟨S2x1024x8448, .bf16⟩
  | .hbm, ⟨9, _⟩ => ⟨S1x32, .f32⟩
  | .hbm, ⟨10, _⟩ => ⟨S1x32, .f32⟩
  | .hbm, ⟨11, _⟩ => ⟨S1x32, .f32⟩
  | .hbm, ⟨12, _⟩ => ⟨S1x32, .f32⟩
  | .hbm, ⟨13, _⟩ => ⟨S4x32, .f32⟩
  | .hbm, ⟨14, _⟩ => ⟨S64x1, .f32⟩
  | .hbm, ⟨15, _⟩ => ⟨S64x512, .f32⟩
  | .hbm, ⟨16, _⟩ => ⟨S64x256, .f32⟩
  | .hbm, ⟨17, _⟩ => ⟨S2x1024x8448, .bf16⟩
  | .local _ .vmem, ⟨0, _⟩ => ⟨S1x20x128x256, .bf16⟩
  | .local _ .vmem, ⟨1, _⟩ => ⟨S1x20x128x256, .bf16⟩
  | .local _ .vmem, ⟨2, _⟩ => ⟨S1x256x896, .bf16⟩
  | .local _ .vmem, ⟨3, _⟩ => ⟨S1x256x896, .bf16⟩
  | .local _ .vmem, ⟨4, _⟩ => ⟨S1x10x80x256, .bf16⟩
  | .local _ .vmem, ⟨5, _⟩ => ⟨S1x10x80x256, .bf16⟩
  | .local _ .vmem, ⟨6, _⟩ => ⟨S4x32, .f32⟩
  | .local _ .vmem, ⟨7, _⟩ => ⟨S64x256, .f32⟩
  | .local _ .vmem, ⟨8, _⟩ => ⟨S1x1024x256, .bf16⟩
  | .local _ .vmem, ⟨9, _⟩ => ⟨S1x1024x256, .bf16⟩
  | .local _ .vmem, ⟨10, _⟩ => ⟨S20x80x256, .f32⟩
  | .local _ .vmem, ⟨11, _⟩ => ⟨S20x1x256, .f32⟩
  | _, _ => ⟨S2x20x128x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_494 : BitVec 32 := 0#32
  let v603 : BitVec 1 := Scalar.cmpi .eq arg2 c0_i32_494
  let v604 : BitVec 32 := Scalar.extui v603
  let c0_i32_495 : BitVec 32 := 0#32
  let v605 : BitVec 1 := Scalar.cmpi .ne v604 c0_i32_495
  v605

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi arg1 c32_i32
  let c0_i32 : BitVec 32 := 0#32
  let c0_i32_0 : BitVec 32 := 0#32
  let c0_i32_1 : BitVec 32 := 0#32
  ![arg0.toNat, c0_i32.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi arg2 c32_i32
  let c0_i32 : BitVec 32 := 0#32
  let c0_i32_0 : BitVec 32 := 0#32
  ![arg0.toNat, v0.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi arg2 c32_i32
  let c0_i32 : BitVec 32 := 0#32
  let c0_i32_0 : BitVec 32 := 0#32
  let c0_i32_1 : BitVec 32 := 0#32
  ![arg0.toNat, c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi arg1 c32_i32
  let c0_i32 : BitVec 32 := 0#32
  let c0_i32_0 : BitVec 32 := 0#32
  ![arg0.toNat, c0_i32.toNat, v0.toNat]

abbrev stage0_0 : Fin 2 → Memref sig .tc .vmem S1x20x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x10x80x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S4x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference4Ideal.lean ====
abbrev S2x20x128x8448 : Shape := ⟨4, ![2, 20, 128, 8448]⟩
abbrev S2x8448x896 : Shape := ⟨3, ![2, 8448, 896]⟩
abbrev S2x10x80x8448 : Shape := ⟨4, ![2, 10, 80, 8448]⟩
abbrev S32 : Shape := ⟨1, ![32]⟩
abbrev S64 : Shape := ⟨1, ![64]⟩
abbrev S2x1024x8448 : Shape := ⟨3, ![2, 1024, 8448]⟩
abbrev S2x20x128x256 : Shape := ⟨4, ![2, 20, 128, 256]⟩
abbrev S2x256x896 : Shape := ⟨3, ![2, 256, 896]⟩
abbrev S2x10x80x256 : Shape := ⟨4, ![2, 10, 80, 256]⟩
abbrev S2x256x7x128 : Shape := ⟨4, ![2, 256, 7, 128]⟩
abbrev S2x7x256x128 : Shape := ⟨4, ![2, 7, 256, 128]⟩
abbrev S2x10x64x256 : Shape := ⟨4, ![2, 10, 64, 256]⟩
abbrev S2x4x256x128 : Shape := ⟨4, ![2, 4, 256, 128]⟩
abbrev S2x2x256x128 : Shape := ⟨4, ![2, 2, 256, 128]⟩
abbrev S2x2x1x256x128 : Shape := ⟨5, ![2, 2, 1, 256, 128]⟩
abbrev S2x2x4x256x128 : Shape := ⟨5, ![2, 2, 4, 256, 128]⟩
abbrev S2x8x256x128 : Shape := ⟨4, ![2, 8, 256, 128]⟩
abbrev S2x1x256x128 : Shape := ⟨4, ![2, 1, 256, 128]⟩
abbrev S2x1x1x256x128 : Shape := ⟨5, ![2, 1, 1, 256, 128]⟩
abbrev S2x1x8x256x128 : Shape := ⟨5, ![2, 1, 8, 256, 128]⟩
abbrev S2x20x256x128 : Shape := ⟨4, ![2, 20, 256, 128]⟩
abbrev S2x4x64x256 : Shape := ⟨4, ![2, 4, 64, 256]⟩
abbrev S2x4x1x64x256 : Shape := ⟨5, ![2, 4, 1, 64, 256]⟩
abbrev S2x4x2x64x256 : Shape := ⟨5, ![2, 4, 2, 64, 256]⟩
abbrev S2x8x64x256 : Shape := ⟨4, ![2, 8, 64, 256]⟩
abbrev S2x2x64x256 : Shape := ⟨4, ![2, 2, 64, 256]⟩
abbrev S2x2x1x64x256 : Shape := ⟨5, ![2, 2, 1, 64, 256]⟩
abbrev S2x2x4x64x256 : Shape := ⟨5, ![2, 2, 4, 64, 256]⟩
abbrev S2x20x64x256 : Shape := ⟨4, ![2, 20, 64, 256]⟩
abbrev S2x20x256x256 : Shape := ⟨4, ![2, 20, 256, 256]⟩
abbrev S_ : Shape := ⟨0, ![]⟩
abbrev S2x20x256 : Shape := ⟨3, ![2, 20, 256]⟩
abbrev S2x20x256x1 : Shape := ⟨4, ![2, 20, 256, 1]⟩
abbrev S2x20x256x64 : Shape := ⟨4, ![2, 20, 256, 64]⟩
abbrev S2x8x256x64 : Shape := ⟨4, ![2, 8, 256, 64]⟩
abbrev S2x4x2x256x64 : Shape := ⟨5, ![2, 4, 2, 256, 64]⟩
abbrev S2x4x1x256x64 : Shape := ⟨5, ![2, 4, 1, 256, 64]⟩
abbrev S2x4x256x64 : Shape := ⟨4, ![2, 4, 256, 64]⟩
abbrev S2x4x256 : Shape := ⟨3, ![2, 4, 256]⟩
abbrev S2x4x256x1 : Shape := ⟨4, ![2, 4, 256, 1]⟩
abbrev S1x1x1x64 : Shape := ⟨4, ![1, 1, 1, 64]⟩
abbrev S2x16x256x64 : Shape := ⟨4, ![2, 16, 256, 64]⟩
abbrev S2x16x64x256 : Shape := ⟨4, ![2, 16, 64, 256]⟩
abbrev S2x1024x256 : Shape := ⟨3, ![2, 1024, 256]⟩
abbrev S2x1024x8192 : Shape := ⟨3, ![2, 1024, 8192]⟩

abbrev nBuf : Space → Nat
  | .hbm => 106
  | .vmem => 0
  | .smem => 0
  | _ => 0

abbrev bufTy : (tb : Table) → Fin (tcTables nBuf tb) → BufTy
  | .hbm, ⟨0, _⟩ => ⟨S2x20x128x8448, .bf16⟩
  | .hbm, ⟨1, _⟩ => ⟨S2x8448x896, .bf16⟩
  | .hbm, ⟨2, _⟩ => ⟨S2x10x80x8448, .bf16⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S64, .f32⟩
  | .hbm, ⟨8, _⟩ => ⟨S2x1024x8448, .bf16⟩
  | .hbm, ⟨9, _⟩ => ⟨S2x20x128x256, .bf16⟩
  | .hbm, ⟨10, _⟩ => ⟨S2x256x896, .bf16⟩
  | .hbm, ⟨11, _⟩ => ⟨S2x10x80x256, .bf16⟩
  | .hbm, ⟨12, _⟩ => ⟨S2x20x128x256, .f32⟩
  | .hbm, ⟨13, _⟩ => ⟨S2x256x896, .f32⟩
  | .hbm, ⟨14, _⟩ => ⟨S2x256x7x128, .f32⟩
  | .hbm, ⟨15, _⟩ => ⟨S2x7x256x128, .f32⟩
  | .hbm, ⟨16, _⟩ => ⟨S2x10x64x256, .bf16⟩
  | .hbm, ⟨17, _⟩ => ⟨S2x10x64x256, .f32⟩
  | .hbm, ⟨18, _⟩ => ⟨S2x4x256x128, .f32⟩
  | .hbm, ⟨19, _⟩ => ⟨S2x2x256x128, .f32⟩
  | .hbm, ⟨20, _⟩ => ⟨S2x2x1x256x128, .f32⟩
  | .hbm, ⟨21, _⟩ => ⟨S2x2x4x256x128, .f32⟩
  | .hbm, ⟨22, _⟩ => ⟨S2x8x256x128, .f32⟩
  | .hbm, ⟨23, _⟩ => ⟨S2x1x256x128, .f32⟩
  | .hbm, ⟨24, _⟩ => ⟨S2x1x1x256x128, .f32⟩
  | .hbm, ⟨25, _⟩ => ⟨S2x1x8x256x128, .f32⟩
  | .hbm, ⟨26, _⟩ => ⟨S2x8x256x128, .f32⟩
  | .hbm, ⟨27, _⟩ => ⟨S2x20x256x128, .f32⟩
  | .hbm, ⟨28, _⟩ => ⟨S2x4x64x256, .f32⟩
  | .hbm, ⟨29, _⟩ => ⟨S2x4x64x256, .f32⟩
  | .hbm, ⟨30, _⟩ => ⟨S2x4x1x64x256, .f32⟩
  | .hbm, ⟨31, _⟩ => ⟨S2x4x2x64x256, .f32⟩
  | .hbm, ⟨32, _⟩ => ⟨S2x8x64x256, .f32⟩
  | .hbm, ⟨33, _⟩ => ⟨S2x2x64x256, .f32⟩
  | .hbm, ⟨34, _⟩ => ⟨S2x2x1x64x256, .f32⟩
  | .hbm, ⟨35, _⟩ => ⟨S2x2x4x64x256, .f32⟩
  | .hbm, ⟨36, _⟩ => ⟨S2x8x64x256, .f32⟩
  | .hbm, ⟨37, _⟩ => ⟨S2x20x64x256, .f32⟩
  | .hbm, ⟨38, _⟩ => ⟨S2x20x256x256, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S2x20x256x256, .f32⟩
  | .hbm, ⟨43, _⟩ => ⟨S2x20x256x256, .f32⟩
  | .hbm, ⟨44, _⟩ => ⟨S_, .f32⟩
  | .hbm, ⟨45, _⟩ => ⟨S2x20x256, .f32⟩
  | .hbm, ⟨46, _⟩ => ⟨S_, .f32⟩
  | .hbm, ⟨47, _⟩ => ⟨S2x20x256, .f32⟩
  | .hbm, ⟨48, _⟩ => ⟨S2x20x256, .f32⟩
  | .hbm, ⟨49, _⟩ => ⟨S2x20x256x1, .f32⟩
  | .hbm, ⟨50, _⟩ => ⟨S2x20x256x256, .f32⟩
  | .hbm, ⟨51, _⟩ => ⟨S2x20x256x256, .f32⟩
  | .hbm, ⟨52, _⟩ => ⟨S2x20x256x256, .f32⟩
  | .hbm, ⟨53, _⟩ => ⟨S_, .f32⟩
  | .hbm, ⟨54, _⟩ => ⟨S2x20x256, .f32⟩
  | .hbm, ⟨55, _⟩ => ⟨S2x20x256x1, .f32⟩
  | .hbm, ⟨56, _⟩ => ⟨S2x20x256x256, .f32⟩
  | .hbm, ⟨57, _⟩ => ⟨S2x20x256x256, .f32⟩
  | .hbm, ⟨58, _⟩ => ⟨S2x20x256x64, .f32⟩
  | .hbm, ⟨59, _⟩ => ⟨S32, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S32, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S2x8x256x64, .f32⟩
  | .hbm, ⟨71, _⟩ => ⟨S2x4x2x256x64, .f32⟩
  | .hbm, ⟨72, _⟩ => ⟨S2x4x1x256x64, .f32⟩
  | .hbm, ⟨73, _⟩ => ⟨S2x4x256x64, .f32⟩
  | .hbm, ⟨74, _⟩ => ⟨S2x4x1x256x64, .f32⟩
  | .hbm, ⟨75, _⟩ => ⟨S2x4x256x64, .f32⟩
  | .hbm, ⟨76, _⟩ => ⟨S2x4x256x64, .f32⟩
  | .hbm, ⟨77, _⟩ => ⟨S2x4x256x64, .f32⟩
  | .hbm, ⟨78, _⟩ => ⟨S2x4x256x64, .f32⟩
  | .hbm, ⟨79, _⟩ => ⟨S2x4x256x64, .f32⟩
  | .hbm, ⟨80, _⟩ => ⟨S_, .f32⟩
  | .hbm, ⟨81, _⟩ => ⟨S2x4x256, .f32⟩
  | .hbm, ⟨82, _⟩ => ⟨S2x4x256x1, .f32⟩
  | .hbm, ⟨83, _⟩ => ⟨S_, .f32⟩
  | .hbm, ⟨84, _⟩ => ⟨S2x4x256x1, .f32⟩
  | .hbm, ⟨85, _⟩ => ⟨S2x4x256x1, .f32⟩
  | .hbm, ⟨86, _⟩ => ⟨S_, .f32⟩
  | .hbm, ⟨87, _⟩ => ⟨S2x4x256x1, .f32⟩
  | .hbm, ⟨88, _⟩ => ⟨S2x4x256x1, .f32⟩
  | .hbm, ⟨89, _⟩ => ⟨S2x4x256x1, .f32⟩
  | .hbm, ⟨90, _⟩ => ⟨S2x4x256x64, .f32⟩
  | .hbm, ⟨91, _⟩ => ⟨S2x4x256x64, .f32⟩
  | .hbm, ⟨92, _⟩ => ⟨S1x1x1x64, .f32⟩
  | .hbm, ⟨93, _⟩ => ⟨S2x4x256x64, .f32⟩
  | .hbm, ⟨94, _⟩ => ⟨S2x4x256x64, .f32⟩
  | .hbm, ⟨95, _⟩ => ⟨S_, .f32⟩
  | .hbm, ⟨96, _⟩ => ⟨S2x4x256x64, .f32⟩
  | .hbm, ⟨97, _⟩ => ⟨S2x4x256x64, .f32⟩
  | .hbm, ⟨98, _⟩ => ⟨S2x4x256x64, .f32⟩
  | .hbm, ⟨99, _⟩ => ⟨S2x8x256x64, .f32⟩
  | .hbm, ⟨100, _⟩ => ⟨S2x16x256x64, .f32⟩
  | .hbm, ⟨101, _⟩ => ⟨S2x16x64x256, .f32⟩
  | .hbm, ⟨102, _⟩ => ⟨S2x1024x256, .f32⟩
  | .hbm, ⟨103, _⟩ => ⟨S2x1024x256, .bf16⟩
  | .hbm, ⟨104, _⟩ => ⟨S2x1024x8192, .bf16⟩
  | .hbm, ⟨105, _⟩ => ⟨S2x1024x8448, .bf16⟩
  | _, _ => ⟨S2x20x128x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_0 : Ref sig .tc := ⟨.hbm, 44, rfl⟩
abbrev main_v34 : Ref sig .tc := ⟨.hbm, 45, rfl⟩
abbrev main_cst_1 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_2 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_3 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_4 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_5 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_6 : Ref sig .tc := ⟨.hbm, 80, rfl⟩
abbrev main_v64 : Ref sig .tc := ⟨.hbm, 81, rfl⟩
abbrev main_v65 : Ref sig .tc := ⟨.hbm, 82, rfl⟩
abbrev main_cst_7 : Ref sig .tc := ⟨.hbm, 83, rfl⟩
abbrev main_v66 : Ref sig .tc := ⟨.hbm, 84, rfl⟩
abbrev main_v67 : Ref sig .tc := ⟨.hbm, 85, rfl⟩
abbrev main_cst_8 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_9 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩

abbrev nD : Nat := 1
abbrev τ : Topo := Topo.v7x

variable {F : FTy → Type} [FloatOps F]
-- ==== Kernel5.lean ====
abbrev S2x1024x8448 : Shape := ⟨3, ![2, 1024, 8448]⟩
abbrev S2x8448x1024 : Shape := ⟨3, ![2, 8448, 1024]⟩
abbrev S8x6144 : Shape := ⟨2, ![8, 6144]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S1x1024 : Shape := ⟨2, ![1, 1024]⟩
abbrev S8x1x6144 : Shape := ⟨3, ![8, 1, 6144]⟩
abbrev S2x8192x1024 : Shape := ⟨3, ![2, 8192, 1024]⟩
abbrev S1x1024x256 : Shape := ⟨3, ![1, 1024, 256]⟩
abbrev S1x256x1024 : Shape := ⟨3, ![1, 256, 1024]⟩
abbrev S1x1x6144 : Shape := ⟨3, ![1, 1, 6144]⟩
abbrev S1024x256 : Shape := ⟨2, ![1024, 256]⟩
abbrev S256x1024 : Shape := ⟨2, ![256, 1024]⟩
abbrev S1x6144 : Shape := ⟨2, ![1, 6144]⟩
abbrev S256 : Shape := ⟨1, ![256]⟩
abbrev S256x1 : Shape := ⟨2, ![256, 1]⟩
abbrev S256x2816 : Shape := ⟨2, ![256, 2816]⟩

abbrev nBuf : Space → Nat
  | .hbm => 19
  | .vmem => 15
  | .smem => 0
  | _ => 0

abbrev bufTy : (tb : Table) → Fin (tcTables nBuf tb) → BufTy
  | .hbm, ⟨0, _⟩ => ⟨S2x1024x8448, .bf16⟩
  | .hbm, ⟨1, _⟩ => ⟨S2x8448x1024, .f32⟩
  | .hbm, ⟨2, _⟩ => ⟨S8x6144, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1024x1024, .bf16⟩
  | .hbm, ⟨14, _⟩ => ⟨S1024x2816, .bf16⟩
  | .hbm, ⟨15, _⟩ => ⟨S1024x2816, .bf16⟩
  | .hbm, ⟨16, _⟩ => ⟨S2816x1024, .bf16⟩
  | .hbm, ⟨17, _⟩ => ⟨S8x1x6144, .f32⟩
  | .hbm, ⟨18, _⟩ => ⟨S2x8192x1024, .f32⟩
  | .local _ .vmem, ⟨0, _⟩ => ⟨S1x1024x256, .bf16⟩
  | .local _ .vmem, ⟨1, _⟩ => ⟨S1x1024x256, .bf16⟩
  | .local _ .vmem, ⟨2, _⟩ => ⟨S1x256x1024, .f32⟩
  | .local _ .vmem, ⟨3, _⟩ => ⟨S1x256x1024, .f32⟩
  | .local _ .vmem, ⟨4, _⟩ => ⟨S1x1x6144, .f32⟩
  | .local _ .vmem, ⟨5, _⟩ => ⟨S1x1x6144, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .bf16⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S1x256x1024, .f32⟩
  | .local _ .vmem, ⟨14, _⟩ => ⟨S1x256x1024, .f32⟩
  | _, _ => ⟨S2x1024x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .eq arg1 c32_i32
  let c2_i32 : BitVec 32 := 2#32
  let v1 : BitVec 32 := Scalar.select v0 c2_i32 arg0
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference5Ideal.lean ====
abbrev S2x1024x8448 : Shape := ⟨3, ![2, 1024, 8448]⟩
abbrev S2x8448x1024 : Shape := ⟨3, ![2, 8448, 1024]⟩
abbrev S8x6144 : Shape := ⟨2, ![8, 6144]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S2x8192x1024 : Shape := ⟨3, ![2, 8192, 1024]⟩
abbrev S2x6144 : Shape := ⟨2, ![2, 6144]⟩
abbrev S2x1x6144 : Shape := ⟨3, ![2, 1, 6144]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩

abbrev nBuf : Space → Nat
  | .hbm => 97
  | .vmem => 0
  | .smem => 0
  | _ => 0

abbrev bufTy : (tb : Table) → Fin (tcTables nBuf tb) → BufTy
  | .hbm, ⟨0, _⟩ => ⟨S2x1024x8448, .bf16⟩
  | .hbm, ⟨1, _⟩ => ⟨S2x8448x1024, .f32⟩
  | .hbm, ⟨2, _⟩ => ⟨S8x6144, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S2x1024x8448, .f32⟩
  | .hbm, ⟨11, _⟩ => ⟨S2x8448x1024, .f32⟩
  | .hbm, ⟨12, _⟩ => ⟨S2x8192x1024, .f32⟩
  | .hbm, ⟨13, _⟩ => ⟨S2x8192x1024, .f32⟩
  | .hbm, ⟨14, _⟩ => ⟨S2x6144, .f32⟩
  | .hbm, ⟨15, _⟩ => ⟨S2x1x6144, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S2x1x1024, .f32⟩
  | .hbm, ⟨21, _⟩ => ⟨S2x1x1024, .f32⟩
  | .hbm, ⟨22, _⟩ => ⟨S2x8192x1024, .f32⟩
  | .hbm, ⟨23, _⟩ => ⟨S2x8192x1024, .f32⟩
  | .hbm, ⟨24, _⟩ => ⟨S_, .f32⟩
  | .hbm, ⟨25, _⟩ => ⟨S2x8192, .f32⟩
  | .hbm, ⟨26, _⟩ => ⟨S2x8192x1, .f32⟩
  | .hbm, ⟨27, _⟩ => ⟨S_, .f32⟩
  | .hbm, ⟨28, _⟩ => ⟨S2x8192x1, .f32⟩
  | .hbm, ⟨29, _⟩ => ⟨S2x8192x1, .f32⟩
  | .hbm, ⟨30, _⟩ => ⟨S_, .f32⟩
  | .hbm, ⟨31, _⟩ => ⟨S2x8192x1, .f32⟩
  | .hbm, ⟨32, _⟩ => ⟨S2x8192x1, .f32⟩
  | .hbm, ⟨33, _⟩ => ⟨S2x8192x1, .f32⟩
  | .hbm, ⟨34, _⟩ => ⟨S2x8192x1024, .f32⟩
  | .hbm, ⟨35, _⟩ => ⟨S2x8192x1024, .f32⟩
  | .hbm, ⟨36, _⟩ => ⟨S1x1x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S2x8192x1024, .f32⟩
  | .hbm, ⟨42, _⟩ => ⟨S2x8192x1024, .f32⟩
  | .hbm, ⟨43, _⟩ => ⟨S_, .f32⟩
  | .hbm, ⟨44, _⟩ => ⟨S2x8192, .f32⟩
  | .hbm, ⟨45, _⟩ => ⟨S2x8192x1, .f32⟩
  | .hbm, ⟨46, _⟩ => ⟨S_, .f32⟩
  | .hbm, ⟨47, _⟩ => ⟨S2x8192x1, .f32⟩
  | .hbm, ⟨48, _⟩ => ⟨S2x8192x1, .f32⟩
  | .hbm, ⟨49, _⟩ => ⟨S_, .f32⟩
  | .hbm, ⟨50, _⟩ => ⟨S2x8192x1, .f32⟩
  | .hbm, ⟨51, _⟩ => ⟨S2x8192x1, .f32⟩
  | .hbm, ⟨52, _⟩ => ⟨S2x8192x1, .f32⟩
  | .hbm, ⟨53, _⟩ => ⟨S2x8192x1024, .f32⟩
  | .hbm, ⟨54, _⟩ => ⟨S2x8192x1024, .f32⟩
  | .hbm, ⟨55, _⟩ => ⟨S1x1x1024, .f32⟩
  | .hbm, ⟨56, _⟩ => ⟨S2x8192x1024, .f32⟩
  | .hbm, ⟨57, _⟩ => ⟨S2x8192x1024, .f32⟩
  | .hbm, ⟨58, _⟩ => ⟨S_, .f32⟩
  | .hbm, ⟨59, _⟩ => ⟨S2x1x1024, .f32⟩
  | .hbm, ⟨60, _⟩ => ⟨S2x1x1024, .f32⟩
  | .hbm, ⟨61, _⟩ => ⟨S2x8192x1024, .f32⟩
  | .hbm, ⟨62, _⟩ => ⟨S2x8192x1024, .f32⟩
  | .hbm, ⟨63, _⟩ => ⟨S2x8192x1024, .f32⟩
  | .hbm, ⟨64, _⟩ => ⟨S2x8192x1024, .f32⟩
  | .hbm, ⟨65, _⟩ => ⟨S2x8192x2816, .f32⟩
  | .hbm, ⟨66, _⟩ => ⟨S2x8192x2816, .f32⟩
  | .hbm, ⟨67, _⟩ => ⟨S2x8192x2816, .f32⟩
  | .hbm, ⟨68, _⟩ => ⟨S_, .f32⟩
  | .hbm, ⟨69, _⟩ => ⟨S2x8192x2816, .f32⟩
  | .hbm, ⟨70, _⟩ => ⟨S2x8192x2816, .f32⟩
  | .hbm, ⟨71, _⟩ => ⟨S_, .f32⟩
  | .hbm, ⟨72, _⟩ => ⟨S2x8192x2816, .f32⟩
  | .hbm, ⟨73, _⟩ => ⟨S2x8192x2816, .f32⟩
  | .hbm, ⟨74, _⟩ => ⟨S2x8192x2816, .f32⟩
  | .hbm, ⟨75, _⟩ => ⟨S2x8192x2816, .f32⟩
  | .hbm, ⟨76, _⟩ => ⟨S2x8192x2816, .f32⟩
  | .hbm, ⟨77, _⟩ => ⟨S2x8192x1024, .f32⟩
  | .hbm, ⟨78, _⟩ => ⟨S2x8192x1024, .f32⟩
  | .hbm, ⟨79, _⟩ => ⟨S_, .f32⟩
  | .hbm, ⟨80, _⟩ => ⟨S2x8192, .f32⟩
  | .hbm, ⟨81, _⟩ => ⟨S2x8192x1, .f32⟩
  | .hbm, ⟨82, _⟩ => ⟨S_, .f32⟩
  | .hbm, ⟨83, _⟩ => ⟨S2x8192x1, .f32⟩
  | .hbm, ⟨84, _⟩ => ⟨S2x8192x1, .f32⟩
  | .hbm, ⟨85, _⟩ => ⟨S_, .f32⟩
  | .hbm, ⟨86, _⟩ => ⟨S2x8192x1, .f32⟩
  | .hbm, ⟨87, _⟩ => ⟨S2x8192x1, .f32⟩
  | .hbm, ⟨88, _⟩ => ⟨S2x8192x1, .f32⟩
  | .hbm, ⟨89, _⟩ => ⟨S2x8192x1024, .f32⟩
  | .hbm, ⟨90, _⟩ => ⟨S2x8192x1024, .f32⟩
  | .hbm, ⟨91, _⟩ => ⟨S1x1x1024, .f32⟩
  | .hbm, ⟨92, _⟩ => ⟨S2x8192x1024, .f32⟩
  | .hbm, ⟨93, _⟩ => ⟨S2x8192x1024, .f32⟩
  | .hbm, ⟨94, _⟩ => ⟨S2x8192x1024, .f32⟩
  | .hbm, ⟨95, _⟩ => ⟨S2x8192x1024, .f32⟩
  | .hbm, ⟨96, _⟩ => ⟨S2x8192x1024, .f32⟩
  | _, _ => ⟨S2x1024x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call0_v0 : Ref sig .tc := ⟨.hbm, 66, rfl⟩
abbrev main_call0_v1 : Ref sig .tc := ⟨.hbm, 67, rfl⟩
abbrev main_call0_cst : Ref sig .tc := ⟨.hbm, 68, rfl⟩
abbrev main_call0_v2 : Ref sig .tc := ⟨.hbm, 69, rfl⟩
abbrev main_call0_v3 : Ref sig .tc := ⟨.hbm, 70, rfl⟩
abbrev main_call0_cst_0 : Ref sig .tc := ⟨.hbm, 71, rfl⟩
abbrev main_call0_v4 : Ref sig .tc := ⟨.hbm, 72, rfl⟩
abbrev main_call0_v5 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_6 : Ref sig .tc := ⟨.hbm, 79, rfl⟩
abbrev main_v54 : Ref sig .tc := ⟨.hbm, 80, rfl⟩
abbrev main_v55 : Ref sig .tc := ⟨.hbm, 81, rfl⟩
abbrev main_cst_7 : Ref sig .tc := ⟨.hbm, 82, rfl⟩
abbrev main_v56 : Ref sig .tc := ⟨.hbm, 83, rfl⟩
abbrev main_v57 : Ref sig .tc := ⟨.hbm, 84, rfl⟩
abbrev main_cst_8 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩

abbrev nD : Nat := 1
abbrev τ : Topo := Topo.v7x

variable {F : FTy → Type} [FloatOps F]
-- ==== Kernel6.lean ====
abbrev S2x8448x1024 : Shape := ⟨3, ![2, 8448, 1024]⟩
abbrev S8x6144 : Shape := ⟨2, ![8, 6144]⟩
abbrev S1024x1952 : Shape := ⟨2, ![1024, 1952]⟩
abbrev S1024 : Shape := ⟨1, ![1024]⟩
abbrev S256 : Shape := ⟨1, ![256]⟩
abbrev S256x384 : Shape := ⟨2, ![256, 384]⟩
abbrev S128 : Shape := ⟨1, ![128]⟩
abbrev S128x512 : Shape := ⟨2, ![128, 512]⟩
abbrev S64 : Shape := ⟨1, ![64]⟩
abbrev S1024x256 : Shape := ⟨2, ![1024, 256]⟩
abbrev S1024x128 : Shape := ⟨2, ![1024, 128]⟩
abbrev S1024x32 : Shape := ⟨2, ![1024, 32]⟩
abbrev S1024x512 : Shape := ⟨2, ![1024, 512]⟩
abbrev S_ : Shape := ⟨0, ![]⟩
abbrev S1024x64 : Shape := ⟨2, ![1024, 64]⟩
abbrev S1024x1x2x16 : Shape := ⟨4, ![1024, 1, 2, 16]⟩
abbrev S1024x1x1x16 : Shape := ⟨4, ![1024, 1, 1, 16]⟩
abbrev S1024x8x2x16 : Shape := ⟨4, ![1024, 8, 2, 16]⟩
abbrev S1024x8x1x16 : Shape := ⟨4, ![1024, 8, 1, 16]⟩
abbrev S1024x2x2x32 : Shape := ⟨4, ![1024, 2, 2, 32]⟩
abbrev S1024x2x1x32 : Shape := ⟨4, ![1024, 2, 1, 32]⟩
abbrev S1024x1152 : Shape := ⟨2, ![1024, 1152]⟩
abbrev S1024x8x2x32 : Shape := ⟨4, ![1024, 8, 2, 32]⟩
abbrev S1024x8x1x32 : Shape := ⟨4, ![1024, 8, 1, 32]⟩
abbrev S1024x2304 : Shape := ⟨2, ![1024, 2304]⟩
abbrev S256x4x96 : Shape := ⟨3, ![256, 4, 96]⟩
abbrev S256x4x32 : Shape := ⟨3, ![256, 4, 32]⟩
abbrev S256x4x1x2x16 : Shape := ⟨5, ![256, 4, 1, 2, 16]⟩
abbrev S256x4x1x1x16 : Shape := ⟨5, ![256, 4, 1, 1, 16]⟩
abbrev S256x4x128 : Shape := ⟨3, ![256, 4, 128]⟩
abbrev S256x512 : Shape := ⟨2, ![256, 512]⟩
abbrev S128x4x128 : Shape := ⟨3, ![128, 4, 128]⟩
abbrev S128x4x64 : Shape := ⟨3, ![128, 4, 64]⟩
abbrev S128x256 : Shape := ⟨2, ![128, 256]⟩
abbrev S1x1024 : Shape := ⟨2, ![1, 1024]⟩
abbrev S2304x1024 : Shape := ⟨2, ![2304, 1024]⟩
abbrev S512x256 : Shape := ⟨2, ![512, 256]⟩
abbrev S256x128 : Shape := ⟨2, ![256, 128]⟩
abbrev S256x1 : Shape := ⟨2, ![256, 1]⟩
abbrev S256x256 : Shape := ⟨2, ![256, 256]⟩
abbrev S1x128 : Shape := ⟨2, ![1, 128]⟩
abbrev S128x1 : Shape := ⟨2, ![128, 1]⟩
abbrev S64x1 : Shape := ⟨2, ![64, 1]⟩
abbrev S64x256 : Shape := ⟨2, ![64, 256]⟩
abbrev S32 : Shape := ⟨1, ![32]⟩
abbrev S1x64 : Shape := ⟨2, ![1, 64]⟩
abbrev S2x64 : Shape := ⟨2, ![2, 64]⟩
abbrev S8x1x6144 : Shape := ⟨3, ![8, 1, 6144]⟩
abbrev S8192 : Shape := ⟨1, ![8192]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x16 : Shape := ⟨2, ![8192, 16]⟩
abbrev S256x16 : Shape := ⟨2, ![256, 16]⟩
abbrev S8448x16 : Shape := ⟨2, ![8448, 16]⟩
abbrev S1x8448x1x16 : Shape := ⟨4, ![1, 8448, 1, 16]⟩
abbrev S1x8448x2x16 : Shape := ⟨4, ![1, 8448, 2, 16]⟩
abbrev S8448x32 : Shape := ⟨2, ![8448, 32]⟩
abbrev S16 : Shape := ⟨1, ![16]⟩
abbrev S1x16 : Shape := ⟨2, ![1, 16]⟩
abbrev S8192x32 : Shape := ⟨2, ![8192, 32]⟩
abbrev S256x32 : Shape := ⟨2, ![256, 32]⟩
abbrev S1x8448x1x32 : Shape := ⟨4, ![1, 8448, 1, 32]⟩
abbrev S1x8448x2x32 : Shape := ⟨4, ![1, 8448, 2, 32]⟩
abbrev S8448x64 : Shape := ⟨2, ![8448, 64]⟩
abbrev S1x8448x8x32 : Shape := ⟨4, ![1, 8448, 8, 32]⟩
abbrev S8448x256 : Shape := ⟨2, ![8448, 256]⟩
abbrev S1x8448x1x64 : Shape := ⟨4, ![1, 8448, 1, 64]⟩
abbrev S1x8448x2x64 : Shape := ⟨4, ![1, 8448, 2, 64]⟩
abbrev S8448x128 : Shape := ⟨2, ![8448, 128]⟩
abbrev S32x8448 : Shape := ⟨2, ![32, 8448]⟩
abbrev S64x8448 : Shape := ⟨2, ![64, 8448]⟩
abbrev S2x20x128x8448 : Shape := ⟨4, ![2, 20, 128, 8448]⟩
abbrev S2x8448x896 : Shape := ⟨3, ![2, 8448, 896]⟩
abbrev S2x10x80x8448 : Shape := ⟨4, ![2, 10, 80, 8448]⟩
abbrev S1x256x1024 : Shape := ⟨3, ![1, 256, 1024]⟩
abbrev S1x1x6144 : Shape := ⟨3, ![1, 1, 6144]⟩
abbrev S32x256 : Shape := ⟨2, ![32, 256]⟩
abbrev S1x20x128x256 : Shape := ⟨4, ![1, 20, 128, 256]⟩
abbrev S1x256x896 : Shape := ⟨3, ![1, 256, 896]⟩
abbrev S1x10x80x256 : Shape := ⟨4, ![1, 10, 80, 256]⟩
abbrev S256x1024 : Shape := ⟨2, ![256, 1024]⟩
abbrev S1x6144 : Shape := ⟨2, ![1, 6144]⟩
abbrev S256x1152 : Shape := ⟨2, ![256, 1152]⟩
abbrev S2304x256 : Shape := ⟨2, ![2304, 256]⟩
abbrev S16x256 : Shape := ⟨2, ![16, 256]⟩
abbrev S1x256 : Shape := ⟨2, ![1, 256]⟩
abbrev S1x1x64x256 : Shape := ⟨4, ![1, 1, 64, 256]⟩
abbrev S1x1x32x256 : Shape := ⟨4, ![1, 1, 32, 256]⟩
abbrev S1x256x128 : Shape := ⟨3, ![1, 256, 128]⟩
abbrev S1x1x16x256 : Shape := ⟨4, ![1, 1, 16, 256]⟩
abbrev S8x32x256 : Shape := ⟨3, ![8, 32, 256]⟩
abbrev S1x32x256 : Shape := ⟨3, ![1, 32, 256]⟩
abbrev S1x256x256 : Shape := ⟨3, ![1, 256, 256]⟩
abbrev S8x64x256 : Shape := ⟨3, ![8, 64, 256]⟩
abbrev S8x256 : Shape := ⟨2, ![8, 256]⟩
abbrev S8x1x256 : Shape := ⟨3, ![8, 1, 256]⟩
abbrev S1x64x256 : Shape := ⟨3, ![1, 64, 256]⟩

abbrev nBuf : Space → Nat
  | .hbm => 240
  | .vmem => 39
  | .smem => 0
  | _ => 0

abbrev hbmTy0_0 (i : Nat) : BufTy := match i % 128 with
  | 0 => ⟨S2x8448x1024, .f32⟩
  | 1 => ⟨S8x6144, .f32⟩
  | 2 => ⟨S1024x1952, .f32⟩
  | 3 => ⟨S1024, .f32⟩
  | 4 => ⟨S256, .f32⟩
  | 5 => ⟨S256x384, .f32⟩
  | 6 => ⟨S128, .f32⟩
  | 7 => ⟨S128x512, .f32⟩
  | 8 => ⟨S64, .f32⟩
  | 9 => ⟨S64, .f32⟩
  | 10 => ⟨S1024x256, .f32⟩
  | 11 => ⟨S1024x128, .f32⟩
  | 12 => ⟨S1024x32, .f32⟩
  | 13 => ⟨S1024x256, .f32⟩
  | 14 => ⟨S1024x256, .f32⟩
  | 15 => ⟨S1024x256, .f32⟩
  | 16 => ⟨S1024x512, .f32⟩
  | 17 => ⟨S1024x128, .f32⟩
  | 18 => ⟨S1024x128, .f32⟩
  | 19 => ⟨S_, .f32⟩
  | 20 => ⟨S1024x64, .f32⟩
  | 21 => ⟨S_, .f32⟩
  | 22 => ⟨S1024x32, .f32⟩
  | 23 => ⟨S1024x128, .f32⟩
  | 24 => ⟨S_, .f32⟩
  | 25 => ⟨S1024x64, .f32⟩
  | 26 => ⟨S1024x1x2x16, .f32⟩
  | 27 => ⟨S1024x1x1x16, .f32⟩
  | 28 => ⟨S1024x1x1x16, .f32⟩
  | 29 => ⟨S1024x1x1x16, .f32⟩
  | 30 => ⟨S1024x1x2x16, .f32⟩
  | 31 => ⟨S1024x32, .f32⟩
  | 32 => ⟨S_, .f32⟩
  | 33 => ⟨S1024x32, .f32⟩
  | 34 => ⟨S1024x128, .f32⟩
  | 35 => ⟨S1024x8x2x16, .f32⟩
  | 36 => ⟨S1024x8x1x16, .f32⟩
  | 37 => ⟨S1024x8x1x16, .f32⟩
  | 38 => ⟨S1024x8x1x16, .f32⟩
  | 39 => ⟨S1024x8x2x16, .f32⟩
  | 40 => ⟨S1024x256, .f32⟩
  | 41 => ⟨S1024x2x2x32, .f32⟩
  | 42 => ⟨S1024x2x1x32, .f32⟩
  | 43 => ⟨S1024x2x1x32, .f32⟩
  | 44 => ⟨S1024x2x1x32, .f32⟩
  | 45 => ⟨S1024x2x2x32, .f32⟩
  | 46 => ⟨S1024x128, .f32⟩
  | 47 => ⟨S1024x1152, .f32⟩
  | 48 => ⟨S1024x8x2x16, .f32⟩
  | 49 => ⟨S1024x8x1x16, .f32⟩
  | 50 => ⟨S1024x8x1x16, .f32⟩
  | 51 => ⟨S1024x8x1x16, .f32⟩
  | 52 => ⟨S1024x8x2x16, .f32⟩
  | 53 => ⟨S1024x256, .f32⟩
  | 54 => ⟨S1024x8x2x32, .f32⟩
  | 55 => ⟨S1024x8x1x32, .f32⟩
  | 56 => ⟨S1024x8x1x32, .f32⟩
  | 57 => ⟨S1024x8x1x32, .f32⟩
  | 58 => ⟨S1024x8x2x32, .f32⟩
  | 59 => ⟨S1024x512, .f32⟩
  | 60 => ⟨S1024x2304, .f32⟩
  | 61 => ⟨S256x4x96, .f32⟩
  | 62 => ⟨S256x4x32, .f32⟩
  | 63 => ⟨S256x4x1x2x16, .f32⟩
  | 64 => ⟨S256x4x1x1x16, .f32⟩
  | 65 => ⟨S256x4x1x1x16, .f32⟩
  | 66 => ⟨S256x4x1x1x16, .f32⟩
  | 67 => ⟨S256x4x1x2x16, .f32⟩
  | 68 => ⟨S256x4x32, .f32⟩
  | 69 => ⟨S256x4x128, .f32⟩
  | 70 => ⟨S256x512, .f32⟩
  | 71 => ⟨S128x4x128, .f32⟩
  | 72 => ⟨S128x4x64, .f32⟩
  | 73 => ⟨S_, .f32⟩
  | 74 => ⟨S128x4x64, .f32⟩
  | 75 => ⟨S128x4x128, .f32⟩
  | 76 => ⟨S128x512, .f32⟩
  | 77 => ⟨S128x4x64, .f32⟩
  | 78 => ⟨S128x256, .f32⟩
  | 79 => ⟨S1x1024, .f32⟩
  | 80 => ⟨S1024x1152, .bf16⟩
  | 81 => ⟨S2304x1024, .f32⟩
  | 82 => ⟨S2304x1024, .bf16⟩
  | 83 => ⟨S512x256, .f32⟩
  | 84 => ⟨S512x256, .bf16⟩
  | 85 => ⟨S128x512, .bf16⟩
  | 86 => ⟨S256x128, .f32⟩
  | 87 => ⟨S256x128, .bf16⟩
  | 88 => ⟨S256x1, .f32⟩
  | 89 => ⟨S256x256, .f32⟩
  | 90 => ⟨S1x128, .f32⟩
  | 91 => ⟨S128x1, .f32⟩
  | 92 => ⟨S128x256, .f32⟩
  | 93 => ⟨S64x1, .f32⟩
  | 94 => ⟨S64x256, .f32⟩
  | 95 => ⟨S32, .f32⟩
  | 96 => ⟨S32, .f32⟩
  | 97 => ⟨S64, .f32⟩
  | 98 => ⟨S64x1, .f32⟩
  | 99 => ⟨S64x256, .f32⟩
  | 100 => ⟨S1x64, .f32⟩
  | 101 => ⟨S2x64, .f32⟩
  | 102 => ⟨S128, .f32⟩
  | 103 => ⟨S1x128, .f32⟩
  | 104 => ⟨S32, .f32⟩
  | 105 => ⟨S32, .f32⟩
  | 106 => ⟨S64, .f32⟩
  | 107 => ⟨S1x64, .f32⟩
  | 108 => ⟨S2x64, .f32⟩
  | 109 => ⟨S128, .f32⟩
  | 110 => ⟨S1x128, .f32⟩
  | 111 => ⟨S8x1x6144, .f32⟩
  | 112 => ⟨S8192, .i32⟩
  | 113 => ⟨S_, .i32⟩
  | 114 => ⟨S_, .i32⟩
  | 115 => ⟨S8192, .i32⟩
  | 116 => ⟨S8192, .i32⟩
  | 117 => ⟨S8192, .i32⟩
  | 118 => ⟨S_, .i32⟩
  | 119 => ⟨S8192, .i32⟩
  | 120 => ⟨S8192, .i1⟩
  | 121 => ⟨S8192, .i32⟩
  | 122 => ⟨S8192, .i32⟩
  | 123 => ⟨S_, .i32⟩
  | 124 => ⟨S8192, .i32⟩
  | 125 => ⟨S8192, .i1⟩
  | 126 => ⟨S8192, .i1⟩
  | 127 => ⟨S_, .i32⟩
  | _ => ⟨S2x8448x1024, .f32⟩

abbrev hbmTy0_1 (i : Nat) : BufTy := match i % 128 with
  | 0 => ⟨S8192, .i32⟩
  | 1 => ⟨S8192, .i32⟩
  | 2 => ⟨S8192, .i32⟩
  | 3 => ⟨S8192, .f32⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S8192, .i32⟩
  | 11 => ⟨S8192, .i32⟩
  | 12 => ⟨S_, .i32⟩
  | 13 => ⟨S8192, .i32⟩
  | 14 => ⟨S8192, .i1⟩
  | 15 => ⟨S_, .i32⟩
  | 16 => ⟨S8192, .i32⟩
  | 17 => ⟨S8192, .i1⟩
  | 18 => ⟨S_, .i32⟩
  | 19 => ⟨S_, .i1⟩
  | 20 => ⟨S8192, .i1⟩
  | 21 => ⟨S8192, .i1⟩
  | 22 => ⟨S8192, .i1⟩
  | 23 => ⟨S8192, .i32⟩
  | 24 => ⟨S8192, .i32⟩
  | 25 => ⟨S8192, .i32⟩
  | 26 => ⟨S8192, .f32⟩
  | 27 => ⟨S8, .f32⟩
  | 28 => ⟨S8, .f32⟩
  | 29 => ⟨S_, .f32⟩
  | 30 => ⟨S8, .f32⟩
  | 31 => ⟨S8, .f32⟩
  | 32 => ⟨S_, .f32⟩
  | 33 => ⟨S8, .f32⟩
  | 34 => ⟨S8, .f32⟩
  | 35 => ⟨S8192x1, .f32⟩
  | 36 => ⟨S1x8, .f32⟩
  | 37 => ⟨S8192x8, .f32⟩
  | 38 => ⟨S8192x8, .f32⟩
  | 39 => ⟨S8192x8, .f32⟩
  | 40 => ⟨S8192x1, .f32⟩
  | 41 => ⟨S1x8, .f32⟩
  | 42 => ⟨S8192x8, .f32⟩
  | 43 => ⟨S8192x8, .f32⟩
  | 44 => ⟨S8192x8, .f32⟩
  | 45 => ⟨S8192x16, .f32⟩
  | 46 => ⟨S8192x16, .f32⟩
  | 47 => ⟨S_, .f32⟩
  | 48 => ⟨S256x16, .f32⟩
  | 49 => ⟨S8448x16, .f32⟩
  | 50 => ⟨S8192x16, .f32⟩
  | 51 => ⟨S_, .f32⟩
  | 52 => ⟨S256x16, .f32⟩
  | 53 => ⟨S8448x16, .f32⟩
  | 54 => ⟨S1x8448x1x16, .f32⟩
  | 55 => ⟨S1x8448x2x16, .f32⟩
  | 56 => ⟨S8448x32, .f32⟩
  | 57 => ⟨S1x8448x1x16, .f32⟩
  | 58 => ⟨S1x8448x2x16, .f32⟩
  | 59 => ⟨S8448x32, .f32⟩
  | 60 => ⟨S16, .f32⟩
  | 61 => ⟨S16, .f32⟩
  | 62 => ⟨S_, .f32⟩
  | 63 => ⟨S16, .f32⟩
  | 64 => ⟨S16, .f32⟩
  | 65 => ⟨S_, .f32⟩
  | 66 => ⟨S16, .f32⟩
  | 67 => ⟨S16, .f32⟩
  | 68 => ⟨S8192x1, .f32⟩
  | 69 => ⟨S1x16, .f32⟩
  | 70 => ⟨S8192x16, .f32⟩
  | 71 => ⟨S8192x16, .f32⟩
  | 72 => ⟨S8192x16, .f32⟩
  | 73 => ⟨S8192x1, .f32⟩
  | 74 => ⟨S1x16, .f32⟩
  | 75 => ⟨S8192x16, .f32⟩
  | 76 => ⟨S8192x16, .f32⟩
  | 77 => ⟨S8192x16, .f32⟩
  | 78 => ⟨S8192x32, .f32⟩
  | 79 => ⟨S8192x32, .f32⟩
  | 80 => ⟨S_, .f32⟩
  | 81 => ⟨S256x32, .f32⟩
  | 82 => ⟨S8448x32, .f32⟩
  | 83 => ⟨S8192x32, .f32⟩
  | 84 => ⟨S_, .f32⟩
  | 85 => ⟨S256x32, .f32⟩
  | 86 => ⟨S8448x32, .f32⟩
  | 87 => ⟨S1x8448x1x32, .f32⟩
  | 88 => ⟨S1x8448x2x32, .f32⟩
  | 89 => ⟨S8448x64, .f32⟩
  | 90 => ⟨S1x8448x1x32, .f32⟩
  | 91 => ⟨S1x8448x2x32, .f32⟩
  | 92 => ⟨S8448x64, .f32⟩
  | 93 => ⟨S1x8448x1x32, .f32⟩
  | 94 => ⟨S1x8448x8x32, .f32⟩
  | 95 => ⟨S8448x256, .f32⟩
  | 96 => ⟨S1x8448x1x32, .f32⟩
  | 97 => ⟨S1x8448x8x32, .f32⟩
  | 98 => ⟨S8448x256, .f32⟩
  | 99 => ⟨S1x8448x1x64, .f32⟩
  | 100 => ⟨S1x8448x2x64, .f32⟩
  | 101 => ⟨S8448x128, .f32⟩
  | 102 => ⟨S1x8448x1x64, .f32⟩
  | 103 => ⟨S1x8448x2x64, .f32⟩
  | 104 => ⟨S8448x128, .f32⟩
  | 105 => ⟨S32x8448, .f32⟩
  | 106 => ⟨S32x8448, .f32⟩
  | 107 => ⟨S64x8448, .f32⟩
  | 108 => ⟨S64x8448, .f32⟩
  | 109 => ⟨S2x20x128x8448, .bf16⟩
  | 110 => ⟨S2x8448x896, .bf16⟩
  | 111 => ⟨S2x10x80x8448, .bf16⟩
  | _ => ⟨S2x8448x1024, .f32⟩

abbrev hbmTy (i : Nat) : BufTy := match i / 128 with
  | 0 => hbmTy0_0 i
  | 1 => hbmTy0_1 i
  | _ => ⟨S2x8448x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x1152, .bf16⟩
  | .local _ .vmem, ⟨6, _⟩ => ⟨S2304x1024, .bf16⟩
  | .local _ .vmem, ⟨7, _⟩ => ⟨S512x256, .bf16⟩
  | .local _ .vmem, ⟨8, _⟩ => ⟨S128x512, .bf16⟩
  | .local _ .vmem, ⟨9, _⟩ => ⟨S256x128, .bf16⟩
  | .local _ .vmem, ⟨10, _⟩ => ⟨S256x256, .f32⟩
  | .local _ .vmem, ⟨11, _⟩ => ⟨S1x128, .f32⟩
  | .local _ .vmem, ⟨12, _⟩ => ⟨S128x256, .f32⟩
  | .local _ .vmem, ⟨13, _⟩ => ⟨S64x256, .f32⟩
  | .local _ .vmem, ⟨14, _⟩ => ⟨S64x256, .f32⟩
  | .local _ .vmem, ⟨15, _⟩ => ⟨S1x128, .f32⟩
  | .local _ .vmem, ⟨16, _⟩ => ⟨S1x128, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S32x256, .f32⟩
  | .local _ .vmem, ⟨26, _⟩ => ⟨S32x256, .f32⟩
  | .local _ .vmem, ⟨27, _⟩ => ⟨S32x256, .f32⟩
  | .local _ .vmem, ⟨28, _⟩ => ⟨S32x256, .f32⟩
  | .local _ .vmem, ⟨29, _⟩ => ⟨S64x256, .f32⟩
  | .local _ .vmem, ⟨30, _⟩ => ⟨S64x256, .f32⟩
  | .local _ .vmem, ⟨31, _⟩ => ⟨S64x256, .f32⟩
  | .local _ .vmem, ⟨32, _⟩ => ⟨S64x256, .f32⟩
  | .local _ .vmem, ⟨33, _⟩ => ⟨S1x20x128x256, .bf16⟩
  | .local _ .vmem, ⟨34, _⟩ => ⟨S1x20x128x256, .bf16⟩
  | .local _ .vmem, ⟨35, _⟩ => ⟨S1x256x896, .bf16⟩
  | .local _ .vmem, ⟨36, _⟩ => ⟨S1x256x896, .bf16⟩
  | .local _ .vmem, ⟨37, _⟩ => ⟨S1x10x80x256, .bf16⟩
  | .local _ .vmem, ⟨38, _⟩ => ⟨S1x10x80x256, .bf16⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_3 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_c : Ref sig .tc := ⟨.hbm, 113, rfl⟩
abbrev main_call0_v0 : Ref sig .tc := ⟨.hbm, 114, rfl⟩
abbrev main_call0_v1 : Ref sig .tc := ⟨.hbm, 115, rfl⟩
abbrev main_call0_v2 : Ref sig .tc := ⟨.hbm, 116, rfl⟩
abbrev main_call0_v3 : Ref sig .tc := ⟨.hbm, 117, rfl⟩
abbrev main_call0_v4 : Ref sig .tc := ⟨.hbm, 118, rfl⟩
abbrev main_call0_v5 : Ref sig .tc := ⟨.hbm, 119, rfl⟩
abbrev main_call0_v6 : Ref sig .tc := ⟨.hbm, 120, rfl⟩
abbrev main_call0_v7 : Ref sig .tc := ⟨.hbm, 121, rfl⟩
abbrev main_call0_v8 : Ref sig .tc := ⟨.hbm, 122, rfl⟩
abbrev main_call0_c : Ref sig .tc := ⟨.hbm, 123, rfl⟩
abbrev main_call0_v9 : Ref sig .tc := ⟨.hbm, 124, rfl⟩
abbrev main_call0_v10 : Ref sig .tc := ⟨.hbm, 125, rfl⟩
abbrev main_call0_v11 : Ref sig .tc := ⟨.hbm, 126, rfl⟩
abbrev main_call0_c_0 : Ref sig .tc := ⟨.hbm, 127, rfl⟩
abbrev main_call0_v12 : Ref sig .tc := ⟨.hbm, 128, rfl⟩
abbrev main_call0_v13 : Ref sig .tc := ⟨.hbm, 129, rfl⟩
abbrev main_v98 : Ref sig .tc := ⟨.hbm, 130, rfl⟩
abbrev main_v99 : Ref sig .tc := ⟨.hbm, 131, rfl⟩
abbrev main_c_4 : Ref sig .tc := ⟨.hbm, 132, rfl⟩
abbrev main_call1_v0 : Ref sig .tc := ⟨.hbm, 133, rfl⟩
abbrev main_call1_c : Ref sig .tc := ⟨.hbm, 134, rfl⟩
abbrev main_call1_v1 : Ref sig .tc := ⟨.hbm, 135, rfl⟩
abbrev main_call1_c_0 : Ref sig .tc := ⟨.hbm, 136, rfl⟩
abbrev main_call1_v2 : Ref sig .tc := ⟨.hbm, 137, rfl⟩
abbrev main_call1_v3 : Ref sig .tc := ⟨.hbm, 138, rfl⟩
abbrev main_call1_v4 : Ref sig .tc := ⟨.hbm, 139, rfl⟩
abbrev main_call1_c_1 : Ref sig .tc := ⟨.hbm, 140, rfl⟩
abbrev main_call1_v5 : Ref sig .tc := ⟨.hbm, 141, rfl⟩
abbrev main_call1_v6 : Ref sig .tc := ⟨.hbm, 142, rfl⟩
abbrev main_call1_c_2 : Ref sig .tc := ⟨.hbm, 143, rfl⟩
abbrev main_call1_v7 : Ref sig .tc := ⟨.hbm, 144, rfl⟩
abbrev main_call1_v8 : Ref sig .tc := ⟨.hbm, 145, rfl⟩
abbrev main_call1_c_3 : Ref sig .tc := ⟨.hbm, 146, rfl⟩
abbrev main_call1_v9 : Ref sig .tc := ⟨.hbm, 147, rfl⟩
abbrev main_call1_v10 : Ref sig .tc := ⟨.hbm, 148, rfl⟩
abbrev main_call1_v11 : Ref sig .tc := ⟨.hbm, 149, rfl⟩
abbrev main_call1_v12 : Ref sig .tc := ⟨.hbm, 150, rfl⟩
abbrev main_call1_v13 : Ref sig .tc := ⟨.hbm, 151, rfl⟩
abbrev main_call1_v14 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_cst_5 : Ref sig .tc := ⟨.hbm, 157, rfl⟩
abbrev main_v104 : Ref sig .tc := ⟨.hbm, 158, rfl⟩
abbrev main_v105 : Ref sig .tc := ⟨.hbm, 159, rfl⟩
abbrev main_cst_6 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_cst_7 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_cst_8 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_cst_9 : Ref sig .tc := ⟨.hbm, 190, rfl⟩
abbrev main_v133 : Ref sig .tc := ⟨.hbm, 191, rfl⟩
abbrev main_v134 : Ref sig .tc := ⟨.hbm, 192, rfl⟩
abbrev main_cst_10 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_cst_11 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_cst_12 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176_0 : Ref sig .tc := ⟨.hbm, 237, rfl⟩
abbrev main_v176_1 : Ref sig .tc := ⟨.hbm, 238, rfl⟩
abbrev main_v176_2 : Ref sig .tc := ⟨.hbm, 239, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_stg23_0 : Ref sig .tc := ⟨.vmem, 33, rfl⟩
abbrev cc0_stg23_1 : Ref sig .tc := ⟨.vmem, 34, rfl⟩
abbrev cc0_stg24_0 : Ref sig .tc := ⟨.vmem, 35, rfl⟩
abbrev cc0_stg24_1 : Ref sig .tc := ⟨.vmem, 36, rfl⟩
abbrev cc0_stg25_0 : Ref sig .tc := ⟨.vmem, 37, rfl⟩
abbrev cc0_stg25_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32
abbrev cc0_sem23_0 : DmaSem sig := 33
abbrev cc0_sem23_1 : DmaSem sig := 34
abbrev cc0_sem24_0 : DmaSem sig := 35
abbrev cc0_sem24_1 : DmaSem sig := 36
abbrev cc0_sem25_0 : DmaSem sig := 37
abbrev cc0_sem25_1 : DmaSem sig := 38

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .eq arg1 c32_i32
  let c2_i32 : BitVec 32 := 2#32
  let v1 : BitVec 32 := Scalar.select v0 c2_i32 arg0
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_23 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2304x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S64x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![false, true]

abbrev stage0_19 : Fin 2 → Memref sig .tc .vmem S32x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![false, true]

abbrev stage0_20 : Fin 2 → Memref sig .tc .vmem S32x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![false, true]

abbrev stage0_21 : Fin 2 → Memref sig .tc .vmem S64x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![false, true]

abbrev stage0_22 : Fin 2 → Memref sig .tc .vmem S64x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![false, true]

abbrev stage0_23 : Fin 2 → Memref sig .tc .vmem S1x20x128x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x256x896 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x10x80x256 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]
-- ==== Reference6Ideal.lean ====
abbrev S2x8448x1024 : Shape := ⟨3, ![2, 8448, 1024]⟩
abbrev S8x6144 : Shape := ⟨2, ![8, 6144]⟩
abbrev S1024x1952 : Shape := ⟨2, ![1024, 1952]⟩
abbrev S1024 : Shape := ⟨1, ![1024]⟩
abbrev S256 : Shape := ⟨1, ![256]⟩
abbrev S256x384 : Shape := ⟨2, ![256, 384]⟩
abbrev S128 : Shape := ⟨1, ![128]⟩
abbrev S128x512 : Shape := ⟨2, ![128, 512]⟩
abbrev S64 : Shape := ⟨1, ![64]⟩
abbrev S2x8192x1024 : Shape := ⟨3, ![2, 8192, 1024]⟩
abbrev S2x6144 : Shape := ⟨2, ![2, 6144]⟩
abbrev S2x1x6144 : Shape := ⟨3, ![2, 1, 6144]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x256x1024 : Shape := ⟨3, ![2, 256, 1024]⟩
abbrev S1x6144 : Shape := ⟨2, ![1, 6144]⟩
abbrev S6144 : Shape := ⟨1, ![6144]⟩
abbrev S1x1x6144 : Shape := ⟨3, ![1, 1, 6144]⟩
abbrev S2x256 : Shape := ⟨2, ![2, 256]⟩
abbrev S2x256x1 : Shape := ⟨3, ![2, 256, 1]⟩
abbrev S1024x128 : Shape := ⟨2, ![1024, 128]⟩
abbrev S2x8448x128 : Shape := ⟨3, ![2, 8448, 128]⟩
abbrev S1024x256 : Shape := ⟨2, ![1024, 256]⟩
abbrev S2x8448x256 : Shape := ⟨3, ![2, 8448, 256]⟩
abbrev S2x8448 : Shape := ⟨2, ![2, 8448]⟩
abbrev S2x8448x1 : Shape := ⟨3, ![2, 8448, 1]⟩
abbrev S1x1x128 : Shape := ⟨3, ![1, 1, 128]⟩
abbrev S2x8448x512 : Shape := ⟨3, ![2, 8448, 512]⟩
abbrev S2x8448x4x128 : Shape := ⟨4, ![2, 8448, 4, 128]⟩
abbrev S2x8448x4x64 : Shape := ⟨4, ![2, 8448, 4, 64]⟩
abbrev S2x8448x2x64 : Shape := ⟨4, ![2, 8448, 2, 64]⟩
abbrev S2x8448x10x64 : Shape := ⟨4, ![2, 8448, 10, 64]⟩
abbrev S2x10x64x8448 : Shape := ⟨4, ![2, 10, 64, 8448]⟩
abbrev S2x10x16x8448 : Shape := ⟨4, ![2, 10, 16, 8448]⟩
abbrev S2x10x80x8448 : Shape := ⟨4, ![2, 10, 80, 8448]⟩

abbrev nBuf : Space → Nat
  | .hbm => 101
  | .vmem => 0
  | .smem => 0
  | _ => 0

abbrev bufTy : (tb : Table) → Fin (tcTables nBuf tb) → BufTy
  | .hbm, ⟨0, _⟩ => ⟨S2x8448x1024, .f32⟩
  | .hbm, ⟨1, _⟩ => ⟨S8x6144, .f32⟩
  | .hbm, ⟨2, _⟩ => ⟨S1024x1952, .f32⟩
  | .hbm, ⟨3, _⟩ => ⟨S1024, .f32⟩
  | .hbm, ⟨4, _⟩ => ⟨S256, .f32⟩
  | .hbm, ⟨5, _⟩ => ⟨S256x384, .f32⟩
  | .hbm, ⟨6, _⟩ => ⟨S128, .f32⟩
  | .hbm, ⟨7, _⟩ => ⟨S128x512, .f32⟩
  | .hbm, ⟨8, _⟩ => ⟨S64, .f32⟩
  | .hbm, ⟨9, _⟩ => ⟨S64, .f32⟩
  | .hbm, ⟨10, _⟩ => ⟨S2x8192x1024, .f32⟩
  | .hbm, ⟨11, _⟩ => ⟨S2x6144, .f32⟩
  | .hbm, ⟨12, _⟩ => ⟨S2x1x6144, .f32⟩
  | .hbm, ⟨13, _⟩ => ⟨S2x8192x1024, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x1, .f32⟩
  | .hbm, ⟨24, _⟩ => ⟨S2x8192x1024, .f32⟩
  | .hbm, ⟨25, _⟩ => ⟨S2x8192x1024, .f32⟩
  | .hbm, ⟨26, _⟩ => ⟨S1x1x1024, .f32⟩
  | .hbm, ⟨27, _⟩ => ⟨S2x8192x1024, .f32⟩
  | .hbm, ⟨28, _⟩ => ⟨S2x8192x1024, .f32⟩
  | .hbm, ⟨29, _⟩ => ⟨S2x1x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x8192x1024, .f32⟩
  | .hbm, ⟨34, _⟩ => ⟨S2x8192x1024, .f32⟩
  | .hbm, ⟨35, _⟩ => ⟨S2x1x1024, .f32⟩
  | .hbm, ⟨36, _⟩ => ⟨S2x8192x1024, .f32⟩
  | .hbm, ⟨37, _⟩ => ⟨S2x8192x1024, .f32⟩
  | .hbm, ⟨38, _⟩ => ⟨S2x256x1024, .f32⟩
  | .hbm, ⟨39, _⟩ => ⟨S1x6144, .f32⟩
  | .hbm, ⟨40, _⟩ => ⟨S6144, .f32⟩
  | .hbm, ⟨41, _⟩ => ⟨S1x1x6144, .f32⟩
  | .hbm, ⟨42, _⟩ => ⟨S2x256x1024, .f32⟩
  | .hbm, ⟨43, _⟩ => ⟨S_, .f32⟩
  | .hbm, ⟨44, _⟩ => ⟨S2x256, .f32⟩
  | .hbm, ⟨45, _⟩ => ⟨S2x256x1, .f32⟩
  | .hbm, ⟨46, _⟩ => ⟨S_, .f32⟩
  | .hbm, ⟨47, _⟩ => ⟨S2x256x1, .f32⟩
  | .hbm, ⟨48, _⟩ => ⟨S2x256x1, .f32⟩
  | .hbm, ⟨49, _⟩ => ⟨S_, .f32⟩
  | .hbm, ⟨50, _⟩ => ⟨S2x256x1, .f32⟩
  | .hbm, ⟨51, _⟩ => ⟨S2x256x1, .f32⟩
  | .hbm, ⟨52, _⟩ => ⟨S2x256x1, .f32⟩
  | .hbm, ⟨53, _⟩ => ⟨S2x256x1024, .f32⟩
  | .hbm, ⟨54, _⟩ => ⟨S2x256x1024, .f32⟩
  | .hbm, ⟨55, _⟩ => ⟨S1x1x1024, .f32⟩
  | .hbm, ⟨56, _⟩ => ⟨S2x256x1024, .f32⟩
  | .hbm, ⟨57, _⟩ => ⟨S2x256x1024, .f32⟩
  | .hbm, ⟨58, _⟩ => ⟨S1x1x1024, .f32⟩
  | .hbm, ⟨59, _⟩ => ⟨S_, .f32⟩
  | .hbm, ⟨60, _⟩ => ⟨S1x1x1024, .f32⟩
  | .hbm, ⟨61, _⟩ => ⟨S1x1x1024, .f32⟩
  | .hbm, ⟨62, _⟩ => ⟨S2x256x1024, .f32⟩
  | .hbm, ⟨63, _⟩ => ⟨S2x256x1024, .f32⟩
  | .hbm, ⟨64, _⟩ => ⟨S1x1x1024, .f32⟩
  | .hbm, ⟨65, _⟩ => ⟨S2x256x1024, .f32⟩
  | .hbm, ⟨66, _⟩ => ⟨S2x256x1024, .f32⟩
  | .hbm, ⟨67, _⟩ => ⟨S2x8448x1024, .f32⟩
  | .hbm, ⟨68, _⟩ => ⟨S1024x128, .f32⟩
  | .hbm, ⟨69, _⟩ => ⟨S2x8448x128, .f32⟩
  | .hbm, ⟨70, _⟩ => ⟨S1024x256, .f32⟩
  | .hbm, ⟨71, _⟩ => ⟨S2x8448x256, .f32⟩
  | .hbm, ⟨72, _⟩ => ⟨S1024x128, .f32⟩
  | .hbm, ⟨73, _⟩ => ⟨S2x8448x128, .f32⟩
  | .hbm, ⟨74, _⟩ => ⟨S2x8448x128, .f32⟩
  | .hbm, ⟨75, _⟩ => ⟨S_, .f32⟩
  | .hbm, ⟨76, _⟩ => ⟨S2x8448, .f32⟩
  | .hbm, ⟨77, _⟩ => ⟨S2x8448x1, .f32⟩
  | .hbm, ⟨78, _⟩ => ⟨S_, .f32⟩
  | .hbm, ⟨79, _⟩ => ⟨S2x8448x1, .f32⟩
  | .hbm, ⟨80, _⟩ => ⟨S2x8448x1, .f32⟩
  | .hbm, ⟨81, _⟩ => ⟨S_, .f32⟩
  | .hbm, ⟨82, _⟩ => ⟨S2x8448x1, .f32⟩
  | .hbm, ⟨83, _⟩ => ⟨S2x8448x1, .f32⟩
  | .hbm, ⟨84, _⟩ => ⟨S2x8448x1, .f32⟩
  | .hbm, ⟨85, _⟩ => ⟨S2x8448x128, .f32⟩
  | .hbm, ⟨86, _⟩ => ⟨S2x8448x128, .f32⟩
  | .hbm, ⟨87, _⟩ => ⟨S1x1x128, .f32⟩
  | .hbm, ⟨88, _⟩ => ⟨S2x8448x128, .f32⟩
  | .hbm, ⟨89, _⟩ => ⟨S2x8448x128, .f32⟩
  | .hbm, ⟨90, _⟩ => ⟨S2x8448x512, .f32⟩
  | .hbm, ⟨91, _⟩ => ⟨S2x8448x4x128, .f32⟩
  | .hbm, ⟨92, _⟩ => ⟨S2x8448x4x64, .f32⟩
  | .hbm, ⟨93, _⟩ => ⟨S2x8448x4x64, .f32⟩
  | .hbm, ⟨94, _⟩ => ⟨S2x8448x2x64, .f32⟩
  | .hbm, ⟨95, _⟩ => ⟨S2x8448x10x64, .f32⟩
  | .hbm, ⟨96, _⟩ => ⟨S2x10x64x8448, .f32⟩
  | .hbm, ⟨97, _⟩ => ⟨S2x10x64x8448, .bf16⟩
  | .hbm, ⟨98, _⟩ => ⟨S_, .bf16⟩
  | .hbm, ⟨99, _⟩ => ⟨S2x10x16x8448, .bf16⟩
  | .hbm, ⟨100, _⟩ => ⟨S2x10x80x8448, .bf16⟩
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_7 : Ref sig .tc := ⟨.hbm, 75, rfl⟩
abbrev main_v57 : Ref sig .tc := ⟨.hbm, 76, rfl⟩
abbrev main_v58 : Ref sig .tc := ⟨.hbm, 77, rfl⟩
abbrev main_cst_8 : Ref sig .tc := ⟨.hbm, 78, rfl⟩
abbrev main_v59 : Ref sig .tc := ⟨.hbm, 79, rfl⟩
abbrev main_v60 : Ref sig .tc := ⟨.hbm, 80, rfl⟩
abbrev main_cst_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_10 : Ref sig .tc := ⟨.hbm, 98, rfl⟩
abbrev main_v77 : Ref sig .tc := ⟨.hbm, 99, rfl⟩
abbrev main_v78 : Ref sig .tc := ⟨.hbm, 100, rfl⟩

abbrev nD : Nat := 1
abbrev τ : Topo := Topo.v7x

variable {F : FTy → Type} [FloatOps F]
-- ==== Proof.AttnReads2.lean ====
/- Where the blocks that a grid point reads lie in the arrays of the attention kernel, and what the operations before the
   launch leave in the two small operands. -/
module

public import proofs.«01_k».proof.Proof.Gen.KernelIdeal.Value
public import Idealize.ShloMosaic.Lib.StableHlo.ReadAt
public import Idealize.ShloMosaic.Lib.Pointwise

@[expose] public section

set_option maxRecDepth 16384

noncomputable section

open scoped BigOperators
open Idealize.ShloMosaic Idealize.ShloMosaic.TcCoe

namespace Cert.KernelIdeal.Array

open Cert.KernelIdeal Cert.KernelIdeal.Gen

variable (m : (ℓ : Loc nD τ sig) → Buf (Elt Ideal) ℓ)

/-! ## What the host operations before the launch leave in the kernel's operands -/

theorem lam0_apply (c : Dev nD) (j : Fin 32) : V m c main_v4 (ix2 0 j) = m ((c : Thread nD τ).loc main_arg3) (ix1 j) := by
  unfold V; after_reads_at
  rw [StableHlo.unary_result]
  after_reads_at
theorem lam1_apply (c : Dev nD) (j : Fin 32) : V m c main_v4 (ix2 1 j) = m ((c : Thread nD τ).loc main_arg4) (ix1 j) := by
  unfold V; after_reads_at
  rw [StableHlo.unary_result]
  after_reads_at
theorem lam2_apply (c : Dev nD) (j : Fin 32) : V m c main_v4 (ix2 2 j) = m ((c : Thread nD τ).loc main_arg5) (ix1 j) := by
  unfold V; after_reads_at
  rw [StableHlo.unary_result]
  after_reads_at
theorem lam3_apply (c : Dev nD) (j : Fin 32) : V m c main_v4 (ix2 3 j) = m ((c : Thread nD τ).loc main_arg6) (ix1 j) := by
  unfold V; after_reads_at
  rw [StableHlo.unary_result]
  after_reads_at
theorem gain_apply (c : Dev nD) (r : Fin 64) (x : Fin 512) : V m c main_v6 (ix2 r x) = m ((c : Thread nD τ).loc main_arg7) (ix1 r) := by
  unfold V; after_reads_at

/-! ## Where each window's block lies -/

/-- The block indices of the windows that move, in closed form. -/
theorem idx_facts : ∀ t : Fin cfg0.N,
    (win0_0.index t 0 = t.val / 176 ∧ win0_0.index t 1 = 0 ∧ win0_0.index t 2 = 0 ∧ win0_0.index t 3 = t.val % 176 / 11)
    ∧ (win0_1.index t 0 = t.val / 176 ∧ win0_1.index t 1 = t.val % 11 ∧ win0_1.index t 2 = 0)
    ∧ (win0_2.index t 0 = t.val / 176 ∧ win0_2.index t 1 = 0 ∧ win0_2.index t 2 = 0 ∧ win0_2.index t 3 = t.val % 11)
    ∧ (win0_5.index t 0 = t.val / 176 ∧ win0_5.index t 1 = 0 ∧ win0_5.index t 2 = t.val % 176 / 11) :=
  (by decide +kernel : ∀ t : Fin grid0.N, _)

/-- The block indices of the windows that stay, all zero. -/
theorem idx_zero : ∀ t : Fin cfg0.N,
    (win0_3.index t 0 = 0 ∧ win0_3.index t 1 = 0) ∧ (win0_4.index t 0 = 0 ∧ win0_4.index t 1 = 0) :=
  (by decide +kernel : ∀ t : Fin grid0.N, _)

/-- The grid point of batch entry `b`, query block `s` and key block `n`. -/
abbrev pt (b : Fin 2) (s : Fin 16) (n : Fin 11) : Fin cfg0.N := ⟨b * 176 + s * 11 + n, show _ < 352 by omega⟩

theorem pt_div (b : Fin 2) (s : Fin 16) (n : Fin 11) : (pt b s n).val / 176 = b := by
  show (b.val * 176 + s.val * 11 + n.val) / 176 = _; omega
theorem pt_mid (b : Fin 2) (s : Fin 16) (n : Fin 11) : (pt b s n).val % 176 / 11 = s := by
  show (b.val * 176 + s.val * 11 + n.val) % 176 / 11 = _; omega
theorem pt_mod (b : Fin 2) (s : Fin 16) (n : Fin 11) : (pt b s n).val % 11 = n := by
  show (b.val * 176 + s.val * 11 + n.val) % 11 = _; omega

/-- The query column that column `x` of block `s` holds. -/
abbrev col (s : Fin 16) (x : Fin 512) : Fin 8448 := ⟨s * 512 + x, by omega⟩

/-- The key that position `i` of key block `n` holds. -/
abbrev key (n : ℕ) (i : Fin 768) : Fin 8448 := ⟨(n * 768 + i) % 8448, by omega⟩

/-- The query block, whole. -/
theorem block0 (c : Dev nD) (b : Fin 2) (s : Fin 16) (n : Fin 11) (h : Fin 20) (d : Fin 128) (x : Fin 512) :
    X0_0 m c (pt b s n) (ix4 0 h d x) = m ((c : Thread nD τ).loc main_arg0) (ix4 b h d (col s x)) := by
  obtain ⟨⟨e0, e1, e2, e3⟩, _⟩ := idx_facts (pt b s n)
  rw [pt_div] at e0; rw [pt_mid] at e3
  unfold X0_0 Pipeline.Window.fill
  rw [dif_pos (moved0_0 (pt b s n) (ix4 0 h d x))]
  show V m c main_arg0 (((cfg0.win 0).blk (pt b s n)).view.emb _) = _
  rw [V_main_arg0]
  congr 1
  funext a; apply Fin.ext
  match a with
  | ⟨0, _⟩ => show win0_0.index (pt b s n) 0 * 1 + 1 * 0 = b.val; omega
  | ⟨1, _⟩ => show win0_0.index (pt b s n) 1 * 20 + 1 * h.val = h.val; omega
  | ⟨2, _⟩ => show win0_0.index (pt b s n) 2 * 128 + 1 * d.val = d.val; omega
  | ⟨3, _⟩ => show win0_0.index (pt b s n) 3 * 512 + 1 * x.val = s.val * 512 + x.val; omega

theorem block1 (c : Dev nD) (b : Fin 2) (s : Fin 16) (n : Fin 11) (i : Fin 768) (j : Fin 896) :
    iblk m c 1 (pt b s n) (ix3 0 i j) = m ((c : Thread nD τ).loc main_arg1) (ix3 b (key n i) j) := by
  obtain ⟨_, ⟨e0, e1, e2⟩, _⟩ := idx_facts (pt b s n)
  rw [pt_div] at e0; rw [pt_mod] at e1
  show V m c main_arg1 (((cfg0.win 1).blk (pt b s n)).view.emb (ix3 0 i j)) = _
  rw [V_main_arg1]
  congr 1
  funext a; apply Fin.ext
  match a with
  | ⟨0, _⟩ => show win0_1.index (pt b s n) 0 * 1 + 1 * 0 = b.val; omega
  | ⟨1, _⟩ => show win0_1.index (pt b s n) 1 * 768 + 1 * i.val = (n.val * 768 + i.val) % 8448; omega
  | ⟨2, _⟩ => show win0_1.index (pt b s n) 2 * 896 + 1 * j.val = j.val; omega

theorem block2 (c : Dev nD) (b : Fin 2) (s : Fin 16) (n : Fin 11) (h : Fin 10) (r : Fin 80) (i : Fin 768) :
    iblk m c 2 (pt b s n) (ix4 0 h r i) = m ((c : Thread nD τ).loc main_arg2) (ix4 b h r (key n i)) := by
  obtain ⟨_, _, ⟨e0, e1, e2, e3⟩, _⟩ := idx_facts (pt b s n)
  rw [pt_div] at e0; rw [pt_mod] at e3
  show V m c main_arg2 (((cfg0.win 2).blk (pt b s n)).view.emb (ix4 0 h r i)) = _
  rw [V_main_arg2]
  congr 1
  funext a; apply Fin.ext
  match a with
  | ⟨0, _⟩ => show win0_2.index (pt b s n) 0 * 1 + 1 * 0 = b.val; omega
  | ⟨1, _⟩ => show win0_2.index (pt b s n) 1 * 10 + 1 * h.val = h.val; omega
  | ⟨2, _⟩ => show win0_2.index (pt b s n) 2 * 80 + 1 * r.val = r.val; omega
  | ⟨3, _⟩ => show win0_2.index (pt b s n) 3 * 768 + 1 * i.val = (n.val * 768 + i.val) % 8448; omega

theorem block3 (c : Dev nD) (t : Fin cfg0.N) (i : Fin 4) (j : Fin 32) : iblk m c 3 t (ix2 i j) = V m c main_v4 (ix2 i j) := by
  obtain ⟨⟨e0, e1⟩, _⟩ := idx_zero t
  show V m c main_v4 (((cfg0.win 3).blk t).view.emb (ix2 i j)) = _
  congr 1
  funext a; apply Fin.ext
  match a with
  | ⟨0, _⟩ => show win0_3.index t 0 * 4 + 1 * i.val = i.val; omega
  | ⟨1, _⟩ => show win0_3.index t 1 * 32 + 1 * j.val = j.val; omega

theorem block4 (c : Dev nD) (t : Fin cfg0.N) (i : Fin 64) (j : Fin 512) : iblk m c 4 t (ix2 i j) = V m c main_v6 (ix2 i j) := by
  obtain ⟨_, ⟨e0, e1⟩⟩ := idx_zero t
  show V m c main_v6 (((cfg0.win 4).blk t).view.emb (ix2 i j)) = _
  congr 1
  funext a; apply Fin.ext
  match a with
  | ⟨0, _⟩ => show win0_4.index t 0 * 64 + 1 * i.val = i.val; omega
  | ⟨1, _⟩ => show win0_4.index t 1 * 512 + 1 * j.val = j.val; omega

/-! ## The result's block -/

/-- No block of the result that the grid reaches is cut. -/
theorem whole5 : ∀ t : Fin cfg0.N, ∀ a, (cfg0.win 5).xsize (cfg0.grid.coords t) a = (cfg0.win 5).size a := by decide +kernel

/-- An index of the result's block, as an index of what a write-back moves. -/
def inBlock (t : Fin cfg0.N) (j : (cfg0.win 5).block.Idx) : ((cfg0.win 5).xblock (cfg0.grid.coords t)).Idx :=
  fun a => ⟨(j a).val, by show (j a).val < (cfg0.win 5).xsize (cfg0.grid.coords t) a; rw [whole5 t a]; exact (j a).isLt⟩

/-- Where row `r` and column `x` of the result's block lie in the array. -/
theorem emb5 (b : Fin 2) (s : Fin 16) (n : Fin 11) (r : Fin 1024) (x : Fin 512) :
    ((cfg0.win 5).blk (pt b s n)).view.emb (inBlock (pt b s n) (ix3 0 r x)) = ix3 b r (col s x) := by
  obtain ⟨_, _, _, e0, e1, e2⟩ := idx_facts (pt b s n)
  rw [pt_div] at e0; rw [pt_mid] at e2
  funext a; apply Fin.ext
  match a with
  | ⟨0, _⟩ => show win0_5.index (pt b s n) 0 * 1 + 1 * 0 = b.val; omega
  | ⟨1, _⟩ => show win0_5.index (pt b s n) 1 * 1024 + 1 * r.val = r.val; omega
  | ⟨2, _⟩ => show win0_5.index (pt b s n) 2 * 512 + 1 * x.val = s.val * 512 + x.val; omega

/-- Two points that write a block back write different blocks. -/
theorem flush_inj (t t' : Fin cfg0.N) (h : (cfg0.win 5).flush t = true) (h' : (cfg0.win 5).flush t' = true)
    (e : (cfg0.win 5).index t = (cfg0.win 5).index t') : t = t' := by
  rw [flush0_5] at h h'
  obtain ⟨_, _, _, e0, _, e2⟩ := idx_facts t
  obtain ⟨_, _, _, e0', _, e2'⟩ := idx_facts t'
  have h0 : win0_5.index t 0 = win0_5.index t' 0 := congrFun e 0
  have h2 : win0_5.index t 2 = win0_5.index t' 2 := congrFun e 2
  rw [e0, e0'] at h0; rw [e2, e2'] at h2
  apply Fin.ext; omega

end Cert.KernelIdeal.Array

end
-- ==== Proof.AttnStep.lean ====
/- One key block of the online softmax, for one score head: the running maximum and the weighted sums it leaves, as plain
   functions of the blocks it reads, and the vectors the kernel computes them with. -/
module

public import Idealize.ShloMosaic.Lib.Pointwise
public import Idealize.ShloMosaic.Lib.WholeRead
public import proofs.«01_k».proof.Proof.Gen.KernelIdeal.Value

@[expose] public section

set_option maxRecDepth 16384

noncomputable section

open scoped BigOperators
open Idealize.ShloMosaic

namespace Cert.KernelIdeal.Step

open Cert.KernelIdeal Cert.KernelIdeal.Gen

/-- The key slab that a score head reads. -/
def slab (h : Fin 20) : Fin 7 := ![0, 1, 2, 3, 4, 4, 4, 4, 5, 5, 5, 5, 6, 6, 6, 6, 6, 6, 6, 6] h

/-- The value head that a score head reads. -/
def vhead (h : Fin 20) : Fin 10 := ![0, 1, 2, 3, 4, 4, 5, 5, 6, 6, 7, 7, 8, 8, 8, 8, 9, 9, 9, 9] h

variable (q : Vec Ideal S1x20x128x512 .bf16) (k : Vec Ideal S1x768x896 .bf16) (v : Vec Ideal S1x10x80x768 .bf16)

/-- The score of key `i` of the block against query `c` of the block, for head `h`. -/
def score (h : Fin 20) (i : Fin 768) (c : Fin 512) : EReal :=
  ∑ d : Fin 128, k (ix3 0 i ⟨128 * (slab h).val + d, by have := (slab h).isLt; omega⟩) * q (ix4 0 h d c)

/-- The running maximum after the block. -/
def newMax (m : Fin 20 → Fin 512 → EReal) (h : Fin 20) (c : Fin 512) : EReal :=
  max (m h c) (Finset.univ.fold max ⊥ fun i => score q k h i c)

/-- The weighted sums after the block: what was there, rescaled, plus the block's values weighted by `2 ^ (score - max)`. -/
def newAcc (m : Fin 20 → Fin 512 → EReal) (a : Fin 20 → Fin 80 → Fin 512 → EReal) (h : Fin 20) (r : Fin 80) (c : Fin 512) : EReal :=
  a h r c * Ideal.exp2 (m h c - newMax q k m h c)
    + ∑ i : Fin 768, v (ix4 0 (vhead h) r i) * Ideal.exp2 (score q k h i c - newMax q k m h c)

/-- The vector of scores that the kernel computes from a key slab and a head's queries. -/
abbrev scoreVec (ks : Vec Ideal S1x768x128 .bf16) (qs : Vec Ideal S1x1x128x512 .bf16) : FVec Ideal S768x512 .f32 := k0_pay32 ks qs

/-- The vector of new maxima. -/
abbrev maxVec (s : FVec Ideal S768x512 .f32) (mo : Vec Ideal S1x1x512 .f32) : FVec Ideal S1x1x512 .f32 := k0_pay2 (k0_pay150 s mo)

/-- The vector of new weighted sums. -/
abbrev accVec (s : FVec Ideal S768x512 .f32) (mo : Vec Ideal S1x1x512 .f32) (vs : Vec Ideal S1x1x80x768 .bf16)
    (ao : Vec Ideal S1x80x512 .f32) : FVec Ideal S1x80x512 .f32 := k0_pay151 s mo vs ao

/-! The kernel computes the weighted sums of some heads in several parts; put together they are the one vector above. -/

section
variable (s : FVec Ideal S768x512 .f32) (mo : Vec Ideal S1x1x512 .f32) (vs : Vec Ideal S1x1x80x768 .bf16) (ao : Vec Ideal S1x80x512 .f32)

theorem parts0 (ks : Vec Ideal S1x768x128 .bf16) (qs : Vec Ideal S1x1x128x512 .bf16) :
    k0_pay39 (k0_pay32 ks qs) (k0_pay37 ks qs mo) (k0_pay38 ks qs mo) vs ao = accVec (scoreVec ks qs) mo vs ao := rfl
theorem parts5 : k0_pay75 (k0_pay72 s mo) (k0_pay73 s mo) (k0_pay74 vs) (constant S80x512 .f32 0x00000000#32) ao = accVec s mo vs ao := rfl
theorem parts1 : k0_pay46 (k0_pay44 s mo) (k0_pay45 s mo) vs ao = accVec s mo vs ao := rfl
theorem parts2 : k0_pay53 (k0_pay51 s mo) (k0_pay52 s mo) vs ao = accVec s mo vs ao := rfl
theorem parts3 : k0_pay60 (k0_pay58 s mo) (k0_pay59 s mo) vs ao = accVec s mo vs ao := rfl
theorem parts4 : k0_pay67 (k0_pay65 s mo) (k0_pay66 s mo) vs ao = accVec s mo vs ao := rfl
theorem parts6 : k0_pay82 (k0_pay80 s mo) (k0_pay81 s mo vs) ao = accVec s mo vs ao := rfl
theorem parts7 : k0_pay89 (k0_pay87 s mo) (k0_pay88 s mo vs) ao = accVec s mo vs ao := rfl
theorem parts8 : k0_pay97 (k0_pay94 s mo) (k0_pay95 s mo vs) (k0_pay96 ao) = accVec s mo vs ao := rfl

end

theorem negInf : Ideal.ofBits .f32 0xFF800000#32 = ⊥ := by
  simp [Ideal.ofBits, Ideal.ieee]

theorem scoreVec_apply (ks : Vec Ideal S1x768x128 .bf16) (qs : Vec Ideal S1x1x128x512 .bf16) (i : Fin 768) (c : Fin 512) :
    scoreVec ks qs (ix2 i c) = ∑ d : Fin 128, ks (ix3 0 i d) * qs (ix4 0 0 d c) := by
  pointwise [scoreVec, k0_pay32]

theorem pay150_apply (s : FVec Ideal S768x512 .f32) (mo : Vec Ideal S1x1x512 .f32) (c : Fin 512) :
    k0_pay150 s mo (ix2 0 c) = max (mo (ix3 0 0 c)) (Finset.univ.fold max ⊥ fun i : Fin 768 => s (ix2 i c)) := by
  pointwise [k0_pay150, k0_pay149]
  rw [negInf]

theorem maxVec_apply (s : FVec Ideal S768x512 .f32) (mo : Vec Ideal S1x1x512 .f32) (c : Fin 512) :
    maxVec s mo (ix3 0 0 c) = k0_pay150 s mo (ix2 0 c) := by
  unfold maxVec
  generalize k0_pay150 s mo = z
  pointwise [k0_pay2]

theorem accVec_apply (s : FVec Ideal S768x512 .f32) (mo : Vec Ideal S1x1x512 .f32) (vs : Vec Ideal S1x1x80x768 .bf16)
    (ao : Vec Ideal S1x80x512 .f32) (r : Fin 80) (c : Fin 512) :
    accVec s mo vs ao (ix3 0 r c)
      = ao (ix3 0 r c) * Ideal.exp2 (mo (ix3 0 0 c) - k0_pay150 s mo (ix2 0 c))
        + ∑ i : Fin 768, vs (ix4 0 0 r i) * Ideal.exp2 (s (ix2 i c) - k0_pay150 s mo (ix2 0 c)) := by
  unfold accVec k0_pay151
  generalize k0_pay150 s mo = z
  pointwise [k0_pay149]
  rfl

end Cert.KernelIdeal.Step

end
-- ==== Proof.AttnReads.lean ====
/- What the kernel reads for one score head: a slab of the keys, the head's queries, the head's values, and the head's rows of
   the two scratch arrays, each at an index; and the two vectors it computes from them. -/
module

public import proofs.«01_k».proof.Proof.AttnStep

@[expose] public section

set_option maxRecDepth 16384

noncomputable section

open scoped BigOperators
open Idealize.ShloMosaic

namespace Cert.KernelIdeal.Step

open Cert.KernelIdeal Cert.KernelIdeal.Gen

/-- The maxima of a scratch array, by head and query. -/
abbrev maxOf (x : Vec Ideal S20x1x512 .f32) : Fin 20 → Fin 512 → EReal := fun h c => x (ix3 h 0 c)

/-- The weighted sums of a scratch array, by head, row and query. -/
abbrev accOf (x : Vec Ideal S20x80x512 .f32) : Fin 20 → Fin 80 → Fin 512 → EReal := fun h r c => x (ix3 h r c)

/-- A head's row of maxima fits in its scratch array. -/
theorem inb_m (h : Fin 20) : ∀ a, (![h.val, 0, 0] : Fin 3 → ℕ) a + S1x1x512.size a ≤ S20x1x512.size a
  | ⟨0, _⟩ => h.isLt
  | ⟨1, _⟩ => Nat.le_refl 1
  | ⟨2, _⟩ => Nat.le_refl 512

/-- A head's weighted sums fit in their scratch array. -/
theorem inb_a (h : Fin 20) : ∀ a, (![h.val, 0, 0] : Fin 3 → ℕ) a + S1x80x512.size a ≤ S20x80x512.size a
  | ⟨0, _⟩ => h.isLt
  | ⟨1, _⟩ => Nat.le_refl 80
  | ⟨2, _⟩ => Nat.le_refl 512

section
variable {M3 : Memref sig .tc .vmem S1x20x128x512 .bf16} {M4 : Memref sig .tc .vmem S1x768x896 .bf16}
  {M5 : Memref sig .tc .vmem S1x10x80x768 .bf16} {M9 : Memref sig .tc .vmem S20x80x512 .f32} {M10 : Memref sig .tc .vmem S20x1x512 .f32}

/-- A head's queries, read from the query block. -/
theorem read_q (hM : M3.IsWhole) (x : Vec Ideal S1x20x128x512 .bf16) (h : Fin 20)
    (inb : ∀ a, (![0, h.val, 0, 0] : Fin 4 → ℕ) a + S1x1x128x512.size a ≤ S1x20x128x512.size a) (d : Fin 128) (c : Fin 512) :
    View.readAt (Elt Ideal) M3.view (Rect.unit (s := S1x20x128x512) ![0, h.val, 0, 0] S1x1x128x512.size inb).toLoadRect (hM.unread x) (ix4 0 0 d c)
      = x (ix4 0 h d c) := by
  refine (hM.readAt_unread x _ _).trans (congrArg x ?_)
  funext a
  apply Fin.ext
  match a with
  | ⟨0, _⟩ => rfl
  | ⟨1, _⟩ => show h.val + 1 * 0 = h.val; omega
  | ⟨2, _⟩ => show 0 + 1 * d.val = d.val; omega
  | ⟨3, _⟩ => show 0 + 1 * c.val = c.val; omega

/-- A head's key slab, read from the key block. -/
theorem read_k (hM : M4.IsWhole) (x : Vec Ideal S1x768x896 .bf16) (h : Fin 20) (o : ℕ) (ho : o = 128 * (slab h).val)
    (inb : ∀ a, (![0, 0, o] : Fin 3 → ℕ) a + S1x768x128.size a ≤ S1x768x896.size a) (i : Fin 768) (d : Fin 128) :
    View.readAt (Elt Ideal) M4.view (Rect.unit (s := S1x768x896) ![0, 0, o] S1x768x128.size inb).toLoadRect (hM.unread x) (ix3 0 i d)
      = x (ix3 0 i ⟨128 * (slab h).val + d, by have := (slab h).isLt; omega⟩) := by
  subst ho
  refine (hM.readAt_unread x _ _).trans (congrArg x ?_)
  funext a
  apply Fin.ext
  match a with
  | ⟨0, _⟩ => rfl
  | ⟨1, _⟩ => show 0 + 1 * i.val = i.val; omega
  | ⟨2, _⟩ => show 128 * (slab h).val + 1 * d.val = 128 * (slab h).val + d.val; omega

/-- A head's values, read from the value block. -/
theorem read_v (hM : M5.IsWhole) (x : Vec Ideal S1x10x80x768 .bf16) (h : Fin 20) (o : ℕ) (ho : o = (vhead h).val)
    (inb : ∀ a, (![0, o, 0, 0] : Fin 4 → ℕ) a + S1x1x80x768.size a ≤ S1x10x80x768.size a) (r : Fin 80) (i : Fin 768) :
    View.readAt (Elt Ideal) M5.view (Rect.unit (s := S1x10x80x768) ![0, o, 0, 0] S1x1x80x768.size inb).toLoadRect (hM.unread x) (ix4 0 0 r i)
      = x (ix4 0 (vhead h) r i) := by
  subst ho
  refine (hM.readAt_unread x _ _).trans (congrArg x ?_)
  funext a
  apply Fin.ext
  match a with
  | ⟨0, _⟩ => rfl
  | ⟨1, _⟩ => show (vhead h).val + 1 * 0 = (vhead h).val; omega
  | ⟨2, _⟩ => show 0 + 1 * r.val = r.val; omega
  | ⟨3, _⟩ => show 0 + 1 * i.val = i.val; omega

/-- Where a head's row of maxima lies in its scratch array. -/
theorem emb_m (h : Fin 20) (inb : ∀ a, (![h.val, 0, 0] : Fin 3 → ℕ) a + S1x1x512.size a ≤ S20x1x512.size a) (c : Fin 512) :
    (Rect.unit (s := S20x1x512) ![h.val, 0, 0] S1x1x512.size inb).emb (ix3 0 0 c) = ix3 h 0 c := by
  funext a
  apply Fin.ext
  match a with
  | ⟨0, _⟩ => show h.val + 1 * 0 = h.val; omega
  | ⟨1, _⟩ => rfl
  | ⟨2, _⟩ => show 0 + 1 * c.val = c.val; omega

/-- Where a head's rows of weighted sums lie in their scratch array. -/
theorem emb_a (h : Fin 20) (inb : ∀ a, (![h.val, 0, 0] : Fin 3 → ℕ) a + S1x80x512.size a ≤ S20x80x512.size a) (r : Fin 80) (c : Fin 512) :
    (Rect.unit (s := S20x80x512) ![h.val, 0, 0] S1x80x512.size inb).emb (ix3 0 r c) = ix3 h r c := by
  funext a
  apply Fin.ext
  match a with
  | ⟨0, _⟩ => show h.val + 1 * 0 = h.val; omega
  | ⟨1, _⟩ => show 0 + 1 * r.val = r.val; omega
  | ⟨2, _⟩ => show 0 + 1 * c.val = c.val; omega

/-- A head's row of maxima, read from the scratch array. -/
theorem read_m (hM : M10.IsWhole) (x : Vec Ideal S20x1x512 .f32) (h : Fin 20)
    (inb : ∀ a, (![h.val, 0, 0] : Fin 3 → ℕ) a + S1x1x512.size a ≤ S20x1x512.size a) (c : Fin 512) :
    View.readAt (Elt Ideal) M10.view (Rect.unit (s := S20x1x512) ![h.val, 0, 0] S1x1x512.size inb).toLoadRect (hM.unread x) (ix3 0 0 c)
      = maxOf x h c :=
  (hM.readAt_unread x _ _).trans (congrArg x (emb_m h inb c))

/-- A head's weighted sums, read from the scratch array. -/
theorem read_a (hM : M9.IsWhole) (x : Vec Ideal S20x80x512 .f32) (h : Fin 20)
    (inb : ∀ a, (![h.val, 0, 0] : Fin 3 → ℕ) a + S1x80x512.size a ≤ S20x80x512.size a) (r : Fin 80) (c : Fin 512) :
    View.readAt (Elt Ideal) M9.view (Rect.unit (s := S20x80x512) ![h.val, 0, 0] S1x80x512.size inb).toLoadRect (hM.unread x) (ix3 0 r c)
      = accOf x h r c :=
  (hM.readAt_unread x _ _).trans (congrArg x (emb_a h inb r c))

/-- A head's row of maxima, read from a list of stores. -/
theorem cov_m (L : List (View.Piece (Elt Ideal) S20x1x512 .f32)) (h : Fin 20)
    (inb : ∀ a, (![h.val, 0, 0] : Fin 3 → ℕ) a + S1x1x512.size a ≤ S20x1x512.size a) (c : Fin 512) :
    M10.view.readCov L (Rect.unit (s := S20x1x512) ![h.val, 0, 0] S1x1x512.size inb).toLoadRect (ix3 0 0 c) = View.canon L (ix3 h 0 c) :=
  (congrFun (View.readCov_eq_canon' M10.view L _) _).trans (congrArg _ (emb_m h inb c))

/-- A head's weighted sums, read from a list of stores. -/
theorem cov_a (L : List (View.Piece (Elt Ideal) S20x80x512 .f32)) (h : Fin 20)
    (inb : ∀ a, (![h.val, 0, 0] : Fin 3 → ℕ) a + S1x80x512.size a ≤ S20x80x512.size a) (r : Fin 80) (c : Fin 512) :
    M9.view.readCov L (Rect.unit (s := S20x80x512) ![h.val, 0, 0] S1x80x512.size inb).toLoadRect (ix3 0 r c) = View.canon L (ix3 h r c) :=
  (congrFun (View.readCov_eq_canon' M9.view L _) _).trans (congrArg _ (emb_a h inb r c))

end

variable (q : Vec Ideal S1x20x128x512 .bf16) (k : Vec Ideal S1x768x896 .bf16) (v : Vec Ideal S1x10x80x768 .bf16)

/-- The new maxima of a head, from what it reads. -/
theorem max_step (m : Fin 20 → Fin 512 → EReal) (h : Fin 20)
    (ks : Vec Ideal S1x768x128 .bf16) (qs : Vec Ideal S1x1x128x512 .bf16) (mo : Vec Ideal S1x1x512 .f32)
    (hk : ∀ i d, ks (ix3 0 i d) = k (ix3 0 i ⟨128 * (slab h).val + d.val, by have := (slab h).isLt; omega⟩))
    (hq : ∀ d c, qs (ix4 0 0 d c) = q (ix4 0 h d c)) (hm : ∀ c, mo (ix3 0 0 c) = m h c) (c : Fin 512) :
    maxVec (scoreVec ks qs) mo (ix3 0 0 c) = newMax q k m h c := by
  rw [maxVec_apply, pay150_apply, hm]
  unfold newMax score
  simp only [scoreVec_apply, hk, hq]

/-- The new weighted sums of a head, from what it reads. -/
theorem acc_step (m : Fin 20 → Fin 512 → EReal) (a : Fin 20 → Fin 80 → Fin 512 → EReal) (h : Fin 20)
    (ks : Vec Ideal S1x768x128 .bf16) (qs : Vec Ideal S1x1x128x512 .bf16) (mo : Vec Ideal S1x1x512 .f32)
    (vs : Vec Ideal S1x1x80x768 .bf16) (ao : Vec Ideal S1x80x512 .f32)
    (hk : ∀ i d, ks (ix3 0 i d) = k (ix3 0 i ⟨128 * (slab h).val + d.val, by have := (slab h).isLt; omega⟩))
    (hq : ∀ d c, qs (ix4 0 0 d c) = q (ix4 0 h d c)) (hm : ∀ c, mo (ix3 0 0 c) = m h c)
    (hv : ∀ r i, vs (ix4 0 0 r i) = v (ix4 0 (vhead h) r i)) (ha : ∀ r c, ao (ix3 0 r c) = a h r c) (r : Fin 80) (c : Fin 512) :
    accVec (scoreVec ks qs) mo vs ao (ix3 0 r c) = newAcc q k v m a h r c := by
  rw [accVec_apply, pay150_apply, hm, ha]
  unfold newAcc newMax score
  simp only [scoreVec_apply, hk, hq, hv]

/-- A store of a head's maxima agrees with a function of head and query once its rows do. -/
theorem piece_m (g : Fin 20 → Fin 512 → EReal) (h : Fin 20)
    (inb : ∀ a, (![h.val, 0, 0] : Fin 3 → ℕ) a + S1x1x512.size a ≤ S20x1x512.size a) (W : Vec Ideal S1x1x512 .f32)
    (hW : ∀ c, W (ix3 0 0 c) = g h c) (x : (Rect.unit (s := S20x1x512) ![h.val, 0, 0] S1x1x512.size inb).shape.Idx) :
    W x = (fun i : S20x1x512.Idx => g (i 0) (i 2)) ((Rect.unit (s := S20x1x512) ![h.val, 0, 0] S1x1x512.size inb).emb x) := by
  change S1x1x512.Idx at x
  idx_vars x
  obtain rfl : x0 = 0 := Subsingleton.elim _ _
  obtain rfl : x1 = 0 := Subsingleton.elim _ _
  exact (hW x2).trans (congrArg (fun i : S20x1x512.Idx => g (i 0) (i 2)) (emb_m h inb x2)).symm

/-- A store of a head's weighted sums agrees with a function of head, row and query once its rows do. -/
theorem piece_a (g : Fin 20 → Fin 80 → Fin 512 → EReal) (h : Fin 20)
    (inb : ∀ a, (![h.val, 0, 0] : Fin 3 → ℕ) a + S1x80x512.size a ≤ S20x80x512.size a) (W : Vec Ideal S1x80x512 .f32)
    (hW : ∀ r c, W (ix3 0 r c) = g h r c) (x : (Rect.unit (s := S20x80x512) ![h.val, 0, 0] S1x80x512.size inb).shape.Idx) :
    W x = (fun i : S20x80x512.Idx => g (i 0) (i 1) (i 2))
      ((Rect.unit (s := S20x80x512) ![h.val, 0, 0] S1x80x512.size inb).emb x) := by
  change S1x80x512.Idx at x
  idx_vars x
  obtain rfl : x0 = 0 := Subsingleton.elim _ _
  exact (hW x1 x2).trans (congrArg (fun i : S20x80x512.Idx => g (i 0) (i 1) (i 2)) (emb_a h inb x1 x2)).symm

/-- A store of another head's maxima is passed over. -/
theorem skip_m (L : List (View.Piece (Elt Ideal) S20x1x512 .f32)) (h h' : Fin 20) (hne : h ≠ h')
    (inb : ∀ a, (![h'.val, 0, 0] : Fin 3 → ℕ) a + S1x1x512.size a ≤ S20x1x512.size a)
    (W : (Rect.unit (s := S20x1x512) ![h'.val, 0, 0] S1x1x512.size inb).shape.Idx → EReal) (c : Fin 512) (z : EReal)
    (hL : View.canon L (ix3 h 0 c) = z) :
    View.canon (⟨Rect.unit (s := S20x1x512) ![h'.val, 0, 0] S1x1x512.size inb, W⟩ :: L) (ix3 h 0 c) = z := by
  refine Eq.trans (View.canon_cons_of_not_mem _ _ ?_) hL
  rw [LoadRect.mem_set]
  intro hm
  obtain ⟨j, hj, e⟩ := hm 0
  have e' : h.val = h'.val + 1 * j := e
  have hj' : j < 1 := hj
  exact hne (Fin.ext (by omega))

/-- A store of another head's weighted sums is passed over. -/
theorem skip_a (L : List (View.Piece (Elt Ideal) S20x80x512 .f32)) (h h' : Fin 20) (hne : h ≠ h')
    (inb : ∀ a, (![h'.val, 0, 0] : Fin 3 → ℕ) a + S1x80x512.size a ≤ S20x80x512.size a)
    (W : (Rect.unit (s := S20x80x512) ![h'.val, 0, 0] S1x80x512.size inb).shape.Idx → EReal) (r : Fin 80) (c : Fin 512) (z : EReal)
    (hL : View.canon L (ix3 h r c) = z) :
    View.canon (⟨Rect.unit (s := S20x80x512) ![h'.val, 0, 0] S1x80x512.size inb, W⟩ :: L) (ix3 h r c) = z := by
  refine Eq.trans (View.canon_cons_of_not_mem _ _ ?_) hL
  rw [LoadRect.mem_set]
  intro hm
  obtain ⟨j, hj, e⟩ := hm 0
  have e' : h.val = h'.val + 1 * j := e
  have hj' : j < 1 := hj
  exact hne (Fin.ext (by omega))

/-- A list of stores that leaves the maxima `g` for the heads before `n` and minus infinity for the others. -/
structure StateM (g : Fin 20 → Fin 512 → EReal) (n : ℕ) (L : List (View.Piece (Elt Ideal) S20x1x512 .f32)) : Prop where
  done : ∀ h : Fin 20, h.val < n → ∀ c, View.canon L (ix3 h 0 c) = g h c
  blank : ∀ h : Fin 20, n ≤ h.val → ∀ c, View.canon L (ix3 h 0 c) = (⊥ : EReal)

/-- A list of stores that leaves the weighted sums `g` for the heads before `n` and zero for the others. -/
structure StateA (g : Fin 20 → Fin 80 → Fin 512 → EReal) (n : ℕ) (L : List (View.Piece (Elt Ideal) S20x80x512 .f32)) : Prop where
  done : ∀ h : Fin 20, h.val < n → ∀ r c, View.canon L (ix3 h r c) = g h r c
  blank : ∀ h : Fin 20, n ≤ h.val → ∀ r c, View.canon L (ix3 h r c) = (0 : EReal)

/-- Storing the next head's maxima advances such a list by one head. -/
theorem StateM.cons {g : Fin 20 → Fin 512 → EReal} {L : List (View.Piece (Elt Ideal) S20x1x512 .f32)} (k : Fin 20)
    (hL : StateM g k.val L) (W : Vec Ideal S1x1x512 .f32) (hW : ∀ c, W (ix3 0 0 c) = g k c) :
    StateM g (k.val + 1) (⟨Rect.unit (s := S20x1x512) ![k.val, 0, 0] S1x1x512.size (inb_m k), W⟩ :: L) where
  done h hh c := by
    by_cases e : h = k
    · subst e
      exact (congrArg (View.canon (Val := Elt Ideal) _) (emb_m h (inb_m h) c)).symm.trans ((View.canon_cons_emb _ _ _ _).trans (hW c))
    · exact skip_m L h k e (inb_m k) W c _ (hL.done h (by have := fun e' => e (Fin.ext e'); omega) c)
  blank h hh c := skip_m L h k (fun e => absurd hh (by rw [e]; omega)) (inb_m k) W c _ (hL.blank h (by omega) c)

/-- Storing the next head's weighted sums advances such a list by one head. -/
theorem StateA.cons {g : Fin 20 → Fin 80 → Fin 512 → EReal} {L : List (View.Piece (Elt Ideal) S20x80x512 .f32)} (k : Fin 20)
    (hL : StateA g k.val L) (W : Vec Ideal S1x80x512 .f32) (hW : ∀ r c, W (ix3 0 r c) = g k r c) :
    StateA g (k.val + 1) (⟨Rect.unit (s := S20x80x512) ![k.val, 0, 0] S1x80x512.size (inb_a k), W⟩ :: L) where
  done h hh r c := by
    by_cases e : h = k
    · subst e
      exact (congrArg (View.canon (Val := Elt Ideal) _) (emb_a h (inb_a h) r c)).symm.trans ((View.canon_cons_emb _ _ _ _).trans (hW r c))
    · exact skip_a L h k e (inb_a k) W r c _ (hL.done h (by have := fun e' => e (Fin.ext e'); omega) r c)
  blank h hh r c := skip_a L h k (fun e => absurd hh (by rw [e]; omega)) (inb_a k) W r c _ (hL.blank h (by omega) r c)

/-- The first store sets every maximum to minus infinity. -/
theorem stateM_init (g : Fin 20 → Fin 512 → EReal) : StateM g 0 (kernelRun0_A.sl.HS1_1 (F := Ideal)) := ⟨fun _ h => absurd h (Nat.not_lt_zero _), fun h _ c => by
  unfold kernelRun0_A.sl.HS1_1
  refine (congrFun (View.canon_unit_zero (by decide) _ _) _).trans ?_
  pointwise [k0_pay31]
  exact negInf⟩

/-- The first store sets every weighted sum to zero. -/
theorem stateA_init (g : Fin 20 → Fin 80 → Fin 512 → EReal) : StateA g 0 (kernelRun0_A.sl.HS0_1 (F := Ideal)) := ⟨fun _ h => absurd h (Nat.not_lt_zero _), fun h _ r c => by
  unfold kernelRun0_A.sl.HS0_1
  refine (congrFun (View.canon_unit_zero (by decide) _ _) _).trans ?_
  pointwise [k0_pay30]⟩

end Cert.KernelIdeal.Step

end
-- ==== Proof.AttnFirst.lean ====
/- What the first key block leaves in the two scratch arrays, which it has just set to minus infinity and to zero: one head after another,
   the list of stores made so far holds the finished heads' rows and the starting values of the others. -/
module

public import proofs.«01_k».proof.Proof.AttnReads

@[expose] public section

set_option maxRecDepth 16384

noncomputable section

open scoped BigOperators
open Idealize.ShloMosaic

namespace Cert.KernelIdeal.Step

open Cert.KernelIdeal Cert.KernelIdeal.Gen

variable (c : Dev nD) (i : grid0.Coords) (arg3 : Memref sig .tc .vmem S1x20x128x512 .bf16) (harg3 : arg3.IsWhole)
  (arg4 : Memref sig .tc .vmem S1x768x896 .bf16) (harg4 : arg4.IsWhole) (arg5 : Memref sig .tc .vmem S1x10x80x768 .bf16) (harg5 : arg5.IsWhole)
  (arg6 : Memref sig .tc .vmem S4x32 .f32) (harg6 : arg6.IsWhole) (arg7 : Memref sig .tc .vmem S64x512 .f32) (harg7 : arg7.IsWhole)
  (arg8 : Memref sig .tc .vmem S1x1024x512 .bf16) (harg8 : arg8.IsWhole) (arg9 : Memref sig .tc .vmem S20x80x512 .f32) (harg9 : arg9.IsWhole)
  (arg10 : Memref sig .tc .vmem S20x1x512 .f32) (harg10 : arg10.IsWhole)
  (x0 : Vec Ideal S1x20x128x512 .bf16) (x1 : Vec Ideal S1x768x896 .bf16) (x2 : Vec Ideal S1x10x80x768 .bf16) (x3 : Vec Ideal S4x32 .f32)
  (x4 : Vec Ideal S64x512 .f32)

/-- The maxima before the first key block. -/
abbrev startM : Fin 20 → Fin 512 → EReal := fun _ _ => ⊥

/-- The weighted sums before the first key block. -/
abbrev startA : Fin 20 → Fin 80 → Fin 512 → EReal := fun _ _ _ => 0

theorem readM (L : List (View.Piece (Elt Ideal) S20x1x512 .f32)) {g : Fin 20 → Fin 512 → EReal} (h : Fin 20) (hL : StateM g h.val L) (d : Fin 512) :
    arg10.view.readCov L (Rect.unit (s := S20x1x512) ![h.val, 0, 0] S1x1x512.size (inb_m h)).toLoadRect (ix3 0 0 d) = startM h d :=
  (cov_m L h (inb_m h) d).trans (hL.blank h (Nat.le_refl _) d)

theorem readA (L : List (View.Piece (Elt Ideal) S20x80x512 .f32)) {g : Fin 20 → Fin 80 → Fin 512 → EReal} (h : Fin 20) (hL : StateA g h.val L)
    (r : Fin 80) (d : Fin 512) :
    arg9.view.readCov L (Rect.unit (s := S20x80x512) ![h.val, 0, 0] S1x80x512.size (inb_a h)).toLoadRect (ix3 0 r d) = startA h r d :=
  (cov_a L h (inb_a h) r d).trans (hL.blank h (Nat.le_refl _) r d)

theorem stateM0 : StateM (newMax x0 x1 startM) 0 (kernelRun0_A.sl.HS1_1 (F := Ideal)) := stateM_init _

theorem stateA0 : StateA (newAcc x0 x1 x2 startM startA) 0 (kernelRun0_A.sl.HS0_1 (F := Ideal)) := stateA_init _

theorem stateM1 : StateM (newMax x0 x1 startM) 1 (kernelRun0_A.sl.HS1_2 c arg3 harg3 arg4 harg4 arg10 x0 x1) :=
  (stateM0 x0 x1).cons 0 _ (max_step x0 x1 startM 0 _ _ _ (read_k harg4 x1 0 0 (by decide) _) (read_q harg3 x0 0 _)
    (readM arg10 _ 0 (stateM0 x0 x1)))

theorem stateM2 : StateM (newMax x0 x1 startM) 2 (kernelRun0_A.sl.HS1_3 c arg3 harg3 arg4 harg4 arg10 x0 x1) :=
  (stateM1 c arg3 harg3 arg4 harg4 arg10 x0 x1).cons 1 _ (max_step x0 x1 startM 1 _ _ _ (read_k harg4 x1 1 128 (by decide) _) (read_q harg3 x0 1 _)
    (readM arg10 _ 1 (stateM1 c arg3 harg3 arg4 harg4 arg10 x0 x1)))

theorem stateM3 : StateM (newMax x0 x1 startM) 3 (kernelRun0_A.sl.HS1_4 c arg3 harg3 arg4 harg4 arg10 x0 x1) :=
  (stateM2 c arg3 harg3 arg4 harg4 arg10 x0 x1).cons 2 _ (max_step x0 x1 startM 2 _ _ _ (read_k harg4 x1 2 256 (by decide) _) (read_q harg3 x0 2 _)
    (readM arg10 _ 2 (stateM2 c arg3 harg3 arg4 harg4 arg10 x0 x1)))

theorem stateM4 : StateM (newMax x0 x1 startM) 4 (kernelRun0_A.sl.HS1_5 c arg3 harg3 arg4 harg4 arg10 x0 x1) :=
  (stateM3 c arg3 harg3 arg4 harg4 arg10 x0 x1).cons 3 _ (max_step x0 x1 startM 3 _ _ _ (read_k harg4 x1 3 384 (by decide) _) (read_q harg3 x0 3 _)
    (readM arg10 _ 3 (stateM3 c arg3 harg3 arg4 harg4 arg10 x0 x1)))

theorem stateM5 : StateM (newMax x0 x1 startM) 5 (kernelRun0_A.sl.HS1_6 c arg3 harg3 arg4 harg4 arg10 x0 x1) :=
  (stateM4 c arg3 harg3 arg4 harg4 arg10 x0 x1).cons 4 _ (max_step x0 x1 startM 4 _ _ _ (read_k harg4 x1 4 512 (by decide) _) (read_q harg3 x0 4 _)
    (readM arg10 _ 4 (stateM4 c arg3 harg3 arg4 harg4 arg10 x0 x1)))

theorem stateM6 : StateM (newMax x0 x1 startM) 6 (kernelRun0_A.sl.HS1_7 c arg3 harg3 arg4 harg4 arg10 x0 x1) :=
  (stateM5 c arg3 harg3 arg4 harg4 arg10 x0 x1).cons 5 _ (max_step x0 x1 startM 5 _ _ _ (read_k harg4 x1 5 512 (by decide) _) (read_q harg3 x0 5 _)
    (readM arg10 _ 5 (stateM5 c arg3 harg3 arg4 harg4 arg10 x0 x1)))

theorem stateM7 : StateM (newMax x0 x1 startM) 7 (kernelRun0_A.sl.HS1_8 c arg3 harg3 arg4 harg4 arg10 x0 x1) :=
  (stateM6 c arg3 harg3 arg4 harg4 arg10 x0 x1).cons 6 _ (max_step x0 x1 startM 6 _ _ _ (read_k harg4 x1 6 512 (by decide) _) (read_q harg3 x0 6 _)
    (readM arg10 _ 6 (stateM6 c arg3 harg3 arg4 harg4 arg10 x0 x1)))

theorem stateM8 : StateM (newMax x0 x1 startM) 8 (kernelRun0_A.sl.HS1_9 c arg3 harg3 arg4 harg4 arg10 x0 x1) :=
  (stateM7 c arg3 harg3 arg4 harg4 arg10 x0 x1).cons 7 _ (max_step x0 x1 startM 7 _ _ _ (read_k harg4 x1 7 512 (by decide) _) (read_q harg3 x0 7 _)
    (readM arg10 _ 7 (stateM7 c arg3 harg3 arg4 harg4 arg10 x0 x1)))

theorem stateM9 : StateM (newMax x0 x1 startM) 9 (kernelRun0_A.sl.HS1_10 c arg3 harg3 arg4 harg4 arg10 x0 x1) :=
  (stateM8 c arg3 harg3 arg4 harg4 arg10 x0 x1).cons 8 _ (max_step x0 x1 startM 8 _ _ _ (read_k harg4 x1 8 640 (by decide) _) (read_q harg3 x0 8 _)
    (readM arg10 _ 8 (stateM8 c arg3 harg3 arg4 harg4 arg10 x0 x1)))

theorem stateM10 : StateM (newMax x0 x1 startM) 10 (kernelRun0_A.sl.HS1_11 c arg3 harg3 arg4 harg4 arg10 x0 x1) :=
  (stateM9 c arg3 harg3 arg4 harg4 arg10 x0 x1).cons 9 _ (max_step x0 x1 startM 9 _ _ _ (read_k harg4 x1 9 640 (by decide) _) (read_q harg3 x0 9 _)
    (readM arg10 _ 9 (stateM9 c arg3 harg3 arg4 harg4 arg10 x0 x1)))

theorem stateM11 : StateM (newMax x0 x1 startM) 11 (kernelRun0_A.sl.HS1_12 c arg3 harg3 arg4 harg4 arg10 x0 x1) :=
  (stateM10 c arg3 harg3 arg4 harg4 arg10 x0 x1).cons 10 _ (max_step x0 x1 startM 10 _ _ _ (read_k harg4 x1 10 640 (by decide) _) (read_q harg3 x0 10 _)
    (readM arg10 _ 10 (stateM10 c arg3 harg3 arg4 harg4 arg10 x0 x1)))

theorem stateM12 : StateM (newMax x0 x1 startM) 12 (kernelRun0_A.sl.HS1_13 c arg3 harg3 arg4 harg4 arg10 x0 x1) :=
  (stateM11 c arg3 harg3 arg4 harg4 arg10 x0 x1).cons 11 _ (max_step x0 x1 startM 11 _ _ _ (read_k harg4 x1 11 640 (by decide) _) (read_q harg3 x0 11 _)
    (readM arg10 _ 11 (stateM11 c arg3 harg3 arg4 harg4 arg10 x0 x1)))

theorem stateM13 : StateM (newMax x0 x1 startM) 13 (kernelRun0_A.sl.HS1_14 c arg3 harg3 arg4 harg4 arg10 x0 x1) :=
  (stateM12 c arg3 harg3 arg4 harg4 arg10 x0 x1).cons 12 _ (max_step x0 x1 startM 12 _ _ _ (read_k harg4 x1 12 768 (by decide) _) (read_q harg3 x0 12 _)
    (readM arg10 _ 12 (stateM12 c arg3 harg3 arg4 harg4 arg10 x0 x1)))

theorem stateM14 : StateM (newMax x0 x1 startM) 14 (kernelRun0_A.sl.HS1_15 c arg3 harg3 arg4 harg4 arg10 x0 x1) :=
  (stateM13 c arg3 harg3 arg4 harg4 arg10 x0 x1).cons 13 _ (max_step x0 x1 startM 13 _ _ _ (read_k harg4 x1 13 768 (by decide) _) (read_q harg3 x0 13 _)
    (readM arg10 _ 13 (stateM13 c arg3 harg3 arg4 harg4 arg10 x0 x1)))

theorem stateM15 : StateM (newMax x0 x1 startM) 15 (kernelRun0_A.sl.HS1_16 c arg3 harg3 arg4 harg4 arg10 x0 x1) :=
  (stateM14 c arg3 harg3 arg4 harg4 arg10 x0 x1).cons 14 _ (max_step x0 x1 startM 14 _ _ _ (read_k harg4 x1 14 768 (by decide) _) (read_q harg3 x0 14 _)
    (readM arg10 _ 14 (stateM14 c arg3 harg3 arg4 harg4 arg10 x0 x1)))

theorem stateM16 : StateM (newMax x0 x1 startM) 16 (kernelRun0_A.sl.HS1_17 c arg3 harg3 arg4 harg4 arg10 x0 x1) :=
  (stateM15 c arg3 harg3 arg4 harg4 arg10 x0 x1).cons 15 _ (max_step x0 x1 startM 15 _ _ _ (read_k harg4 x1 15 768 (by decide) _) (read_q harg3 x0 15 _)
    (readM arg10 _ 15 (stateM15 c arg3 harg3 arg4 harg4 arg10 x0 x1)))

theorem stateM17 : StateM (newMax x0 x1 startM) 17 (kernelRun0_A.sl.HS1_18 c arg3 harg3 arg4 harg4 arg10 x0 x1) :=
  (stateM16 c arg3 harg3 arg4 harg4 arg10 x0 x1).cons 16 _ (max_step x0 x1 startM 16 _ _ _ (read_k harg4 x1 16 768 (by decide) _) (read_q harg3 x0 16 _)
    (readM arg10 _ 16 (stateM16 c arg3 harg3 arg4 harg4 arg10 x0 x1)))

theorem stateM18 : StateM (newMax x0 x1 startM) 18 (kernelRun0_A.sl.HS1_19 c arg3 harg3 arg4 harg4 arg10 x0 x1) :=
  (stateM17 c arg3 harg3 arg4 harg4 arg10 x0 x1).cons 17 _ (max_step x0 x1 startM 17 _ _ _ (read_k harg4 x1 17 768 (by decide) _) (read_q harg3 x0 17 _)
    (readM arg10 _ 17 (stateM17 c arg3 harg3 arg4 harg4 arg10 x0 x1)))

theorem stateM19 : StateM (newMax x0 x1 startM) 19 (kernelRun0_A.sl.HS1_20 c arg3 harg3 arg4 harg4 arg10 x0 x1) :=
  (stateM18 c arg3 harg3 arg4 harg4 arg10 x0 x1).cons 18 _ (max_step x0 x1 startM 18 _ _ _ (read_k harg4 x1 18 768 (by decide) _) (read_q harg3 x0 18 _)
    (readM arg10 _ 18 (stateM18 c arg3 harg3 arg4 harg4 arg10 x0 x1)))

theorem stateA1 : StateA (newAcc x0 x1 x2 startM startA) 1 (kernelRun0_A.sl.HS0_2 c arg3 harg3 arg4 harg4 arg5 harg5 arg9 arg10 x0 x1 x2) :=
  (stateA0 x0 x1 x2).cons 0 _ (fun r d => (congrFun (parts0 _ _ _ _ _) _).trans (acc_step x0 x1 x2 startM startA 0 _ _ _ _ _ (read_k harg4 x1 0 0 (by decide) _) (read_q harg3 x0 0 _)
    (readM arg10 _ 0 (stateM0 x0 x1)) (read_v harg5 x2 0 0 (by decide) _) (readA arg9 _ 0 (stateA0 x0 x1 x2)) r d))

theorem stateA2 : StateA (newAcc x0 x1 x2 startM startA) 2 (kernelRun0_A.sl.HS0_3 c arg3 harg3 arg4 harg4 arg5 harg5 arg9 arg10 x0 x1 x2) :=
  (stateA1 c arg3 harg3 arg4 harg4 arg5 harg5 arg9 arg10 x0 x1 x2).cons 1 _ (fun r d => (congrFun (parts1 _ _ _ _) _).trans (acc_step x0 x1 x2 startM startA 1 _ _ _ _ _ (read_k harg4 x1 1 128 (by decide) _) (read_q harg3 x0 1 _)
    (readM arg10 _ 1 (stateM1 c arg3 harg3 arg4 harg4 arg10 x0 x1)) (read_v harg5 x2 1 1 (by decide) _) (readA arg9 _ 1 (stateA1 c arg3 harg3 arg4 harg4 arg5 harg5 arg9 arg10 x0 x1 x2)) r d))

theorem stateA3 : StateA (newAcc x0 x1 x2 startM startA) 3 (kernelRun0_A.sl.HS0_4 c arg3 harg3 arg4 harg4 arg5 harg5 arg9 arg10 x0 x1 x2) :=
  (stateA2 c arg3 harg3 arg4 harg4 arg5 harg5 arg9 arg10 x0 x1 x2).cons 2 _ (fun r d => (congrFun (parts2 _ _ _ _) _).trans (acc_step x0 x1 x2 startM startA 2 _ _ _ _ _ (read_k harg4 x1 2 256 (by decide) _) (read_q harg3 x0 2 _)
    (readM arg10 _ 2 (stateM2 c arg3 harg3 arg4 harg4 arg10 x0 x1)) (read_v harg5 x2 2 2 (by decide) _) (readA arg9 _ 2 (stateA2 c arg3 harg3 arg4 harg4 arg5 harg5 arg9 arg10 x0 x1 x2)) r d))

theorem stateA4 : StateA (newAcc x0 x1 x2 startM startA) 4 (kernelRun0_A.sl.HS0_5 c arg3 harg3 arg4 harg4 arg5 harg5 arg9 arg10 x0 x1 x2) :=
  (stateA3 c arg3 harg3 arg4 harg4 arg5 harg5 arg9 arg10 x0 x1 x2).cons 3 _ (fun r d => (congrFun (parts3 _ _ _ _) _).trans (acc_step x0 x1 x2 startM startA 3 _ _ _ _ _ (read_k harg4 x1 3 384 (by decide) _) (read_q harg3 x0 3 _)
    (readM arg10 _ 3 (stateM3 c arg3 harg3 arg4 harg4 arg10 x0 x1)) (read_v harg5 x2 3 3 (by decide) _) (readA arg9 _ 3 (stateA3 c arg3 harg3 arg4 harg4 arg5 harg5 arg9 arg10 x0 x1 x2)) r d))

theorem stateA5 : StateA (newAcc x0 x1 x2 startM startA) 5 (kernelRun0_A.sl.HS0_6 c arg3 harg3 arg4 harg4 arg5 harg5 arg9 arg10 x0 x1 x2) :=
  (stateA4 c arg3 harg3 arg4 harg4 arg5 harg5 arg9 arg10 x0 x1 x2).cons 4 _ (fun r d => (congrFun (parts4 _ _ _ _) _).trans (acc_step x0 x1 x2 startM startA 4 _ _ _ _ _ (read_k harg4 x1 4 512 (by decide) _) (read_q harg3 x0 4 _)
    (readM arg10 _ 4 (stateM4 c arg3 harg3 arg4 harg4 arg10 x0 x1)) (read_v harg5 x2 4 4 (by decide) _) (readA arg9 _ 4 (stateA4 c arg3 harg3 arg4 harg4 arg5 harg5 arg9 arg10 x0 x1 x2)) r d))

theorem stateA6 : StateA (newAcc x0 x1 x2 startM startA) 6 (kernelRun0_A.sl.HS0_7 c arg3 harg3 arg4 harg4 arg5 harg5 arg9 arg10 x0 x1 x2) :=
  (stateA5 c arg3 harg3 arg4 harg4 arg5 harg5 arg9 arg10 x0 x1 x2).cons 5 _ (fun r d => (congrFun (parts5 _ _ _ _) _).trans (acc_step x0 x1 x2 startM startA 5 _ _ _ _ _ (read_k harg4 x1 5 512 (by decide) _) (read_q harg3 x0 5 _)
    (readM arg10 _ 5 (stateM5 c arg3 harg3 arg4 harg4 arg10 x0 x1)) (read_v harg5 x2 5 4 (by decide) _) (readA arg9 _ 5 (stateA5 c arg3 harg3 arg4 harg4 arg5 harg5 arg9 arg10 x0 x1 x2)) r d))

theorem stateA7 : StateA (newAcc x0 x1 x2 startM startA) 7 (kernelRun0_A.sl.HS0_8 c arg3 harg3 arg4 harg4 arg5 harg5 arg9 arg10 x0 x1 x2) :=
  (stateA6 c arg3 harg3 arg4 harg4 arg5 harg5 arg9 arg10 x0 x1 x2).cons 6 _ (fun r d => (congrFun (parts6 _ _ _ _) _).trans (acc_step x0 x1 x2 startM startA 6 _ _ _ _ _ (read_k harg4 x1 6 512 (by decide) _) (read_q harg3 x0 6 _)
    (readM arg10 _ 6 (stateM6 c arg3 harg3 arg4 harg4 arg10 x0 x1)) (read_v harg5 x2 6 5 (by decide) _) (readA arg9 _ 6 (stateA6 c arg3 harg3 arg4 harg4 arg5 harg5 arg9 arg10 x0 x1 x2)) r d))

theorem stateA8 : StateA (newAcc x0 x1 x2 startM startA) 8 (kernelRun0_A.sl.HS0_9 c arg3 harg3 arg4 harg4 arg5 harg5 arg9 arg10 x0 x1 x2) :=
  (stateA7 c arg3 harg3 arg4 harg4 arg5 harg5 arg9 arg10 x0 x1 x2).cons 7 _ (fun r d => (congrFun (parts7 _ _ _ _) _).trans (acc_step x0 x1 x2 startM startA 7 _ _ _ _ _ (read_k harg4 x1 7 512 (by decide) _) (read_q harg3 x0 7 _)
    (readM arg10 _ 7 (stateM7 c arg3 harg3 arg4 harg4 arg10 x0 x1)) (read_v harg5 x2 7 5 (by decide) _) (readA arg9 _ 7 (stateA7 c arg3 harg3 arg4 harg4 arg5 harg5 arg9 arg10 x0 x1 x2)) r d))

theorem stateA9 : StateA (newAcc x0 x1 x2 startM startA) 9 (kernelRun0_A.sl.HS0_10 c arg3 harg3 arg4 harg4 arg5 harg5 arg9 arg10 x0 x1 x2) :=
  (stateA8 c arg3 harg3 arg4 harg4 arg5 harg5 arg9 arg10 x0 x1 x2).cons 8 _ (fun r d => (congrFun (parts8 _ _ _ _) _).trans (acc_step x0 x1 x2 startM startA 8 _ _ _ _ _ (read_k harg4 x1 8 640 (by decide) _) (read_q harg3 x0 8 _)
    (readM arg10 _ 8 (stateM8 c arg3 harg3 arg4 harg4 arg10 x0 x1)) (read_v harg5 x2 8 6 (by decide) _) (readA arg9 _ 8 (stateA8 c arg3 harg3 arg4 harg4 arg5 harg5 arg9 arg10 x0 x1 x2)) r d))

theorem stateA10 : StateA (newAcc x0 x1 x2 startM startA) 10 (kernelRun0_A.sl.HS0_11 c arg3 harg3 arg4 harg4 arg5 harg5 arg9 arg10 x0 x1 x2) :=
  (stateA9 c arg3 harg3 arg4 harg4 arg5 harg5 arg9 arg10 x0 x1 x2).cons 9 _ (acc_step x0 x1 x2 startM startA 9 _ _ _ _ _ (read_k harg4 x1 9 640 (by decide) _) (read_q harg3 x0 9 _)
    (readM arg10 _ 9 (stateM9 c arg3 harg3 arg4 harg4 arg10 x0 x1)) (read_v harg5 x2 9 6 (by decide) _) (readA arg9 _ 9 (stateA9 c arg3 harg3 arg4 harg4 arg5 harg5 arg9 arg10 x0 x1 x2)))

theorem stateA11 : StateA (newAcc x0 x1 x2 startM startA) 11 (kernelRun0_A.sl.HS0_12 c arg3 harg3 arg4 harg4 arg5 harg5 arg9 arg10 x0 x1 x2) :=
  (stateA10 c arg3 harg3 arg4 harg4 arg5 harg5 arg9 arg10 x0 x1 x2).cons 10 _ (acc_step x0 x1 x2 startM startA 10 _ _ _ _ _ (read_k harg4 x1 10 640 (by decide) _) (read_q harg3 x0 10 _)
    (readM arg10 _ 10 (stateM10 c arg3 harg3 arg4 harg4 arg10 x0 x1)) (read_v harg5 x2 10 7 (by decide) _) (readA arg9 _ 10 (stateA10 c arg3 harg3 arg4 harg4 arg5 harg5 arg9 arg10 x0 x1 x2)))

theorem stateA12 : StateA (newAcc x0 x1 x2 startM startA) 12 (kernelRun0_A.sl.HS0_13 c arg3 harg3 arg4 harg4 arg5 harg5 arg9 arg10 x0 x1 x2) :=
  (stateA11 c arg3 harg3 arg4 harg4 arg5 harg5 arg9 arg10 x0 x1 x2).cons 11 _ (acc_step x0 x1 x2 startM startA 11 _ _ _ _ _ (read_k harg4 x1 11 640 (by decide) _) (read_q harg3 x0 11 _)
    (readM arg10 _ 11 (stateM11 c arg3 harg3 arg4 harg4 arg10 x0 x1)) (read_v harg5 x2 11 7 (by decide) _) (readA arg9 _ 11 (stateA11 c arg3 harg3 arg4 harg4 arg5 harg5 arg9 arg10 x0 x1 x2)))

theorem stateA13 : StateA (newAcc x0 x1 x2 startM startA) 13 (kernelRun0_A.sl.HS0_14 c arg3 harg3 arg4 harg4 arg5 harg5 arg9 arg10 x0 x1 x2) :=
  (stateA12 c arg3 harg3 arg4 harg4 arg5 harg5 arg9 arg10 x0 x1 x2).cons 12 _ (acc_step x0 x1 x2 startM startA 12 _ _ _ _ _ (read_k harg4 x1 12 768 (by decide) _) (read_q harg3 x0 12 _)
    (readM arg10 _ 12 (stateM12 c arg3 harg3 arg4 harg4 arg10 x0 x1)) (read_v harg5 x2 12 8 (by decide) _) (readA arg9 _ 12 (stateA12 c arg3 harg3 arg4 harg4 arg5 harg5 arg9 arg10 x0 x1 x2)))

theorem stateA14 : StateA (newAcc x0 x1 x2 startM startA) 14 (kernelRun0_A.sl.HS0_15 c arg3 harg3 arg4 harg4 arg5 harg5 arg9 arg10 x0 x1 x2) :=
  (stateA13 c arg3 harg3 arg4 harg4 arg5 harg5 arg9 arg10 x0 x1 x2).cons 13 _ (acc_step x0 x1 x2 startM startA 13 _ _ _ _ _ (read_k harg4 x1 13 768 (by decide) _) (read_q harg3 x0 13 _)
    (readM arg10 _ 13 (stateM13 c arg3 harg3 arg4 harg4 arg10 x0 x1)) (read_v harg5 x2 13 8 (by decide) _) (readA arg9 _ 13 (stateA13 c arg3 harg3 arg4 harg4 arg5 harg5 arg9 arg10 x0 x1 x2)))

theorem stateA15 : StateA (newAcc x0 x1 x2 startM startA) 15 (kernelRun0_A.sl.HS0_16 c arg3 harg3 arg4 harg4 arg5 harg5 arg9 arg10 x0 x1 x2) :=
  (stateA14 c arg3 harg3 arg4 harg4 arg5 harg5 arg9 arg10 x0 x1 x2).cons 14 _ (acc_step x0 x1 x2 startM startA 14 _ _ _ _ _ (read_k harg4 x1 14 768 (by decide) _) (read_q harg3 x0 14 _)
    (readM arg10 _ 14 (stateM14 c arg3 harg3 arg4 harg4 arg10 x0 x1)) (read_v harg5 x2 14 8 (by decide) _) (readA arg9 _ 14 (stateA14 c arg3 harg3 arg4 harg4 arg5 harg5 arg9 arg10 x0 x1 x2)))

theorem stateA16 : StateA (newAcc x0 x1 x2 startM startA) 16 (kernelRun0_A.sl.HS0_17 c arg3 harg3 arg4 harg4 arg5 harg5 arg9 arg10 x0 x1 x2) :=
  (stateA15 c arg3 harg3 arg4 harg4 arg5 harg5 arg9 arg10 x0 x1 x2).cons 15 _ (acc_step x0 x1 x2 startM startA 15 _ _ _ _ _ (read_k harg4 x1 15 768 (by decide) _) (read_q harg3 x0 15 _)
    (readM arg10 _ 15 (stateM15 c arg3 harg3 arg4 harg4 arg10 x0 x1)) (read_v harg5 x2 15 8 (by decide) _) (readA arg9 _ 15 (stateA15 c arg3 harg3 arg4 harg4 arg5 harg5 arg9 arg10 x0 x1 x2)))

theorem stateA17 : StateA (newAcc x0 x1 x2 startM startA) 17 (kernelRun0_A.sl.HS0_18 c arg3 harg3 arg4 harg4 arg5 harg5 arg9 arg10 x0 x1 x2) :=
  (stateA16 c arg3 harg3 arg4 harg4 arg5 harg5 arg9 arg10 x0 x1 x2).cons 16 _ (acc_step x0 x1 x2 startM startA 16 _ _ _ _ _ (read_k harg4 x1 16 768 (by decide) _) (read_q harg3 x0 16 _)
    (readM arg10 _ 16 (stateM16 c arg3 harg3 arg4 harg4 arg10 x0 x1)) (read_v harg5 x2 16 9 (by decide) _) (readA arg9 _ 16 (stateA16 c arg3 harg3 arg4 harg4 arg5 harg5 arg9 arg10 x0 x1 x2)))

theorem stateA18 : StateA (newAcc x0 x1 x2 startM startA) 18 (kernelRun0_A.sl.HS0_19 c arg3 harg3 arg4 harg4 arg5 harg5 arg9 arg10 x0 x1 x2) :=
  (stateA17 c arg3 harg3 arg4 harg4 arg5 harg5 arg9 arg10 x0 x1 x2).cons 17 _ (acc_step x0 x1 x2 startM startA 17 _ _ _ _ _ (read_k harg4 x1 17 768 (by decide) _) (read_q harg3 x0 17 _)
    (readM arg10 _ 17 (stateM17 c arg3 harg3 arg4 harg4 arg10 x0 x1)) (read_v harg5 x2 17 9 (by decide) _) (readA arg9 _ 17 (stateA17 c arg3 harg3 arg4 harg4 arg5 harg5 arg9 arg10 x0 x1 x2)))

theorem stateA19 : StateA (newAcc x0 x1 x2 startM startA) 19 (kernelRun0_A.sl.HS0_20 c arg3 harg3 arg4 harg4 arg5 harg5 arg9 arg10 x0 x1 x2) :=
  (stateA18 c arg3 harg3 arg4 harg4 arg5 harg5 arg9 arg10 x0 x1 x2).cons 18 _ (acc_step x0 x1 x2 startM startA 18 _ _ _ _ _ (read_k harg4 x1 18 768 (by decide) _) (read_q harg3 x0 18 _)
    (readM arg10 _ 18 (stateM18 c arg3 harg3 arg4 harg4 arg10 x0 x1)) (read_v harg5 x2 18 9 (by decide) _) (readA arg9 _ 18 (stateA18 c arg3 harg3 arg4 harg4 arg5 harg5 arg9 arg10 x0 x1 x2)))

/-- The maxima that the first key block leaves. -/
theorem sout_A_m (hc0 : cond0_0 i) (hc1 : ¬cond0_1 i) (y : S20x1x512.Idx) :
    sout0_A_1 c i arg3 harg3 arg4 harg4 arg5 harg5 arg6 harg6 arg7 harg7 arg8 harg8 arg9 harg9 arg10 harg10 hc0 hc1 x0 x1 x2 x3 x4 y
      = newMax x0 x1 startM (y 0) (y 2) := by
  unfold sout0_A_1
  rw [View.read_writes_junk_eq_canon]
  unfold kernelRun0_A
  dsimp only
  have hy : y = ix3 (y 0) 0 (y 2) := (eq_ix3 y).trans (congrArg (fun z : Fin 1 => ix3 (y 0) z (y 2)) (Subsingleton.elim _ _))
  rw [hy]
  refine StateM.done (g := newMax x0 x1 startM) (n := 20) ?_ (y 0) (y 0).isLt (y 2)
  exact (stateM19 c arg3 harg3 arg4 harg4 arg10 x0 x1).cons 19 _ (max_step x0 x1 startM 19 _ _ _ (read_k harg4 x1 19 768 (by decide) _) (read_q harg3 x0 19 _)
    (readM arg10 _ 19 (stateM19 c arg3 harg3 arg4 harg4 arg10 x0 x1)))

/-- The weighted sums that the first key block leaves. -/
theorem sout_A_a (hc0 : cond0_0 i) (hc1 : ¬cond0_1 i) (y : S20x80x512.Idx) :
    sout0_A_0 c i arg3 harg3 arg4 harg4 arg5 harg5 arg6 harg6 arg7 harg7 arg8 harg8 arg9 harg9 arg10 harg10 hc0 hc1 x0 x1 x2 x3 x4 y
      = newAcc x0 x1 x2 startM startA (y 0) (y 1) (y 2) := by
  unfold sout0_A_0
  rw [View.read_writes_junk_eq_canon]
  unfold kernelRun0_A
  dsimp only
  have hy : y = ix3 (y 0) (y 1) (y 2) := eq_ix3 y
  rw [hy]
  refine StateA.done (g := newAcc x0 x1 x2 startM startA) (n := 20) ?_ (y 0) (y 0).isLt (y 1) (y 2)
  unfold kernelRun0_A.sl.HS0_20
  exact (stateA19 c arg3 harg3 arg4 harg4 arg5 harg5 arg9 arg10 x0 x1 x2).cons 19 _ (acc_step x0 x1 x2 startM startA 19 _ _ _ _ _ (read_k harg4 x1 19 768 (by decide) _) (read_q harg3 x0 19 _)
    (readM arg10 _ 19 (stateM19 c arg3 harg3 arg4 harg4 arg10 x0 x1)) (read_v harg5 x2 19 9 (by decide) _) (readA arg9 _ 19 (stateA19 c arg3 harg3 arg4 harg4 arg5 harg5 arg9 arg10 x0 x1 x2)))

end Cert.KernelIdeal.Step

end
-- ==== Proof.AttnMiddle.lean ====
/- What a middle key block leaves in the two scratch arrays: every head's running maxima and weighted sums, advanced by the block. -/
module

public import proofs.«01_k».proof.Proof.AttnReads

@[expose] public section

set_option maxRecDepth 16384

noncomputable section

open scoped BigOperators
open Idealize.ShloMosaic

namespace Cert.KernelIdeal.Step

open Cert.KernelIdeal Cert.KernelIdeal.Gen

/-- The maxima that a middle key block leaves. -/
theorem sout_B_m (c : Dev nD) (i : grid0.Coords) (arg3 : Memref sig .tc .vmem S1x20x128x512 .bf16) (harg3 : arg3.IsWhole)
    (arg4 : Memref sig .tc .vmem S1x768x896 .bf16) (harg4 : arg4.IsWhole) (arg5 : Memref sig .tc .vmem S1x10x80x768 .bf16) (harg5 : arg5.IsWhole)
    (arg6 : Memref sig .tc .vmem S4x32 .f32) (harg6 : arg6.IsWhole) (arg7 : Memref sig .tc .vmem S64x512 .f32) (harg7 : arg7.IsWhole)
    (arg8 : Memref sig .tc .vmem S1x1024x512 .bf16) (harg8 : arg8.IsWhole) (arg9 : Memref sig .tc .vmem S20x80x512 .f32) (harg9 : arg9.IsWhole)
    (arg10 : Memref sig .tc .vmem S20x1x512 .f32) (harg10 : arg10.IsWhole) (hc0 : ¬cond0_0 i) (hc1 : ¬cond0_1 i)
    (x0 : Vec Ideal S1x20x128x512 .bf16) (x1 : Vec Ideal S1x768x896 .bf16) (x2 : Vec Ideal S1x10x80x768 .bf16) (x3 : Vec Ideal S4x32 .f32)
    (x4 : Vec Ideal S64x512 .f32) (xs0 : Vec Ideal S20x80x512 .f32) (xs1 : Vec Ideal S20x1x512 .f32) (y : S20x1x512.Idx) :
    sout0_B_1 c i arg3 harg3 arg4 harg4 arg5 harg5 arg6 harg6 arg7 harg7 arg8 harg8 arg9 harg9 arg10 harg10 hc0 hc1 x0 x1 x2 x3 x4 xs0 xs1 y = newMax x0 x1 (maxOf xs1) (y 0) (y 2) := by
  unfold sout0_B_1
  rw [View.read_writes_junk_eq_canon]
  refine View.canon_apply_of_pieces (fun y : S20x1x512.Idx => newMax x0 x1 (maxOf xs1) (y 0) (y 2)) _ ?_ y
    (scover0_B_1 c i arg3 harg3 arg4 harg4 arg5 harg5 arg6 harg6 arg7 harg7 arg8 harg8 arg9 harg9 arg10 harg10 hc0 hc1 x0 x1 x2 x3 x4 xs0 xs1 y)
  unfold kernelRun0_B
  dsimp only
  have key (h : Fin 20) (ks : Vec Ideal S1x768x128 .bf16) (qs : Vec Ideal S1x1x128x512 .bf16) (mo : Vec Ideal S1x1x512 .f32) hk hq hm :=
    max_step x0 x1 (maxOf xs1) h ks qs mo hk hq hm
  refine List.forall_mem_cons.2 ⟨piece_m _ 19 (inb_m 19) _ (key 19 _ _ _ (read_k harg4 x1 19 768 (by decide) _) (read_q harg3 x0 19 _)
    (read_m harg10 xs1 19 _)), ?_⟩
  refine List.forall_mem_cons.2 ⟨piece_m _ 18 (inb_m 18) _ (key 18 _ _ _ (read_k harg4 x1 18 768 (by decide) _) (read_q harg3 x0 18 _)
    (read_m harg10 xs1 18 _)), ?_⟩
  refine List.forall_mem_cons.2 ⟨piece_m _ 17 (inb_m 17) _ (key 17 _ _ _ (read_k harg4 x1 17 768 (by decide) _) (read_q harg3 x0 17 _)
    (read_m harg10 xs1 17 _)), ?_⟩
  refine List.forall_mem_cons.2 ⟨piece_m _ 16 (inb_m 16) _ (key 16 _ _ _ (read_k harg4 x1 16 768 (by decide) _) (read_q harg3 x0 16 _)
    (read_m harg10 xs1 16 _)), ?_⟩
  refine List.forall_mem_cons.2 ⟨piece_m _ 15 (inb_m 15) _ (key 15 _ _ _ (read_k harg4 x1 15 768 (by decide) _) (read_q harg3 x0 15 _)
    (read_m harg10 xs1 15 _)), ?_⟩
  refine List.forall_mem_cons.2 ⟨piece_m _ 14 (inb_m 14) _ (key 14 _ _ _ (read_k harg4 x1 14 768 (by decide) _) (read_q harg3 x0 14 _)
    (read_m harg10 xs1 14 _)), ?_⟩
  refine List.forall_mem_cons.2 ⟨piece_m _ 13 (inb_m 13) _ (key 13 _ _ _ (read_k harg4 x1 13 768 (by decide) _) (read_q harg3 x0 13 _)
    (read_m harg10 xs1 13 _)), ?_⟩
  refine List.forall_mem_cons.2 ⟨piece_m _ 12 (inb_m 12) _ (key 12 _ _ _ (read_k harg4 x1 12 768 (by decide) _) (read_q harg3 x0 12 _)
    (read_m harg10 xs1 12 _)), ?_⟩
  refine List.forall_mem_cons.2 ⟨piece_m _ 11 (inb_m 11) _ (key 11 _ _ _ (read_k harg4 x1 11 640 (by decide) _) (read_q harg3 x0 11 _)
    (read_m harg10 xs1 11 _)), ?_⟩
  refine List.forall_mem_cons.2 ⟨piece_m _ 10 (inb_m 10) _ (key 10 _ _ _ (read_k harg4 x1 10 640 (by decide) _) (read_q harg3 x0 10 _)
    (read_m harg10 xs1 10 _)), ?_⟩
  refine List.forall_mem_cons.2 ⟨piece_m _ 9 (inb_m 9) _ (key 9 _ _ _ (read_k harg4 x1 9 640 (by decide) _) (read_q harg3 x0 9 _)
    (read_m harg10 xs1 9 _)), ?_⟩
  refine List.forall_mem_cons.2 ⟨piece_m _ 8 (inb_m 8) _ (key 8 _ _ _ (read_k harg4 x1 8 640 (by decide) _) (read_q harg3 x0 8 _)
    (read_m harg10 xs1 8 _)), ?_⟩
  refine List.forall_mem_cons.2 ⟨piece_m _ 7 (inb_m 7) _ (key 7 _ _ _ (read_k harg4 x1 7 512 (by decide) _) (read_q harg3 x0 7 _)
    (read_m harg10 xs1 7 _)), ?_⟩
  refine List.forall_mem_cons.2 ⟨piece_m _ 6 (inb_m 6) _ (key 6 _ _ _ (read_k harg4 x1 6 512 (by decide) _) (read_q harg3 x0 6 _)
    (read_m harg10 xs1 6 _)), ?_⟩
  refine List.forall_mem_cons.2 ⟨piece_m _ 5 (inb_m 5) _ (key 5 _ _ _ (read_k harg4 x1 5 512 (by decide) _) (read_q harg3 x0 5 _)
    (read_m harg10 xs1 5 _)), ?_⟩
  refine List.forall_mem_cons.2 ⟨piece_m _ 4 (inb_m 4) _ (key 4 _ _ _ (read_k harg4 x1 4 512 (by decide) _) (read_q harg3 x0 4 _)
    (read_m harg10 xs1 4 _)), ?_⟩
  refine List.forall_mem_cons.2 ⟨piece_m _ 3 (inb_m 3) _ (key 3 _ _ _ (read_k harg4 x1 3 384 (by decide) _) (read_q harg3 x0 3 _)
    (read_m harg10 xs1 3 _)), ?_⟩
  refine List.forall_mem_cons.2 ⟨piece_m _ 2 (inb_m 2) _ (key 2 _ _ _ (read_k harg4 x1 2 256 (by decide) _) (read_q harg3 x0 2 _)
    (read_m harg10 xs1 2 _)), ?_⟩
  refine List.forall_mem_cons.2 ⟨piece_m _ 1 (inb_m 1) _ (key 1 _ _ _ (read_k harg4 x1 1 128 (by decide) _) (read_q harg3 x0 1 _)
    (read_m harg10 xs1 1 _)), ?_⟩
  refine List.forall_mem_cons.2 ⟨piece_m _ 0 (inb_m 0) _ (key 0 _ _ _ (read_k harg4 x1 0 0 (by decide) _) (read_q harg3 x0 0 _)
    (read_m harg10 xs1 0 _)), ?_⟩
  exact fun _ h => absurd h List.not_mem_nil

/-- The weighted sums that a middle key block leaves. -/
theorem sout_B_a (c : Dev nD) (i : grid0.Coords) (arg3 : Memref sig .tc .vmem S1x20x128x512 .bf16) (harg3 : arg3.IsWhole)
    (arg4 : Memref sig .tc .vmem S1x768x896 .bf16) (harg4 : arg4.IsWhole) (arg5 : Memref sig .tc .vmem S1x10x80x768 .bf16) (harg5 : arg5.IsWhole)
    (arg6 : Memref sig .tc .vmem S4x32 .f32) (harg6 : arg6.IsWhole) (arg7 : Memref sig .tc .vmem S64x512 .f32) (harg7 : arg7.IsWhole)
    (arg8 : Memref sig .tc .vmem S1x1024x512 .bf16) (harg8 : arg8.IsWhole) (arg9 : Memref sig .tc .vmem S20x80x512 .f32) (harg9 : arg9.IsWhole)
    (arg10 : Memref sig .tc .vmem S20x1x512 .f32) (harg10 : arg10.IsWhole) (hc0 : ¬cond0_0 i) (hc1 : ¬cond0_1 i)
    (x0 : Vec Ideal S1x20x128x512 .bf16) (x1 : Vec Ideal S1x768x896 .bf16) (x2 : Vec Ideal S1x10x80x768 .bf16) (x3 : Vec Ideal S4x32 .f32)
    (x4 : Vec Ideal S64x512 .f32) (xs0 : Vec Ideal S20x80x512 .f32) (xs1 : Vec Ideal S20x1x512 .f32) (y : S20x80x512.Idx) :
    sout0_B_0 c i arg3 harg3 arg4 harg4 arg5 harg5 arg6 harg6 arg7 harg7 arg8 harg8 arg9 harg9 arg10 harg10 hc0 hc1 x0 x1 x2 x3 x4 xs0 xs1 y = newAcc x0 x1 x2 (maxOf xs1) (accOf xs0) (y 0) (y 1) (y 2) := by
  unfold sout0_B_0
  rw [View.read_writes_junk_eq_canon]
  refine View.canon_apply_of_pieces (fun y : S20x80x512.Idx => newAcc x0 x1 x2 (maxOf xs1) (accOf xs0) (y 0) (y 1) (y 2)) _ ?_ y
    (scover0_B_0 c i arg3 harg3 arg4 harg4 arg5 harg5 arg6 harg6 arg7 harg7 arg8 harg8 arg9 harg9 arg10 harg10 hc0 hc1 x0 x1 x2 x3 x4 xs0 xs1 y)
  unfold kernelRun0_B
  dsimp only
  have key (h : Fin 20) (ks : Vec Ideal S1x768x128 .bf16) (qs : Vec Ideal S1x1x128x512 .bf16) (mo : Vec Ideal S1x1x512 .f32)
      (vs : Vec Ideal S1x1x80x768 .bf16) (ao : Vec Ideal S1x80x512 .f32) hk hq hm hv ha :=
    acc_step x0 x1 x2 (maxOf xs1) (accOf xs0) h ks qs mo vs ao hk hq hm hv ha
  refine List.forall_mem_cons.2 ⟨piece_a _ 19 (inb_a 19) _ (key 19 _ _ _ _ _ (read_k harg4 x1 19 768 (by decide) _) (read_q harg3 x0 19 _)
    (read_m harg10 xs1 19 _) (read_v harg5 x2 19 9 (by decide) _) (read_a harg9 xs0 19 _)), ?_⟩
  refine List.forall_mem_cons.2 ⟨piece_a _ 18 (inb_a 18) _ (key 18 _ _ _ _ _ (read_k harg4 x1 18 768 (by decide) _) (read_q harg3 x0 18 _)
    (read_m harg10 xs1 18 _) (read_v harg5 x2 18 9 (by decide) _) (read_a harg9 xs0 18 _)), ?_⟩
  refine List.forall_mem_cons.2 ⟨piece_a _ 17 (inb_a 17) _ (key 17 _ _ _ _ _ (read_k harg4 x1 17 768 (by decide) _) (read_q harg3 x0 17 _)
    (read_m harg10 xs1 17 _) (read_v harg5 x2 17 9 (by decide) _) (read_a harg9 xs0 17 _)), ?_⟩
  refine List.forall_mem_cons.2 ⟨piece_a _ 16 (inb_a 16) _ (key 16 _ _ _ _ _ (read_k harg4 x1 16 768 (by decide) _) (read_q harg3 x0 16 _)
    (read_m harg10 xs1 16 _) (read_v harg5 x2 16 9 (by decide) _) (read_a harg9 xs0 16 _)), ?_⟩
  refine List.forall_mem_cons.2 ⟨piece_a _ 15 (inb_a 15) _ (key 15 _ _ _ _ _ (read_k harg4 x1 15 768 (by decide) _) (read_q harg3 x0 15 _)
    (read_m harg10 xs1 15 _) (read_v harg5 x2 15 8 (by decide) _) (read_a harg9 xs0 15 _)), ?_⟩
  refine List.forall_mem_cons.2 ⟨piece_a _ 14 (inb_a 14) _ (key 14 _ _ _ _ _ (read_k harg4 x1 14 768 (by decide) _) (read_q harg3 x0 14 _)
    (read_m harg10 xs1 14 _) (read_v harg5 x2 14 8 (by decide) _) (read_a harg9 xs0 14 _)), ?_⟩
  refine List.forall_mem_cons.2 ⟨piece_a _ 13 (inb_a 13) _ (key 13 _ _ _ _ _ (read_k harg4 x1 13 768 (by decide) _) (read_q harg3 x0 13 _)
    (read_m harg10 xs1 13 _) (read_v harg5 x2 13 8 (by decide) _) (read_a harg9 xs0 13 _)), ?_⟩
  refine List.forall_mem_cons.2 ⟨piece_a _ 12 (inb_a 12) _ (key 12 _ _ _ _ _ (read_k harg4 x1 12 768 (by decide) _) (read_q harg3 x0 12 _)
    (read_m harg10 xs1 12 _) (read_v harg5 x2 12 8 (by decide) _) (read_a harg9 xs0 12 _)), ?_⟩
  refine List.forall_mem_cons.2 ⟨piece_a _ 11 (inb_a 11) _ (key 11 _ _ _ _ _ (read_k harg4 x1 11 640 (by decide) _) (read_q harg3 x0 11 _)
    (read_m harg10 xs1 11 _) (read_v harg5 x2 11 7 (by decide) _) (read_a harg9 xs0 11 _)), ?_⟩
  refine List.forall_mem_cons.2 ⟨piece_a _ 10 (inb_a 10) _ (key 10 _ _ _ _ _ (read_k harg4 x1 10 640 (by decide) _) (read_q harg3 x0 10 _)
    (read_m harg10 xs1 10 _) (read_v harg5 x2 10 7 (by decide) _) (read_a harg9 xs0 10 _)), ?_⟩
  refine List.forall_mem_cons.2 ⟨piece_a _ 9 (inb_a 9) _ (key 9 _ _ _ _ _ (read_k harg4 x1 9 640 (by decide) _) (read_q harg3 x0 9 _)
    (read_m harg10 xs1 9 _) (read_v harg5 x2 9 6 (by decide) _) (read_a harg9 xs0 9 _)), ?_⟩
  refine List.forall_mem_cons.2 ⟨piece_a _ 8 (inb_a 8) _ (fun r c => (congrFun (parts8 _ _ _ _) _).trans (key 8 _ _ _ _ _ (read_k harg4 x1 8 640 (by decide) _) (read_q harg3 x0 8 _)
    (read_m harg10 xs1 8 _) (read_v harg5 x2 8 6 (by decide) _) (read_a harg9 xs0 8 _) r c)), ?_⟩
  refine List.forall_mem_cons.2 ⟨piece_a _ 7 (inb_a 7) _ (fun r c => (congrFun (parts7 _ _ _ _) _).trans (key 7 _ _ _ _ _ (read_k harg4 x1 7 512 (by decide) _) (read_q harg3 x0 7 _)
    (read_m harg10 xs1 7 _) (read_v harg5 x2 7 5 (by decide) _) (read_a harg9 xs0 7 _) r c)), ?_⟩
  refine List.forall_mem_cons.2 ⟨piece_a _ 6 (inb_a 6) _ (fun r c => (congrFun (parts6 _ _ _ _) _).trans (key 6 _ _ _ _ _ (read_k harg4 x1 6 512 (by decide) _) (read_q harg3 x0 6 _)
    (read_m harg10 xs1 6 _) (read_v harg5 x2 6 5 (by decide) _) (read_a harg9 xs0 6 _) r c)), ?_⟩
  refine List.forall_mem_cons.2 ⟨piece_a _ 5 (inb_a 5) _ (fun r c => (congrFun (parts5 _ _ _ _) _).trans (key 5 _ _ _ _ _ (read_k harg4 x1 5 512 (by decide) _) (read_q harg3 x0 5 _)
    (read_m harg10 xs1 5 _) (read_v harg5 x2 5 4 (by decide) _) (read_a harg9 xs0 5 _) r c)), ?_⟩
  refine List.forall_mem_cons.2 ⟨piece_a _ 4 (inb_a 4) _ (fun r c => (congrFun (parts4 _ _ _ _) _).trans (key 4 _ _ _ _ _ (read_k harg4 x1 4 512 (by decide) _) (read_q harg3 x0 4 _)
    (read_m harg10 xs1 4 _) (read_v harg5 x2 4 4 (by decide) _) (read_a harg9 xs0 4 _) r c)), ?_⟩
  refine List.forall_mem_cons.2 ⟨piece_a _ 3 (inb_a 3) _ (fun r c => (congrFun (parts3 _ _ _ _) _).trans (key 3 _ _ _ _ _ (read_k harg4 x1 3 384 (by decide) _) (read_q harg3 x0 3 _)
    (read_m harg10 xs1 3 _) (read_v harg5 x2 3 3 (by decide) _) (read_a harg9 xs0 3 _) r c)), ?_⟩
  refine List.forall_mem_cons.2 ⟨piece_a _ 2 (inb_a 2) _ (fun r c => (congrFun (parts2 _ _ _ _) _).trans (key 2 _ _ _ _ _ (read_k harg4 x1 2 256 (by decide) _) (read_q harg3 x0 2 _)
    (read_m harg10 xs1 2 _) (read_v harg5 x2 2 2 (by decide) _) (read_a harg9 xs0 2 _) r c)), ?_⟩
  refine List.forall_mem_cons.2 ⟨piece_a _ 1 (inb_a 1) _ (fun r c => (congrFun (parts1 _ _ _ _) _).trans (key 1 _ _ _ _ _ (read_k harg4 x1 1 128 (by decide) _) (read_q harg3 x0 1 _)
    (read_m harg10 xs1 1 _) (read_v harg5 x2 1 1 (by decide) _) (read_a harg9 xs0 1 _) r c)), ?_⟩
  refine List.forall_mem_cons.2 ⟨piece_a _ 0 (inb_a 0) _ (fun r c => (congrFun (parts0 _ _ _ _ _) _).trans (key 0 _ _ _ _ _ (read_k harg4 x1 0 0 (by decide) _) (read_q harg3 x0 0 _)
    (read_m harg10 xs1 0 _) (read_v harg5 x2 0 0 (by decide) _) (read_a harg9 xs0 0 _) r c)), ?_⟩
  exact fun _ h => absurd h List.not_mem_nil

end Cert.KernelIdeal.Step

end
-- ==== Proof.AttnOutput.lean ====
/- What the last key block writes to the output: every head's weighted sums divided by its sum of weights, the differential heads in
   pairs and normalised. First as plain functions of the weighted sums, then the vectors the kernel computes them with. -/
module

public import proofs.«01_k».proof.Proof.AttnReads

@[expose] public section

set_option maxRecDepth 16384

noncomputable section

open scoped BigOperators
open Idealize.ShloMosaic

namespace Cert.KernelIdeal.Step

open Cert.KernelIdeal Cert.KernelIdeal.Gen

variable (a : Fin 20 → Fin 80 → Fin 512 → EReal) (lv : Vec Ideal S4x32 .f32) (gs : Vec Ideal S64x512 .f32)

/-- A head's output: a weighted sum over the sum of the weights, which row 64 holds. -/
def headOut (h : Fin 20) (r : Fin 64) (c : Fin 512) : EReal := Ideal.div (a h ⟨r.val, by omega⟩ c) (a h 64 c)

/-- The factor of the second head of a differential pair. -/
def lamOf : EReal :=
  Ideal.exp (∑ i : Fin 32, lv (ix2 0 i) * lv (ix2 1 i)) - Ideal.exp (∑ i : Fin 32, lv (ix2 2 i) * lv (ix2 3 i))
    + Ideal.ofBits .f32 0x3E4CCCCD#32

/-- The difference of a pair of heads. -/
def diffOf (h h' : Fin 20) (r : Fin 64) (c : Fin 512) : EReal := headOut a h r c - lamOf lv * headOut a h' r c

/-- The output of a pair of heads: their difference, normalised over its rows. -/
def pairOut (h h' : Fin 20) (r : Fin 64) (c : Fin 512) : EReal :=
  diffOf a lv h h' r c
    * Ideal.rsqrt (Ideal.div (∑ i : Fin 64, diffOf a lv h h' i c * diffOf a lv h h' i c) (Ideal.ofBits .f32 0x42800000#32)
        + Ideal.ofBits .f32 0x358637BD#32)
    * gs (ix2 r c) * Ideal.ofBits .f32 0x3F4CCCCD#32

/-- The output rows `64 j .. 64 j + 63`: four plain heads, four pairs, eight plain heads. -/
def outRow (j : Fin 16) (r : Fin 64) (c : Fin 512) : EReal :=
  if h : j.val < 4 then headOut a ⟨j.val, by omega⟩ r c
  else if h' : j.val < 8 then pairOut a lv gs ⟨2 * j.val - 4, by omega⟩ ⟨2 * j.val - 3, by omega⟩ r c
  else headOut a ⟨j.val + 4, by omega⟩ r c

/-- The vector of a plain head's output. -/
abbrev plainVec (x : Vec Ideal S1x80x512 .f32) : FVec Ideal S1x64x512 .bf16 := k0_pay3 x

/-- The vector of a pair's output. -/
abbrev pairVec (lv : Vec Ideal S4x32 .f32) (gs : Vec Ideal S64x512 .f32) (x y : Vec Ideal S1x80x512 .f32) : FVec Ideal S1x64x512 .bf16 :=
  k0_pay15 (k0_pay8 lv) (k0_pay9 gs) x y

theorem plainVec_apply (x : Vec Ideal S1x80x512 .f32) (r : Fin 64) (c : Fin 512) :
    plainVec x (ix3 0 r c) = Ideal.div (x (ix3 0 ⟨r.val, by omega⟩ c)) (x (ix3 0 64 c)) := by
  pointwise [plainVec, k0_pay3]

theorem lam_apply : k0_pay8 lv (ix2 0 0) = lamOf lv := by
  unfold lamOf
  pointwise [k0_pay8]

/-- The vector of a pair's output, from weighted sums read from the scratch array. -/
theorem pairVec_apply (x y : Vec Ideal S1x80x512 .f32) (h h' : Fin 20) (hx : ∀ r c, x (ix3 0 r c) = a h r c)
    (hy : ∀ r c, y (ix3 0 r c) = a h' r c) (r : Fin 64) (c : Fin 512) :
    pairVec lv gs x y (ix3 0 r c) = pairOut a lv gs h h' r c := by
  rw [show pairVec lv gs x y = k0_pay15 (k0_pay8 lv) (k0_pay9 gs) x y from rfl]
  have e := lam_apply lv
  revert e
  generalize k0_pay8 lv = z
  intro e
  pointwise [k0_pay15, k0_pay9]
  simp only [e, hx, hy]
  rfl

/-- The vector of a plain head's output, from weighted sums read from the scratch array. -/
theorem plainVec_eq (x : Vec Ideal S1x80x512 .f32) (h : Fin 20) (hx : ∀ r c, x (ix3 0 r c) = a h r c) (r : Fin 64) (c : Fin 512) :
    plainVec x (ix3 0 r c) = headOut a h r c := by
  rw [plainVec_apply, hx, hx]
  rfl

/-- A pair's output from the whole factor block and the whole scale block. -/
theorem pair_step (x y : Vec Ideal S1x80x512 .f32) (h h' : Fin 20) (lv' : Vec Ideal S4x32 .f32) (gs' : Vec Ideal S64x512 .f32)
    (hl : lv' = lv) (hg : gs' = gs) (hx : ∀ r c, x (ix3 0 r c) = a h r c)
    (hy : ∀ r c, y (ix3 0 r c) = a h' r c) (r : Fin 64) (c : Fin 512) :
    pairVec lv' gs' x y (ix3 0 r c) = pairOut a lv gs h h' r c := by
  subst hl hg
  exact pairVec_apply a _ _ x y h h' hx hy r c

/-- The whole factor block, read. -/
theorem read_l {M : Memref sig .tc .vmem S4x32 .f32} (hM : M.IsWhole) (x : Vec Ideal S4x32 .f32)
    (inb : ∀ a, (![0, 0] : Fin 2 → ℕ) a + S4x32.size a ≤ S4x32.size a) :
    View.readAt (Elt Ideal) M.view (Rect.unit (s := S4x32) ![0, 0] S4x32.size inb).toLoadRect (hM.unread x) = x := by
  funext y
  refine (hM.readAt_unread x _ _).trans (congrArg x (funext fun a => Fin.ext ?_))
  match a with
  | ⟨0, _⟩ => show 0 + 1 * (y 0).val = (y 0).val; omega
  | ⟨1, _⟩ => show 0 + 1 * (y 1).val = (y 1).val; omega

/-- The whole scale block, read. -/
theorem read_g {M : Memref sig .tc .vmem S64x512 .f32} (hM : M.IsWhole) (x : Vec Ideal S64x512 .f32)
    (inb : ∀ a, (![0, 0] : Fin 2 → ℕ) a + S64x512.size a ≤ S64x512.size a) :
    View.readAt (Elt Ideal) M.view (Rect.unit (s := S64x512) ![0, 0] S64x512.size inb).toLoadRect (hM.unread x) = x := by
  funext y
  refine (hM.readAt_unread x _ _).trans (congrArg x (funext fun a => Fin.ext ?_))
  match a with
  | ⟨0, _⟩ => show 0 + 1 * (y 0).val = (y 0).val; omega
  | ⟨1, _⟩ => show 0 + 1 * (y 1).val = (y 1).val; omega

/-! The kernel computes some of these vectors in parts. -/

section
variable (x y : Vec Ideal S1x80x512 .f32)

theorem parts_plain3 : k0_pay7 (k0_pay6 x) = plainVec x := rfl
theorem parts_plain13 : k0_pay22 (k0_pay21 x) = plainVec x := rfl
theorem parts_plain16 : k0_pay26 (k0_pay25 x) = plainVec x := rfl
theorem parts_pair0 :
    k0_pay12 (k0_pay9 gs) (k0_pay10 lv x y) (k0_pay11 lv x y) (Scalar.ofBits .f32 0x42800000#32) = pairVec lv gs x y := rfl
theorem parts_pair1 : k0_pay14 (k0_pay13 (k0_pay8 lv) (k0_pay9 gs) x y) = pairVec lv gs x y := rfl
theorem parts_pair3 : k0_pay19 (k0_pay8 lv) (k0_pay9 gs) (k0_pay17 x) (k0_pay18 x) y = pairVec lv gs x y := rfl

end

/-- Rows `64 j .. 64 j + 63` fit in the output block. -/
theorem inb_o (j : Fin 16) : ∀ a, (![0, 64 * j.val, 0] : Fin 3 → ℕ) a + S1x64x512.size a ≤ S1x1024x512.size a
  | ⟨0, _⟩ => Nat.le_refl 1
  | ⟨1, _⟩ => by show 64 * j.val + 64 ≤ 1024; omega
  | ⟨2, _⟩ => Nat.le_refl 512

/-- A store of sixty-four output rows agrees with a function of row and query once its rows do. -/
theorem piece_o (g : Fin 16 → Fin 64 → Fin 512 → EReal) (j : Fin 16) (o : ℕ) (ho : o = 64 * j.val)
    (inb : ∀ a, (![0, o, 0] : Fin 3 → ℕ) a + S1x64x512.size a ≤ S1x1024x512.size a) (W : Vec Ideal S1x64x512 .bf16)
    (hW : ∀ r c, W (ix3 0 r c) = g j r c) (x : (Rect.unit (s := S1x1024x512) ![0, o, 0] S1x64x512.size inb).shape.Idx) :
    W x = (fun i : S1x1024x512.Idx => g ⟨(i 1).val / 64, by have : (i 1).val < 1024 := (i 1).isLt; omega⟩
        ⟨(i 1).val % 64, by omega⟩ (i 2))
      ((Rect.unit (s := S1x1024x512) ![0, o, 0] S1x64x512.size inb).emb x) := by
  subst ho
  change S1x64x512.Idx at x
  idx_vars x
  obtain rfl : x0 = 0 := Subsingleton.elim _ _
  have e1 : ((Rect.unit (s := S1x1024x512) ![0, 64 * j.val, 0] S1x64x512.size inb).emb (ix3 0 x1 x2) 1).val = 64 * j.val + x1.val := by
    show 64 * j.val + 1 * x1.val = _; omega
  have e2 : (Rect.unit (s := S1x1024x512) ![0, 64 * j.val, 0] S1x64x512.size inb).emb (ix3 0 x1 x2) 2 = x2 := by
    apply Fin.ext; show 0 + 1 * x2.val = x2.val; omega
  refine (hW x1 x2).trans ?_
  have hj : j = ⟨((Rect.unit (s := S1x1024x512) ![0, 64 * j.val, 0] S1x64x512.size inb).emb (ix3 0 x1 x2) 1).val / 64,
      by rw [e1]; omega⟩ := Fin.ext (by show j.val = _ / 64; rw [e1]; omega)
  have hx : x1 = ⟨((Rect.unit (s := S1x1024x512) ![0, 64 * j.val, 0] S1x64x512.size inb).emb (ix3 0 x1 x2) 1).val % 64, by omega⟩ :=
    Fin.ext (by show x1.val = _ % 64; rw [e1]; omega)
  exact congr (congr (congrArg g hj) hx) e2.symm

end Cert.KernelIdeal.Step

end
-- ==== Proof.AttnLast.lean ====
/- What the last key block leaves in the two scratch arrays: every head's running maxima and weighted sums, advanced by the block. -/
module

public import proofs.«01_k».proof.Proof.AttnReads

@[expose] public section

set_option maxRecDepth 16384

noncomputable section

open scoped BigOperators
open Idealize.ShloMosaic

namespace Cert.KernelIdeal.Step

open Cert.KernelIdeal Cert.KernelIdeal.Gen

/-- The maxima that the last key block leaves. -/
theorem sout_C_m (c : Dev nD) (i : grid0.Coords) (arg3 : Memref sig .tc .vmem S1x20x128x512 .bf16) (harg3 : arg3.IsWhole)
    (arg4 : Memref sig .tc .vmem S1x768x896 .bf16) (harg4 : arg4.IsWhole) (arg5 : Memref sig .tc .vmem S1x10x80x768 .bf16) (harg5 : arg5.IsWhole)
    (arg6 : Memref sig .tc .vmem S4x32 .f32) (harg6 : arg6.IsWhole) (arg7 : Memref sig .tc .vmem S64x512 .f32) (harg7 : arg7.IsWhole)
    (arg8 : Memref sig .tc .vmem S1x1024x512 .bf16) (harg8 : arg8.IsWhole) (arg9 : Memref sig .tc .vmem S20x80x512 .f32) (harg9 : arg9.IsWhole)
    (arg10 : Memref sig .tc .vmem S20x1x512 .f32) (harg10 : arg10.IsWhole) (hc0 : ¬cond0_0 i) (hc1 : cond0_1 i)
    (x0 : Vec Ideal S1x20x128x512 .bf16) (x1 : Vec Ideal S1x768x896 .bf16) (x2 : Vec Ideal S1x10x80x768 .bf16) (x3 : Vec Ideal S4x32 .f32)
    (x4 : Vec Ideal S64x512 .f32) (xs0 : Vec Ideal S20x80x512 .f32) (xs1 : Vec Ideal S20x1x512 .f32) (y : S20x1x512.Idx) :
    sout0_C_1 c i arg3 harg3 arg4 harg4 arg5 harg5 arg6 harg6 arg7 harg7 arg8 harg8 arg9 harg9 arg10 harg10 hc0 hc1 x0 x1 x2 x3 x4 xs0 xs1 y = newMax x0 x1 (maxOf xs1) (y 0) (y 2) := by
  unfold sout0_C_1
  rw [View.read_writes_junk_eq_canon]
  refine View.canon_apply_of_pieces (fun y : S20x1x512.Idx => newMax x0 x1 (maxOf xs1) (y 0) (y 2)) _ ?_ y
    (scover0_C_1 c i arg3 harg3 arg4 harg4 arg5 harg5 arg6 harg6 arg7 harg7 arg8 harg8 arg9 harg9 arg10 harg10 hc0 hc1 x0 x1 x2 x3 x4 xs0 xs1 y)
  unfold kernelRun0_C
  dsimp only
  have key (h : Fin 20) (ks : Vec Ideal S1x768x128 .bf16) (qs : Vec Ideal S1x1x128x512 .bf16) (mo : Vec Ideal S1x1x512 .f32) hk hq hm :=
    max_step x0 x1 (maxOf xs1) h ks qs mo hk hq hm
  refine List.forall_mem_cons.2 ⟨piece_m _ 19 (inb_m 19) _ (key 19 _ _ _ (read_k harg4 x1 19 768 (by decide) _) (read_q harg3 x0 19 _)
    (read_m harg10 xs1 19 _)), ?_⟩
  refine List.forall_mem_cons.2 ⟨piece_m _ 18 (inb_m 18) _ (key 18 _ _ _ (read_k harg4 x1 18 768 (by decide) _) (read_q harg3 x0 18 _)
    (read_m harg10 xs1 18 _)), ?_⟩
  refine List.forall_mem_cons.2 ⟨piece_m _ 17 (inb_m 17) _ (key 17 _ _ _ (read_k harg4 x1 17 768 (by decide) _) (read_q harg3 x0 17 _)
    (read_m harg10 xs1 17 _)), ?_⟩
  refine List.forall_mem_cons.2 ⟨piece_m _ 16 (inb_m 16) _ (key 16 _ _ _ (read_k harg4 x1 16 768 (by decide) _) (read_q harg3 x0 16 _)
    (read_m harg10 xs1 16 _)), ?_⟩
  refine List.forall_mem_cons.2 ⟨piece_m _ 15 (inb_m 15) _ (key 15 _ _ _ (read_k harg4 x1 15 768 (by decide) _) (read_q harg3 x0 15 _)
    (read_m harg10 xs1 15 _)), ?_⟩
  refine List.forall_mem_cons.2 ⟨piece_m _ 14 (inb_m 14) _ (key 14 _ _ _ (read_k harg4 x1 14 768 (by decide) _) (read_q harg3 x0 14 _)
    (read_m harg10 xs1 14 _)), ?_⟩
  refine List.forall_mem_cons.2 ⟨piece_m _ 13 (inb_m 13) _ (key 13 _ _ _ (read_k harg4 x1 13 768 (by decide) _) (read_q harg3 x0 13 _)
    (read_m harg10 xs1 13 _)), ?_⟩
  refine List.forall_mem_cons.2 ⟨piece_m _ 12 (inb_m 12) _ (key 12 _ _ _ (read_k harg4 x1 12 768 (by decide) _) (read_q harg3 x0 12 _)
    (read_m harg10 xs1 12 _)), ?_⟩
  refine List.forall_mem_cons.2 ⟨piece_m _ 11 (inb_m 11) _ (key 11 _ _ _ (read_k harg4 x1 11 640 (by decide) _) (read_q harg3 x0 11 _)
    (read_m harg10 xs1 11 _)), ?_⟩
  refine List.forall_mem_cons.2 ⟨piece_m _ 10 (inb_m 10) _ (key 10 _ _ _ (read_k harg4 x1 10 640 (by decide) _) (read_q harg3 x0 10 _)
    (read_m harg10 xs1 10 _)), ?_⟩
  refine List.forall_mem_cons.2 ⟨piece_m _ 9 (inb_m 9) _ (key 9 _ _ _ (read_k harg4 x1 9 640 (by decide) _) (read_q harg3 x0 9 _)
    (read_m harg10 xs1 9 _)), ?_⟩
  refine List.forall_mem_cons.2 ⟨piece_m _ 8 (inb_m 8) _ (key 8 _ _ _ (read_k harg4 x1 8 640 (by decide) _) (read_q harg3 x0 8 _)
    (read_m harg10 xs1 8 _)), ?_⟩
  refine List.forall_mem_cons.2 ⟨piece_m _ 7 (inb_m 7) _ (key 7 _ _ _ (read_k harg4 x1 7 512 (by decide) _) (read_q harg3 x0 7 _)
    (read_m harg10 xs1 7 _)), ?_⟩
  refine List.forall_mem_cons.2 ⟨piece_m _ 6 (inb_m 6) _ (key 6 _ _ _ (read_k harg4 x1 6 512 (by decide) _) (read_q harg3 x0 6 _)
    (read_m harg10 xs1 6 _)), ?_⟩
  refine List.forall_mem_cons.2 ⟨piece_m _ 5 (inb_m 5) _ (key 5 _ _ _ (read_k harg4 x1 5 512 (by decide) _) (read_q harg3 x0 5 _)
    (read_m harg10 xs1 5 _)), ?_⟩
  refine List.forall_mem_cons.2 ⟨piece_m _ 4 (inb_m 4) _ (key 4 _ _ _ (read_k harg4 x1 4 512 (by decide) _) (read_q harg3 x0 4 _)
    (read_m harg10 xs1 4 _)), ?_⟩
  refine List.forall_mem_cons.2 ⟨piece_m _ 3 (inb_m 3) _ (key 3 _ _ _ (read_k harg4 x1 3 384 (by decide) _) (read_q harg3 x0 3 _)
    (read_m harg10 xs1 3 _)), ?_⟩
  refine List.forall_mem_cons.2 ⟨piece_m _ 2 (inb_m 2) _ (key 2 _ _ _ (read_k harg4 x1 2 256 (by decide) _) (read_q harg3 x0 2 _)
    (read_m harg10 xs1 2 _)), ?_⟩
  refine List.forall_mem_cons.2 ⟨piece_m _ 1 (inb_m 1) _ (key 1 _ _ _ (read_k harg4 x1 1 128 (by decide) _) (read_q harg3 x0 1 _)
    (read_m harg10 xs1 1 _)), ?_⟩
  refine List.forall_mem_cons.2 ⟨piece_m _ 0 (inb_m 0) _ (key 0 _ _ _ (read_k harg4 x1 0 0 (by decide) _) (read_q harg3 x0 0 _)
    (read_m harg10 xs1 0 _)), ?_⟩
  exact fun _ h => absurd h List.not_mem_nil

/-- The weighted sums that the last key block leaves. -/
theorem sout_C_a (c : Dev nD) (i : grid0.Coords) (arg3 : Memref sig .tc .vmem S1x20x128x512 .bf16) (harg3 : arg3.IsWhole)
    (arg4 : Memref sig .tc .vmem S1x768x896 .bf16) (harg4 : arg4.IsWhole) (arg5 : Memref sig .tc .vmem S1x10x80x768 .bf16) (harg5 : arg5.IsWhole)
    (arg6 : Memref sig .tc .vmem S4x32 .f32) (harg6 : arg6.IsWhole) (arg7 : Memref sig .tc .vmem S64x512 .f32) (harg7 : arg7.IsWhole)
    (arg8 : Memref sig .tc .vmem S1x1024x512 .bf16) (harg8 : arg8.IsWhole) (arg9 : Memref sig .tc .vmem S20x80x512 .f32) (harg9 : arg9.IsWhole)
    (arg10 : Memref sig .tc .vmem S20x1x512 .f32) (harg10 : arg10.IsWhole) (hc0 : ¬cond0_0 i) (hc1 : cond0_1 i)
    (x0 : Vec Ideal S1x20x128x512 .bf16) (x1 : Vec Ideal S1x768x896 .bf16) (x2 : Vec Ideal S1x10x80x768 .bf16) (x3 : Vec Ideal S4x32 .f32)
    (x4 : Vec Ideal S64x512 .f32) (xs0 : Vec Ideal S20x80x512 .f32) (xs1 : Vec Ideal S20x1x512 .f32) (y : S20x80x512.Idx) :
    sout0_C_0 c i arg3 harg3 arg4 harg4 arg5 harg5 arg6 harg6 arg7 harg7 arg8 harg8 arg9 harg9 arg10 harg10 hc0 hc1 x0 x1 x2 x3 x4 xs0 xs1 y = newAcc x0 x1 x2 (maxOf xs1) (accOf xs0) (y 0) (y 1) (y 2) := by
  unfold sout0_C_0
  rw [View.read_writes_junk_eq_canon]
  refine View.canon_apply_of_pieces (fun y : S20x80x512.Idx => newAcc x0 x1 x2 (maxOf xs1) (accOf xs0) (y 0) (y 1) (y 2)) _ ?_ y
    (scover0_C_0 c i arg3 harg3 arg4 harg4 arg5 harg5 arg6 harg6 arg7 harg7 arg8 harg8 arg9 harg9 arg10 harg10 hc0 hc1 x0 x1 x2 x3 x4 xs0 xs1 y)
  unfold kernelRun0_C
  dsimp only
  unfold kernelRun0_C.sl.HS0_20
  have key (h : Fin 20) (ks : Vec Ideal S1x768x128 .bf16) (qs : Vec Ideal S1x1x128x512 .bf16) (mo : Vec Ideal S1x1x512 .f32)
      (vs : Vec Ideal S1x1x80x768 .bf16) (ao : Vec Ideal S1x80x512 .f32) hk hq hm hv ha :=
    acc_step x0 x1 x2 (maxOf xs1) (accOf xs0) h ks qs mo vs ao hk hq hm hv ha
  refine List.forall_mem_cons.2 ⟨piece_a _ 19 (inb_a 19) _ (key 19 _ _ _ _ _ (read_k harg4 x1 19 768 (by decide) _) (read_q harg3 x0 19 _)
    (read_m harg10 xs1 19 _) (read_v harg5 x2 19 9 (by decide) _) (read_a harg9 xs0 19 _)), ?_⟩
  refine List.forall_mem_cons.2 ⟨piece_a _ 18 (inb_a 18) _ (key 18 _ _ _ _ _ (read_k harg4 x1 18 768 (by decide) _) (read_q harg3 x0 18 _)
    (read_m harg10 xs1 18 _) (read_v harg5 x2 18 9 (by decide) _) (read_a harg9 xs0 18 _)), ?_⟩
  refine List.forall_mem_cons.2 ⟨piece_a _ 17 (inb_a 17) _ (key 17 _ _ _ _ _ (read_k harg4 x1 17 768 (by decide) _) (read_q harg3 x0 17 _)
    (read_m harg10 xs1 17 _) (read_v harg5 x2 17 9 (by decide) _) (read_a harg9 xs0 17 _)), ?_⟩
  refine List.forall_mem_cons.2 ⟨piece_a _ 16 (inb_a 16) _ (key 16 _ _ _ _ _ (read_k harg4 x1 16 768 (by decide) _) (read_q harg3 x0 16 _)
    (read_m harg10 xs1 16 _) (read_v harg5 x2 16 9 (by decide) _) (read_a harg9 xs0 16 _)), ?_⟩
  refine List.forall_mem_cons.2 ⟨piece_a _ 15 (inb_a 15) _ (key 15 _ _ _ _ _ (read_k harg4 x1 15 768 (by decide) _) (read_q harg3 x0 15 _)
    (read_m harg10 xs1 15 _) (read_v harg5 x2 15 8 (by decide) _) (read_a harg9 xs0 15 _)), ?_⟩
  refine List.forall_mem_cons.2 ⟨piece_a _ 14 (inb_a 14) _ (key 14 _ _ _ _ _ (read_k harg4 x1 14 768 (by decide) _) (read_q harg3 x0 14 _)
    (read_m harg10 xs1 14 _) (read_v harg5 x2 14 8 (by decide) _) (read_a harg9 xs0 14 _)), ?_⟩
  refine List.forall_mem_cons.2 ⟨piece_a _ 13 (inb_a 13) _ (key 13 _ _ _ _ _ (read_k harg4 x1 13 768 (by decide) _) (read_q harg3 x0 13 _)
    (read_m harg10 xs1 13 _) (read_v harg5 x2 13 8 (by decide) _) (read_a harg9 xs0 13 _)), ?_⟩
  refine List.forall_mem_cons.2 ⟨piece_a _ 12 (inb_a 12) _ (key 12 _ _ _ _ _ (read_k harg4 x1 12 768 (by decide) _) (read_q harg3 x0 12 _)
    (read_m harg10 xs1 12 _) (read_v harg5 x2 12 8 (by decide) _) (read_a harg9 xs0 12 _)), ?_⟩
  refine List.forall_mem_cons.2 ⟨piece_a _ 11 (inb_a 11) _ (key 11 _ _ _ _ _ (read_k harg4 x1 11 640 (by decide) _) (read_q harg3 x0 11 _)
    (read_m harg10 xs1 11 _) (read_v harg5 x2 11 7 (by decide) _) (read_a harg9 xs0 11 _)), ?_⟩
  refine List.forall_mem_cons.2 ⟨piece_a _ 10 (inb_a 10) _ (key 10 _ _ _ _ _ (read_k harg4 x1 10 640 (by decide) _) (read_q harg3 x0 10 _)
    (read_m harg10 xs1 10 _) (read_v harg5 x2 10 7 (by decide) _) (read_a harg9 xs0 10 _)), ?_⟩
  refine List.forall_mem_cons.2 ⟨piece_a _ 9 (inb_a 9) _ (key 9 _ _ _ _ _ (read_k harg4 x1 9 640 (by decide) _) (read_q harg3 x0 9 _)
    (read_m harg10 xs1 9 _) (read_v harg5 x2 9 6 (by decide) _) (read_a harg9 xs0 9 _)), ?_⟩
  refine List.forall_mem_cons.2 ⟨piece_a _ 8 (inb_a 8) _ (fun r c => (congrFun (parts8 _ _ _ _) _).trans (key 8 _ _ _ _ _ (read_k harg4 x1 8 640 (by decide) _) (read_q harg3 x0 8 _)
    (read_m harg10 xs1 8 _) (read_v harg5 x2 8 6 (by decide) _) (read_a harg9 xs0 8 _) r c)), ?_⟩
  refine List.forall_mem_cons.2 ⟨piece_a _ 7 (inb_a 7) _ (fun r c => (congrFun (parts7 _ _ _ _) _).trans (key 7 _ _ _ _ _ (read_k harg4 x1 7 512 (by decide) _) (read_q harg3 x0 7 _)
    (read_m harg10 xs1 7 _) (read_v harg5 x2 7 5 (by decide) _) (read_a harg9 xs0 7 _) r c)), ?_⟩
  refine List.forall_mem_cons.2 ⟨piece_a _ 6 (inb_a 6) _ (fun r c => (congrFun (parts6 _ _ _ _) _).trans (key 6 _ _ _ _ _ (read_k harg4 x1 6 512 (by decide) _) (read_q harg3 x0 6 _)
    (read_m harg10 xs1 6 _) (read_v harg5 x2 6 5 (by decide) _) (read_a harg9 xs0 6 _) r c)), ?_⟩
  refine List.forall_mem_cons.2 ⟨piece_a _ 5 (inb_a 5) _ (fun r c => (congrFun (parts5 _ _ _ _) _).trans (key 5 _ _ _ _ _ (read_k harg4 x1 5 512 (by decide) _) (read_q harg3 x0 5 _)
    (read_m harg10 xs1 5 _) (read_v harg5 x2 5 4 (by decide) _) (read_a harg9 xs0 5 _) r c)), ?_⟩
  refine List.forall_mem_cons.2 ⟨piece_a _ 4 (inb_a 4) _ (fun r c => (congrFun (parts4 _ _ _ _) _).trans (key 4 _ _ _ _ _ (read_k harg4 x1 4 512 (by decide) _) (read_q harg3 x0 4 _)
    (read_m harg10 xs1 4 _) (read_v harg5 x2 4 4 (by decide) _) (read_a harg9 xs0 4 _) r c)), ?_⟩
  refine List.forall_mem_cons.2 ⟨piece_a _ 3 (inb_a 3) _ (fun r c => (congrFun (parts3 _ _ _ _) _).trans (key 3 _ _ _ _ _ (read_k harg4 x1 3 384 (by decide) _) (read_q harg3 x0 3 _)
    (read_m harg10 xs1 3 _) (read_v harg5 x2 3 3 (by decide) _) (read_a harg9 xs0 3 _) r c)), ?_⟩
  refine List.forall_mem_cons.2 ⟨piece_a _ 2 (inb_a 2) _ (fun r c => (congrFun (parts2 _ _ _ _) _).trans (key 2 _ _ _ _ _ (read_k harg4 x1 2 256 (by decide) _) (read_q harg3 x0 2 _)
    (read_m harg10 xs1 2 _) (read_v harg5 x2 2 2 (by decide) _) (read_a harg9 xs0 2 _) r c)), ?_⟩
  refine List.forall_mem_cons.2 ⟨piece_a _ 1 (inb_a 1) _ (fun r c => (congrFun (parts1 _ _ _ _) _).trans (key 1 _ _ _ _ _ (read_k harg4 x1 1 128 (by decide) _) (read_q harg3 x0 1 _)
    (read_m harg10 xs1 1 _) (read_v harg5 x2 1 1 (by decide) _) (read_a harg9 xs0 1 _) r c)), ?_⟩
  refine List.forall_mem_cons.2 ⟨piece_a _ 0 (inb_a 0) _ (fun r c => (congrFun (parts0 _ _ _ _ _) _).trans (key 0 _ _ _ _ _ (read_k harg4 x1 0 0 (by decide) _) (read_q harg3 x0 0 _)
    (read_m harg10 xs1 0 _) (read_v harg5 x2 0 0 (by decide) _) (read_a harg9 xs0 0 _) r c)), ?_⟩
  exact fun _ h => absurd h List.not_mem_nil

end Cert.KernelIdeal.Step

end
-- ==== Proof.AttnStore.lean ====
/- What the last key block stores in the output block: the sixteen groups of rows, from the weighted sums it has just finished. -/
module

public import proofs.«01_k».proof.Proof.AttnOutput
public import proofs.«01_k».proof.Proof.AttnLast

@[expose] public section

set_option maxRecDepth 16384

noncomputable section

open scoped BigOperators
open Idealize.ShloMosaic

namespace Cert.KernelIdeal.Step

open Cert.KernelIdeal Cert.KernelIdeal.Gen

/-- The finished weighted sums, read back from the list of stores. -/
theorem read_done (c : Dev nD) (i : grid0.Coords) (arg3 : Memref sig .tc .vmem S1x20x128x512 .bf16) (harg3 : arg3.IsWhole)
    (arg4 : Memref sig .tc .vmem S1x768x896 .bf16) (harg4 : arg4.IsWhole) (arg5 : Memref sig .tc .vmem S1x10x80x768 .bf16) (harg5 : arg5.IsWhole)
    (arg6 : Memref sig .tc .vmem S4x32 .f32) (harg6 : arg6.IsWhole) (arg7 : Memref sig .tc .vmem S64x512 .f32) (harg7 : arg7.IsWhole)
    (arg8 : Memref sig .tc .vmem S1x1024x512 .bf16) (harg8 : arg8.IsWhole) (arg9 : Memref sig .tc .vmem S20x80x512 .f32) (harg9 : arg9.IsWhole)
    (arg10 : Memref sig .tc .vmem S20x1x512 .f32) (harg10 : arg10.IsWhole) (hc0 : ¬cond0_0 i) (hc1 : cond0_1 i)
    (x0 : Vec Ideal S1x20x128x512 .bf16) (x1 : Vec Ideal S1x768x896 .bf16) (x2 : Vec Ideal S1x10x80x768 .bf16) (x3 : Vec Ideal S4x32 .f32)
    (x4 : Vec Ideal S64x512 .f32) (xs0 : Vec Ideal S20x80x512 .f32) (xs1 : Vec Ideal S20x1x512 .f32) (h : Fin 20) (r : Fin 80) (d : Fin 512) :
    arg9.view.readCov (kernelRun0_C.sl.HS0_20 c arg3 harg3 arg4 harg4 arg5 harg5 arg9 harg9 arg10 harg10 x0 x1 x2 xs0 xs1)
        (Rect.unit (s := S20x80x512) ![h.val, 0, 0] S1x80x512.size (inb_a h)).toLoadRect (ix3 0 r d)
      = newAcc x0 x1 x2 (maxOf xs1) (accOf xs0) h r d := by
  refine (cov_a _ h (inb_a h) r d).trans ?_
  have e := sout_C_a c i arg3 harg3 arg4 harg4 arg5 harg5 arg6 harg6 arg7 harg7 arg8 harg8 arg9 harg9 arg10 harg10 hc0 hc1 x0 x1 x2 x3 x4 xs0 xs1 (ix3 h r d)
  unfold sout0_C_0 at e
  rw [View.read_writes_junk_eq_canon] at e
  exact e

/-- The output block of the last key block. -/
theorem out_C (c : Dev nD) (i : grid0.Coords) (arg3 : Memref sig .tc .vmem S1x20x128x512 .bf16) (harg3 : arg3.IsWhole)
    (arg4 : Memref sig .tc .vmem S1x768x896 .bf16) (harg4 : arg4.IsWhole) (arg5 : Memref sig .tc .vmem S1x10x80x768 .bf16) (harg5 : arg5.IsWhole)
    (arg6 : Memref sig .tc .vmem S4x32 .f32) (harg6 : arg6.IsWhole) (arg7 : Memref sig .tc .vmem S64x512 .f32) (harg7 : arg7.IsWhole)
    (arg8 : Memref sig .tc .vmem S1x1024x512 .bf16) (harg8 : arg8.IsWhole) (arg9 : Memref sig .tc .vmem S20x80x512 .f32) (harg9 : arg9.IsWhole)
    (arg10 : Memref sig .tc .vmem S20x1x512 .f32) (harg10 : arg10.IsWhole) (hc0 : ¬cond0_0 i) (hc1 : cond0_1 i)
    (x0 : Vec Ideal S1x20x128x512 .bf16) (x1 : Vec Ideal S1x768x896 .bf16) (x2 : Vec Ideal S1x10x80x768 .bf16) (x3 : Vec Ideal S4x32 .f32)
    (x4 : Vec Ideal S64x512 .f32) (xs0 : Vec Ideal S20x80x512 .f32) (xs1 : Vec Ideal S20x1x512 .f32) (y : S1x1024x512.Idx) :
    out0_C_5 c i arg3 harg3 arg4 harg4 arg5 harg5 arg6 harg6 arg7 harg7 arg8 harg8 arg9 harg9 arg10 harg10 hc0 hc1 x0 x1 x2 x3 x4 xs0 xs1 y
      = outRow (newAcc x0 x1 x2 (maxOf xs1) (accOf xs0)) x3 x4 ⟨(y 1).val / 64, by have : (y 1).val < 1024 := (y 1).isLt; omega⟩
        ⟨(y 1).val % 64, by omega⟩ (y 2) := by
  have rd := read_done c i arg3 harg3 arg4 harg4 arg5 harg5 arg6 harg6 arg7 harg7 arg8 harg8 arg9 harg9 arg10 harg10 hc0 hc1 x0 x1 x2 x3 x4 xs0 xs1
  have key (h : Fin 20) (x : Vec Ideal S1x80x512 .f32) := plainVec_eq (newAcc x0 x1 x2 (maxOf xs1) (accOf xs0)) x h
  have key2 (x y : Vec Ideal S1x80x512 .f32) (h h' : Fin 20) := pair_step (newAcc x0 x1 x2 (maxOf xs1) (accOf xs0)) x3 x4 x y h h' _ _
    (read_l harg6 x3 (by decide)) (read_g harg7 x4 (by decide))
  generalize hA : newAcc x0 x1 x2 (maxOf xs1) (accOf xs0) = A at rd key key2 ⊢
  unfold out0_C_5
  rw [View.read_writes_junk_eq_canon]
  refine View.canon_apply_of_pieces (fun y : S1x1024x512.Idx => outRow A x3 x4 ⟨(y 1).val / 64, by have : (y 1).val < 1024 := (y 1).isLt; omega⟩
        ⟨(y 1).val % 64, by omega⟩ (y 2)) _ ?_ y (cover0_C_5 c i arg3 harg3 arg4 harg4 arg5 harg5 arg6 harg6 arg7 harg7 arg8 harg8 arg9 harg9 arg10 harg10 hc0 hc1 x0 x1 x2 x3 x4 xs0 xs1 y)
  unfold kernelRun0_C
  dsimp only
  refine List.forall_mem_cons.2 ⟨piece_o (outRow A x3 x4) 15 960 rfl (by decide) _ (key 19 _ (rd 19)), ?_⟩
  refine List.forall_mem_cons.2 ⟨piece_o (outRow A x3 x4) 14 896 rfl (by decide) _ (key 18 _ (rd 18)), ?_⟩
  refine List.forall_mem_cons.2 ⟨piece_o (outRow A x3 x4) 13 832 rfl (by decide) _ (key 17 _ (rd 17)), ?_⟩
  refine List.forall_mem_cons.2 ⟨piece_o (outRow A x3 x4) 12 768 rfl (by decide) _ (fun r d => (congrFun (parts_plain16 _) _).trans (key 16 _ (rd 16) r d)), ?_⟩
  refine List.forall_mem_cons.2 ⟨piece_o (outRow A x3 x4) 11 704 rfl (by decide) _ (key 15 _ (rd 15)), ?_⟩
  refine List.forall_mem_cons.2 ⟨piece_o (outRow A x3 x4) 10 640 rfl (by decide) _ (key 14 _ (rd 14)), ?_⟩
  refine List.forall_mem_cons.2 ⟨piece_o (outRow A x3 x4) 9 576 rfl (by decide) _ (fun r d => (congrFun (parts_plain13 _) _).trans (key 13 _ (rd 13) r d)), ?_⟩
  refine List.forall_mem_cons.2 ⟨piece_o (outRow A x3 x4) 8 512 rfl (by decide) _ (key 12 _ (rd 12)), ?_⟩
  refine List.forall_mem_cons.2 ⟨piece_o (outRow A x3 x4) 7 448 rfl (by decide) _ (fun r d => (congrFun (parts_pair3 _ _ _ _) _).trans (key2 _ _ 10 11 (rd 10) (rd 11) r d)), ?_⟩
  refine List.forall_mem_cons.2 ⟨piece_o (outRow A x3 x4) 6 384 rfl (by decide) _ (key2 _ _ 8 9 (rd 8) (rd 9)), ?_⟩
  refine List.forall_mem_cons.2 ⟨piece_o (outRow A x3 x4) 5 320 rfl (by decide) _ (fun r d => (congrFun (parts_pair1 _ _ _ _) _).trans (key2 _ _ 6 7 (rd 6) (rd 7) r d)), ?_⟩
  refine List.forall_mem_cons.2 ⟨piece_o (outRow A x3 x4) 4 256 rfl (by decide) _ (fun r d => (congrFun (parts_pair0 _ _ _ _) _).trans (key2 _ _ 4 5 (rd 4) (rd 5) r d)), ?_⟩
  refine List.forall_mem_cons.2 ⟨piece_o (outRow A x3 x4) 3 192 rfl (by decide) _ (fun r d => (congrFun (parts_plain3 _) _).trans (key 3 _ (rd 3) r d)), ?_⟩
  refine List.forall_mem_cons.2 ⟨piece_o (outRow A x3 x4) 2 128 rfl (by decide) _ (key 2 _ (rd 2)), ?_⟩
  refine List.forall_mem_cons.2 ⟨piece_o (outRow A x3 x4) 1 64 rfl (by decide) _ (key 1 _ (rd 1)), ?_⟩
  refine List.forall_mem_cons.2 ⟨piece_o (outRow A x3 x4) 0 0 rfl (by decide) _ (key 0 _ (rd 0)), ?_⟩
  exact fun _ h => absurd h List.not_mem_nil

end Cert.KernelIdeal.Step

end
-- ==== Proof.AttnSoftmax.lean ====
/- The online softmax over blocks of keys, as plain mathematics: with real scores and arbitrary values, the running maximum is the
   maximum so far and the running sums are the weighted sums so far, taken relative to it; and the quotient of two such sums is the
   softmax average, to either base. -/
module

public import Idealize.ShloMosaic.Lib.Pointwise

@[expose] public section

noncomputable section

open scoped BigOperators
open Idealize.ShloMosaic

namespace Cert.Softmax

/-- `2 ^ x` for a real `x`, as an extended real. -/
theorem exp2_real (x : ℝ) : Ideal.exp2 (x : EReal) = (((2 : ℝ) ^ x : ℝ) : EReal) := rfl

/-- A factor that is a nonnegative real goes inside a sum of extended reals. -/
theorem sum_mul_real {ι : Type} (S : Finset ι) (f : ι → EReal) (a : ℝ) (ha : 0 ≤ a) : (∑ i ∈ S, f i) * (a : EReal) = ∑ i ∈ S, f i * a := by
  classical
  induction S using Finset.induction_on with
  | empty => simp
  | insert i S hi ih =>
    rw [Finset.sum_insert hi, Finset.sum_insert hi, ← ih]
    exact EReal.right_distrib_of_nonneg_of_ne_top (EReal.coe_nonneg.2 ha) (EReal.coe_ne_top a) _ _

/-- The maximum of real scores is real, as soon as there is one. -/
theorem fold_max_real {ι : Type} (S : Finset ι) (hS : S.Nonempty) (s : ι → ℝ) :
    ∃ M : ℝ, S.fold max ⊥ (fun i => (s i : EReal)) = M := by
  classical
  induction hS using Finset.Nonempty.cons_induction with
  | singleton i => exact ⟨s i, by simp⟩
  | cons i S hi hS ih =>
    obtain ⟨M, hM⟩ := ih
    refine ⟨max (s i) M, ?_⟩
    rw [Finset.fold_cons, hM]
    exact (EReal.coe_strictMono.monotone.map_max).symm

variable {n : ℕ} (s : ℕ → Fin n → ℝ) (v : ℕ → Fin n → EReal)

/-- The running maximum after `j` blocks. -/
def runMax : ℕ → EReal
  | 0 => ⊥
  | j + 1 => max (runMax j) (Finset.univ.fold max ⊥ fun i => (s j i : EReal))

/-- The running weighted sum after `j` blocks. -/
def runSum : ℕ → EReal
  | 0 => 0
  | j + 1 => runSum j * Ideal.exp2 (runMax s j - runMax s (j + 1))
      + ∑ i : Fin n, v j i * Ideal.exp2 ((s j i : EReal) - runMax s (j + 1))

theorem runMax_real [NeZero n] (j : ℕ) : ∃ M : ℝ, runMax s (j + 1) = M := by
  induction j with
  | zero =>
    obtain ⟨M, hM⟩ := fold_max_real Finset.univ ⟨0, Finset.mem_univ _⟩ (s 0)
    exact ⟨M, by rw [runMax, hM, runMax]; simp⟩
  | succ j ih =>
    obtain ⟨M, hM⟩ := ih
    obtain ⟨M', hM'⟩ := fold_max_real Finset.univ ⟨(0 : Fin n), Finset.mem_univ _⟩ (s (j + 1))
    exact ⟨max M M', by rw [runMax, hM', hM]; exact (EReal.coe_strictMono.monotone.map_max).symm⟩

/-- After a block, the running sum is the sum of the values so far, each weighted by `2 ^ (score - maximum)`. -/
theorem runSum_eq [NeZero n] (j : ℕ) :
    runSum s v (j + 1) = ∑ b ∈ Finset.range (j + 1), ∑ i : Fin n, v b i * Ideal.exp2 ((s b i : EReal) - runMax s (j + 1)) := by
  induction j with
  | zero => rw [runSum, runSum, zero_mul, zero_add, Finset.sum_range_one]
  | succ j ih =>
    rw [runSum, ih, Finset.sum_range_succ _ (j + 1)]
    congr 1
    obtain ⟨M, hM⟩ := runMax_real s j
    obtain ⟨M', hM'⟩ := runMax_real s (j + 1)
    rw [hM, hM', ← EReal.coe_sub, exp2_real, sum_mul_real _ _ _ (Real.rpow_nonneg (by norm_num) _)]
    refine Finset.sum_congr rfl fun b _ => ?_
    rw [sum_mul_real _ _ _ (Real.rpow_nonneg (by norm_num) _)]
    refine Finset.sum_congr rfl fun i _ => ?_
    rw [mul_assoc, ← EReal.coe_sub, ← EReal.coe_sub, exp2_real, exp2_real, ← EReal.coe_mul, ← Real.rpow_add (by norm_num)]
    rw [show s b i - M + (M - M') = s b i - M' by ring]

/-- A sum of real numbers, as an extended real. -/
theorem sum_real {ι : Type} (S : Finset ι) (f : ι → ℝ) : (∑ i ∈ S, (f i : EReal)) = ((∑ i ∈ S, f i : ℝ) : EReal) := by
  classical
  induction S using Finset.induction_on with
  | empty => simp
  | insert i S hi ih => rw [Finset.sum_insert hi, Finset.sum_insert hi, ih, EReal.coe_add]

/-- The quotient of the two sums is the softmax average, whichever real the scores are taken relative to on either side, and with the
    exponential to the base e of the scores times `log 2` for the power of two. -/
theorem average {ι : Type} [Fintype ι] [Nonempty ι] (s : ι → ℝ) (v : ι → EReal) (M M' : ℝ) :
    Ideal.div (∑ i, v i * Ideal.exp2 ((s i : EReal) - M)) (∑ i, Ideal.exp2 ((s i : EReal) - M))
      = ∑ i, Ideal.div (Ideal.exp ((s i : EReal) * (Real.log 2 : ℝ) - M')) (∑ j, Ideal.exp ((s j : EReal) * (Real.log 2 : ℝ) - M')) * v i := by
  have h2 (i : ι) : Ideal.exp2 ((s i : EReal) - M) = (((2 : ℝ) ^ (s i - M) : ℝ) : EReal) := by
    rw [← EReal.coe_sub, exp2_real]
  have he (i : ι) : Ideal.exp ((s i : EReal) * (Real.log 2 : ℝ) - M')
      = (((2 : ℝ) ^ (s i - M) * ((2 : ℝ) ^ M * Real.exp (-M')) : ℝ) : EReal) := by
    rw [← EReal.coe_mul, ← EReal.coe_sub, ← mul_assoc, ← Real.rpow_add (by norm_num), sub_add_cancel,
      Real.rpow_def_of_pos (by norm_num), ← Real.exp_add, mul_comm (s i), sub_eq_add_neg]
    rfl
  simp only [h2, he, sum_real, ← Finset.sum_mul]
  have hw (i : ι) : (0 : ℝ) < (2 : ℝ) ^ (s i - M) := Real.rpow_pos_of_pos (by norm_num) _
  have hZ : (0 : ℝ) < ∑ i, (2 : ℝ) ^ (s i - M) := Finset.sum_pos (fun i _ => hw i) Finset.univ_nonempty
  have hc : (0 : ℝ) < (2 : ℝ) ^ M * Real.exp (-M') := mul_pos (Real.rpow_pos_of_pos (by norm_num) _) (Real.exp_pos _)
  generalize (2 : ℝ) ^ M * Real.exp (-M') = k at hc ⊢
  generalize (∑ i, (2 : ℝ) ^ (s i - M)) = Z at hZ ⊢
  have hd (x : EReal) (y : ℝ) (hy : 0 < y) : Ideal.div x (y : EReal) = x * ((y⁻¹ : ℝ) : EReal) := by
    rw [Ideal.div, if_neg (by exact_mod_cast hy.ne'), EReal.coe_inv]
  rw [hd _ _ hZ, sum_mul_real _ _ _ (inv_nonneg.2 hZ.le)]
  refine Finset.sum_congr rfl fun i _ => ?_
  rw [hd _ _ (mul_pos hZ hc), ← EReal.coe_mul, mul_assoc, ← EReal.coe_mul, mul_comm]
  congr 2
  field_simp

end Cert.Softmax

end
-- ==== Proof.AttnArray.lean ====
/- What the attention kernel's result array holds after the run, in the columns that it writes: the sixteen groups of
   rows made of the running weighted sums after all eleven key blocks. -/
module

public import proofs.«01_k».proof.Proof.AttnReads2
public import Idealize.ShloMosaic.Lib.Pipeline.ValueKit
public import proofs.«01_k».proof.Proof.AttnFirst
public import proofs.«01_k».proof.Proof.AttnMiddle
public import proofs.«01_k».proof.Proof.AttnStore
public import proofs.«01_k».proof.Proof.AttnSoftmax

@[expose] public section

set_option maxRecDepth 16384

noncomputable section

open scoped BigOperators
open Idealize.ShloMosaic Idealize.ShloMosaic.TcCoe

namespace Cert.KernelIdeal.Array

open Cert.KernelIdeal Cert.KernelIdeal.Gen Cert.KernelIdeal.Step Cert.Softmax

variable (m : (ℓ : Loc nD τ sig) → Buf (Elt Ideal) ℓ) (c : Dev nD) (S : Fin 2 → Fin 20 → Fin 8448 → Fin 8448 → ℝ)

/-- The score of key `t` in query column `x` of head `h`, from the queries and the keys. -/
def scoreAt (q : Vec Ideal S2x20x128x8448 .bf16) (k : Vec Ideal S2x8448x896 .bf16) (b : Fin 2) (h : Fin 20) (t x : Fin 8448) : EReal :=
  ∑ d : Fin 128, k (ix3 b t ⟨128 * (slab h).val + d.val, by have := (slab h).isLt; omega⟩) * q (ix4 b h d x)

/-- The scores of a query column, block by block of keys. -/
abbrev blockScores (b : Fin 2) (h : Fin 20) (x : Fin 8448) : ℕ → Fin 768 → ℝ := fun j i => S b h (key j i) x

/-- The values of a row of a head, block by block of keys. -/
abbrev blockValues (b : Fin 2) (h : Fin 20) (r : Fin 80) : ℕ → Fin 768 → EReal :=
  fun j i => m ((c : Thread nD τ).loc main_arg2) (ix4 b (vhead h) r (key j i))

variable (hS : ∀ b h t x, scoreAt (m ((c : Thread nD τ).loc main_arg0)) (m ((c : Thread nD τ).loc main_arg1)) b h t x = ((S b h t x : ℝ) : EReal))

include hS in
theorem score_eq (b : Fin 2) (s : Fin 16) (n : Fin 11) (h : Fin 20) (i : Fin 768) (x : Fin 512) :
    score (X0_0 m c (pt b s n)) (iblk m c 1 (pt b s n)) h i x = ((blockScores S b h (col s x) n i : ℝ) : EReal) := by
  rw [← hS]
  unfold score scoreAt
  refine Finset.sum_congr rfl fun d _ => ?_
  exact congrArg₂ (· * ·) (block1 m c b s n i _) (block0 m c b s n h d x)

include hS in
/-- One more key block takes the running maxima one step further. -/
theorem newMax_eq (b : Fin 2) (s : Fin 16) (n : Fin 11) (M : Fin 20 → Fin 512 → EReal)
    (hM : ∀ h x, M h x = runMax (blockScores S b h (col s x)) n) (h : Fin 20) (x : Fin 512) :
    newMax (X0_0 m c (pt b s n)) (iblk m c 1 (pt b s n)) M h x = runMax (blockScores S b h (col s x)) (n + 1) := by
  unfold newMax
  rw [runMax, hM]
  simp only [score_eq m c S hS]

include hS in
/-- One more key block takes the running weighted sums one step further. -/
theorem newAcc_eq (b : Fin 2) (s : Fin 16) (n : Fin 11) (M : Fin 20 → Fin 512 → EReal) (A : Fin 20 → Fin 80 → Fin 512 → EReal)
    (hM : ∀ h x, M h x = runMax (blockScores S b h (col s x)) n)
    (hA : ∀ h r x, A h r x = runSum (blockScores S b h (col s x)) (blockValues m c b h r) n) (h : Fin 20) (r : Fin 80) (x : Fin 512) :
    newAcc (X0_0 m c (pt b s n)) (iblk m c 1 (pt b s n)) (iblk m c 2 (pt b s n)) M A h r x
      = runSum (blockScores S b h (col s x)) (blockValues m c b h r) (n + 1) := by
  unfold newAcc
  rw [runSum, newMax_eq m c S hS b s n M hM, hM, hA]
  refine congrArg (_ + ·) (Finset.sum_congr rfl fun i _ => ?_)
  rw [score_eq m c S hS]
  exact congrArg (· * _) (block2 m c b s n (vhead h) r i)

theorem outsAt_congr (t t' : ℕ) (e : t = t') (ht : t < cfg0.N) (ht' : t' < cfg0.N) : outsAt0 m c t ht = outsAt0 m c t' ht' := by
  subst e; rfl

include hS in
/-- What the two scratch arrays hold after key block `n`, short of the last. -/
theorem scratch (b : Fin 2) (s : Fin 16) (n : ℕ) (hn : n < 10) :
    (∀ h x, maxOf (outsAt0 m c (pt b s ⟨n, by omega⟩).val (pt b s ⟨n, by omega⟩).isLt).2.2 h x
        = runMax (blockScores S b h (col s x)) (n + 1))
    ∧ ∀ h r x, accOf (outsAt0 m c (pt b s ⟨n, by omega⟩).val (pt b s ⟨n, by omega⟩).isLt).2.1 h r x
        = runSum (blockScores S b h (col s x)) (blockValues m c b h r) (n + 1) := by
  induction n with
  | zero =>
    have h0 : (pt b s ⟨0, by omega⟩).val % 11 = 0 := pt_mod b s ⟨0, by omega⟩
    have h1 : ¬(pt b s ⟨0, by omega⟩).val % 11 = 10 := by rw [h0]; decide
    have hM : ∀ (h : Fin 20) (x : Fin 512), startM h x = runMax (blockScores S b h (col s x)) (⟨0, by omega⟩ : Fin 11).val :=
      fun _ _ => rfl
    have hA : ∀ (h : Fin 20) (r : Fin 80) (x : Fin 512),
        startA h r x = runSum (blockScores S b h (col s x)) (blockValues m c b h r) (⟨0, by omega⟩ : Fin 11).val := fun _ _ _ => rfl
    rw [outsAt0_A m c (pt b s ⟨0, by omega⟩) h0 h1]
    dsimp only
    constructor
    · intro h x
      exact (sout_A_m c _ _ _ _ _ _ _ _ _ _ _ _ _ _ _ _ _ _ _ _ _ _ _ _ (ix3 h 0 x)).trans (newMax_eq m c S hS b s ⟨0, by omega⟩ startM hM h x)
    · intro h r x
      exact (sout_A_a c _ _ _ _ _ _ _ _ _ _ _ _ _ _ _ _ _ _ _ _ _ _ _ _ (ix3 h r x)).trans
        (newAcc_eq m c S hS b s ⟨0, by omega⟩ startM startA hM hA h r x)
  | succ n ih =>
    obtain ⟨ihM, ihA⟩ := ih (by omega)
    have hm : (pt b s ⟨n + 1, by omega⟩).val % 11 = n + 1 := pt_mod b s ⟨n + 1, by omega⟩
    have h0 : ¬(pt b s ⟨n + 1, by omega⟩).val % 11 = 0 := by rw [hm]; omega
    have h1 : ¬(pt b s ⟨n + 1, by omega⟩).val % 11 = 10 := by rw [hm]; omega
    rw [outsAt0_B m c (pt b s ⟨n + 1, by omega⟩) h0 h1]
    dsimp only
    rw [outsAt_congr m c _ (pt b s ⟨n, by omega⟩).val (show b.val * 176 + s.val * 11 + (n + 1) - 1 = b.val * 176 + s.val * 11 + n by omega) _
      (pt b s ⟨n, by omega⟩).isLt]
    constructor
    · intro h x
      exact (sout_B_m c _ _ _ _ _ _ _ _ _ _ _ _ _ _ _ _ _ _ _ _ _ _ _ _ _ _ (ix3 h 0 x)).trans
        (newMax_eq m c S hS b s ⟨n + 1, by omega⟩ _ ihM h x)
    · intro h r x
      exact (sout_B_a c _ _ _ _ _ _ _ _ _ _ _ _ _ _ _ _ _ _ _ _ _ _ _ _ _ _ (ix3 h r x)).trans
        (newAcc_eq m c S hS b s ⟨n + 1, by omega⟩ _ _ ihM ihA h r x)

include hS in
/-- The weighted sums at the last key block, over what the scratch arrays hold before it. -/
theorem last_sums (b : Fin 2) (s : Fin 16) (t : ℕ) (e : t = (pt b s 9).val) (ht : t < cfg0.N) :
    newAcc (X0_0 m c (pt b s 10)) (iblk m c 1 (pt b s 10)) (iblk m c 2 (pt b s 10)) (maxOf (outsAt0 m c t ht).2.2) (accOf (outsAt0 m c t ht).2.1)
      = fun h r x => runSum (blockScores S b h (col s x)) (blockValues m c b h r) 11 := by
  subst e
  obtain ⟨hM, hA⟩ := scratch m c S hS b s 9 (by decide)
  funext h r x
  exact newAcc_eq m c S hS b s 10 _ _ hM hA h r x

theorem lam_rows (t : Fin cfg0.N) : iblk m c 3 t = V m c main_v4 := by
  funext y; rw [eq_ix2 y]; exact block3 m c t _ _

theorem gain_rows (t : Fin cfg0.N) : iblk m c 4 t = V m c main_v6 := by
  funext y; rw [eq_ix2 y]; exact block4 m c t _ _

/-- The result array's block at query block `s` is what the last key block's step leaves. -/
theorem block_written (b : Fin 2) (s : Fin 16) (i : Fin 1024) (x : Fin 512) :
    (dats m 0 c).arrAt 5 cfg0.N (ix3 b i (col s x)) = (dats m 0 c).flushed 5 (pt b s 10) (inBlock (pt b s 10) (ix3 0 i x)) := by
  have e := (dats m 0 c).arrAt_emb_eq_flushed 5 (Pipeline.Window.hdisj_of_index_inj _ flush_inj) (pt b s 10)
    ((flush0_5 _).mpr (pt_mod b s 10)) (inBlock (pt b s 10) (ix3 0 i x))
  rw [emb5] at e
  exact e

include hS in
theorem written (b : Fin 2) (s : Fin 16) (i : Fin 1024) (x : Fin 512) :
    (dats m 0 c).flushed 5 (pt b s 10) (inBlock (pt b s 10) (ix3 0 i x))
      = outRow (fun h r x => runSum (blockScores S b h (col s x)) (blockValues m c b h r) 11)
          (V m c main_v4) (V m c main_v6) ⟨i / 64, by omega⟩ ⟨i % 64, by omega⟩ x := by
  have hm : (pt b s 10).val % 11 = 10 := pt_mod b s 10
  have h0 : ¬(pt b s 10).val % 11 = 0 := by rw [hm]; decide
  rw [Value.flushed5_C m c _ h0 hm]
  refine (out_C c _ _ _ _ _ _ _ _ _ _ _ _ _ _ _ _ _ _ _ _ _ _ _ _ _ _ (ix3 0 i x)).trans ?_
  have e9 : (pt b s 10).val - 1 = (pt b s 9).val := (show b.val * 176 + s.val * 11 + 10 - 1 = b.val * 176 + s.val * 11 + 9 by omega)
  rw [last_sums m c S hS b s _ e9, lam_rows, gain_rows]
  rfl

include hS in
/-- The result array after the run, in row `i` and column `x` of query block `s`. -/
theorem final_block (b : Fin 2) (s : Fin 16) (i : Fin 1024) (x : Fin 512) :
    (dats m 0 c).arrAt 5 cfg0.N (ix3 b i (col s x))
      = outRow (fun h r x => runSum (blockScores S b h (col s x)) (blockValues m c b h r) 11)
          (V m c main_v4) (V m c main_v6) ⟨i / 64, by omega⟩ ⟨i % 64, by omega⟩ x :=
  (block_written m c b s i x).trans (written m c S hS b s i x)

end Cert.KernelIdeal.Array

end
-- ==== Proof.AttnInputs.lean ====
/- What the stated condition on the inputs of the attention says of them: real queries and keys, and ones in row 64 of
   every value head. -/
module

public import proofs.«01_k».proof.Proof.AttnArray
public import proofs.«01_k».proof.Proof.Gen.Pre_finite_scores_unit_row
public import Idealize.ShloMosaic.Lib.ReduceAll

@[expose] public section

set_option maxRecDepth 16384

noncomputable section

open scoped BigOperators
open Idealize.ShloMosaic

namespace Cert.AttnInputs

open Cert.Pre_finite_scores_unit_row

theorem top_f32 : Ideal.ofBits .f32 0x7F800000#32 = ⊤ := by
  simp [Ideal.ofBits, Ideal.ieee]

theorem one_f32 : Ideal.ofBits .f32 0x3F800000#32 = 1 := Ideal.ofBits_one_f32

/-- An extended real whose absolute value is below `⊤` is a real. -/
theorem real_of_abs_lt (x : EReal) (h : max x (-x) < ⊤) : ∃ r : ℝ, x = r := by
  induction x using EReal.rec with
  | bot => simp at h
  | coe r => exact ⟨r, rfl⟩
  | top => simp at h

theorem real_of_cmp (x : EReal) (h : Ideal.cmp .olt (max x (-x)) (Ideal.ofBits .f32 0x7F800000#32) = 1#1) : ∃ r : ℝ, x = r := by
  rw [top_f32] at h
  refine real_of_abs_lt x ?_
  by_contra hn
  rw [Ideal.cmp, decide_eq_false hn] at h
  exact absurd h (by decide)

theorem one_of_cmp (x : EReal) (h : Ideal.cmp .oeq x (Ideal.ofBits .f32 0x3F800000#32) = 1#1) : x = 1 := by
  rw [one_f32] at h
  by_contra hn
  rw [Ideal.cmp, decide_eq_false hn] at h
  exact absurd h (by decide)

variable (x0 : Vec Ideal S2x20x128x8448 .bf16) (x1 : Vec Ideal S2x8448x896 .bf16) (x2 : Vec Ideal S2x10x80x8448 .bf16)
  (x3 x4 x5 x6 : Vec Ideal S32 .f32) (x7 : Vec Ideal S64 .f32)
  (hp : fn (F := Ideal) x0 x1 x2 x3 x4 x5 x6 x7 = fun _ => 1#1)

include hp in
theorem queries_real (i : S2x20x128x8448.Idx) : ∃ r : ℝ, x0 i = r := by
  have e := congrFun hp ix0
  obtain ⟨e1, _⟩ := IntOp.andi_eq_one.1 e
  obtain ⟨e2, _⟩ := IntOp.andi_eq_one.1 e1
  exact real_of_cmp _ (Host.reduce_andi_all _ _ _ _ _ e2 i)

include hp in
theorem keys_real (i : S2x8448x896.Idx) : ∃ r : ℝ, x1 i = r := by
  have e := congrFun hp ix0
  obtain ⟨e1, _⟩ := IntOp.andi_eq_one.1 e
  obtain ⟨_, e2⟩ := IntOp.andi_eq_one.1 e1
  exact real_of_cmp _ (Host.reduce_andi_all _ _ _ _ _ e2 i)

include hp in
theorem unit_row (b : Fin 2) (h : Fin 10) (t : Fin 8448) : x2 (ix4 b h 64 t) = 1 := by
  have e := congrFun hp ix0
  obtain ⟨_, e1⟩ := IntOp.andi_eq_one.1 e
  have e2 := Host.reduce_andi_all _ _ _ _ _ e1 (ix3 b h t)
  rw [← one_of_cmp _ e2]
  show _ = shapeCast S2x10x8448 (extractStridedSlice S2x10x1x8448 ![0, 0, 64, 0] x2 Facts.slices_S2x10x80x8448_S2x10x1x8448_0_0_64_0)
    Facts.shapeCasts_S2x10x1x8448_S2x10x8448 (ix3 b h t)
  pointwise

include hp in
/-- Every score is a real. -/
theorem scores_real : ∃ S : Fin 2 → Fin 20 → Fin 8448 → Fin 8448 → ℝ,
    ∀ b h t x, Cert.KernelIdeal.Array.scoreAt x0 x1 b h t x = ((S b h t x : ℝ) : EReal) := by
  choose q hq using queries_real x0 x1 x2 x3 x4 x5 x6 x7 hp
  choose k hk using keys_real x0 x1 x2 x3 x4 x5 x6 x7 hp
  refine ⟨fun b h t x => ∑ d : Fin 128, k (ix3 b t ⟨128 * (Cert.KernelIdeal.Step.slab h).val + d.val, by
    have := (Cert.KernelIdeal.Step.slab h).isLt; omega⟩) * q (ix4 b h d x), fun b h t x => ?_⟩
  rw [← Cert.Softmax.sum_real]
  unfold Cert.KernelIdeal.Array.scoreAt
  refine Finset.sum_congr rfl fun d _ => ?_
  rw [EReal.coe_mul, ← hk, ← hq]

end Cert.AttnInputs

end
-- ==== Proof.AttnRefSoftmax.lean ====
/- The stages of the plain attention program up to the heads: scores, weights and their averages of the values. -/
module

public import proofs.«01_k».proof.Proof.AttnOutput
public import proofs.«01_k».proof.Proof.Gen.ReferenceIdeal.Read

@[expose] public section

set_option maxRecDepth 16384

noncomputable section

open scoped BigOperators
open Idealize.ShloMosaic

namespace Cert.ReferenceIdeal.Rows

open Cert.ReferenceIdeal Cert.ReferenceIdeal.Read

variable (x0 : Vec Ideal S2x20x128x8448 .bf16) (x1 : Vec Ideal S2x8448x896 .bf16) (x2 : Vec Ideal S2x10x80x8448 .bf16)
  (x3 x4 x5 x6 : Vec Ideal S32 .f32) (x7 : Vec Ideal S64 .f32)

/-- The score that the reference gives query column `c` and key `t` in head `h`, before its factor. -/
def refScore (b : Fin 2) (h : Fin 20) (c t : Fin 8448) : EReal :=
  ∑ d : Fin 128, x0 (ix4 b h d c) * x1 (ix3 b t ⟨128 * (Cert.KernelIdeal.Step.slab h).val + d, by omega⟩)

theorem slab_val : ∀ h : Fin 20, (Cert.KernelIdeal.Step.slab h).val
    = if h.val < 4 then h.val else if h.val - 4 < 8 then 4 + (h.val - 4) / 4 else 6 := by decide

theorem vhead_val : ∀ h : Fin 20, (Cert.KernelIdeal.Step.vhead h).val
    = if h.val < 4 then h.val else if h.val - 4 < 8 then 4 + (h.val - 4) / 2 else 8 + (h.val - 4 - 8) / 4 := by decide

theorem v3_apply (b : Fin 2) (h : Fin 7) (t : Fin 8448) (d : Fin 128) :
    val_main_v3 (F := Ideal) x1 (ix4 b h t d) = x1 (ix3 b t ⟨h * 128 + d, by omega⟩) := by
  pointwise [val_main_v3, val_main_v2, val_main_v1]

theorem v10_apply (b : Fin 2) (j : Fin 8) (t : Fin 8448) (d : Fin 128) :
    val_main_v10 (F := Ideal) x1 (ix4 b j t d) = x1 (ix3 b t ⟨(4 + j / 4) * 128 + d, by omega⟩) := by
  pointwise [val_main_v10, val_main_v9, val_main_v8, val_main_v7, val_main_v3, val_main_v2, val_main_v1]

theorem v14_apply (b : Fin 2) (j : Fin 8) (t : Fin 8448) (d : Fin 128) :
    val_main_v14 (F := Ideal) x1 (ix4 b j t d) = x1 (ix3 b t ⟨6 * 128 + d, by omega⟩) := by
  pointwise [val_main_v14, val_main_v13, val_main_v12, val_main_v11, val_main_v3, val_main_v2, val_main_v1]

/-- The keys, each head's own. -/
theorem v15_apply (b : Fin 2) (h : Fin 20) (t : Fin 8448) (d : Fin 128) :
    val_main_v15 (F := Ideal) x1 (ix4 b h t d)
      = x1 (ix3 b t ⟨128 * (Cert.KernelIdeal.Step.slab h).val + d, by omega⟩) := by
  have hs := slab_val h
  pointwise [val_main_v15, val_main_v6]
  by_cases h1 : h.val < 4
  · rw [if_pos h1] at hs
    rw [dif_pos h1, v3_apply]
    congr 2; apply Fin.ext; show h.val * 128 + d.val = 128 * (Cert.KernelIdeal.Step.slab h).val + d.val; omega
  · rw [if_neg h1] at hs
    rw [dif_neg h1]
    by_cases h2 : h.val - 4 < 8
    · rw [if_pos h2] at hs
      rw [dif_pos h2, v10_apply]
      congr 2; apply Fin.ext
      show (4 + (h.val - 4) / 4) * 128 + d.val = 128 * (Cert.KernelIdeal.Step.slab h).val + d.val; omega
    · rw [if_neg h2] at hs
      rw [dif_neg h2, v14_apply]
      congr 2; apply Fin.ext; show 6 * 128 + d.val = 128 * (Cert.KernelIdeal.Step.slab h).val + d.val; omega

theorem v16_apply (b : Fin 2) (h : Fin 10) (r : Fin 64) (t : Fin 8448) :
    val_main_v5 (F := Ideal) x2 (ix4 b h r t) = x2 (ix4 b h ⟨r, by omega⟩ t) := by
  pointwise [val_main_v5, val_main_v4]

theorem v20_apply (b : Fin 2) (j : Fin 8) (r : Fin 64) (t : Fin 8448) :
    val_main_v20 (F := Ideal) x2 (ix4 b j r t) = x2 (ix4 b ⟨4 + j / 2, by omega⟩ ⟨r, by omega⟩ t) := by
  pointwise [val_main_v20, val_main_v19, val_main_v18, val_main_v17, val_main_v5, val_main_v4]

theorem v24_apply (b : Fin 2) (j : Fin 8) (r : Fin 64) (t : Fin 8448) :
    val_main_v24 (F := Ideal) x2 (ix4 b j r t) = x2 (ix4 b ⟨8 + j / 4, by omega⟩ ⟨r, by omega⟩ t) := by
  pointwise [val_main_v24, val_main_v23, val_main_v22, val_main_v21, val_main_v5, val_main_v4]

/-- The values, each head's own. -/
theorem v25_apply (b : Fin 2) (h : Fin 20) (r : Fin 64) (t : Fin 8448) :
    val_main_v25 (F := Ideal) x2 (ix4 b h r t) = x2 (ix4 b (Cert.KernelIdeal.Step.vhead h) ⟨r, by omega⟩ t) := by
  have hs := vhead_val h
  pointwise [val_main_v25, val_main_v16]
  by_cases h1 : h.val < 4
  · rw [if_pos h1] at hs
    rw [dif_pos h1, v16_apply]
    congr 2; exact Fin.ext hs.symm
  · rw [if_neg h1] at hs
    rw [dif_neg h1]
    by_cases h2 : h.val - 4 < 8
    · rw [if_pos h2] at hs
      rw [dif_pos h2, v20_apply]
      congr 2; exact Fin.ext hs.symm
    · rw [if_neg h2] at hs
      rw [dif_neg h2, v24_apply]
      congr 2; exact Fin.ext hs.symm

theorem two : Ideal.ofBits .f32 0x40000000#32 = ((2 : ℝ) : EReal) := by
  simp [Ideal.ofBits, Ideal.ieee, -EReal.coe_mul]; norm_num

theorem v29_apply (i : S2x20x8448x8448.Idx) : val_main_v29 (F := Ideal) i = ((Real.log 2 : ℝ) : EReal) := by
  rw [val_main_v29_apply, val_main_v28_apply, val_main_v27_apply, val_main_cst_apply]
  show Ideal.log (Ideal.ofBits .f32 0x40000000#32) = _
  rw [two, Ideal.log_coe, if_neg (by norm_num)]

/-- The scores. -/
theorem v30_apply (b : Fin 2) (h : Fin 20) (c t : Fin 8448) :
    val_main_v30 (F := Ideal) x0 x1 (ix4 b h c t) = refScore x0 x1 b h c t * ((Real.log 2 : ℝ) : EReal) := by
  have e := v15_apply x1 b h t
  rw [val_main_v30_apply, v29_apply]
  revert e
  unfold val_main_v26 refScore
  generalize val_main_v15 (F := Ideal) x1 = k
  intro e
  pointwise [val_main_v0]
  simp only [e]

/-- The greatest score of a query column. -/
theorem v31_apply (b : Fin 2) (h : Fin 20) (c : Fin 8448) :
    val_main_v31 (F := Ideal) x0 x1 (ix3 b h c)
      = Finset.univ.fold max (Ideal.ofBits .f32 0xFF800000#32) fun t : Fin 8448 => val_main_v30 (F := Ideal) x0 x1 (ix4 b h c t) := by
  unfold val_main_v31
  generalize val_main_v30 (F := Ideal) x0 x1 = s
  pointwise [val_main_cst_0]

theorem v35_apply (b : Fin 2) (h : Fin 20) (c t : Fin 8448) :
    val_main_v35 (F := Ideal) x0 x1 (ix4 b h c t)
      = max (Ideal.ofBits .f32 0xFF800000#32) (val_main_v31 (F := Ideal) x0 x1 (ix3 b h c)) := by
  have e : idx_main_v34 (idx_main_v35 (ix4 b h c t)) = ix3 b h c := by
    funext a
    match a with | ⟨0, _⟩ => rfl | ⟨1, _⟩ => rfl | ⟨2, _⟩ => rfl
  rw [val_main_v35_apply, val_main_v34_apply, val_main_v33_apply, val_main_v32_apply, val_main_cst_1_apply, e]
  rfl

theorem v37_apply (b : Fin 2) (h : Fin 20) (c t : Fin 8448) :
    val_main_v37 (F := Ideal) x0 x1 (ix4 b h c t)
      = Ideal.exp (val_main_v30 (F := Ideal) x0 x1 (ix4 b h c t) - val_main_v35 (F := Ideal) x0 x1 (ix4 b h c t)) := by
  rw [val_main_v37_apply, val_main_v36_apply]
  rfl

theorem v38_apply (b : Fin 2) (h : Fin 20) (c : Fin 8448) :
    val_main_v38 (F := Ideal) x0 x1 (ix3 b h c) = ∑ t : Fin 8448, val_main_v37 (F := Ideal) x0 x1 (ix4 b h c t) := by
  unfold val_main_v38
  generalize val_main_v37 (F := Ideal) x0 x1 = s
  pointwise [val_main_cst_2]

theorem v41_apply (b : Fin 2) (h : Fin 20) (c t : Fin 8448) :
    val_main_v41 (F := Ideal) x0 x1 (ix4 b h c t)
      = Ideal.div (val_main_v37 (F := Ideal) x0 x1 (ix4 b h c t)) (val_main_v38 (F := Ideal) x0 x1 (ix3 b h c)) := by
  unfold val_main_v41 val_main_v40 val_main_v39
  generalize val_main_v37 (F := Ideal) x0 x1 = s
  generalize val_main_v38 (F := Ideal) x0 x1 = s'
  pointwise

/-- The average of a head's values. -/
theorem v42_apply (b : Fin 2) (h : Fin 20) (c : Fin 8448) (r : Fin 64) :
    val_main_v42 (F := Ideal) x0 x1 x2 (ix4 b h c r)
      = ∑ t : Fin 8448, val_main_v41 (F := Ideal) x0 x1 (ix4 b h c t) * x2 (ix4 b (Cert.KernelIdeal.Step.vhead h) ⟨r, by omega⟩ t) := by
  have e := v25_apply x2 b h r
  revert e
  unfold val_main_v42
  generalize val_main_v41 (F := Ideal) x0 x1 = s
  generalize val_main_v25 (F := Ideal) x2 = s'
  intro e
  pointwise
  simp only [e]

end Cert.ReferenceIdeal.Rows

end
-- ==== Proof.AttnHeads.lean ====
/- A head's output, as the kernel gathers it over the key blocks, is the plain softmax average of the values. -/
module

public import proofs.«01_k».proof.Proof.AttnArray
public import proofs.«01_k».proof.Proof.AttnRefSoftmax

@[expose] public section

set_option maxRecDepth 16384

noncomputable section

open scoped BigOperators
open Idealize.ShloMosaic

namespace Cert.AttnHeads

open Cert.ReferenceIdeal Cert.ReferenceIdeal.Read Cert.ReferenceIdeal.Rows Cert.KernelIdeal.Array Cert.KernelIdeal.Step Cert.Softmax

/-- The keys, taken block by block, are all the keys. -/
theorem sum_blocks (f : Fin 8448 → EReal) : ∑ b ∈ Finset.range 11, ∑ i : Fin 768, f (key b i) = ∑ t : Fin 8448, f t := by
  rw [Finset.sum_range, ← Fintype.sum_prod_type']
  refine Fintype.sum_equiv (finProdFinEquiv.trans (finCongr (by norm_num : 11 * 768 = 8448))) _ _ fun p => ?_
  refine congrArg f (Fin.ext ?_)
  have h1 := p.1.isLt
  have h2 := p.2.isLt
  show (p.1.val * 768 + p.2.val) % 8448 = p.2.val + 768 * p.1.val
  omega

theorem bot_f32 : Ideal.ofBits .f32 0xFF800000#32 = ⊥ := by
  simp [Ideal.ofBits, Ideal.ieee]

variable (x0 : Vec Ideal S2x20x128x8448 .bf16) (x1 : Vec Ideal S2x8448x896 .bf16) (x2 : Vec Ideal S2x10x80x8448 .bf16)
  (S : Fin 2 → Fin 20 → Fin 8448 → Fin 8448 → ℝ) (hS : ∀ b h t x, scoreAt x0 x1 b h t x = ((S b h t x : ℝ) : EReal))
  (h1 : ∀ b h t, x2 (ix4 b h 64 t) = (1 : EReal))

include hS in
theorem ref_score (b : Fin 2) (h : Fin 20) (c t : Fin 8448) :
    val_main_v30 (F := Ideal) x0 x1 (ix4 b h c t) = ((S b h t c : ℝ) : EReal) * ((Real.log 2 : ℝ) : EReal) := by
  rw [v30_apply, ← hS]
  refine congrArg (· * _) (Finset.sum_congr rfl fun d _ => ?_)
  exact mul_comm _ _

include hS in
/-- What the reference takes the scores of a column relative to is one real. -/
theorem ref_max (b : Fin 2) (h : Fin 20) (c : Fin 8448) :
    ∃ M : ℝ, ∀ t, val_main_v35 (F := Ideal) x0 x1 (ix4 b h c t) = (M : EReal) := by
  obtain ⟨M, hM⟩ := fold_max_real (Finset.univ : Finset (Fin 8448)) ⟨0, Finset.mem_univ _⟩ (fun t => S b h t c * Real.log 2)
  refine ⟨M, fun t => ?_⟩
  rw [v35_apply, v31_apply, bot_f32, ← hM, max_eq_right bot_le]
  refine congrArg (Finset.fold max ⊥ · Finset.univ) (funext fun t => ?_)
  rw [ref_score x0 x1 S hS, EReal.coe_mul]

/-- The running weighted sum of a row of values after all the key blocks. -/
abbrev total (b : Fin 2) (h : Fin 20) (r : Fin 80) (c : Fin 8448) : EReal :=
  runSum (blockScores S b h c) (fun j i => x2 (ix4 b (vhead h) r (key j i))) 11

include hS h1 in
theorem head_eq (b : Fin 2) (h : Fin 20) (r : Fin 64) (c : Fin 8448) :
    Ideal.div (total x2 S b h ⟨r, by omega⟩ c) (total x2 S b h 64 c) = val_main_v42 (F := Ideal) x0 x1 x2 (ix4 b h c r) := by
  obtain ⟨M, hM⟩ := runMax_real (blockScores S b h c) 10
  obtain ⟨M', hM'⟩ := ref_max x0 x1 S hS b h c
  have et (r : Fin 80) : total x2 S b h r c = ∑ t, x2 (ix4 b (vhead h) r t) * Ideal.exp2 (((S b h t c : ℝ) : EReal) - M) := by
    unfold total
    rw [runSum_eq, hM]
    exact sum_blocks fun t => x2 (ix4 b (vhead h) r t) * Ideal.exp2 (((S b h t c : ℝ) : EReal) - M)
  have e64 : total x2 S b h 64 c = ∑ t, Ideal.exp2 (((S b h t c : ℝ) : EReal) - M) := by
    rw [et]
    refine Finset.sum_congr rfl fun t _ => ?_
    rw [h1, one_mul]
  rw [et, e64, average (fun t => S b h t c) (fun t => x2 (ix4 b (vhead h) ⟨r, by omega⟩ t)) M M', v42_apply]
  refine Finset.sum_congr rfl fun t _ => ?_
  rw [v41_apply, v38_apply]
  have e37 (t : Fin 8448) : val_main_v37 (F := Ideal) x0 x1 (ix4 b h c t)
      = Ideal.exp (((S b h t c : ℝ) : EReal) * ((Real.log 2 : ℝ) : EReal) - M') := by
    rw [v37_apply, hM', ref_score x0 x1 S hS]
  simp only [e37]

end Cert.AttnHeads

end
-- ==== Proof.AttnRefPair.lean ====
/- The stages of the plain attention program after the heads: the pairs and the merge. -/
module

public import proofs.«01_k».proof.Proof.AttnOutput
public import proofs.«01_k».proof.Proof.Gen.ReferenceIdeal.Read

@[expose] public section

set_option maxRecDepth 16384

noncomputable section

open scoped BigOperators
open Idealize.ShloMosaic

namespace Cert.ReferenceIdeal.Rows

open Cert.ReferenceIdeal Cert.ReferenceIdeal.Read

variable (x0 : Vec Ideal S2x20x128x8448 .bf16) (x1 : Vec Ideal S2x8448x896 .bf16) (x2 : Vec Ideal S2x10x80x8448 .bf16)
  (x3 x4 x5 x6 : Vec Ideal S32 .f32) (x7 : Vec Ideal S64 .f32)

theorem v52_apply (b : Fin 2) (j : Fin 4) (p : Fin 2) (c : Fin 8448) (r : Fin 64) :
    val_main_v52 (F := Ideal) x0 x1 x2 (ix5 b j p c r) = val_main_v42 (F := Ideal) x0 x1 x2 (ix4 b ⟨4 + (j * 2 + p), by omega⟩ c r) := by
  unfold val_main_v52 val_main_v51
  generalize val_main_v42 (F := Ideal) x0 x1 x2 = o
  pointwise

theorem v54_apply (b : Fin 2) (j : Fin 4) (c : Fin 8448) (r : Fin 64) :
    val_main_v54 (F := Ideal) x0 x1 x2 (ix4 b j c r) = val_main_v52 (F := Ideal) x0 x1 x2 (ix5 b j 0 c r) := by
  unfold val_main_v54 val_main_v53
  generalize val_main_v52 (F := Ideal) x0 x1 x2 = o
  pointwise

theorem v56_apply (b : Fin 2) (j : Fin 4) (c : Fin 8448) (r : Fin 64) :
    val_main_v56 (F := Ideal) x0 x1 x2 (ix4 b j c r) = val_main_v52 (F := Ideal) x0 x1 x2 (ix5 b j 1 c r) := by
  unfold val_main_v56 val_main_v55
  generalize val_main_v52 (F := Ideal) x0 x1 x2 = o
  pointwise

/-- The factor of the second head of a pair. -/
theorem v50_apply : val_main_v50 (F := Ideal) x3 x4 x5 x6 ix0
    = Ideal.exp (∑ i : Fin 32, x3 (ix1 i) * x4 (ix1 i)) - Ideal.exp (∑ i : Fin 32, x5 (ix1 i) * x6 (ix1 i))
      + Ideal.ofBits .f32 0x3E4CCCCD#32 := by
  pointwise [val_main_v50, val_main_v49, val_main_v48, val_main_v47, val_main_v46, val_main_v45, val_main_v44, val_main_v43, val_main_cst_3, val_main_cst_4, val_main_cst_5]

theorem v59_apply (b : Fin 2) (j : Fin 4) (c : Fin 8448) (r : Fin 64) :
    val_main_v59 (F := Ideal) x0 x1 x2 x3 x4 x5 x6 (ix4 b j c r)
      = val_main_v54 (F := Ideal) x0 x1 x2 (ix4 b j c r)
        - val_main_v50 (F := Ideal) x3 x4 x5 x6 ix0 * val_main_v56 (F := Ideal) x0 x1 x2 (ix4 b j c r) := by
  have e : idx_main_v57 (ix4 b j c r) = ix0 := funext fun a => a.elim0
  rw [val_main_v59_apply, val_main_v58_apply, val_main_v57_apply, e]
  rfl

theorem v61_apply (b : Fin 2) (j : Fin 4) (c : Fin 8448) :
    val_main_v61 (F := Ideal) x0 x1 x2 x3 x4 x5 x6 (ix3 b j c)
      = ∑ r : Fin 64, val_main_v59 (F := Ideal) x0 x1 x2 x3 x4 x5 x6 (ix4 b j c r)
          * val_main_v59 (F := Ideal) x0 x1 x2 x3 x4 x5 x6 (ix4 b j c r) := by
  rw [val_main_v61_apply, val_main_cst_6_apply, Ideal.ofBits_def, Ideal.ofBits_zero_f32, zero_add]
  refine Finset.sum_congr rfl fun r _ => ?_
  have e : idx_main_v61 (ix3 b j c) r = ix4 b j c r := by
    funext a
    match a with | ⟨0, _⟩ => rfl | ⟨1, _⟩ => rfl | ⟨2, _⟩ => rfl | ⟨3, _⟩ => rfl
  rw [e, val_main_v60_apply]
  rfl

theorem v68_apply (b : Fin 2) (j : Fin 4) (c : Fin 8448) (r : Fin 64) :
    val_main_v68 (F := Ideal) x0 x1 x2 x3 x4 x5 x6 (ix4 b j c r)
      = Ideal.rsqrt (Ideal.div (val_main_v61 (F := Ideal) x0 x1 x2 x3 x4 x5 x6 (ix3 b j c)) (Ideal.ofBits .f32 0x42800000#32)
        + Ideal.ofBits .f32 0x358637BD#32) := by
  unfold val_main_v68 val_main_v67 val_main_v66 val_main_v64 val_main_v62
  generalize val_main_v61 (F := Ideal) x0 x1 x2 x3 x4 x5 x6 = p
  pointwise [val_main_v65, val_main_v63, val_main_cst_7, val_main_cst_8]

theorem v71_apply (b : Fin 2) (j : Fin 4) (c : Fin 8448) (r : Fin 64) :
    val_main_v71 (F := Ideal) x7 (ix4 b j c r) = x7 (ix1 r) := by
  pointwise [val_main_v71, val_main_v70]

theorem v74_apply (b : Fin 2) (j : Fin 4) (c : Fin 8448) (r : Fin 64) :
    val_main_v74 (F := Ideal) x0 x1 x2 x3 x4 x5 x6 x7 (ix4 b j c r)
      = val_main_v59 (F := Ideal) x0 x1 x2 x3 x4 x5 x6 (ix4 b j c r) * val_main_v68 (F := Ideal) x0 x1 x2 x3 x4 x5 x6 (ix4 b j c r)
        * x7 (ix1 r) * Ideal.ofBits .f32 0x3F4CCCCD#32 := by
  rw [val_main_v74_apply, val_main_v72_apply, val_main_v69_apply, v71_apply]
  rfl

end Cert.ReferenceIdeal.Rows

end
-- ==== Proof.AttnRefMerge.lean ====
/- The last stages of the plain attention program: the merge of the three groups of heads. -/
module

public import proofs.«01_k».proof.Proof.AttnOutput
public import proofs.«01_k».proof.Proof.Gen.ReferenceIdeal.Read

@[expose] public section

set_option maxRecDepth 16384

noncomputable section

open scoped BigOperators
open Idealize.ShloMosaic

namespace Cert.ReferenceIdeal.Rows

open Cert.ReferenceIdeal Cert.ReferenceIdeal.Read

variable (x0 : Vec Ideal S2x20x128x8448 .bf16) (x1 : Vec Ideal S2x8448x896 .bf16) (x2 : Vec Ideal S2x10x80x8448 .bf16)
  (x3 x4 x5 x6 : Vec Ideal S32 .f32) (x7 : Vec Ideal S64 .f32)

theorem v77_apply (b : Fin 2) (j : Fin 16) (c : Fin 8448) (r : Fin 64) :
    val_main_v77 (F := Ideal) x0 x1 x2 x3 x4 x5 x6 x7 (ix4 b j c r)
      = if h : j.val < 4 then val_main_v42 (F := Ideal) x0 x1 x2 (ix4 b ⟨j.val, by omega⟩ c r)
        else if h' : j.val - 4 < 4 then val_main_v74 (F := Ideal) x0 x1 x2 x3 x4 x5 x6 x7 (ix4 b ⟨j.val - 4, by omega⟩ c r)
        else val_main_v42 (F := Ideal) x0 x1 x2 (ix4 b ⟨j.val + 4, by omega⟩ c r) := by
  unfold val_main_v77
  generalize val_main_v74 (F := Ideal) x0 x1 x2 x3 x4 x5 x6 x7 = s
  unfold val_main_v75 val_main_v76
  generalize val_main_v42 (F := Ideal) x0 x1 x2 = o
  pointwise
  by_cases h1 : j.val < 4
  · rw [dif_pos h1, dif_pos h1]
  · rw [dif_neg h1, dif_neg h1]
    by_cases h2 : j.val - 4 < 4
    · rw [dif_pos h2, dif_pos h2]
    · rw [dif_neg h2, dif_neg h2]
      congr 2; apply Fin.ext; show 12 + (j.val - 4 - 4) = j.val + 4; omega

theorem v80_apply (b : Fin 2) (i : Fin 1024) (c : Fin 8448) :
    val_main_v80 (F := Ideal) x0 x1 x2 x3 x4 x5 x6 x7 (ix3 b i c)
      = val_main_v77 (F := Ideal) x0 x1 x2 x3 x4 x5 x6 x7 (ix4 b ⟨i / 64, by omega⟩ c ⟨i % 64, by omega⟩) := by
  have e : idx_main_v78 (idx_main_v79 (ix3 b i c)) = ix4 b ⟨i / 64, by omega⟩ c ⟨i % 64, by omega⟩ := by
    funext a; apply Fin.ext
    match a with
    | ⟨0, _⟩ => show ((b.val * 1024 + i.val) * 8448 + c.val) / 8650752 = b.val; omega
    | ⟨1, _⟩ => show ((b.val * 1024 + i.val) * 8448 + c.val) / 540672 % 16 = i.val / 64; omega
    | ⟨2, _⟩ => show ((b.val * 1024 + i.val) * 8448 + c.val) % 8448 = c.val; omega
    | ⟨3, _⟩ => show ((b.val * 1024 + i.val) * 8448 + c.val) / 8448 % 64 = i.val % 64; omega
  rw [val_main_v80_apply, val_main_v79_apply, val_main_v78_apply, e]
  rfl

end Cert.ReferenceIdeal.Rows

end
-- ==== Proof.AttnRows.lean ====
/- The sixteen groups of rows that the kernel makes of its heads are the rows of the plain program, once the heads are. -/
module

public import proofs.«01_k».proof.Proof.AttnRefPair
public import proofs.«01_k».proof.Proof.AttnRefMerge

@[expose] public section

set_option maxRecDepth 16384

noncomputable section

open scoped BigOperators
open Idealize.ShloMosaic

namespace Cert.AttnRows

open Cert.ReferenceIdeal Cert.ReferenceIdeal.Read Cert.ReferenceIdeal.Rows Cert.KernelIdeal.Step

variable (x0 : Vec Ideal S2x20x128x8448 .bf16) (x1 : Vec Ideal S2x8448x896 .bf16) (x2 : Vec Ideal S2x10x80x8448 .bf16)
  (x3 x4 x5 x6 : Vec Ideal S32 .f32) (x7 : Vec Ideal S64 .f32)
  (a : Fin 20 → Fin 80 → Fin 512 → EReal) (lv : Vec Ideal Cert.KernelIdeal.S4x32 .f32) (gs : Vec Ideal Cert.KernelIdeal.S64x512 .f32)
  (b : Fin 2) (x : Fin 512) (c : Fin 8448)
  (hH : ∀ h r, headOut a h r x = val_main_v42 (F := Ideal) x0 x1 x2 (ix4 b h c r))
  (h0 : ∀ j, lv (ix2 0 j) = x3 (ix1 j)) (h1 : ∀ j, lv (ix2 1 j) = x4 (ix1 j)) (h2 : ∀ j, lv (ix2 2 j) = x5 (ix1 j))
  (h3 : ∀ j, lv (ix2 3 j) = x6 (ix1 j)) (hg : ∀ r, gs (ix2 r x) = x7 (ix1 r))

include h0 h1 h2 h3 in
theorem lam_eq : lamOf lv = val_main_v50 (F := Ideal) x3 x4 x5 x6 ix0 := by
  rw [v50_apply]
  unfold lamOf
  simp only [h0, h1, h2, h3]

include hH h0 h1 h2 h3 in
theorem diff_eq (j : Fin 4) (h h' : Fin 20) (e : h.val = 4 + 2 * j.val) (e' : h'.val = 5 + 2 * j.val) (r : Fin 64) :
    diffOf a lv h h' r x = val_main_v59 (F := Ideal) x0 x1 x2 x3 x4 x5 x6 (ix4 b j c r) := by
  have e1 : h = ⟨4 + (j.val * 2 + (0 : Fin 2).val), by have := j.isLt; have := (0 : Fin 2).isLt; omega⟩ :=
    Fin.ext (by show h.val = 4 + (j.val * 2 + 0); omega)
  have e2 : h' = ⟨4 + (j.val * 2 + (1 : Fin 2).val), by have := j.isLt; have := (1 : Fin 2).isLt; omega⟩ :=
    Fin.ext (by show h'.val = 4 + (j.val * 2 + 1); omega)
  unfold diffOf
  rw [v59_apply, v54_apply, v56_apply, v52_apply, v52_apply, lam_eq x3 x4 x5 x6 lv h0 h1 h2 h3, hH, hH, e1, e2]

include hH h0 h1 h2 h3 hg in
theorem pair_eq (j : Fin 4) (h h' : Fin 20) (e : h.val = 4 + 2 * j.val) (e' : h'.val = 5 + 2 * j.val) (r : Fin 64) :
    pairOut a lv gs h h' r x = val_main_v74 (F := Ideal) x0 x1 x2 x3 x4 x5 x6 x7 (ix4 b j c r) := by
  unfold pairOut
  rw [v74_apply, v68_apply, v61_apply, hg]
  simp only [diff_eq x0 x1 x2 x3 x4 x5 x6 a lv b x c hH h0 h1 h2 h3 j h h' e e']

include hH h0 h1 h2 h3 hg in
theorem row_eq (j : Fin 16) (r : Fin 64) :
    outRow a lv gs j r x = val_main_v77 (F := Ideal) x0 x1 x2 x3 x4 x5 x6 x7 (ix4 b j c r) := by
  have hj := j.isLt
  rw [v77_apply]
  unfold outRow
  by_cases h : j.val < 4
  · rw [dif_pos h, dif_pos h, hH]
  · rw [dif_neg h, dif_neg h]
    by_cases h' : j.val < 8
    · rw [dif_pos h', dif_pos (show j.val - 4 < 4 by omega)]
      exact pair_eq x0 x1 x2 x3 x4 x5 x6 x7 a lv gs b x c hH h0 h1 h2 h3 hg ⟨j.val - 4, by omega⟩ _ _
        (by show 2 * j.val - 4 = 4 + 2 * (j.val - 4); omega) (by show 2 * j.val - 3 = 5 + 2 * (j.val - 4); omega) r
    · rw [dif_neg h', dif_neg (show ¬j.val - 4 < 4 by omega), hH]

end Cert.AttnRows

end
-- ==== Proof.AttnClaim.lean ====
/- The first claim: in the columns that the attention kernel writes, it and the plain attention leave the same result. -/
module

public import proofs.«01_k».proof.Proof.AttnInputs
public import proofs.«01_k».proof.Proof.AttnHeads
public import proofs.«01_k».proof.Proof.AttnRows
public import proofs.«01_k».proof.Proof.Gen.ReferenceIdeal.Run
public import proofs.«01_k».proof.Proof.Gen.On_latent_columns
public import proofs.«01_k».proof.Defs

@[expose] public section

noncomputable section

open Idealize.ShloMosaic Idealize.SL.Sem

namespace Cert.AttnClaim

/-- The columns of the claim are the first 8192. -/
theorem column (x0 : Vec Ideal Cert.On_latent_columns.S2x20x128x8448 .bf16) (x1 : Vec Ideal Cert.On_latent_columns.S2x8448x896 .bf16)
    (x2 : Vec Ideal Cert.On_latent_columns.S2x10x80x8448 .bf16) (x3 x4 x5 x6 : Vec Ideal Cert.On_latent_columns.S32 .f32)
    (x7 : Vec Ideal Cert.On_latent_columns.S64 .f32) (b : Fin 2) (i : Fin 1024) (c : Fin 8448)
    (h : Cert.On_latent_columns.fn (F := Ideal) x0 x1 x2 x3 x4 x5 x6 x7 (ix3 b i c) = 1#1) : c.val < 8192 := by
  have e : IntOp.cmpi .slt (BitVec.ofNat 32 c.val) (8192#32) = 1#1 := h
  have h2 := IntOp.cmpi_slt.1 e
  have hc := c.isLt
  have e1 : (BitVec.ofNat 32 c.val).toInt = (c.val : ℤ) := by
    rw [BitVec.toInt_eq_toNat_of_lt (by rw [BitVec.toNat_ofNat]; omega), BitVec.toNat_ofNat]; omega
  have e2 : (8192#32 : BitVec 32).toInt = 8192 := by decide
  rw [e1, e2] at h2
  omega

/-- A written column's place in the kernel's result is the plain program's. -/
theorem value (m : (ℓ : Loc Cert.KernelIdeal.nD Cert.KernelIdeal.τ Cert.KernelIdeal.sig) → Buf (Elt Ideal) ℓ)
    (hp : Pre_KernelIdeal_finite_scores_unit_row m) (c : Dev Cert.KernelIdeal.nD) (b : Fin 2) (i : Fin 1024) (t : Fin 8448)
    (ht : t.val < 8192) :
    Cert.ReferenceIdeal.Read.val_main_v80 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (ix3 b i t)
    = (Cert.KernelIdeal.Gen.dats m 0 c).arrAt 5 Cert.KernelIdeal.cfg0.N (ix3 b i t) := by
  obtain ⟨S, hS⟩ := Cert.AttnInputs.scores_real _ _ _ _ _ _ _ _ (hp c)
  have h1 := Cert.AttnInputs.unit_row _ _ _ _ _ _ _ _ (hp c)
  have et : t = Cert.KernelIdeal.Array.col ⟨t.val / 512, by omega⟩ ⟨t.val % 512, by omega⟩ :=
    Fin.ext (by show t.val = t.val / 512 * 512 + t.val % 512; omega)
  rw [Cert.ReferenceIdeal.Rows.v80_apply]
  generalize (⟨t.val / 512, by omega⟩ : Fin 16) = s at et
  generalize (⟨t.val % 512, by omega⟩ : Fin 512) = x at et
  subst et
  refine Eq.trans ?_ (Cert.KernelIdeal.Array.final_block m c S hS b s i x).symm
  refine (Cert.AttnRows.row_eq _ _ _ _ _ _ _ _ _ _ _ b x (Cert.KernelIdeal.Array.col s x) ?_
    (Cert.KernelIdeal.Array.lam0_apply m c) (Cert.KernelIdeal.Array.lam1_apply m c) (Cert.KernelIdeal.Array.lam2_apply m c)
    (Cert.KernelIdeal.Array.lam3_apply m c) (fun r => Cert.KernelIdeal.Array.gain_apply m c r x) _ _).symm
  intro h r
  exact Cert.AttnHeads.head_eq _ _ _ S hS h1 b h r (Cert.KernelIdeal.Array.col s x)

/-- From equal arguments of the stated kind both programs end with the same result in the written columns, their
    arguments unchanged. -/
theorem algebraic : algebraic_KernelIdeal_ReferenceIdeal_on_latent_columns_pre_finite_scores_unit_row := by
  intro m g m' g' hp hargs
  refine ⟨fun c => (Cert.KernelIdeal.Gen.dats m 0 c).arrAt 5 Cert.KernelIdeal.cfg0.N, ?_, ?_⟩
  · exact (θ_run Cert.KernelIdeal.defs _ _).mono (fun r h c => ⟨fun i _ => congrFun (h c).1 i, (h c).2⟩)
      (Cert.KernelIdeal.Value.run_blocks m g)
  · refine (θ_run Cert.ReferenceIdeal.defs _ _).mono (fun r h c => ⟨fun i hi => (congrFun (h c).1 i).trans ?_, (h c).2⟩)
      (Cert.ReferenceIdeal.Value.run m' g')
    refine (congrFun (Cert.ReferenceIdeal.Read.val_main_v80_eq m' c) i).trans ?_
    obtain ⟨h0, h1, h2, h3, h4, h5, h6, h7⟩ := hargs c
    rw [h0, h1, h2, h3, h4, h5, h6, h7]
    idx_vars i
    exact value m hp c _ _ _ (column _ _ _ _ _ _ _ _ _ _ _ hi)

end Cert.AttnClaim

end
-- ==== Proof.FfnRow.lean ====
/- The output projection and the feed-forward network of one token, as plain functions of that token's row, over the
   extended reals. Both programs of the second claim are shown to compute these functions,
   and both of the fifth. -/
module

public import Idealize.ShloMosaic.Lib.Pointwise

@[expose] public section

noncomputable section

open scoped BigOperators
open Idealize.ShloMosaic

namespace Cert.FfnRow

/-- The reciprocal root mean square of a row of 1024 numbers, `1 / √(mean of squares + ε)`. -/
def scale (v : Fin 1024 → EReal) : EReal :=
  Ideal.rsqrt (Ideal.div (∑ j, v j * v j) (Ideal.ofBits .f32 0x44800000#32) + Ideal.ofBits .f32 0x358637BD#32)

/-- A row of `n` numbers times a matrix. -/
def times {n k : ℕ} (v : Fin n → EReal) (w : Fin n → Fin k → EReal) (j : Fin k) : EReal := ∑ i, v i * w i j

/-- A residual step: the row plus a gate times the normalised update. -/
def step (x gate g u : Fin 1024 → EReal) (j : Fin 1024) : EReal := x j + gate j * (u j * scale u * g j)

/-- The modulated normalisation before the feed-forward network. -/
def modulated (v g sc sh : Fin 1024 → EReal) (j : Fin 1024) : EReal := v j * scale v * g j * (1 + sc j) + sh j

/-- The gated hidden layer of the feed-forward network. -/
def hid (h : Fin 1024 → EReal) (wg wu : Fin 1024 → Fin 2816 → EReal) (n : Fin 2816) : EReal :=
  times h wg n * Ideal.logistic (times h wg n) * times h wu n

/-- The row after the attention's output projection has been added to it. -/
def mid (y x : Fin 1024 → EReal) (md : Fin 6144 → EReal) (ga : Fin 1024 → EReal) (wo : Fin 1024 → Fin 1024 → EReal) :
    Fin 1024 → EReal :=
  step x (fun j => md ⟨2048 + j, by omega⟩) ga (times y wo)

/-- The whole row: the projected attention added in, then the feed-forward network's update. `y`, `x` and `md` are the
    token's attention row, residual row and modulation row. -/
def out (y x : Fin 1024 → EReal) (md : Fin 6144 → EReal) (ga gf gp : Fin 1024 → EReal) (wo : Fin 1024 → Fin 1024 → EReal)
    (wg wu : Fin 1024 → Fin 2816 → EReal) (wd : Fin 2816 → Fin 1024 → EReal) : Fin 1024 → EReal :=
  step (mid y x md ga wo) (fun j => md ⟨5120 + j, by omega⟩) gp
    (times (hid (modulated (mid y x md ga wo) gf (fun j => md ⟨4096 + j, by omega⟩) fun j => md ⟨3072 + j, by omega⟩) wg wu) wd)

/-- The modulation row of a token: latent tokens of batch entry `b` take row `b`, context tokens take row 2. -/
def modRow (b : Fin 2) (t : Fin 8448) : Fin 8 := if t.val < 8192 then ⟨b, by omega⟩ else 2

/-- The result at batch entry `b`, token `t`, feature `j`, from the ten arguments. -/
def result (y : Vec Ideal ⟨3, ![2, 1024, 8448]⟩ .bf16) (x : Vec Ideal ⟨3, ![2, 8448, 1024]⟩ .f32)
    (md : Vec Ideal ⟨2, ![8, 6144]⟩ .f32) (ga gf gp : Vec Ideal ⟨1, ![1024]⟩ .f32) (wo : Vec Ideal ⟨2, ![1024, 1024]⟩ .f32)
    (wg wu : Vec Ideal ⟨2, ![1024, 2816]⟩ .f32) (wd : Vec Ideal ⟨2, ![2816, 1024]⟩ .f32)
    (b : Fin 2) (t : Fin 8448) : Fin 1024 → EReal :=
  out (fun i => y (ix3 b i t)) (fun j => x (ix3 b t j)) (fun n => md (ix2 (modRow b t) n)) (fun j => ga (ix1 j))
    (fun j => gf (ix1 j)) (fun j => gp (ix1 j)) (fun i j => wo (ix2 i j)) (fun i n => wg (ix2 i n)) (fun i n => wu (ix2 i n))
    fun n j => wd (ix2 n j)

end Cert.FfnRow

end
-- ==== Proof.FfnBlock.lean ====
/- What one grid point of the output-projection kernel computes: each row of its block is the row function. -/
module

public import proofs.«01_k».proof.Proof.FfnRow
public import proofs.«01_k».proof.Proof.Gen.Kernel2Ideal.Value

@[expose] public section

set_option maxRecDepth 16384

noncomputable section

open scoped BigOperators
open Idealize.ShloMosaic

namespace Cert.Kernel2Ideal.Block

open Cert.Kernel2Ideal Cert.Kernel2Ideal.Gen Cert.FfnRow

/-- The slice of the modulation row that starts at column 3072. -/
theorem pay3_apply (md : Vec Ideal S1x1x6144 .f32) (j : Fin 1024) :
    k0_pay3 md (ix2 0 j) = md (ix3 0 0 ⟨3072 + j, by omega⟩) := by
  pointwise [k0_pay3, k0_pay2]

/-- The slice of the modulation row that starts at column 4096. -/
theorem pay4_apply (md : Vec Ideal S1x1x6144 .f32) (j : Fin 1024) :
    k0_pay4 md (ix2 0 j) = md (ix3 0 0 ⟨4096 + j, by omega⟩) := by
  pointwise [k0_pay4, k0_pay2]

/-- The slice of the modulation row that starts at column 5120. -/
theorem pay5_apply (md : Vec Ideal S1x1x6144 .f32) (j : Fin 1024) :
    k0_pay5 md (ix2 0 j) = md (ix3 0 0 ⟨5120 + j, by omega⟩) := by
  pointwise [k0_pay5, k0_pay2]

/-- The residual row after the projected attention is added. -/
theorem pay6_apply (y : Vec Ideal S1x1024x256 .bf16) (wo : Vec Ideal S1024x1024 .bf16) (md : Vec Ideal S1x1x6144 .f32)
    (x : Vec Ideal S1x256x1024 .f32) (ga : Vec Ideal S1x1024 .f32) (r : Fin 256) (j : Fin 1024) :
    k0_pay6 y wo md x ga (ix2 r j)
      = step (fun j => x (ix3 0 r j)) (fun j => md (ix3 0 0 ⟨2048 + j, by omega⟩)) (fun j => ga (ix2 0 j))
          (times (fun i => y (ix3 0 i r)) fun i j => wo (ix2 i j)) j := by
  pointwise [k0_pay6, k0_pay2, step, times, scale]

/-- Its reciprocal root mean square. -/
theorem pay7_apply (y : Vec Ideal S1x1024x256 .bf16) (wo : Vec Ideal S1024x1024 .bf16) (md : Vec Ideal S1x1x6144 .f32)
    (x : Vec Ideal S1x256x1024 .f32) (ga : Vec Ideal S1x1024 .f32) (r : Fin 256) :
    k0_pay7 y wo md x ga (ix2 r 0) = scale fun j => k0_pay6 y wo md x ga (ix2 r j) := by
  unfold k0_pay7
  generalize k0_pay6 y wo md x ga = z
  pointwise [scale]

/-- The feed-forward network's update of a row. -/
theorem pay8_apply (sh sc gt : FVec Ideal S1x1024 .f32) (v : FVec Ideal S256x1024 .f32) (s : FVec Ideal S256x1 .f32)
    (gf : Vec Ideal S1x1024 .f32) (wg wu : Vec Ideal S1024x2816 .bf16) (wd : Vec Ideal S2816x1024 .bf16)
    (gp : Vec Ideal S1x1024 .f32) (r : Fin 256) (j : Fin 1024) (hs : s (ix2 r 0) = scale fun j => v (ix2 r j)) :
    k0_pay8 sh sc gt v s gf wg wu wd gp (ix2 r j)
      = step (fun j => v (ix2 r j)) (fun j => gt (ix2 0 j)) (fun j => gp (ix2 0 j))
          (times (hid (modulated (fun j => v (ix2 r j)) (fun j => gf (ix2 0 j)) (fun j => sc (ix2 0 j)) fun j => sh (ix2 0 j))
            (fun i n => wg (ix2 i n)) fun i n => wu (ix2 i n)) fun n j => wd (ix2 n j)) j := by
  have h1 : Ideal.ofBits .f32 0x3F800000#32 = 1 := Ideal.ofBits_one_f32
  pointwise [k0_pay8, step, times, hid, modulated]
  simp only [hs, scale, times, FfnRow.hid, modulated]

/-- The block that a point leaves, at row `r` and column `j`. -/
theorem block_apply (y : Vec Ideal S1x1024x256 .bf16) (x : Vec Ideal S1x256x1024 .f32) (md : Vec Ideal S1x1x6144 .f32)
    (ga gf gp : Vec Ideal S1x1024 .f32) (wo : Vec Ideal S1024x1024 .bf16) (wg wu : Vec Ideal S1024x2816 .bf16)
    (wd : Vec Ideal S2816x1024 .bf16) (r : Fin 256) (j : Fin 1024) :
    out0_10 y x md ga gf gp wo wg wu wd (ix3 0 r j)
      = out (fun i => y (ix3 0 i r)) (fun j => x (ix3 0 r j)) (fun n => md (ix3 0 0 n)) (fun j => ga (ix2 0 j))
          (fun j => gf (ix2 0 j)) (fun j => gp (ix2 0 j)) (fun i j => wo (ix2 i j)) (fun i n => wg (ix2 i n))
          (fun i n => wu (ix2 i n)) (fun n j => wd (ix2 n j)) j := by
  have h3 : (![0, 0, 0] : Fin 3 → Nat) = fun _ => 0 := funext fun a => by fin_cases a <;> rfl
  have h2 : (![0, 0] : Fin 2 → Nat) = fun _ => 0 := funext fun a => by fin_cases a <;> rfl
  have l0 : View.ld y r0_0 = y := View.ld_unit_zero h3 _ _
  have l1 : View.ld wo r0_1 = wo := View.ld_unit_zero h2 _ _
  have l2 : View.ld md r0_2 = md := View.ld_unit_zero h3 _ _
  have l3 : View.ld x r0_3 = x := View.ld_unit_zero h3 _ _
  have l4 : ∀ g : Vec Ideal S1x1024 .f32, View.ld g r0_4 = g := fun g => View.ld_unit_zero h2 _ g
  have l5 : ∀ w : Vec Ideal S1024x2816 .bf16, View.ld w r0_5 = w := fun w => View.ld_unit_zero h2 _ w
  have l6 : View.ld wd r0_6 = wd := View.ld_unit_zero h2 _ _
  unfold out0_10
  rw [l0, l1, l2, l3, l4, l4, l4, l5, l5, l6]
  refine (congrFun (View.canon_unit_zero h3 _ _) _).trans ?_
  have e : ∀ z : FVec Ideal S256x1024 .f32, k0_pay1 z (ix3 0 r j) = z (ix2 r j) := fun z => by pointwise [k0_pay1]
  rw [e, pay8_apply _ _ _ _ _ _ _ _ _ _ _ _ (pay7_apply _ _ _ _ _ _)]
  simp only [pay6_apply, pay3_apply, pay4_apply, pay5_apply]
  rfl

end Cert.Kernel2Ideal.Block

end
-- ==== Proof.FfnArray.lean ====
/- What the output-projection kernel's result array holds after the run: at every index, the row function of the
   arguments as they were launched. -/
module

public import proofs.«01_k».proof.Proof.FfnBlock
public import Idealize.ShloMosaic.Lib.StableHlo.ReadAt

@[expose] public section

set_option maxRecDepth 16384

noncomputable section

open scoped BigOperators
open Idealize.ShloMosaic Idealize.ShloMosaic.TcCoe

namespace Cert.Kernel2Ideal.Array

open Cert.Kernel2Ideal Cert.Kernel2Ideal.Gen Cert.FfnRow

variable (m : (ℓ : Loc nD τ sig) → Buf (Elt Ideal) ℓ)

/-! ## What the host operations before the launch leave in the kernel's operands -/

theorem v0_apply (c : Dev nD) (j : Fin 1024) : V m c main_v0 (ix2 0 j) = m ((c : Thread nD τ).loc main_arg3) (ix1 j) := by
  unfold V; after_reads_at
theorem v1_apply (c : Dev nD) (j : Fin 1024) : V m c main_v1 (ix2 0 j) = m ((c : Thread nD τ).loc main_arg4) (ix1 j) := by
  unfold V; after_reads_at
theorem v2_apply (c : Dev nD) (j : Fin 1024) : V m c main_v2 (ix2 0 j) = m ((c : Thread nD τ).loc main_arg5) (ix1 j) := by
  unfold V; after_reads_at
theorem v3_apply (c : Dev nD) (i : Fin 1024) (j : Fin 1024) :
    V m c main_v3 (ix2 i j) = m ((c : Thread nD τ).loc main_arg6) (ix2 i j) := by
  unfold V; after_reads_at
theorem v4_apply (c : Dev nD) (i : Fin 1024) (j : Fin 2816) :
    V m c main_v4 (ix2 i j) = m ((c : Thread nD τ).loc main_arg7) (ix2 i j) := by
  unfold V; after_reads_at
theorem v5_apply (c : Dev nD) (i : Fin 1024) (j : Fin 2816) :
    V m c main_v5 (ix2 i j) = m ((c : Thread nD τ).loc main_arg8) (ix2 i j) := by
  unfold V; after_reads_at
theorem v6_apply (c : Dev nD) (i : Fin 2816) (j : Fin 1024) :
    V m c main_v6 (ix2 i j) = m ((c : Thread nD τ).loc main_arg9) (ix2 i j) := by
  unfold V; after_reads_at
theorem v7_apply (c : Dev nD) (i : Fin 8) (j : Fin 6144) :
    V m c main_v7 (ix3 i 0 j) = m ((c : Thread nD τ).loc main_arg2) (ix2 i j) := by
  unfold V; after_reads_at

/-! ## Where each window's block lies -/

/-- The block indices of the windows that move, in closed form. -/
theorem idx_facts : ∀ t : Fin cfg0.N,
    (win0_0.index t 0 = t.val / 33 ∧ win0_0.index t 1 = 0 ∧ win0_0.index t 2 = t.val % 33)
    ∧ (win0_1.index t 0 = t.val / 33 ∧ win0_1.index t 1 = t.val % 33 ∧ win0_1.index t 2 = 0)
    ∧ (win0_2.index t 0 = (if t.val % 33 = 32 then 2 else t.val / 33) ∧ win0_2.index t 1 = 0 ∧ win0_2.index t 2 = 0)
    ∧ (win0_10.index t 0 = t.val / 33 ∧ win0_10.index t 1 = t.val % 33 ∧ win0_10.index t 2 = 0) :=
  (by decide +kernel : ∀ t : Fin grid0.N, _)

/-- The block indices of the windows that stay, all zero. -/
theorem idx_zero : ∀ t : Fin cfg0.N,
    (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0)
    ∧ (win0_9.index t 0 = 0 ∧ win0_9.index t 1 = 0) :=
  (by decide +kernel : ∀ t : Fin grid0.N, _)

/-- The grid point of batch entry `b` and token tile `s`. -/
abbrev pt (b : Fin 2) (s : Fin 33) : Fin cfg0.N := ⟨b * 33 + s, show _ < 66 by omega⟩

theorem pt_div (b : Fin 2) (s : Fin 33) : (pt b s).val / 33 = b := by show (b.val * 33 + s.val) / 33 = _; omega
theorem pt_mod (b : Fin 2) (s : Fin 33) : (pt b s).val % 33 = s := by show (b.val * 33 + s.val) % 33 = _; omega

/-- The token that row `r` of tile `s` holds. -/
abbrev tok (s : Fin 33) (r : Fin 256) : Fin 8448 := ⟨s * 256 + r, by omega⟩

theorem iblk0 (c : Dev nD) (b : Fin 2) (s : Fin 33) (i : Fin 1024) (r : Fin 256) :
    iblk m c 0 (pt b s) (ix3 0 i r) = m ((c : Thread nD τ).loc main_arg0) (ix3 b i (tok s r)) := by
  obtain ⟨⟨e0, e1, e2⟩, _⟩ := idx_facts (pt b s)
  rw [pt_div] at e0; rw [pt_mod] at e2
  show V m c main_arg0 (((cfg0.win 0).blk (pt b s)).view.emb (ix3 0 i r)) = _
  rw [V_main_arg0]
  congr 1
  funext a; apply Fin.ext
  match a with
  | ⟨0, _⟩ => show win0_0.index (pt b s) 0 * 1 + 1 * 0 = b.val; omega
  | ⟨1, _⟩ => show win0_0.index (pt b s) 1 * 1024 + 1 * i.val = i.val; omega
  | ⟨2, _⟩ => show win0_0.index (pt b s) 2 * 256 + 1 * r.val = s.val * 256 + r.val; omega

theorem iblk1 (c : Dev nD) (b : Fin 2) (s : Fin 33) (r : Fin 256) (j : Fin 1024) :
    iblk m c 1 (pt b s) (ix3 0 r j) = m ((c : Thread nD τ).loc main_arg1) (ix3 b (tok s r) j) := by
  obtain ⟨_, ⟨e0, e1, e2⟩, _⟩ := idx_facts (pt b s)
  rw [pt_div] at e0; rw [pt_mod] at e1
  show V m c main_arg1 (((cfg0.win 1).blk (pt b s)).view.emb (ix3 0 r j)) = _
  rw [V_main_arg1]
  congr 1
  funext a; apply Fin.ext
  match a with
  | ⟨0, _⟩ => show win0_1.index (pt b s) 0 * 1 + 1 * 0 = b.val; omega
  | ⟨1, _⟩ => show win0_1.index (pt b s) 1 * 256 + 1 * r.val = s.val * 256 + r.val; omega
  | ⟨2, _⟩ => show win0_1.index (pt b s) 2 * 1024 + 1 * j.val = j.val; omega

theorem iblk2 (c : Dev nD) (b : Fin 2) (s : Fin 33) (r : Fin 256) (n : Fin 6144) :
    iblk m c 2 (pt b s) (ix3 0 0 n) = m ((c : Thread nD τ).loc main_arg2) (ix2 (modRow b (tok s r)) n) := by
  obtain ⟨_, _, ⟨e0, e1, e2⟩, _⟩ := idx_facts (pt b s)
  rw [pt_div, pt_mod] at e0
  rw [← v7_apply m]
  show V m c main_v7 (((cfg0.win 2).blk (pt b s)).view.emb (ix3 0 0 n)) = _
  congr 1
  funext a; apply Fin.ext
  match a with
  | ⟨0, _⟩ =>
    show win0_2.index (pt b s) 0 * 1 + 1 * 0 = (modRow b (tok s r)).val
    rw [e0]
    unfold modRow
    by_cases h : s.val = 32
    · rw [if_pos h, if_neg (show ¬ s.val * 256 + r.val < 8192 by omega)]; rfl
    · rw [if_neg h, if_pos (show s.val * 256 + r.val < 8192 by omega)]
      show b.val * 1 + 1 * 0 = b.val; omega
  | ⟨1, _⟩ => show win0_2.index (pt b s) 1 * 1 + 1 * 0 = 0; omega
  | ⟨2, _⟩ => show win0_2.index (pt b s) 2 * 6144 + 1 * n.val = n.val; omega

theorem iblk3 (c : Dev nD) (t : Fin cfg0.N) (i : Fin 1) (j : Fin 1024) :
    iblk m c 3 t (ix2 i j) = V m c main_v0 (ix2 i j) := by
  obtain ⟨⟨e0, e1⟩, _⟩ := idx_zero t
  show V m c main_v0 (((cfg0.win 3).blk t).view.emb (ix2 i j)) = _
  congr 1
  funext a; apply Fin.ext
  match a with
  | ⟨0, _⟩ => show win0_3.index t 0 * 1 + 1 * i.val = i.val; omega
  | ⟨1, _⟩ => show win0_3.index t 1 * 1024 + 1 * j.val = j.val; omega

theorem iblk4 (c : Dev nD) (t : Fin cfg0.N) (i : Fin 1) (j : Fin 1024) :
    iblk m c 4 t (ix2 i j) = V m c main_v1 (ix2 i j) := by
  obtain ⟨_, ⟨e0, e1⟩, _⟩ := idx_zero t
  show V m c main_v1 (((cfg0.win 4).blk t).view.emb (ix2 i j)) = _
  congr 1
  funext a; apply Fin.ext
  match a with
  | ⟨0, _⟩ => show win0_4.index t 0 * 1 + 1 * i.val = i.val; omega
  | ⟨1, _⟩ => show win0_4.index t 1 * 1024 + 1 * j.val = j.val; omega

theorem iblk5 (c : Dev nD) (t : Fin cfg0.N) (i : Fin 1) (j : Fin 1024) :
    iblk m c 5 t (ix2 i j) = V m c main_v2 (ix2 i j) := by
  obtain ⟨_, _, ⟨e0, e1⟩, _⟩ := idx_zero t
  show V m c main_v2 (((cfg0.win 5).blk t).view.emb (ix2 i j)) = _
  congr 1
  funext a; apply Fin.ext
  match a with
  | ⟨0, _⟩ => show win0_5.index t 0 * 1 + 1 * i.val = i.val; omega
  | ⟨1, _⟩ => show win0_5.index t 1 * 1024 + 1 * j.val = j.val; omega

theorem iblk6 (c : Dev nD) (t : Fin cfg0.N) (i : Fin 1024) (j : Fin 1024) :
    iblk m c 6 t (ix2 i j) = V m c main_v3 (ix2 i j) := by
  obtain ⟨_, _, _, ⟨e0, e1⟩, _⟩ := idx_zero t
  show V m c main_v3 (((cfg0.win 6).blk t).view.emb (ix2 i j)) = _
  congr 1
  funext a; apply Fin.ext
  match a with
  | ⟨0, _⟩ => show win0_6.index t 0 * 1024 + 1 * i.val = i.val; omega
  | ⟨1, _⟩ => show win0_6.index t 1 * 1024 + 1 * j.val = j.val; omega

theorem iblk7 (c : Dev nD) (t : Fin cfg0.N) (i : Fin 1024) (j : Fin 2816) :
    iblk m c 7 t (ix2 i j) = V m c main_v4 (ix2 i j) := by
  obtain ⟨_, _, _, _, ⟨e0, e1⟩, _⟩ := idx_zero t
  show V m c main_v4 (((cfg0.win 7).blk t).view.emb (ix2 i j)) = _
  congr 1
  funext a; apply Fin.ext
  match a with
  | ⟨0, _⟩ => show win0_7.index t 0 * 1024 + 1 * i.val = i.val; omega
  | ⟨1, _⟩ => show win0_7.index t 1 * 2816 + 1 * j.val = j.val; omega

theorem iblk8 (c : Dev nD) (t : Fin cfg0.N) (i : Fin 1024) (j : Fin 2816) :
    iblk m c 8 t (ix2 i j) = V m c main_v5 (ix2 i j) := by
  obtain ⟨_, _, _, _, _, ⟨e0, e1⟩, _⟩ := idx_zero t
  show V m c main_v5 (((cfg0.win 8).blk t).view.emb (ix2 i j)) = _
  congr 1
  funext a; apply Fin.ext
  match a with
  | ⟨0, _⟩ => show win0_8.index t 0 * 1024 + 1 * i.val = i.val; omega
  | ⟨1, _⟩ => show win0_8.index t 1 * 2816 + 1 * j.val = j.val; omega

theorem iblk9 (c : Dev nD) (t : Fin cfg0.N) (i : Fin 2816) (j : Fin 1024) :
    iblk m c 9 t (ix2 i j) = V m c main_v6 (ix2 i j) := by
  obtain ⟨_, _, _, _, _, _, ⟨e0, e1⟩⟩ := idx_zero t
  show V m c main_v6 (((cfg0.win 9).blk t).view.emb (ix2 i j)) = _
  congr 1
  funext a; apply Fin.ext
  match a with
  | ⟨0, _⟩ => show win0_9.index t 0 * 2816 + 1 * i.val = i.val; omega
  | ⟨1, _⟩ => show win0_9.index t 1 * 1024 + 1 * j.val = j.val; omega

/-- Where row `r` and column `j` of the result's block lie in the array. -/
theorem emb10 (b : Fin 2) (s : Fin 33) (r : Fin 256) (j : Fin 1024) :
    ((cfg0.win 10).blk (pt b s)).view.emb (ix3 0 r j) = ix3 b (tok s r) j := by
  obtain ⟨_, _, _, e0, e1, e2⟩ := idx_facts (pt b s)
  rw [pt_div] at e0; rw [pt_mod] at e1
  funext a; apply Fin.ext
  match a with
  | ⟨0, _⟩ => show win0_10.index (pt b s) 0 * 1 + 1 * 0 = b.val; omega
  | ⟨1, _⟩ => show win0_10.index (pt b s) 1 * 256 + 1 * r.val = s.val * 256 + r.val; omega
  | ⟨2, _⟩ => show win0_10.index (pt b s) 2 * 1024 + 1 * j.val = j.val; omega

/-- The result array after the run, at a token named by its tile and its row in the tile. -/
theorem final_tile (c : Dev nD) (b : Fin 2) (s : Fin 33) (r : Fin 256) (j : Fin 1024) :
    (dats m 0 c).arrAt 10 cfg0.N (ix3 b (tok s r) j)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) b (tok s r) j := by
  have h := congrFun (Value.blocks10 m c (pt b s) (flush0_10 _)) (ix3 0 r j)
  rw [Value.flushed10] at h
  have h' : (dats m 0 c).arrAt 10 cfg0.N (((cfg0.win 10).blk (pt b s)).view.emb (ix3 0 r j)) = out0_10 _ _ _ _ _ _ _ _ _ _ (ix3 0 r j) := h
  rw [emb10] at h'
  rw [h', Block.block_apply]
  unfold result
  simp only [iblk0 m, iblk1 m, iblk2 m c b s r, iblk3 m, iblk4 m, iblk5 m, iblk6 m, iblk7 m, iblk8 m, iblk9 m,
    v0_apply m, v1_apply m, v2_apply m, v3_apply m, v4_apply m, v5_apply m, v6_apply m]

/-- The result array after the run, at any index. -/
theorem final_apply (c : Dev nD) (b : Fin 2) (t : Fin 8448) (j : Fin 1024) :
    (dats m 0 c).arrAt 10 cfg0.N (ix3 b t j)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) b t j := by
  have e : t = tok ⟨t / 256, by omega⟩ ⟨t % 256, by omega⟩ := Fin.ext (show t.val = t.val / 256 * 256 + t.val % 256 by omega)
  rw [e]
  exact final_tile m c b _ _ j

end Cert.Kernel2Ideal.Array

end
-- ==== Proof.FfnReference.lean ====
/- What the plain program of the output projection and the feed-forward network computes: each row of its result is the
   row function. -/
module

public import proofs.«01_k».proof.Proof.FfnRow
public import proofs.«01_k».proof.Proof.Gen.Reference2Ideal.Read

@[expose] public section

set_option maxRecDepth 16384

noncomputable section

open scoped BigOperators
open Idealize.ShloMosaic

namespace Cert.Reference2Ideal.Rows

open Cert.Reference2Ideal Cert.Reference2Ideal.Read Cert.FfnRow

variable (y : Vec Ideal S2x1024x8448 .bf16) (x : Vec Ideal S2x8448x1024 .f32) (md : Vec Ideal S8x6144 .f32)
  (ga gf gp : Vec Ideal S1024 .f32) (wo : Vec Ideal S1024x1024 .f32) (wg wu : Vec Ideal S1024x2816 .f32)
  (wd : Vec Ideal S2816x1024 .f32)

/-- The projected attention of a latent token. -/
theorem v12_apply (b : Fin 2) (t : Fin 8192) (j : Fin 1024) :
    val_main_v12 (F := Ideal) y wo (ix3 b t j)
      = times (fun i => y (ix3 b i ⟨t, by omega⟩)) (fun i j => wo (ix2 i j)) j := by
  pointwise [val_main_v12, val_main_v3, val_main_v1, val_main_v0, times]

/-- The modulation row of a latent token. -/
theorem v5_apply (b : Fin 2) (n : Fin 6144) :
    val_main_v5 (F := Ideal) md (ix3 b 0 n) = md (ix2 ⟨b, by omega⟩ n) := by
  pointwise [val_main_v5, val_main_v4]

/-- The residual row of a latent token after the projected attention. -/
theorem v28_apply (b : Fin 2) (t : Fin 8192) (j : Fin 1024) :
    val_main_v28 (F := Ideal) y x md ga wo (ix3 b t j)
      = mid (fun i => y (ix3 b i ⟨t, by omega⟩)) (fun j => x (ix3 b ⟨t, by omega⟩ j)) (fun n => md (ix2 ⟨b, by omega⟩ n))
          (fun j => ga (ix1 j)) (fun i j => wo (ix2 i j)) j := by
  have e := v12_apply y wo b t
  have e5 := v5_apply md b
  revert e e5
  unfold val_main_v28 val_main_v27 val_main_v26 val_main_v25 val_main_v22 val_main_v21 val_main_v20 val_main_v19 val_main_v17 val_main_v15 val_main_v14 val_main_v13 val_main_v8
  generalize val_main_v12 (F := Ideal) y wo = z
  generalize val_main_v5 (F := Ideal) md = w
  intro e e5
  pointwise [val_main_v2, val_main_v24, val_main_v23, val_main_v18, val_main_v16, val_main_cst, val_main_cst_0, val_main_cst_1]
  simp only [e, e5]
  rfl

/-- The modulated normalised row of a latent token. -/
theorem v47_apply (b : Fin 2) (t : Fin 8192) (j : Fin 1024) :
    val_main_v47 (F := Ideal) y x md ga gf wo (ix3 b t j)
      = modulated (fun j => val_main_v28 (F := Ideal) y x md ga wo (ix3 b t j)) (fun j => gf (ix1 j))
          (fun j => md (ix2 ⟨b, by omega⟩ ⟨4096 + j, by omega⟩)) (fun j => md (ix2 ⟨b, by omega⟩ ⟨3072 + j, by omega⟩)) j := by
  have e5 := v5_apply md b
  have h1 : Ideal.ofBits .f32 0x3F800000#32 = 1 := Ideal.ofBits_one_f32
  revert e5
  unfold val_main_v47 val_main_v46 val_main_v45 val_main_v44 val_main_v43 val_main_v41 val_main_v38 val_main_v37 val_main_v36 val_main_v35 val_main_v33 val_main_v31 val_main_v30 val_main_v29 val_main_v9 val_main_v10
  generalize val_main_v28 (F := Ideal) y x md ga wo = z
  generalize val_main_v5 (F := Ideal) md = w
  intro e5
  pointwise [val_main_v42, val_main_v40, val_main_v39, val_main_v34, val_main_v32, val_main_cst_2, val_main_cst_3, val_main_cst_4, val_main_cst_5]
  simp only [e5, h1]
  rfl

/-- The gated hidden layer of a latent token. -/
theorem v51_apply (b : Fin 2) (t : Fin 8192) (n : Fin 2816) :
    val_main_v51 (F := Ideal) y x md ga gf wo wg wu (ix3 b t n)
      = FfnRow.hid (fun j => val_main_v47 (F := Ideal) y x md ga gf wo (ix3 b t j)) (fun i n => wg (ix2 i n))
          (fun i n => wu (ix2 i n)) n := by
  have h1 : Ideal.ofBits .f32 0x3F800000#32 = 1 := Ideal.ofBits_one_f32
  have eg : val_main_v48 (F := Ideal) y x md ga gf wo wg (ix3 b t n)
      = times (fun j => val_main_v47 (F := Ideal) y x md ga gf wo (ix3 b t j)) (fun i n => wg (ix2 i n)) n := by
    unfold val_main_v48
    generalize val_main_v47 (F := Ideal) y x md ga gf wo = z
    pointwise [times]
  have eu : val_main_v50 (F := Ideal) y x md ga gf wo wu (ix3 b t n)
      = times (fun j => val_main_v47 (F := Ideal) y x md ga gf wo (ix3 b t j)) (fun i n => wu (ix2 i n)) n := by
    unfold val_main_v50
    generalize val_main_v47 (F := Ideal) y x md ga gf wo = z
    pointwise [times]
  unfold FfnRow.hid
  rw [← eg, ← eu]
  unfold val_main_v51 val_main_v49 val_main_call0_v5 val_main_call0_v3 val_main_call0_v1 val_main_call0_v0
  generalize val_main_v48 (F := Ideal) y x md ga gf wo wg = p
  generalize val_main_v50 (F := Ideal) y x md ga gf wo wu = q
  pointwise [val_main_call0_v2, val_main_call0_v4, val_main_call0_cst, val_main_call0_cst_0]
  rfl

/-- The result of a latent token. -/
theorem v68_apply (b : Fin 2) (t : Fin 8192) (j : Fin 1024) :
    val_main_v68 (F := Ideal) y x md ga gf gp wo wg wu wd (ix3 b t j)
      = step (fun j => val_main_v28 (F := Ideal) y x md ga wo (ix3 b t j)) (fun j => md (ix2 ⟨b, by omega⟩ ⟨5120 + j, by omega⟩))
          (fun j => gp (ix1 j))
          (times (fun n => val_main_v51 (F := Ideal) y x md ga gf wo wg wu (ix3 b t n)) fun n j => wd (ix2 n j)) j := by
  have e5 := v5_apply md b
  have e : ∀ j, val_main_v52 (F := Ideal) y x md ga gf wo wg wu wd (ix3 b t j)
      = times (fun n => val_main_v51 (F := Ideal) y x md ga gf wo wg wu (ix3 b t n)) (fun n j => wd (ix2 n j)) j := by
    intro j
    unfold val_main_v52
    generalize val_main_v51 (F := Ideal) y x md ga gf wo wg wu = z
    pointwise [times]
  revert e e5
  unfold val_main_v68 val_main_v67 val_main_v66 val_main_v65 val_main_v62 val_main_v61 val_main_v60 val_main_v59 val_main_v57 val_main_v55 val_main_v54 val_main_v53 val_main_v11
  generalize val_main_v52 (F := Ideal) y x md ga gf wo wg wu wd = u
  generalize val_main_v51 (F := Ideal) y x md ga gf wo wg wu = z'
  generalize val_main_v28 (F := Ideal) y x md ga wo = z
  generalize val_main_v5 (F := Ideal) md = w
  intro e e5
  pointwise [val_main_v64, val_main_v63, val_main_v58, val_main_v56, val_main_cst_6, val_main_cst_7, val_main_cst_8]
  simp only [e, e5]
  rfl

/-- The projected attention of a context token. -/
theorem v80_apply (b : Fin 2) (t : Fin 256) (j : Fin 1024) :
    val_main_v80 (F := Ideal) y wo (ix3 b t j)
      = times (fun i => y (ix3 b i ⟨8192 + t, by omega⟩)) (fun i j => wo (ix2 i j)) j := by
  pointwise [val_main_v80, val_main_v70, val_main_v1, val_main_v0, times]

/-- The modulation row of a context token. -/
theorem v73_apply (_b : Fin 2) (n : Fin 6144) :
    val_main_v73 (F := Ideal) md (ix3 0 0 n) = md (ix2 2 n) := by
  pointwise [val_main_v73, val_main_v72, val_main_v71]

/-- The residual row of a context token after the projected attention. -/
theorem v96_apply (b : Fin 2) (t : Fin 256) (j : Fin 1024) :
    val_main_v96 (F := Ideal) y x md ga wo (ix3 b t j)
      = mid (fun i => y (ix3 b i ⟨8192 + t, by omega⟩)) (fun j => x (ix3 b ⟨8192 + t, by omega⟩ j)) (fun n => md (ix2 2 n))
          (fun j => ga (ix1 j)) (fun i j => wo (ix2 i j)) j := by
  have e := v80_apply y wo b t
  have e5 := v73_apply md b
  revert e e5
  unfold val_main_v96 val_main_v95 val_main_v94 val_main_v93 val_main_v90 val_main_v89 val_main_v88 val_main_v87 val_main_v85 val_main_v83 val_main_v82 val_main_v81 val_main_v76
  generalize val_main_v80 (F := Ideal) y wo = z
  generalize val_main_v73 (F := Ideal) md = w
  intro e e5
  pointwise [val_main_v69, val_main_v92, val_main_v91, val_main_v86, val_main_v84, val_main_cst_9, val_main_cst_10, val_main_cst_11]
  simp only [e, e5]
  rfl

/-- The modulated normalised row of a context token. -/
theorem v115_apply (b : Fin 2) (t : Fin 256) (j : Fin 1024) :
    val_main_v115 (F := Ideal) y x md ga gf wo (ix3 b t j)
      = modulated (fun j => val_main_v96 (F := Ideal) y x md ga wo (ix3 b t j)) (fun j => gf (ix1 j))
          (fun j => md (ix2 2 ⟨4096 + j, by omega⟩)) (fun j => md (ix2 2 ⟨3072 + j, by omega⟩)) j := by
  have e5 := v73_apply md b
  have h1 : Ideal.ofBits .f32 0x3F800000#32 = 1 := Ideal.ofBits_one_f32
  revert e5
  unfold val_main_v115 val_main_v114 val_main_v113 val_main_v112 val_main_v111 val_main_v109 val_main_v106 val_main_v105 val_main_v104 val_main_v103 val_main_v101 val_main_v99 val_main_v98 val_main_v97 val_main_v77 val_main_v78
  generalize val_main_v96 (F := Ideal) y x md ga wo = z
  generalize val_main_v73 (F := Ideal) md = w
  intro e5
  pointwise [val_main_v110, val_main_v108, val_main_v107, val_main_v102, val_main_v100, val_main_cst_12, val_main_cst_13, val_main_cst_14, val_main_cst_15]
  simp only [e5, h1]
  rfl

/-- The gated hidden layer of a context token. -/
theorem v119_apply (b : Fin 2) (t : Fin 256) (n : Fin 2816) :
    val_main_v119 (F := Ideal) y x md ga gf wo wg wu (ix3 b t n)
      = FfnRow.hid (fun j => val_main_v115 (F := Ideal) y x md ga gf wo (ix3 b t j)) (fun i n => wg (ix2 i n))
          (fun i n => wu (ix2 i n)) n := by
  have h1 : Ideal.ofBits .f32 0x3F800000#32 = 1 := Ideal.ofBits_one_f32
  have eg : val_main_v116 (F := Ideal) y x md ga gf wo wg (ix3 b t n)
      = times (fun j => val_main_v115 (F := Ideal) y x md ga gf wo (ix3 b t j)) (fun i n => wg (ix2 i n)) n := by
    unfold val_main_v116
    generalize val_main_v115 (F := Ideal) y x md ga gf wo = z
    pointwise [times]
  have eu : val_main_v118 (F := Ideal) y x md ga gf wo wu (ix3 b t n)
      = times (fun j => val_main_v115 (F := Ideal) y x md ga gf wo (ix3 b t j)) (fun i n => wu (ix2 i n)) n := by
    unfold val_main_v118
    generalize val_main_v115 (F := Ideal) y x md ga gf wo = z
    pointwise [times]
  unfold FfnRow.hid
  rw [← eg, ← eu]
  unfold val_main_v119 val_main_v117 val_main_call1_v5 val_main_call1_v3 val_main_call1_v1 val_main_call1_v0
  generalize val_main_v116 (F := Ideal) y x md ga gf wo wg = p
  generalize val_main_v118 (F := Ideal) y x md ga gf wo wu = q
  pointwise [val_main_call1_v2, val_main_call1_v4, val_main_call1_cst, val_main_call1_cst_0]
  rfl

/-- The result of a context token. -/
theorem v136_apply (b : Fin 2) (t : Fin 256) (j : Fin 1024) :
    val_main_v136 (F := Ideal) y x md ga gf gp wo wg wu wd (ix3 b t j)
      = step (fun j => val_main_v96 (F := Ideal) y x md ga wo (ix3 b t j)) (fun j => md (ix2 2 ⟨5120 + j, by omega⟩))
          (fun j => gp (ix1 j))
          (times (fun n => val_main_v119 (F := Ideal) y x md ga gf wo wg wu (ix3 b t n)) fun n j => wd (ix2 n j)) j := by
  have e5 := v73_apply md b
  have e : ∀ j, val_main_v120 (F := Ideal) y x md ga gf wo wg wu wd (ix3 b t j)
      = times (fun n => val_main_v119 (F := Ideal) y x md ga gf wo wg wu (ix3 b t n)) (fun n j => wd (ix2 n j)) j := by
    intro j
    unfold val_main_v120
    generalize val_main_v119 (F := Ideal) y x md ga gf wo wg wu = z
    pointwise [times]
  revert e e5
  unfold val_main_v136 val_main_v135 val_main_v134 val_main_v133 val_main_v130 val_main_v129 val_main_v128 val_main_v127 val_main_v125 val_main_v123 val_main_v122 val_main_v121 val_main_v79
  generalize val_main_v120 (F := Ideal) y x md ga gf wo wg wu wd = u
  generalize val_main_v119 (F := Ideal) y x md ga gf wo wg wu = z'
  generalize val_main_v96 (F := Ideal) y x md ga wo = z
  generalize val_main_v73 (F := Ideal) md = w
  intro e e5
  pointwise [val_main_v132, val_main_v131, val_main_v126, val_main_v124, val_main_cst_16, val_main_cst_17, val_main_cst_18]
  simp only [e, e5]
  rfl

/-- The result at any token. -/
theorem v137_apply (b : Fin 2) (t : Fin 8448) (j : Fin 1024) :
    val_main_v137 (F := Ideal) y x md ga gf gp wo wg wu wd (ix3 b t j) = result y x md ga gf gp wo wg wu wd b t j := by
  unfold val_main_v137
  have e1 := v68_apply y x md ga gf gp wo wg wu wd b
  have e2 := v136_apply y x md ga gf gp wo wg wu wd b
  simp only [v28_apply, v47_apply, v51_apply] at e1
  simp only [v96_apply, v115_apply, v119_apply] at e2
  revert e1 e2
  generalize val_main_v68 (F := Ideal) y x md ga gf gp wo wg wu wd = p
  generalize val_main_v136 (F := Ideal) y x md ga gf gp wo wg wu wd = q
  intro e1 e2
  unfold result modRow
  by_cases h : t.val < 8192
  · rw [if_pos h]
    refine Eq.trans ?_ (e1 ⟨t, h⟩ j)
    pointwise []
    simp [h]
  · rw [if_neg h]
    have ht : t = ⟨8192 + (⟨t.val - 8192, by omega⟩ : Fin 256).val, by have := t.isLt; simp only; omega⟩ := Fin.ext (by simp only; omega)
    refine Eq.trans ?_ ((e2 ⟨t.val - 8192, by omega⟩ j).trans (by rw [← ht]; rfl))
    pointwise []
    simp [h]

end Cert.Reference2Ideal.Rows

end
-- ==== Proof.FfnClaim.lean ====
/- The second claim: the kernel of the output projection and the feed-forward network and its plain program leave the
   same result. -/
module

public import proofs.«01_k».proof.Proof.FfnArray
public import proofs.«01_k».proof.Proof.FfnReference
public import proofs.«01_k».proof.Proof.Gen.Reference2Ideal.Run
public import proofs.«01_k».proof.Defs

@[expose] public section

noncomputable section

open Idealize.ShloMosaic Idealize.SL.Sem

namespace Cert.FfnClaim

/-- From equal arguments both programs end with the same result, their arguments unchanged. -/
theorem algebraic [hKernel2Ideal : Cert.Kernel2Ideal.Facts] [hReference2Ideal : Cert.Reference2Ideal.Facts] :
    algebraic_Kernel2Ideal_Reference2Ideal := by
  intro m g m' g' _ hargs
  refine ⟨fun c => (Cert.Kernel2Ideal.Gen.dats m 0 c).arrAt 10 Cert.Kernel2Ideal.cfg0.N,
    Cert.Kernel2Ideal.Value.run_blocks m g, ?_⟩
  refine (θ_run Cert.Reference2Ideal.defs _ _).mono (fun r h c => ⟨(h c).1.trans ?_, (h c).2⟩)
    (Cert.Reference2Ideal.Value.run m' g')
  refine (Cert.Reference2Ideal.Read.val_main_v137_eq _).trans ?_
  funext b
  idx_vars b
  refine (Cert.Reference2Ideal.Rows.v137_apply _ _ _ _ _ _ _ _ _ _ _ _ _).trans ?_
  obtain ⟨h0, h1, h2, h3, h4, h5, h6, h7, h8, h9⟩ := hargs c
  refine Eq.trans ?_ (Cert.Kernel2Ideal.Array.final_apply m c _ _ _).symm
  rw [← h0, ← h1, ← h2, ← h3, ← h4, ← h5, ← h6, ← h7, ← h8, ← h9]

end Cert.FfnClaim

end
-- ==== Proof.ModArray.lean ====
/- The modulation call: what its kernel leaves in its result array, and what the plain program computes. -/
module

public import proofs.«01_k».proof.Proof.Gen.Kernel3Ideal.Value
public import proofs.«01_k».proof.Proof.Gen.Reference3Ideal.Read
public import Idealize.ShloMosaic.Lib.StableHlo.ReadAt
public import Idealize.ShloMosaic.Lib.Pointwise

@[expose] public section

set_option maxRecDepth 16384

noncomputable section

open scoped BigOperators
open Idealize.ShloMosaic Idealize.ShloMosaic.TcCoe

namespace Cert.ModRow

/-- One entry of a modulation row: the activated condition times a column of the weights, plus the bias. -/
def entry (a w : Fin 1024 → EReal) (b : EReal) : EReal :=
  (∑ d : Fin 1024, a d * Ideal.logistic (a d) * w d) + b

/-- The condition of a row: two batch elements, the context, and zeros. -/
def rowCond (x : Fin 2 → Fin 1024 → EReal) (y : Fin 1024 → EReal) (i : Fin 8) (d : Fin 1024) : EReal :=
  if h : i.val < 2 then x ⟨i.val, h⟩ d else if i.val - 2 < 1 then y d else 0

end Cert.ModRow

namespace Cert.Kernel3Ideal.Array

open Cert.Kernel3Ideal Cert.Kernel3Ideal.Gen Cert.ModRow

theorem block_apply (x : Vec Ideal S8x1024 .f32) (w : Vec Ideal S1x1024x1024 .f32) (b : Vec Ideal S1x1x1024 .f32) (i : Fin 8) (j : Fin 1024) :
    out0_3 x w b (ix3 0 i j) = entry (fun d => x (ix2 i d)) (fun d => w (ix3 0 d j)) (b (ix3 0 0 j)) := by
  have h3 : (![0, 0, 0] : Fin 3 → Nat) = fun _ => 0 := funext fun a => by fin_cases a <;> rfl
  have h2 : (![0, 0] : Fin 2 → Nat) = fun _ => 0 := funext fun a => by fin_cases a <;> rfl
  have l0 : View.ld x r0_0 = x := View.ld_unit_zero h2 _ _
  have l1 : View.ld w r0_1 = w := View.ld_unit_zero h3 _ _
  have l2 : View.ld b r0_2 = b := View.ld_unit_zero h3 _ _
  unfold out0_3
  rw [l0, l1, l2]
  refine (congrFun (View.canon_unit_zero h3 _ _) _).trans ?_
  pointwise [k0_pay1, entry]

variable (m : (ℓ : Loc nD τ sig) → Buf (Elt Ideal) ℓ)

theorem v3_apply (c : Dev nD) (l : Fin 2) (j : Fin 6144) : V m c main_v3 (ix3 l 0 j) = m ((c : Thread nD τ).loc main_arg3) (ix2 l j) := by
  unfold V; after_reads_at

theorem v2_apply (c : Dev nD) (i : Fin 8) (d : Fin 1024) :
    V m c main_v2 (ix2 i d) = rowCond (fun b d => m ((c : Thread nD τ).loc main_arg0) (ix2 b d))
      (fun d => m ((c : Thread nD τ).loc main_arg1) (ix1 d)) i d := by
  unfold V; after_reads_at
  unfold rowCond
  by_cases h : i.val < 2
  · rw [dif_pos h, dif_pos h]
  · rw [dif_neg h, dif_neg h]
    by_cases h' : i.val - 2 < 1
    · rw [dif_pos h', if_pos h']
      refine (congrFun (StableHlo.unary_result ..) _).trans ?_
      after_reads_at
    · rw [dif_neg h', if_neg h']
      refine (congrFun (StableHlo.unary_result ..) _).trans ?_
      after_reads_at

/-- The block indices of the windows, in closed form. -/
theorem idx_facts : ∀ t : Fin cfg0.N,
    (win0_0.index t 0 = 0 ∧ win0_0.index t 1 = 0)
    ∧ (win0_1.index t 0 = t.val / 6 ∧ win0_1.index t 1 = 0 ∧ win0_1.index t 2 = t.val % 6)
    ∧ (win0_2.index t 0 = t.val / 6 ∧ win0_2.index t 1 = 0 ∧ win0_2.index t 2 = t.val % 6)
    ∧ (win0_3.index t 0 = t.val / 6 ∧ win0_3.index t 1 = 0 ∧ win0_3.index t 2 = t.val % 6) :=
  (by decide +kernel : ∀ t : Fin grid0.N, _)

/-- The grid point of layer `l` and column block `s`. -/
abbrev pt (l : Fin 2) (s : Fin 6) : Fin cfg0.N := ⟨l * 6 + s, show _ < 12 by omega⟩

theorem pt_div (l : Fin 2) (s : Fin 6) : (pt l s).val / 6 = l := by show (l.val * 6 + s.val) / 6 = _; omega
theorem pt_mod (l : Fin 2) (s : Fin 6) : (pt l s).val % 6 = s := by show (l.val * 6 + s.val) % 6 = _; omega

/-- The column that column `j` of block `s` is. -/
abbrev col (s : Fin 6) (j : Fin 1024) : Fin 6144 := ⟨s * 1024 + j, by omega⟩

theorem iblk0 (c : Dev nD) (t : Fin cfg0.N) (i : Fin 8) (d : Fin 1024) : iblk m c 0 t (ix2 i d) = V m c main_v2 (ix2 i d) := by
  obtain ⟨⟨e0, e1⟩, _⟩ := idx_facts t
  show V m c main_v2 (((cfg0.win 0).blk t).view.emb (ix2 i d)) = _
  congr 1
  funext a; apply Fin.ext
  match a with
  | ⟨0, _⟩ => show win0_0.index t 0 * 8 + 1 * i.val = i.val; omega
  | ⟨1, _⟩ => show win0_0.index t 1 * 1024 + 1 * d.val = d.val; omega

theorem iblk1 (c : Dev nD) (l : Fin 2) (s : Fin 6) (d j : Fin 1024) :
    iblk m c 1 (pt l s) (ix3 0 d j) = m ((c : Thread nD τ).loc main_arg2) (ix3 l d (col s j)) := by
  obtain ⟨_, ⟨e0, e1, e2⟩, _⟩ := idx_facts (pt l s)
  rw [pt_div] at e0; rw [pt_mod] at e2
  show V m c main_arg2 (((cfg0.win 1).blk (pt l s)).view.emb (ix3 0 d j)) = _
  rw [V_main_arg2]
  congr 1
  funext a; apply Fin.ext
  match a with
  | ⟨0, _⟩ => show win0_1.index (pt l s) 0 * 1 + 1 * 0 = l.val; omega
  | ⟨1, _⟩ => show win0_1.index (pt l s) 1 * 1024 + 1 * d.val = d.val; omega
  | ⟨2, _⟩ => show win0_1.index (pt l s) 2 * 1024 + 1 * j.val = s.val * 1024 + j.val; omega

theorem iblk2 (c : Dev nD) (l : Fin 2) (s : Fin 6) (j : Fin 1024) :
    iblk m c 2 (pt l s) (ix3 0 0 j) = m ((c : Thread nD τ).loc main_arg3) (ix2 l (col s j)) := by
  obtain ⟨_, _, ⟨e0, e1, e2⟩, _⟩ := idx_facts (pt l s)
  rw [pt_div] at e0; rw [pt_mod] at e2
  rw [← v3_apply m]
  show V m c main_v3 (((cfg0.win 2).blk (pt l s)).view.emb (ix3 0 0 j)) = _
  congr 1
  funext a; apply Fin.ext
  match a with
  | ⟨0, _⟩ => show win0_2.index (pt l s) 0 * 1 + 1 * 0 = l.val; omega
  | ⟨1, _⟩ => show win0_2.index (pt l s) 1 * 1 + 1 * 0 = 0; omega
  | ⟨2, _⟩ => show win0_2.index (pt l s) 2 * 1024 + 1 * j.val = s.val * 1024 + j.val; omega

theorem emb3 (l : Fin 2) (s : Fin 6) (i : Fin 8) (j : Fin 1024) :
    ((cfg0.win 3).blk (pt l s)).view.emb (ix3 0 i j) = ix3 l i (col s j) := by
  obtain ⟨_, _, _, e0, e1, e2⟩ := idx_facts (pt l s)
  rw [pt_div] at e0; rw [pt_mod] at e2
  funext a; apply Fin.ext
  match a with
  | ⟨0, _⟩ => show win0_3.index (pt l s) 0 * 1 + 1 * 0 = l.val; omega
  | ⟨1, _⟩ => show win0_3.index (pt l s) 1 * 8 + 1 * i.val = i.val; omega
  | ⟨2, _⟩ => show win0_3.index (pt l s) 2 * 1024 + 1 * j.val = s.val * 1024 + j.val; omega

/-- The result array after the run. -/
theorem final_apply (c : Dev nD) (l : Fin 2) (i : Fin 8) (n : Fin 6144) :
    (dats m 0 c).arrAt 3 cfg0.N (ix3 l i n)
      = entry (rowCond (fun b d => m ((c : Thread nD τ).loc main_arg0) (ix2 b d)) (fun d => m ((c : Thread nD τ).loc main_arg1) (ix1 d)) i)
          (fun d => m ((c : Thread nD τ).loc main_arg2) (ix3 l d n)) (m ((c : Thread nD τ).loc main_arg3) (ix2 l n)) := by
  have e : n = col ⟨n / 1024, by omega⟩ ⟨n % 1024, by omega⟩ := Fin.ext (show n.val = n.val / 1024 * 1024 + n.val % 1024 by omega)
  rw [e]
  generalize (⟨n / 1024, _⟩ : Fin 6) = s
  generalize (⟨n % 1024, _⟩ : Fin 1024) = j
  have h := congrFun (Value.blocks3 m c (pt l s) (flush0_3 _)) (ix3 0 i j)
  rw [Value.flushed3] at h
  have h' : (dats m 0 c).arrAt 3 cfg0.N (((cfg0.win 3).blk (pt l s)).view.emb (ix3 0 i j)) = out0_3 _ _ _ (ix3 0 i j) := h
  rw [emb3] at h'
  rw [h', block_apply]
  simp only [iblk0 m, iblk1 m, iblk2 m, v2_apply m]

end Cert.Kernel3Ideal.Array

namespace Cert.Reference3Ideal.Rows

open Cert.Reference3Ideal Cert.Reference3Ideal.Read Cert.ModRow

variable (x0 : Vec Ideal S2x1024 .f32) (x1 : Vec Ideal S1024 .f32) (x2 : Vec Ideal S2x1024x6144 .f32) (x3 : Vec Ideal S2x6144 .f32)

theorem v2_apply (i : Fin 8) (d : Fin 1024) :
    val_main_v2 (F := Ideal) x0 x1 (ix2 i d) = rowCond (fun b d => x0 (ix2 b d)) (fun d => x1 (ix1 d)) i d := by
  pointwise [val_main_v2, val_main_v1, val_main_v0, val_main_cst, rowCond]
  rfl

theorem one_f32 : Ideal.ofBits .f32 0x3F800000#32 = 1 := Ideal.ofBits_one_f32

theorem v11_apply (i : Fin 8) (n : Fin 6144) :
    val_main_v11 (F := Ideal) x0 x1 x2 x3 (ix2 i n)
      = entry (rowCond (fun b d => x0 (ix2 b d)) (fun d => x1 (ix1 d)) i) (fun d => x2 (ix3 0 d n)) (x3 (ix2 0 n)) := by
  have e := v2_apply x0 x1 i
  revert e
  unfold val_main_v11 val_main_v6 val_main_v3 val_main_call0_v5 val_main_call0_v3 val_main_call0_v1 val_main_call0_v0
  generalize val_main_v2 (F := Ideal) x0 x1 = z
  intro e
  pointwise [val_main_v10, val_main_v9, val_main_v8, val_main_v7, val_main_v5, val_main_v4, val_main_call0_v4, val_main_call0_v2, val_main_call0_cst, val_main_call0_cst_0, entry]
  simp only [e, one_f32]
  rfl

theorem v20_apply (i : Fin 8) (n : Fin 6144) :
    val_main_v20 (F := Ideal) x0 x1 x2 x3 (ix2 i n)
      = entry (rowCond (fun b d => x0 (ix2 b d)) (fun d => x1 (ix1 d)) i) (fun d => x2 (ix3 1 d n)) (x3 (ix2 1 n)) := by
  have e := v2_apply x0 x1 i
  revert e
  unfold val_main_v20 val_main_v15 val_main_v12 val_main_call1_v5 val_main_call1_v3 val_main_call1_v1 val_main_call1_v0
  generalize val_main_v2 (F := Ideal) x0 x1 = z
  intro e
  pointwise [val_main_v19, val_main_v18, val_main_v17, val_main_v16, val_main_v14, val_main_v13, val_main_call1_v4, val_main_call1_v2, val_main_call1_cst, val_main_call1_cst_0, entry]
  simp only [e, one_f32]
  rfl

theorem v23_apply (l : Fin 2) (i : Fin 8) (n : Fin 6144) :
    val_main_v23 (F := Ideal) x0 x1 x2 x3 (ix3 l i n)
      = entry (rowCond (fun b d => x0 (ix2 b d)) (fun d => x1 (ix1 d)) i) (fun d => x2 (ix3 l d n)) (x3 (ix2 l n)) := by
  have e0 := v11_apply x0 x1 x2 x3 i n
  have e1 := v20_apply x0 x1 x2 x3 i n
  revert e0 e1
  unfold val_main_v23 val_main_v22 val_main_v21
  generalize val_main_v11 (F := Ideal) x0 x1 x2 x3 = p
  generalize val_main_v20 (F := Ideal) x0 x1 x2 x3 = q
  intro e0 e1
  match l with
  | ⟨0, _⟩ => pointwise; exact e0
  | ⟨1, _⟩ => pointwise; exact e1

end Cert.Reference3Ideal.Rows

end
-- ==== Proof.ModClaim.lean ====
/- The third claim: the kernel of the modulation vectors and its plain program leave the same result. -/
module

public import proofs.«01_k».proof.Proof.ModArray
public import proofs.«01_k».proof.Proof.Gen.Reference3Ideal.Run
public import proofs.«01_k».proof.Defs

@[expose] public section

noncomputable section

open Idealize.ShloMosaic Idealize.SL.Sem

namespace Cert.ModClaim

/-- From equal arguments both programs end with the same result, their arguments unchanged. -/
theorem algebraic [hKernel3Ideal : Cert.Kernel3Ideal.Facts] [hReference3Ideal : Cert.Reference3Ideal.Facts] :
    algebraic_Kernel3Ideal_Reference3Ideal := by
  intro m g m' g' _ hargs
  refine ⟨fun c => (Cert.Kernel3Ideal.Gen.dats m 0 c).arrAt 3 Cert.Kernel3Ideal.cfg0.N,
    Cert.Kernel3Ideal.Value.run_blocks m g, ?_⟩
  refine (θ_run Cert.Reference3Ideal.defs _ _).mono (fun r h c => ⟨(h c).1.trans ?_, (h c).2⟩)
    (Cert.Reference3Ideal.Value.run m' g')
  refine (Cert.Reference3Ideal.Read.val_main_v23_eq (F := Ideal)
    (m' ((c.tc : Thread Cert.Reference3Ideal.nD Cert.Reference3Ideal.τ).loc Cert.Reference3Ideal.main_arg0))
    (m' ((c.tc : Thread Cert.Reference3Ideal.nD Cert.Reference3Ideal.τ).loc Cert.Reference3Ideal.main_arg1))
    (m' ((c.tc : Thread Cert.Reference3Ideal.nD Cert.Reference3Ideal.τ).loc Cert.Reference3Ideal.main_arg2))
    (m' ((c.tc : Thread Cert.Reference3Ideal.nD Cert.Reference3Ideal.τ).loc Cert.Reference3Ideal.main_arg3))).trans ?_
  funext b
  idx_vars b
  refine (Cert.Reference3Ideal.Rows.v23_apply _ _ _ _ _ _ _).trans ?_
  obtain ⟨h0, h1, h2, h3⟩ := hargs c
  refine Eq.trans ?_ (Cert.Kernel3Ideal.Array.final_apply m c _ _ _).symm
  rw [← h0, ← h1, ← h2, ← h3]

end Cert.ModClaim

end
-- ==== Proof.CtxStep.lean ====
/- The one key block of the context call, for one score head: the running maximum and the weighted sums it leaves, as plain
   functions of the blocks it reads, and the vectors the kernel computes them with. -/
module

public import Idealize.ShloMosaic.Lib.Pointwise
public import Idealize.ShloMosaic.Lib.WholeRead
public import proofs.«01_k».proof.Proof.AttnStep
public import proofs.«01_k».proof.Proof.Gen.Kernel4Ideal.Value

@[expose] public section

set_option maxRecDepth 16384

noncomputable section

open scoped BigOperators
open Idealize.ShloMosaic

namespace Cert.Kernel4Ideal.Step

open Cert.Kernel4Ideal Cert.Kernel4Ideal.Gen
open Cert.KernelIdeal.Step (slab vhead)

variable (q : Vec Ideal S1x20x128x256 .bf16) (k : Vec Ideal S1x256x896 .bf16) (v : Vec Ideal S1x10x80x256 .bf16)

/-- The score of key `i` of the block against query `c` of the block, for head `h`. -/
def score (h : Fin 20) (i : Fin 256) (c : Fin 256) : EReal :=
  ∑ d : Fin 128, k (ix3 0 i ⟨128 * (slab h).val + d, by have := (slab h).isLt; omega⟩) * q (ix4 0 h d c)

/-- The running maximum after the block. -/
def newMax (m : Fin 20 → Fin 256 → EReal) (h : Fin 20) (c : Fin 256) : EReal :=
  max (m h c) (Finset.univ.fold max ⊥ fun i => score q k h i c)

/-- The weighted sums after the block: what was there, rescaled, plus the block's values weighted by `2 ^ (score - max)`. -/
def newAcc (m : Fin 20 → Fin 256 → EReal) (a : Fin 20 → Fin 80 → Fin 256 → EReal) (h : Fin 20) (r : Fin 80) (c : Fin 256) : EReal :=
  a h r c * Ideal.exp2 (m h c - newMax q k m h c)
    + ∑ i : Fin 256, v (ix4 0 (vhead h) r i) * Ideal.exp2 (score q k h i c - newMax q k m h c)

/-- The vector of scores that the kernel computes from a key slab and a head's queries. -/
abbrev scoreVec (ks : Vec Ideal S1x256x128 .bf16) (qs : Vec Ideal S1x1x128x256 .bf16) : FVec Ideal S256x256 .f32 := k0_pay32 ks qs

/-- The vector of new maxima. -/
abbrev maxVec (s : FVec Ideal S256x256 .f32) (mo : Vec Ideal S1x1x256 .f32) : FVec Ideal S1x1x256 .f32 := k0_pay2 (k0_pay150 s mo)

/-- The vector of new weighted sums. -/
abbrev accVec (s : FVec Ideal S256x256 .f32) (mo : Vec Ideal S1x1x256 .f32) (vs : Vec Ideal S1x1x80x256 .bf16)
    (ao : Vec Ideal S1x80x256 .f32) : FVec Ideal S1x80x256 .f32 := k0_pay151 s mo vs ao

/-! The kernel computes the weighted sums of some heads in several parts; put together they are the one vector above. -/

section
variable (s : FVec Ideal S256x256 .f32) (mo : Vec Ideal S1x1x256 .f32) (vs : Vec Ideal S1x1x80x256 .bf16) (ao : Vec Ideal S1x80x256 .f32)

theorem parts0 (ks : Vec Ideal S1x256x128 .bf16) (qs : Vec Ideal S1x1x128x256 .bf16) :
    k0_pay39 (k0_pay32 ks qs) (k0_pay37 ks qs mo) (k0_pay38 ks qs mo) vs ao = accVec (scoreVec ks qs) mo vs ao := rfl
theorem parts5 : k0_pay75 (k0_pay72 s mo) (k0_pay73 s mo) (k0_pay74 vs) (constant S80x256 .f32 0x00000000#32) ao = accVec s mo vs ao := rfl
theorem parts1 : k0_pay46 (k0_pay44 s mo) (k0_pay45 s mo) vs ao = accVec s mo vs ao := rfl
theorem parts2 : k0_pay53 (k0_pay51 s mo) (k0_pay52 s mo) vs ao = accVec s mo vs ao := rfl
theorem parts3 : k0_pay60 (k0_pay58 s mo) (k0_pay59 s mo) vs ao = accVec s mo vs ao := rfl
theorem parts4 : k0_pay67 (k0_pay65 s mo) (k0_pay66 s mo) vs ao = accVec s mo vs ao := rfl
theorem parts6 : k0_pay82 (k0_pay80 s mo) (k0_pay81 s mo vs) ao = accVec s mo vs ao := rfl
theorem parts7 : k0_pay89 (k0_pay87 s mo) (k0_pay88 s mo vs) ao = accVec s mo vs ao := rfl
theorem parts8 : k0_pay97 (k0_pay94 s mo) (k0_pay95 s mo vs) (k0_pay96 ao) = accVec s mo vs ao := rfl

end

theorem negInf : Ideal.ofBits .f32 0xFF800000#32 = ⊥ := by
  simp [Ideal.ofBits, Ideal.ieee]

theorem scoreVec_apply (ks : Vec Ideal S1x256x128 .bf16) (qs : Vec Ideal S1x1x128x256 .bf16) (i : Fin 256) (c : Fin 256) :
    scoreVec ks qs (ix2 i c) = ∑ d : Fin 128, ks (ix3 0 i d) * qs (ix4 0 0 d c) := by
  pointwise [scoreVec, k0_pay32]

theorem pay150_apply (s : FVec Ideal S256x256 .f32) (mo : Vec Ideal S1x1x256 .f32) (c : Fin 256) :
    k0_pay150 s mo (ix2 0 c) = max (mo (ix3 0 0 c)) (Finset.univ.fold max ⊥ fun i : Fin 256 => s (ix2 i c)) := by
  pointwise [k0_pay150, k0_pay149]
  rw [negInf]

theorem maxVec_apply (s : FVec Ideal S256x256 .f32) (mo : Vec Ideal S1x1x256 .f32) (c : Fin 256) :
    maxVec s mo (ix3 0 0 c) = k0_pay150 s mo (ix2 0 c) := by
  unfold maxVec
  generalize k0_pay150 s mo = z
  pointwise [k0_pay2]

theorem accVec_apply (s : FVec Ideal S256x256 .f32) (mo : Vec Ideal S1x1x256 .f32) (vs : Vec Ideal S1x1x80x256 .bf16)
    (ao : Vec Ideal S1x80x256 .f32) (r : Fin 80) (c : Fin 256) :
    accVec s mo vs ao (ix3 0 r c)
      = ao (ix3 0 r c) * Ideal.exp2 (mo (ix3 0 0 c) - k0_pay150 s mo (ix2 0 c))
        + ∑ i : Fin 256, vs (ix4 0 0 r i) * Ideal.exp2 (s (ix2 i c) - k0_pay150 s mo (ix2 0 c)) := by
  unfold accVec k0_pay151
  generalize k0_pay150 s mo = z
  pointwise [k0_pay149]
  rfl

end Cert.Kernel4Ideal.Step

end
-- ==== Proof.CtxReads.lean ====
/- What the kernel reads for one score head: a slab of the keys, the head's queries, the head's values, and the head's rows of
   the two scratch arrays, each at an index; and the two vectors it computes from them. -/
module

public import proofs.«01_k».proof.Proof.CtxStep

@[expose] public section

set_option maxRecDepth 16384

noncomputable section

open scoped BigOperators
open Idealize.ShloMosaic

namespace Cert.Kernel4Ideal.Step

open Cert.Kernel4Ideal Cert.Kernel4Ideal.Gen
open Cert.KernelIdeal.Step (slab vhead)

/-- The maxima of a scratch array, by head and query. -/
abbrev maxOf (x : Vec Ideal S20x1x256 .f32) : Fin 20 → Fin 256 → EReal := fun h c => x (ix3 h 0 c)

/-- The weighted sums of a scratch array, by head, row and query. -/
abbrev accOf (x : Vec Ideal S20x80x256 .f32) : Fin 20 → Fin 80 → Fin 256 → EReal := fun h r c => x (ix3 h r c)

/-- A head's row of maxima fits in its scratch array. -/
theorem inb_m (h : Fin 20) : ∀ a, (![h.val, 0, 0] : Fin 3 → ℕ) a + S1x1x256.size a ≤ S20x1x256.size a
  | ⟨0, _⟩ => h.isLt
  | ⟨1, _⟩ => Nat.le_refl 1
  | ⟨2, _⟩ => Nat.le_refl 256

/-- A head's weighted sums fit in their scratch array. -/
theorem inb_a (h : Fin 20) : ∀ a, (![h.val, 0, 0] : Fin 3 → ℕ) a + S1x80x256.size a ≤ S20x80x256.size a
  | ⟨0, _⟩ => h.isLt
  | ⟨1, _⟩ => Nat.le_refl 80
  | ⟨2, _⟩ => Nat.le_refl 256

section
variable {M3 : Memref sig .tc .vmem S1x20x128x256 .bf16} {M4 : Memref sig .tc .vmem S1x256x896 .bf16}
  {M5 : Memref sig .tc .vmem S1x10x80x256 .bf16} {M9 : Memref sig .tc .vmem S20x80x256 .f32} {M10 : Memref sig .tc .vmem S20x1x256 .f32}

/-- A head's queries, read from the query block. -/
theorem read_q (hM : M3.IsWhole) (x : Vec Ideal S1x20x128x256 .bf16) (h : Fin 20)
    (inb : ∀ a, (![0, h.val, 0, 0] : Fin 4 → ℕ) a + S1x1x128x256.size a ≤ S1x20x128x256.size a) (d : Fin 128) (c : Fin 256) :
    View.readAt (Elt Ideal) M3.view (Rect.unit (s := S1x20x128x256) ![0, h.val, 0, 0] S1x1x128x256.size inb).toLoadRect (hM.unread x) (ix4 0 0 d c)
      = x (ix4 0 h d c) := by
  refine (hM.readAt_unread x _ _).trans (congrArg x ?_)
  funext a
  apply Fin.ext
  match a with
  | ⟨0, _⟩ => rfl
  | ⟨1, _⟩ => show h.val + 1 * 0 = h.val; omega
  | ⟨2, _⟩ => show 0 + 1 * d.val = d.val; omega
  | ⟨3, _⟩ => show 0 + 1 * c.val = c.val; omega

/-- A head's key slab, read from the key block. -/
theorem read_k (hM : M4.IsWhole) (x : Vec Ideal S1x256x896 .bf16) (h : Fin 20) (o : ℕ) (ho : o = 128 * (slab h).val)
    (inb : ∀ a, (![0, 0, o] : Fin 3 → ℕ) a + S1x256x128.size a ≤ S1x256x896.size a) (i : Fin 256) (d : Fin 128) :
    View.readAt (Elt Ideal) M4.view (Rect.unit (s := S1x256x896) ![0, 0, o] S1x256x128.size inb).toLoadRect (hM.unread x) (ix3 0 i d)
      = x (ix3 0 i ⟨128 * (slab h).val + d, by have := (slab h).isLt; omega⟩) := by
  subst ho
  refine (hM.readAt_unread x _ _).trans (congrArg x ?_)
  funext a
  apply Fin.ext
  match a with
  | ⟨0, _⟩ => rfl
  | ⟨1, _⟩ => show 0 + 1 * i.val = i.val; omega
  | ⟨2, _⟩ => show 128 * (slab h).val + 1 * d.val = 128 * (slab h).val + d.val; omega

/-- A head's values, read from the value block. -/
theorem read_v (hM : M5.IsWhole) (x : Vec Ideal S1x10x80x256 .bf16) (h : Fin 20) (o : ℕ) (ho : o = (vhead h).val)
    (inb : ∀ a, (![0, o, 0, 0] : Fin 4 → ℕ) a + S1x1x80x256.size a ≤ S1x10x80x256.size a) (r : Fin 80) (i : Fin 256) :
    View.readAt (Elt Ideal) M5.view (Rect.unit (s := S1x10x80x256) ![0, o, 0, 0] S1x1x80x256.size inb).toLoadRect (hM.unread x) (ix4 0 0 r i)
      = x (ix4 0 (vhead h) r i) := by
  subst ho
  refine (hM.readAt_unread x _ _).trans (congrArg x ?_)
  funext a
  apply Fin.ext
  match a with
  | ⟨0, _⟩ => rfl
  | ⟨1, _⟩ => show (vhead h).val + 1 * 0 = (vhead h).val; omega
  | ⟨2, _⟩ => show 0 + 1 * r.val = r.val; omega
  | ⟨3, _⟩ => show 0 + 1 * i.val = i.val; omega

/-- Where a head's row of maxima lies in its scratch array. -/
theorem emb_m (h : Fin 20) (inb : ∀ a, (![h.val, 0, 0] : Fin 3 → ℕ) a + S1x1x256.size a ≤ S20x1x256.size a) (c : Fin 256) :
    (Rect.unit (s := S20x1x256) ![h.val, 0, 0] S1x1x256.size inb).emb (ix3 0 0 c) = ix3 h 0 c := by
  funext a
  apply Fin.ext
  match a with
  | ⟨0, _⟩ => show h.val + 1 * 0 = h.val; omega
  | ⟨1, _⟩ => rfl
  | ⟨2, _⟩ => show 0 + 1 * c.val = c.val; omega

/-- Where a head's rows of weighted sums lie in their scratch array. -/
theorem emb_a (h : Fin 20) (inb : ∀ a, (![h.val, 0, 0] : Fin 3 → ℕ) a + S1x80x256.size a ≤ S20x80x256.size a) (r : Fin 80) (c : Fin 256) :
    (Rect.unit (s := S20x80x256) ![h.val, 0, 0] S1x80x256.size inb).emb (ix3 0 r c) = ix3 h r c := by
  funext a
  apply Fin.ext
  match a with
  | ⟨0, _⟩ => show h.val + 1 * 0 = h.val; omega
  | ⟨1, _⟩ => show 0 + 1 * r.val = r.val; omega
  | ⟨2, _⟩ => show 0 + 1 * c.val = c.val; omega

/-- A head's row of maxima, read from the scratch array. -/
theorem read_m (hM : M10.IsWhole) (x : Vec Ideal S20x1x256 .f32) (h : Fin 20)
    (inb : ∀ a, (![h.val, 0, 0] : Fin 3 → ℕ) a + S1x1x256.size a ≤ S20x1x256.size a) (c : Fin 256) :
    View.readAt (Elt Ideal) M10.view (Rect.unit (s := S20x1x256) ![h.val, 0, 0] S1x1x256.size inb).toLoadRect (hM.unread x) (ix3 0 0 c)
      = maxOf x h c :=
  (hM.readAt_unread x _ _).trans (congrArg x (emb_m h inb c))

/-- A head's weighted sums, read from the scratch array. -/
theorem read_a (hM : M9.IsWhole) (x : Vec Ideal S20x80x256 .f32) (h : Fin 20)
    (inb : ∀ a, (![h.val, 0, 0] : Fin 3 → ℕ) a + S1x80x256.size a ≤ S20x80x256.size a) (r : Fin 80) (c : Fin 256) :
    View.readAt (Elt Ideal) M9.view (Rect.unit (s := S20x80x256) ![h.val, 0, 0] S1x80x256.size inb).toLoadRect (hM.unread x) (ix3 0 r c)
      = accOf x h r c :=
  (hM.readAt_unread x _ _).trans (congrArg x (emb_a h inb r c))

/-- A head's row of maxima, read from a list of stores. -/
theorem cov_m (L : List (View.Piece (Elt Ideal) S20x1x256 .f32)) (h : Fin 20)
    (inb : ∀ a, (![h.val, 0, 0] : Fin 3 → ℕ) a + S1x1x256.size a ≤ S20x1x256.size a) (c : Fin 256) :
    M10.view.readCov L (Rect.unit (s := S20x1x256) ![h.val, 0, 0] S1x1x256.size inb).toLoadRect (ix3 0 0 c) = View.canon L (ix3 h 0 c) :=
  (congrFun (View.readCov_eq_canon' M10.view L _) _).trans (congrArg _ (emb_m h inb c))

/-- A head's weighted sums, read from a list of stores. -/
theorem cov_a (L : List (View.Piece (Elt Ideal) S20x80x256 .f32)) (h : Fin 20)
    (inb : ∀ a, (![h.val, 0, 0] : Fin 3 → ℕ) a + S1x80x256.size a ≤ S20x80x256.size a) (r : Fin 80) (c : Fin 256) :
    M9.view.readCov L (Rect.unit (s := S20x80x256) ![h.val, 0, 0] S1x80x256.size inb).toLoadRect (ix3 0 r c) = View.canon L (ix3 h r c) :=
  (congrFun (View.readCov_eq_canon' M9.view L _) _).trans (congrArg _ (emb_a h inb r c))

end

variable (q : Vec Ideal S1x20x128x256 .bf16) (k : Vec Ideal S1x256x896 .bf16) (v : Vec Ideal S1x10x80x256 .bf16)

/-- The new maxima of a head, from what it reads. -/
theorem max_step (m : Fin 20 → Fin 256 → EReal) (h : Fin 20)
    (ks : Vec Ideal S1x256x128 .bf16) (qs : Vec Ideal S1x1x128x256 .bf16) (mo : Vec Ideal S1x1x256 .f32)
    (hk : ∀ i d, ks (ix3 0 i d) = k (ix3 0 i ⟨128 * (slab h).val + d.val, by have := (slab h).isLt; omega⟩))
    (hq : ∀ d c, qs (ix4 0 0 d c) = q (ix4 0 h d c)) (hm : ∀ c, mo (ix3 0 0 c) = m h c) (c : Fin 256) :
    maxVec (scoreVec ks qs) mo (ix3 0 0 c) = newMax q k m h c := by
  rw [maxVec_apply, pay150_apply, hm]
  unfold newMax score
  simp only [scoreVec_apply, hk, hq]

/-- The new weighted sums of a head, from what it reads. -/
theorem acc_step (m : Fin 20 → Fin 256 → EReal) (a : Fin 20 → Fin 80 → Fin 256 → EReal) (h : Fin 20)
    (ks : Vec Ideal S1x256x128 .bf16) (qs : Vec Ideal S1x1x128x256 .bf16) (mo : Vec Ideal S1x1x256 .f32)
    (vs : Vec Ideal S1x1x80x256 .bf16) (ao : Vec Ideal S1x80x256 .f32)
    (hk : ∀ i d, ks (ix3 0 i d) = k (ix3 0 i ⟨128 * (slab h).val + d.val, by have := (slab h).isLt; omega⟩))
    (hq : ∀ d c, qs (ix4 0 0 d c) = q (ix4 0 h d c)) (hm : ∀ c, mo (ix3 0 0 c) = m h c)
    (hv : ∀ r i, vs (ix4 0 0 r i) = v (ix4 0 (vhead h) r i)) (ha : ∀ r c, ao (ix3 0 r c) = a h r c) (r : Fin 80) (c : Fin 256) :
    accVec (scoreVec ks qs) mo vs ao (ix3 0 r c) = newAcc q k v m a h r c := by
  rw [accVec_apply, pay150_apply, hm, ha]
  unfold newAcc newMax score
  simp only [scoreVec_apply, hk, hq, hv]

/-- A store of a head's maxima agrees with a function of head and query once its rows do. -/
theorem piece_m (g : Fin 20 → Fin 256 → EReal) (h : Fin 20)
    (inb : ∀ a, (![h.val, 0, 0] : Fin 3 → ℕ) a + S1x1x256.size a ≤ S20x1x256.size a) (W : Vec Ideal S1x1x256 .f32)
    (hW : ∀ c, W (ix3 0 0 c) = g h c) (x : (Rect.unit (s := S20x1x256) ![h.val, 0, 0] S1x1x256.size inb).shape.Idx) :
    W x = (fun i : S20x1x256.Idx => g (i 0) (i 2)) ((Rect.unit (s := S20x1x256) ![h.val, 0, 0] S1x1x256.size inb).emb x) := by
  change S1x1x256.Idx at x
  idx_vars x
  obtain rfl : x0 = 0 := Subsingleton.elim _ _
  obtain rfl : x1 = 0 := Subsingleton.elim _ _
  exact (hW x2).trans (congrArg (fun i : S20x1x256.Idx => g (i 0) (i 2)) (emb_m h inb x2)).symm

/-- A store of a head's weighted sums agrees with a function of head, row and query once its rows do. -/
theorem piece_a (g : Fin 20 → Fin 80 → Fin 256 → EReal) (h : Fin 20)
    (inb : ∀ a, (![h.val, 0, 0] : Fin 3 → ℕ) a + S1x80x256.size a ≤ S20x80x256.size a) (W : Vec Ideal S1x80x256 .f32)
    (hW : ∀ r c, W (ix3 0 r c) = g h r c) (x : (Rect.unit (s := S20x80x256) ![h.val, 0, 0] S1x80x256.size inb).shape.Idx) :
    W x = (fun i : S20x80x256.Idx => g (i 0) (i 1) (i 2))
      ((Rect.unit (s := S20x80x256) ![h.val, 0, 0] S1x80x256.size inb).emb x) := by
  change S1x80x256.Idx at x
  idx_vars x
  obtain rfl : x0 = 0 := Subsingleton.elim _ _
  exact (hW x1 x2).trans (congrArg (fun i : S20x80x256.Idx => g (i 0) (i 1) (i 2)) (emb_a h inb x1 x2)).symm

/-- A store of another head's maxima is passed over. -/
theorem skip_m (L : List (View.Piece (Elt Ideal) S20x1x256 .f32)) (h h' : Fin 20) (hne : h ≠ h')
    (inb : ∀ a, (![h'.val, 0, 0] : Fin 3 → ℕ) a + S1x1x256.size a ≤ S20x1x256.size a)
    (W : (Rect.unit (s := S20x1x256) ![h'.val, 0, 0] S1x1x256.size inb).shape.Idx → EReal) (c : Fin 256) (z : EReal)
    (hL : View.canon L (ix3 h 0 c) = z) :
    View.canon (⟨Rect.unit (s := S20x1x256) ![h'.val, 0, 0] S1x1x256.size inb, W⟩ :: L) (ix3 h 0 c) = z := by
  refine Eq.trans (View.canon_cons_of_not_mem _ _ ?_) hL
  rw [LoadRect.mem_set]
  intro hm
  obtain ⟨j, hj, e⟩ := hm 0
  have e' : h.val = h'.val + 1 * j := e
  have hj' : j < 1 := hj
  exact hne (Fin.ext (by omega))

/-- A store of another head's weighted sums is passed over. -/
theorem skip_a (L : List (View.Piece (Elt Ideal) S20x80x256 .f32)) (h h' : Fin 20) (hne : h ≠ h')
    (inb : ∀ a, (![h'.val, 0, 0] : Fin 3 → ℕ) a + S1x80x256.size a ≤ S20x80x256.size a)
    (W : (Rect.unit (s := S20x80x256) ![h'.val, 0, 0] S1x80x256.size inb).shape.Idx → EReal) (r : Fin 80) (c : Fin 256) (z : EReal)
    (hL : View.canon L (ix3 h r c) = z) :
    View.canon (⟨Rect.unit (s := S20x80x256) ![h'.val, 0, 0] S1x80x256.size inb, W⟩ :: L) (ix3 h r c) = z := by
  refine Eq.trans (View.canon_cons_of_not_mem _ _ ?_) hL
  rw [LoadRect.mem_set]
  intro hm
  obtain ⟨j, hj, e⟩ := hm 0
  have e' : h.val = h'.val + 1 * j := e
  have hj' : j < 1 := hj
  exact hne (Fin.ext (by omega))

/-- A list of stores that leaves the maxima `g` for the heads before `n` and minus infinity for the others. -/
structure StateM (g : Fin 20 → Fin 256 → EReal) (n : ℕ) (L : List (View.Piece (Elt Ideal) S20x1x256 .f32)) : Prop where
  done : ∀ h : Fin 20, h.val < n → ∀ c, View.canon L (ix3 h 0 c) = g h c
  blank : ∀ h : Fin 20, n ≤ h.val → ∀ c, View.canon L (ix3 h 0 c) = (⊥ : EReal)

/-- A list of stores that leaves the weighted sums `g` for the heads before `n` and zero for the others. -/
structure StateA (g : Fin 20 → Fin 80 → Fin 256 → EReal) (n : ℕ) (L : List (View.Piece (Elt Ideal) S20x80x256 .f32)) : Prop where
  done : ∀ h : Fin 20, h.val < n → ∀ r c, View.canon L (ix3 h r c) = g h r c
  blank : ∀ h : Fin 20, n ≤ h.val → ∀ r c, View.canon L (ix3 h r c) = (0 : EReal)

/-- Storing the next head's maxima advances such a list by one head. -/
theorem StateM.cons {g : Fin 20 → Fin 256 → EReal} {L : List (View.Piece (Elt Ideal) S20x1x256 .f32)} (k : Fin 20)
    (hL : StateM g k.val L) (W : Vec Ideal S1x1x256 .f32) (hW : ∀ c, W (ix3 0 0 c) = g k c) :
    StateM g (k.val + 1) (⟨Rect.unit (s := S20x1x256) ![k.val, 0, 0] S1x1x256.size (inb_m k), W⟩ :: L) where
  done h hh c := by
    by_cases e : h = k
    · subst e
      exact (congrArg (View.canon (Val := Elt Ideal) _) (emb_m h (inb_m h) c)).symm.trans ((View.canon_cons_emb _ _ _ _).trans (hW c))
    · exact skip_m L h k e (inb_m k) W c _ (hL.done h (by have := fun e' => e (Fin.ext e'); omega) c)
  blank h hh c := skip_m L h k (fun e => absurd hh (by rw [e]; omega)) (inb_m k) W c _ (hL.blank h (by omega) c)

/-- Storing the next head's weighted sums advances such a list by one head. -/
theorem StateA.cons {g : Fin 20 → Fin 80 → Fin 256 → EReal} {L : List (View.Piece (Elt Ideal) S20x80x256 .f32)} (k : Fin 20)
    (hL : StateA g k.val L) (W : Vec Ideal S1x80x256 .f32) (hW : ∀ r c, W (ix3 0 r c) = g k r c) :
    StateA g (k.val + 1) (⟨Rect.unit (s := S20x80x256) ![k.val, 0, 0] S1x80x256.size (inb_a k), W⟩ :: L) where
  done h hh r c := by
    by_cases e : h = k
    · subst e
      exact (congrArg (View.canon (Val := Elt Ideal) _) (emb_a h (inb_a h) r c)).symm.trans ((View.canon_cons_emb _ _ _ _).trans (hW r c))
    · exact skip_a L h k e (inb_a k) W r c _ (hL.done h (by have := fun e' => e (Fin.ext e'); omega) r c)
  blank h hh r c := skip_a L h k (fun e => absurd hh (by rw [e]; omega)) (inb_a k) W r c _ (hL.blank h (by omega) r c)

/-- The first store sets every maximum to minus infinity. -/
theorem stateM_init (g : Fin 20 → Fin 256 → EReal) : StateM g 0 (kernelRun0_A.sl.HS1_1 (F := Ideal)) := ⟨fun _ h => absurd h (Nat.not_lt_zero _), fun h _ c => by
  unfold kernelRun0_A.sl.HS1_1
  refine (congrFun (View.canon_unit_zero (by decide) _ _) _).trans ?_
  pointwise [k0_pay31]
  exact negInf⟩

/-- The first store sets every weighted sum to zero. -/
theorem stateA_init (g : Fin 20 → Fin 80 → Fin 256 → EReal) : StateA g 0 (kernelRun0_A.sl.HS0_1 (F := Ideal)) := ⟨fun _ h => absurd h (Nat.not_lt_zero _), fun h _ r c => by
  unfold kernelRun0_A.sl.HS0_1
  refine (congrFun (View.canon_unit_zero (by decide) _ _) _).trans ?_
  pointwise [k0_pay30]⟩

end Cert.Kernel4Ideal.Step

end
-- ==== Proof.CtxOutput.lean ====
/- What the context call writes to the output: every head's weighted sums divided by its sum of weights, the differential heads in
   pairs and normalised. First as plain functions of the weighted sums, then the vectors the kernel computes them with. -/
module

public import proofs.«01_k».proof.Proof.CtxReads

@[expose] public section

set_option maxRecDepth 16384

noncomputable section

open scoped BigOperators
open Idealize.ShloMosaic

namespace Cert.Kernel4Ideal.Step

open Cert.Kernel4Ideal Cert.Kernel4Ideal.Gen
open Cert.KernelIdeal.Step (slab vhead)

variable (a : Fin 20 → Fin 80 → Fin 256 → EReal) (lv : Vec Ideal S4x32 .f32) (gs : Vec Ideal S64x256 .f32)

/-- A head's output: a weighted sum over the sum of the weights, which row 64 holds. -/
def headOut (h : Fin 20) (r : Fin 64) (c : Fin 256) : EReal := Ideal.div (a h ⟨r.val, by omega⟩ c) (a h 64 c)

/-- The factor of the second head of a differential pair. -/
def lamOf : EReal :=
  Ideal.exp (∑ i : Fin 32, lv (ix2 0 i) * lv (ix2 1 i)) - Ideal.exp (∑ i : Fin 32, lv (ix2 2 i) * lv (ix2 3 i))
    + Ideal.ofBits .f32 0x3E4CCCCD#32

/-- The difference of a pair of heads. -/
def diffOf (h h' : Fin 20) (r : Fin 64) (c : Fin 256) : EReal := headOut a h r c - lamOf lv * headOut a h' r c

/-- The output of a pair of heads: their difference, normalised over its rows. -/
def pairOut (h h' : Fin 20) (r : Fin 64) (c : Fin 256) : EReal :=
  diffOf a lv h h' r c
    * Ideal.rsqrt (Ideal.div (∑ i : Fin 64, diffOf a lv h h' i c * diffOf a lv h h' i c) (Ideal.ofBits .f32 0x42800000#32)
        + Ideal.ofBits .f32 0x358637BD#32)
    * gs (ix2 r c) * Ideal.ofBits .f32 0x3F4CCCCD#32

/-- The output rows `64 j .. 64 j + 63`: four plain heads, four pairs, eight plain heads. -/
def outRow (j : Fin 16) (r : Fin 64) (c : Fin 256) : EReal :=
  if h : j.val < 4 then headOut a ⟨j.val, by omega⟩ r c
  else if h' : j.val < 8 then pairOut a lv gs ⟨2 * j.val - 4, by omega⟩ ⟨2 * j.val - 3, by omega⟩ r c
  else headOut a ⟨j.val + 4, by omega⟩ r c

/-- The vector of a plain head's output. -/
abbrev plainVec (x : Vec Ideal S1x80x256 .f32) : FVec Ideal S1x64x256 .bf16 := k0_pay3 x

/-- The vector of a pair's output. -/
abbrev pairVec (lv : Vec Ideal S4x32 .f32) (gs : Vec Ideal S64x256 .f32) (x y : Vec Ideal S1x80x256 .f32) : FVec Ideal S1x64x256 .bf16 :=
  k0_pay15 (k0_pay8 lv) (k0_pay9 gs) x y

theorem plainVec_apply (x : Vec Ideal S1x80x256 .f32) (r : Fin 64) (c : Fin 256) :
    plainVec x (ix3 0 r c) = Ideal.div (x (ix3 0 ⟨r.val, by omega⟩ c)) (x (ix3 0 64 c)) := by
  pointwise [plainVec, k0_pay3]

theorem lam_apply : k0_pay8 lv (ix2 0 0) = lamOf lv := by
  unfold lamOf
  pointwise [k0_pay8]

/-- The vector of a pair's output, from weighted sums read from the scratch array. -/
theorem pairVec_apply (x y : Vec Ideal S1x80x256 .f32) (h h' : Fin 20) (hx : ∀ r c, x (ix3 0 r c) = a h r c)
    (hy : ∀ r c, y (ix3 0 r c) = a h' r c) (r : Fin 64) (c : Fin 256) :
    pairVec lv gs x y (ix3 0 r c) = pairOut a lv gs h h' r c := by
  rw [show pairVec lv gs x y = k0_pay15 (k0_pay8 lv) (k0_pay9 gs) x y from rfl]
  have e := lam_apply lv
  revert e
  generalize k0_pay8 lv = z
  intro e
  pointwise [k0_pay15, k0_pay9]
  simp only [e, hx, hy]
  rfl

/-- The vector of a plain head's output, from weighted sums read from the scratch array. -/
theorem plainVec_eq (x : Vec Ideal S1x80x256 .f32) (h : Fin 20) (hx : ∀ r c, x (ix3 0 r c) = a h r c) (r : Fin 64) (c : Fin 256) :
    plainVec x (ix3 0 r c) = headOut a h r c := by
  rw [plainVec_apply, hx, hx]
  rfl

/-- A pair's output from the whole factor block and the whole scale block. -/
theorem pair_step (x y : Vec Ideal S1x80x256 .f32) (h h' : Fin 20) (lv' : Vec Ideal S4x32 .f32) (gs' : Vec Ideal S64x256 .f32)
    (hl : lv' = lv) (hg : gs' = gs) (hx : ∀ r c, x (ix3 0 r c) = a h r c)
    (hy : ∀ r c, y (ix3 0 r c) = a h' r c) (r : Fin 64) (c : Fin 256) :
    pairVec lv' gs' x y (ix3 0 r c) = pairOut a lv gs h h' r c := by
  subst hl hg
  exact pairVec_apply a _ _ x y h h' hx hy r c

/-- The whole factor block, read. -/
theorem read_l {M : Memref sig .tc .vmem S4x32 .f32} (hM : M.IsWhole) (x : Vec Ideal S4x32 .f32)
    (inb : ∀ a, (![0, 0] : Fin 2 → ℕ) a + S4x32.size a ≤ S4x32.size a) :
    View.readAt (Elt Ideal) M.view (Rect.unit (s := S4x32) ![0, 0] S4x32.size inb).toLoadRect (hM.unread x) = x := by
  funext y
  refine (hM.readAt_unread x _ _).trans (congrArg x (funext fun a => Fin.ext ?_))
  match a with
  | ⟨0, _⟩ => show 0 + 1 * (y 0).val = (y 0).val; omega
  | ⟨1, _⟩ => show 0 + 1 * (y 1).val = (y 1).val; omega

/-- The whole scale block, read. -/
theorem read_g {M : Memref sig .tc .vmem S64x256 .f32} (hM : M.IsWhole) (x : Vec Ideal S64x256 .f32)
    (inb : ∀ a, (![0, 0] : Fin 2 → ℕ) a + S64x256.size a ≤ S64x256.size a) :
    View.readAt (Elt Ideal) M.view (Rect.unit (s := S64x256) ![0, 0] S64x256.size inb).toLoadRect (hM.unread x) = x := by
  funext y
  refine (hM.readAt_unread x _ _).trans (congrArg x (funext fun a => Fin.ext ?_))
  match a with
  | ⟨0, _⟩ => show 0 + 1 * (y 0).val = (y 0).val; omega
  | ⟨1, _⟩ => show 0 + 1 * (y 1).val = (y 1).val; omega

/-! The kernel computes some of these vectors in parts. -/

section
variable (x y : Vec Ideal S1x80x256 .f32)

theorem parts_plain3 : k0_pay7 (k0_pay6 x) = plainVec x := rfl
theorem parts_plain13 : k0_pay22 (k0_pay21 x) = plainVec x := rfl
theorem parts_plain16 : k0_pay26 (k0_pay25 x) = plainVec x := rfl
theorem parts_pair0 :
    k0_pay12 (k0_pay9 gs) (k0_pay10 lv x y) (k0_pay11 lv x y) (Scalar.ofBits .f32 0x42800000#32) = pairVec lv gs x y := rfl
theorem parts_pair1 : k0_pay14 (k0_pay13 (k0_pay8 lv) (k0_pay9 gs) x y) = pairVec lv gs x y := rfl
theorem parts_pair3 : k0_pay19 (k0_pay8 lv) (k0_pay9 gs) (k0_pay17 x) (k0_pay18 x) y = pairVec lv gs x y := rfl

end

/-- Rows `64 j .. 64 j + 63` fit in the output block. -/
theorem inb_o (j : Fin 16) : ∀ a, (![0, 64 * j.val, 0] : Fin 3 → ℕ) a + S1x64x256.size a ≤ S1x1024x256.size a
  | ⟨0, _⟩ => Nat.le_refl 1
  | ⟨1, _⟩ => by show 64 * j.val + 64 ≤ 1024; omega
  | ⟨2, _⟩ => Nat.le_refl 256

/-- A store of sixty-four output rows agrees with a function of row and query once its rows do. -/
theorem piece_o (g : Fin 16 → Fin 64 → Fin 256 → EReal) (j : Fin 16) (o : ℕ) (ho : o = 64 * j.val)
    (inb : ∀ a, (![0, o, 0] : Fin 3 → ℕ) a + S1x64x256.size a ≤ S1x1024x256.size a) (W : Vec Ideal S1x64x256 .bf16)
    (hW : ∀ r c, W (ix3 0 r c) = g j r c) (x : (Rect.unit (s := S1x1024x256) ![0, o, 0] S1x64x256.size inb).shape.Idx) :
    W x = (fun i : S1x1024x256.Idx => g ⟨(i 1).val / 64, by have : (i 1).val < 1024 := (i 1).isLt; omega⟩
        ⟨(i 1).val % 64, by omega⟩ (i 2))
      ((Rect.unit (s := S1x1024x256) ![0, o, 0] S1x64x256.size inb).emb x) := by
  subst ho
  change S1x64x256.Idx at x
  idx_vars x
  obtain rfl : x0 = 0 := Subsingleton.elim _ _
  have e1 : ((Rect.unit (s := S1x1024x256) ![0, 64 * j.val, 0] S1x64x256.size inb).emb (ix3 0 x1 x2) 1).val = 64 * j.val + x1.val := by
    show 64 * j.val + 1 * x1.val = _; omega
  have e2 : (Rect.unit (s := S1x1024x256) ![0, 64 * j.val, 0] S1x64x256.size inb).emb (ix3 0 x1 x2) 2 = x2 := by
    apply Fin.ext; show 0 + 1 * x2.val = x2.val; omega
  refine (hW x1 x2).trans ?_
  have hj : j = ⟨((Rect.unit (s := S1x1024x256) ![0, 64 * j.val, 0] S1x64x256.size inb).emb (ix3 0 x1 x2) 1).val / 64,
      by rw [e1]; omega⟩ := Fin.ext (by show j.val = _ / 64; rw [e1]; omega)
  have hx : x1 = ⟨((Rect.unit (s := S1x1024x256) ![0, 64 * j.val, 0] S1x64x256.size inb).emb (ix3 0 x1 x2) 1).val % 64, by omega⟩ :=
    Fin.ext (by show x1.val = _ % 64; rw [e1]; omega)
  exact congr (congr (congrArg g hj) hx) e2.symm

end Cert.Kernel4Ideal.Step

end
-- ==== Proof.CtxFirst.lean ====
/- What the context keys leave in the two scratch arrays, which the call has just set to minus infinity and to zero: one head
   after another, the list of stores made so far holds the finished heads' rows and the starting values of the others. -/
module

public import proofs.«01_k».proof.Proof.CtxReads

@[expose] public section

set_option maxRecDepth 16384

noncomputable section

open scoped BigOperators
open Idealize.ShloMosaic

namespace Cert.Kernel4Ideal.Step

open Cert.Kernel4Ideal Cert.Kernel4Ideal.Gen
open Cert.KernelIdeal.Step (slab vhead)

variable (c : Dev nD) (i : grid0.Coords) (arg3 : Memref sig .tc .vmem S1x20x128x256 .bf16) (harg3 : arg3.IsWhole)
  (arg4 : Memref sig .tc .vmem S1x256x896 .bf16) (harg4 : arg4.IsWhole) (arg5 : Memref sig .tc .vmem S1x10x80x256 .bf16) (harg5 : arg5.IsWhole)
  (arg6 : Memref sig .tc .vmem S4x32 .f32) (harg6 : arg6.IsWhole) (arg7 : Memref sig .tc .vmem S64x256 .f32) (harg7 : arg7.IsWhole)
  (arg9 : Memref sig .tc .vmem S1x1024x256 .bf16) (harg9 : arg9.IsWhole) (arg10 : Memref sig .tc .vmem S20x80x256 .f32) (harg10 : arg10.IsWhole)
  (arg11 : Memref sig .tc .vmem S20x1x256 .f32) (harg11 : arg11.IsWhole)
  (x0 : Vec Ideal S1x20x128x256 .bf16) (x1 : Vec Ideal S1x256x896 .bf16) (x2 : Vec Ideal S1x10x80x256 .bf16) (x3 : Vec Ideal S4x32 .f32)
  (x4 : Vec Ideal S64x256 .f32)

/-- The maxima before the context keys. -/
abbrev startM : Fin 20 → Fin 256 → EReal := fun _ _ => ⊥

/-- The weighted sums before the context keys. -/
abbrev startA : Fin 20 → Fin 80 → Fin 256 → EReal := fun _ _ _ => 0

theorem readM (L : List (View.Piece (Elt Ideal) S20x1x256 .f32)) {g : Fin 20 → Fin 256 → EReal} (h : Fin 20) (hL : StateM g h.val L) (d : Fin 256) :
    arg11.view.readCov L (Rect.unit (s := S20x1x256) ![h.val, 0, 0] S1x1x256.size (inb_m h)).toLoadRect (ix3 0 0 d) = startM h d :=
  (cov_m L h (inb_m h) d).trans (hL.blank h (Nat.le_refl _) d)

theorem readA (L : List (View.Piece (Elt Ideal) S20x80x256 .f32)) {g : Fin 20 → Fin 80 → Fin 256 → EReal} (h : Fin 20) (hL : StateA g h.val L)
    (r : Fin 80) (d : Fin 256) :
    arg10.view.readCov L (Rect.unit (s := S20x80x256) ![h.val, 0, 0] S1x80x256.size (inb_a h)).toLoadRect (ix3 0 r d) = startA h r d :=
  (cov_a L h (inb_a h) r d).trans (hL.blank h (Nat.le_refl _) r d)

theorem stateM0 : StateM (newMax x0 x1 startM) 0 (kernelRun0_A.sl.HS1_1 (F := Ideal)) := stateM_init _

theorem stateA0 : StateA (newAcc x0 x1 x2 startM startA) 0 (kernelRun0_A.sl.HS0_1 (F := Ideal)) := stateA_init _

theorem stateM1 : StateM (newMax x0 x1 startM) 1 (kernelRun0_A.sl.HS1_2 c arg3 harg3 arg4 harg4 arg11 x0 x1) :=
  (stateM0 x0 x1).cons 0 _ (max_step x0 x1 startM 0 _ _ _ (read_k harg4 x1 0 0 (by decide) _) (read_q harg3 x0 0 _)
    (readM arg11 _ 0 (stateM0 x0 x1)))

theorem stateM2 : StateM (newMax x0 x1 startM) 2 (kernelRun0_A.sl.HS1_3 c arg3 harg3 arg4 harg4 arg11 x0 x1) :=
  (stateM1 c arg3 harg3 arg4 harg4 arg11 x0 x1).cons 1 _ (max_step x0 x1 startM 1 _ _ _ (read_k harg4 x1 1 128 (by decide) _) (read_q harg3 x0 1 _)
    (readM arg11 _ 1 (stateM1 c arg3 harg3 arg4 harg4 arg11 x0 x1)))

theorem stateM3 : StateM (newMax x0 x1 startM) 3 (kernelRun0_A.sl.HS1_4 c arg3 harg3 arg4 harg4 arg11 x0 x1) :=
  (stateM2 c arg3 harg3 arg4 harg4 arg11 x0 x1).cons 2 _ (max_step x0 x1 startM 2 _ _ _ (read_k harg4 x1 2 256 (by decide) _) (read_q harg3 x0 2 _)
    (readM arg11 _ 2 (stateM2 c arg3 harg3 arg4 harg4 arg11 x0 x1)))

theorem stateM4 : StateM (newMax x0 x1 startM) 4 (kernelRun0_A.sl.HS1_5 c arg3 harg3 arg4 harg4 arg11 x0 x1) :=
  (stateM3 c arg3 harg3 arg4 harg4 arg11 x0 x1).cons 3 _ (max_step x0 x1 startM 3 _ _ _ (read_k harg4 x1 3 384 (by decide) _) (read_q harg3 x0 3 _)
    (readM arg11 _ 3 (stateM3 c arg3 harg3 arg4 harg4 arg11 x0 x1)))

theorem stateM5 : StateM (newMax x0 x1 startM) 5 (kernelRun0_A.sl.HS1_6 c arg3 harg3 arg4 harg4 arg11 x0 x1) :=
  (stateM4 c arg3 harg3 arg4 harg4 arg11 x0 x1).cons 4 _ (max_step x0 x1 startM 4 _ _ _ (read_k harg4 x1 4 512 (by decide) _) (read_q harg3 x0 4 _)
    (readM arg11 _ 4 (stateM4 c arg3 harg3 arg4 harg4 arg11 x0 x1)))

theorem stateM6 : StateM (newMax x0 x1 startM) 6 (kernelRun0_A.sl.HS1_7 c arg3 harg3 arg4 harg4 arg11 x0 x1) :=
  (stateM5 c arg3 harg3 arg4 harg4 arg11 x0 x1).cons 5 _ (max_step x0 x1 startM 5 _ _ _ (read_k harg4 x1 5 512 (by decide) _) (read_q harg3 x0 5 _)
    (readM arg11 _ 5 (stateM5 c arg3 harg3 arg4 harg4 arg11 x0 x1)))

theorem stateM7 : StateM (newMax x0 x1 startM) 7 (kernelRun0_A.sl.HS1_8 c arg3 harg3 arg4 harg4 arg11 x0 x1) :=
  (stateM6 c arg3 harg3 arg4 harg4 arg11 x0 x1).cons 6 _ (max_step x0 x1 startM 6 _ _ _ (read_k harg4 x1 6 512 (by decide) _) (read_q harg3 x0 6 _)
    (readM arg11 _ 6 (stateM6 c arg3 harg3 arg4 harg4 arg11 x0 x1)))

theorem stateM8 : StateM (newMax x0 x1 startM) 8 (kernelRun0_A.sl.HS1_9 c arg3 harg3 arg4 harg4 arg11 x0 x1) :=
  (stateM7 c arg3 harg3 arg4 harg4 arg11 x0 x1).cons 7 _ (max_step x0 x1 startM 7 _ _ _ (read_k harg4 x1 7 512 (by decide) _) (read_q harg3 x0 7 _)
    (readM arg11 _ 7 (stateM7 c arg3 harg3 arg4 harg4 arg11 x0 x1)))

theorem stateM9 : StateM (newMax x0 x1 startM) 9 (kernelRun0_A.sl.HS1_10 c arg3 harg3 arg4 harg4 arg11 x0 x1) :=
  (stateM8 c arg3 harg3 arg4 harg4 arg11 x0 x1).cons 8 _ (max_step x0 x1 startM 8 _ _ _ (read_k harg4 x1 8 640 (by decide) _) (read_q harg3 x0 8 _)
    (readM arg11 _ 8 (stateM8 c arg3 harg3 arg4 harg4 arg11 x0 x1)))

theorem stateM10 : StateM (newMax x0 x1 startM) 10 (kernelRun0_A.sl.HS1_11 c arg3 harg3 arg4 harg4 arg11 x0 x1) :=
  (stateM9 c arg3 harg3 arg4 harg4 arg11 x0 x1).cons 9 _ (max_step x0 x1 startM 9 _ _ _ (read_k harg4 x1 9 640 (by decide) _) (read_q harg3 x0 9 _)
    (readM arg11 _ 9 (stateM9 c arg3 harg3 arg4 harg4 arg11 x0 x1)))

theorem stateM11 : StateM (newMax x0 x1 startM) 11 (kernelRun0_A.sl.HS1_12 c arg3 harg3 arg4 harg4 arg11 x0 x1) :=
  (stateM10 c arg3 harg3 arg4 harg4 arg11 x0 x1).cons 10 _ (max_step x0 x1 startM 10 _ _ _ (read_k harg4 x1 10 640 (by decide) _) (read_q harg3 x0 10 _)
    (readM arg11 _ 10 (stateM10 c arg3 harg3 arg4 harg4 arg11 x0 x1)))

theorem stateM12 : StateM (newMax x0 x1 startM) 12 (kernelRun0_A.sl.HS1_13 c arg3 harg3 arg4 harg4 arg11 x0 x1) :=
  (stateM11 c arg3 harg3 arg4 harg4 arg11 x0 x1).cons 11 _ (max_step x0 x1 startM 11 _ _ _ (read_k harg4 x1 11 640 (by decide) _) (read_q harg3 x0 11 _)
    (readM arg11 _ 11 (stateM11 c arg3 harg3 arg4 harg4 arg11 x0 x1)))

theorem stateM13 : StateM (newMax x0 x1 startM) 13 (kernelRun0_A.sl.HS1_14 c arg3 harg3 arg4 harg4 arg11 x0 x1) :=
  (stateM12 c arg3 harg3 arg4 harg4 arg11 x0 x1).cons 12 _ (max_step x0 x1 startM 12 _ _ _ (read_k harg4 x1 12 768 (by decide) _) (read_q harg3 x0 12 _)
    (readM arg11 _ 12 (stateM12 c arg3 harg3 arg4 harg4 arg11 x0 x1)))

theorem stateM14 : StateM (newMax x0 x1 startM) 14 (kernelRun0_A.sl.HS1_15 c arg3 harg3 arg4 harg4 arg11 x0 x1) :=
  (stateM13 c arg3 harg3 arg4 harg4 arg11 x0 x1).cons 13 _ (max_step x0 x1 startM 13 _ _ _ (read_k harg4 x1 13 768 (by decide) _) (read_q harg3 x0 13 _)
    (readM arg11 _ 13 (stateM13 c arg3 harg3 arg4 harg4 arg11 x0 x1)))

theorem stateM15 : StateM (newMax x0 x1 startM) 15 (kernelRun0_A.sl.HS1_16 c arg3 harg3 arg4 harg4 arg11 x0 x1) :=
  (stateM14 c arg3 harg3 arg4 harg4 arg11 x0 x1).cons 14 _ (max_step x0 x1 startM 14 _ _ _ (read_k harg4 x1 14 768 (by decide) _) (read_q harg3 x0 14 _)
    (readM arg11 _ 14 (stateM14 c arg3 harg3 arg4 harg4 arg11 x0 x1)))

theorem stateM16 : StateM (newMax x0 x1 startM) 16 (kernelRun0_A.sl.HS1_17 c arg3 harg3 arg4 harg4 arg11 x0 x1) :=
  (stateM15 c arg3 harg3 arg4 harg4 arg11 x0 x1).cons 15 _ (max_step x0 x1 startM 15 _ _ _ (read_k harg4 x1 15 768 (by decide) _) (read_q harg3 x0 15 _)
    (readM arg11 _ 15 (stateM15 c arg3 harg3 arg4 harg4 arg11 x0 x1)))

theorem stateM17 : StateM (newMax x0 x1 startM) 17 (kernelRun0_A.sl.HS1_18 c arg3 harg3 arg4 harg4 arg11 x0 x1) :=
  (stateM16 c arg3 harg3 arg4 harg4 arg11 x0 x1).cons 16 _ (max_step x0 x1 startM 16 _ _ _ (read_k harg4 x1 16 768 (by decide) _) (read_q harg3 x0 16 _)
    (readM arg11 _ 16 (stateM16 c arg3 harg3 arg4 harg4 arg11 x0 x1)))

theorem stateM18 : StateM (newMax x0 x1 startM) 18 (kernelRun0_A.sl.HS1_19 c arg3 harg3 arg4 harg4 arg11 x0 x1) :=
  (stateM17 c arg3 harg3 arg4 harg4 arg11 x0 x1).cons 17 _ (max_step x0 x1 startM 17 _ _ _ (read_k harg4 x1 17 768 (by decide) _) (read_q harg3 x0 17 _)
    (readM arg11 _ 17 (stateM17 c arg3 harg3 arg4 harg4 arg11 x0 x1)))

theorem stateM19 : StateM (newMax x0 x1 startM) 19 (kernelRun0_A.sl.HS1_20 c arg3 harg3 arg4 harg4 arg11 x0 x1) :=
  (stateM18 c arg3 harg3 arg4 harg4 arg11 x0 x1).cons 18 _ (max_step x0 x1 startM 18 _ _ _ (read_k harg4 x1 18 768 (by decide) _) (read_q harg3 x0 18 _)
    (readM arg11 _ 18 (stateM18 c arg3 harg3 arg4 harg4 arg11 x0 x1)))

theorem stateA1 : StateA (newAcc x0 x1 x2 startM startA) 1 (kernelRun0_A.sl.HS0_2 c arg3 harg3 arg4 harg4 arg5 harg5 arg10 arg11 x0 x1 x2) :=
  (stateA0 x0 x1 x2).cons 0 _ (fun r d => (congrFun (parts0 _ _ _ _ _) _).trans (acc_step x0 x1 x2 startM startA 0 _ _ _ _ _ (read_k harg4 x1 0 0 (by decide) _) (read_q harg3 x0 0 _)
    (readM arg11 _ 0 (stateM0 x0 x1)) (read_v harg5 x2 0 0 (by decide) _) (readA arg10 _ 0 (stateA0 x0 x1 x2)) r d))

theorem stateA2 : StateA (newAcc x0 x1 x2 startM startA) 2 (kernelRun0_A.sl.HS0_3 c arg3 harg3 arg4 harg4 arg5 harg5 arg10 arg11 x0 x1 x2) :=
  (stateA1 c arg3 harg3 arg4 harg4 arg5 harg5 arg10 arg11 x0 x1 x2).cons 1 _ (fun r d => (congrFun (parts1 _ _ _ _) _).trans (acc_step x0 x1 x2 startM startA 1 _ _ _ _ _ (read_k harg4 x1 1 128 (by decide) _) (read_q harg3 x0 1 _)
    (readM arg11 _ 1 (stateM1 c arg3 harg3 arg4 harg4 arg11 x0 x1)) (read_v harg5 x2 1 1 (by decide) _) (readA arg10 _ 1 (stateA1 c arg3 harg3 arg4 harg4 arg5 harg5 arg10 arg11 x0 x1 x2)) r d))

theorem stateA3 : StateA (newAcc x0 x1 x2 startM startA) 3 (kernelRun0_A.sl.HS0_4 c arg3 harg3 arg4 harg4 arg5 harg5 arg10 arg11 x0 x1 x2) :=
  (stateA2 c arg3 harg3 arg4 harg4 arg5 harg5 arg10 arg11 x0 x1 x2).cons 2 _ (fun r d => (congrFun (parts2 _ _ _ _) _).trans (acc_step x0 x1 x2 startM startA 2 _ _ _ _ _ (read_k harg4 x1 2 256 (by decide) _) (read_q harg3 x0 2 _)
    (readM arg11 _ 2 (stateM2 c arg3 harg3 arg4 harg4 arg11 x0 x1)) (read_v harg5 x2 2 2 (by decide) _) (readA arg10 _ 2 (stateA2 c arg3 harg3 arg4 harg4 arg5 harg5 arg10 arg11 x0 x1 x2)) r d))

theorem stateA4 : StateA (newAcc x0 x1 x2 startM startA) 4 (kernelRun0_A.sl.HS0_5 c arg3 harg3 arg4 harg4 arg5 harg5 arg10 arg11 x0 x1 x2) :=
  (stateA3 c arg3 harg3 arg4 harg4 arg5 harg5 arg10 arg11 x0 x1 x2).cons 3 _ (fun r d => (congrFun (parts3 _ _ _ _) _).trans (acc_step x0 x1 x2 startM startA 3 _ _ _ _ _ (read_k harg4 x1 3 384 (by decide) _) (read_q harg3 x0 3 _)
    (readM arg11 _ 3 (stateM3 c arg3 harg3 arg4 harg4 arg11 x0 x1)) (read_v harg5 x2 3 3 (by decide) _) (readA arg10 _ 3 (stateA3 c arg3 harg3 arg4 harg4 arg5 harg5 arg10 arg11 x0 x1 x2)) r d))

theorem stateA5 : StateA (newAcc x0 x1 x2 startM startA) 5 (kernelRun0_A.sl.HS0_6 c arg3 harg3 arg4 harg4 arg5 harg5 arg10 arg11 x0 x1 x2) :=
  (stateA4 c arg3 harg3 arg4 harg4 arg5 harg5 arg10 arg11 x0 x1 x2).cons 4 _ (fun r d => (congrFun (parts4 _ _ _ _) _).trans (acc_step x0 x1 x2 startM startA 4 _ _ _ _ _ (read_k harg4 x1 4 512 (by decide) _) (read_q harg3 x0 4 _)
    (readM arg11 _ 4 (stateM4 c arg3 harg3 arg4 harg4 arg11 x0 x1)) (read_v harg5 x2 4 4 (by decide) _) (readA arg10 _ 4 (stateA4 c arg3 harg3 arg4 harg4 arg5 harg5 arg10 arg11 x0 x1 x2)) r d))

theorem stateA6 : StateA (newAcc x0 x1 x2 startM startA) 6 (kernelRun0_A.sl.HS0_7 c arg3 harg3 arg4 harg4 arg5 harg5 arg10 arg11 x0 x1 x2) :=
  (stateA5 c arg3 harg3 arg4 harg4 arg5 harg5 arg10 arg11 x0 x1 x2).cons 5 _ (fun r d => (congrFun (parts5 _ _ _ _) _).trans (acc_step x0 x1 x2 startM startA 5 _ _ _ _ _ (read_k harg4 x1 5 512 (by decide) _) (read_q harg3 x0 5 _)
    (readM arg11 _ 5 (stateM5 c arg3 harg3 arg4 harg4 arg11 x0 x1)) (read_v harg5 x2 5 4 (by decide) _) (readA arg10 _ 5 (stateA5 c arg3 harg3 arg4 harg4 arg5 harg5 arg10 arg11 x0 x1 x2)) r d))

theorem stateA7 : StateA (newAcc x0 x1 x2 startM startA) 7 (kernelRun0_A.sl.HS0_8 c arg3 harg3 arg4 harg4 arg5 harg5 arg10 arg11 x0 x1 x2) :=
  (stateA6 c arg3 harg3 arg4 harg4 arg5 harg5 arg10 arg11 x0 x1 x2).cons 6 _ (fun r d => (congrFun (parts6 _ _ _ _) _).trans (acc_step x0 x1 x2 startM startA 6 _ _ _ _ _ (read_k harg4 x1 6 512 (by decide) _) (read_q harg3 x0 6 _)
    (readM arg11 _ 6 (stateM6 c arg3 harg3 arg4 harg4 arg11 x0 x1)) (read_v harg5 x2 6 5 (by decide) _) (readA arg10 _ 6 (stateA6 c arg3 harg3 arg4 harg4 arg5 harg5 arg10 arg11 x0 x1 x2)) r d))

theorem stateA8 : StateA (newAcc x0 x1 x2 startM startA) 8 (kernelRun0_A.sl.HS0_9 c arg3 harg3 arg4 harg4 arg5 harg5 arg10 arg11 x0 x1 x2) :=
  (stateA7 c arg3 harg3 arg4 harg4 arg5 harg5 arg10 arg11 x0 x1 x2).cons 7 _ (fun r d => (congrFun (parts7 _ _ _ _) _).trans (acc_step x0 x1 x2 startM startA 7 _ _ _ _ _ (read_k harg4 x1 7 512 (by decide) _) (read_q harg3 x0 7 _)
    (readM arg11 _ 7 (stateM7 c arg3 harg3 arg4 harg4 arg11 x0 x1)) (read_v harg5 x2 7 5 (by decide) _) (readA arg10 _ 7 (stateA7 c arg3 harg3 arg4 harg4 arg5 harg5 arg10 arg11 x0 x1 x2)) r d))

theorem stateA9 : StateA (newAcc x0 x1 x2 startM startA) 9 (kernelRun0_A.sl.HS0_10 c arg3 harg3 arg4 harg4 arg5 harg5 arg10 arg11 x0 x1 x2) :=
  (stateA8 c arg3 harg3 arg4 harg4 arg5 harg5 arg10 arg11 x0 x1 x2).cons 8 _ (fun r d => (congrFun (parts8 _ _ _ _) _).trans (acc_step x0 x1 x2 startM startA 8 _ _ _ _ _ (read_k harg4 x1 8 640 (by decide) _) (read_q harg3 x0 8 _)
    (readM arg11 _ 8 (stateM8 c arg3 harg3 arg4 harg4 arg11 x0 x1)) (read_v harg5 x2 8 6 (by decide) _) (readA arg10 _ 8 (stateA8 c arg3 harg3 arg4 harg4 arg5 harg5 arg10 arg11 x0 x1 x2)) r d))

theorem stateA10 : StateA (newAcc x0 x1 x2 startM startA) 10 (kernelRun0_A.sl.HS0_11 c arg3 harg3 arg4 harg4 arg5 harg5 arg10 arg11 x0 x1 x2) :=
  (stateA9 c arg3 harg3 arg4 harg4 arg5 harg5 arg10 arg11 x0 x1 x2).cons 9 _ (acc_step x0 x1 x2 startM startA 9 _ _ _ _ _ (read_k harg4 x1 9 640 (by decide) _) (read_q harg3 x0 9 _)
    (readM arg11 _ 9 (stateM9 c arg3 harg3 arg4 harg4 arg11 x0 x1)) (read_v harg5 x2 9 6 (by decide) _) (readA arg10 _ 9 (stateA9 c arg3 harg3 arg4 harg4 arg5 harg5 arg10 arg11 x0 x1 x2)))

theorem stateA11 : StateA (newAcc x0 x1 x2 startM startA) 11 (kernelRun0_A.sl.HS0_12 c arg3 harg3 arg4 harg4 arg5 harg5 arg10 arg11 x0 x1 x2) :=
  (stateA10 c arg3 harg3 arg4 harg4 arg5 harg5 arg10 arg11 x0 x1 x2).cons 10 _ (acc_step x0 x1 x2 startM startA 10 _ _ _ _ _ (read_k harg4 x1 10 640 (by decide) _) (read_q harg3 x0 10 _)
    (readM arg11 _ 10 (stateM10 c arg3 harg3 arg4 harg4 arg11 x0 x1)) (read_v harg5 x2 10 7 (by decide) _) (readA arg10 _ 10 (stateA10 c arg3 harg3 arg4 harg4 arg5 harg5 arg10 arg11 x0 x1 x2)))

theorem stateA12 : StateA (newAcc x0 x1 x2 startM startA) 12 (kernelRun0_A.sl.HS0_13 c arg3 harg3 arg4 harg4 arg5 harg5 arg10 arg11 x0 x1 x2) :=
  (stateA11 c arg3 harg3 arg4 harg4 arg5 harg5 arg10 arg11 x0 x1 x2).cons 11 _ (acc_step x0 x1 x2 startM startA 11 _ _ _ _ _ (read_k harg4 x1 11 640 (by decide) _) (read_q harg3 x0 11 _)
    (readM arg11 _ 11 (stateM11 c arg3 harg3 arg4 harg4 arg11 x0 x1)) (read_v harg5 x2 11 7 (by decide) _) (readA arg10 _ 11 (stateA11 c arg3 harg3 arg4 harg4 arg5 harg5 arg10 arg11 x0 x1 x2)))

theorem stateA13 : StateA (newAcc x0 x1 x2 startM startA) 13 (kernelRun0_A.sl.HS0_14 c arg3 harg3 arg4 harg4 arg5 harg5 arg10 arg11 x0 x1 x2) :=
  (stateA12 c arg3 harg3 arg4 harg4 arg5 harg5 arg10 arg11 x0 x1 x2).cons 12 _ (acc_step x0 x1 x2 startM startA 12 _ _ _ _ _ (read_k harg4 x1 12 768 (by decide) _) (read_q harg3 x0 12 _)
    (readM arg11 _ 12 (stateM12 c arg3 harg3 arg4 harg4 arg11 x0 x1)) (read_v harg5 x2 12 8 (by decide) _) (readA arg10 _ 12 (stateA12 c arg3 harg3 arg4 harg4 arg5 harg5 arg10 arg11 x0 x1 x2)))

theorem stateA14 : StateA (newAcc x0 x1 x2 startM startA) 14 (kernelRun0_A.sl.HS0_15 c arg3 harg3 arg4 harg4 arg5 harg5 arg10 arg11 x0 x1 x2) :=
  (stateA13 c arg3 harg3 arg4 harg4 arg5 harg5 arg10 arg11 x0 x1 x2).cons 13 _ (acc_step x0 x1 x2 startM startA 13 _ _ _ _ _ (read_k harg4 x1 13 768 (by decide) _) (read_q harg3 x0 13 _)
    (readM arg11 _ 13 (stateM13 c arg3 harg3 arg4 harg4 arg11 x0 x1)) (read_v harg5 x2 13 8 (by decide) _) (readA arg10 _ 13 (stateA13 c arg3 harg3 arg4 harg4 arg5 harg5 arg10 arg11 x0 x1 x2)))

theorem stateA15 : StateA (newAcc x0 x1 x2 startM startA) 15 (kernelRun0_A.sl.HS0_16 c arg3 harg3 arg4 harg4 arg5 harg5 arg10 arg11 x0 x1 x2) :=
  (stateA14 c arg3 harg3 arg4 harg4 arg5 harg5 arg10 arg11 x0 x1 x2).cons 14 _ (acc_step x0 x1 x2 startM startA 14 _ _ _ _ _ (read_k harg4 x1 14 768 (by decide) _) (read_q harg3 x0 14 _)
    (readM arg11 _ 14 (stateM14 c arg3 harg3 arg4 harg4 arg11 x0 x1)) (read_v harg5 x2 14 8 (by decide) _) (readA arg10 _ 14 (stateA14 c arg3 harg3 arg4 harg4 arg5 harg5 arg10 arg11 x0 x1 x2)))

theorem stateA16 : StateA (newAcc x0 x1 x2 startM startA) 16 (kernelRun0_A.sl.HS0_17 c arg3 harg3 arg4 harg4 arg5 harg5 arg10 arg11 x0 x1 x2) :=
  (stateA15 c arg3 harg3 arg4 harg4 arg5 harg5 arg10 arg11 x0 x1 x2).cons 15 _ (acc_step x0 x1 x2 startM startA 15 _ _ _ _ _ (read_k harg4 x1 15 768 (by decide) _) (read_q harg3 x0 15 _)
    (readM arg11 _ 15 (stateM15 c arg3 harg3 arg4 harg4 arg11 x0 x1)) (read_v harg5 x2 15 8 (by decide) _) (readA arg10 _ 15 (stateA15 c arg3 harg3 arg4 harg4 arg5 harg5 arg10 arg11 x0 x1 x2)))

theorem stateA17 : StateA (newAcc x0 x1 x2 startM startA) 17 (kernelRun0_A.sl.HS0_18 c arg3 harg3 arg4 harg4 arg5 harg5 arg10 arg11 x0 x1 x2) :=
  (stateA16 c arg3 harg3 arg4 harg4 arg5 harg5 arg10 arg11 x0 x1 x2).cons 16 _ (acc_step x0 x1 x2 startM startA 16 _ _ _ _ _ (read_k harg4 x1 16 768 (by decide) _) (read_q harg3 x0 16 _)
    (readM arg11 _ 16 (stateM16 c arg3 harg3 arg4 harg4 arg11 x0 x1)) (read_v harg5 x2 16 9 (by decide) _) (readA arg10 _ 16 (stateA16 c arg3 harg3 arg4 harg4 arg5 harg5 arg10 arg11 x0 x1 x2)))

theorem stateA18 : StateA (newAcc x0 x1 x2 startM startA) 18 (kernelRun0_A.sl.HS0_19 c arg3 harg3 arg4 harg4 arg5 harg5 arg10 arg11 x0 x1 x2) :=
  (stateA17 c arg3 harg3 arg4 harg4 arg5 harg5 arg10 arg11 x0 x1 x2).cons 17 _ (acc_step x0 x1 x2 startM startA 17 _ _ _ _ _ (read_k harg4 x1 17 768 (by decide) _) (read_q harg3 x0 17 _)
    (readM arg11 _ 17 (stateM17 c arg3 harg3 arg4 harg4 arg11 x0 x1)) (read_v harg5 x2 17 9 (by decide) _) (readA arg10 _ 17 (stateA17 c arg3 harg3 arg4 harg4 arg5 harg5 arg10 arg11 x0 x1 x2)))

theorem stateA19 : StateA (newAcc x0 x1 x2 startM startA) 19 (kernelRun0_A.sl.HS0_20 c arg3 harg3 arg4 harg4 arg5 harg5 arg10 arg11 x0 x1 x2) :=
  (stateA18 c arg3 harg3 arg4 harg4 arg5 harg5 arg10 arg11 x0 x1 x2).cons 18 _ (acc_step x0 x1 x2 startM startA 18 _ _ _ _ _ (read_k harg4 x1 18 768 (by decide) _) (read_q harg3 x0 18 _)
    (readM arg11 _ 18 (stateM18 c arg3 harg3 arg4 harg4 arg11 x0 x1)) (read_v harg5 x2 18 9 (by decide) _) (readA arg10 _ 18 (stateA18 c arg3 harg3 arg4 harg4 arg5 harg5 arg10 arg11 x0 x1 x2)))

theorem stateA20 : StateA (newAcc x0 x1 x2 startM startA) 20 (kernelRun0_A.sl.HS0_21 c arg3 harg3 arg4 harg4 arg5 harg5 arg10 arg11 x0 x1 x2) :=
  (stateA19 c arg3 harg3 arg4 harg4 arg5 harg5 arg10 arg11 x0 x1 x2).cons 19 _ (acc_step x0 x1 x2 startM startA 19 _ _ _ _ _ (read_k harg4 x1 19 768 (by decide) _) (read_q harg3 x0 19 _)
    (readM arg11 _ 19 (stateM19 c arg3 harg3 arg4 harg4 arg11 x0 x1)) (read_v harg5 x2 19 9 (by decide) _) (readA arg10 _ 19 (stateA19 c arg3 harg3 arg4 harg4 arg5 harg5 arg10 arg11 x0 x1 x2)))

/-- The finished weighted sums, read back from the list of stores. -/
theorem read_done (h : Fin 20) (r : Fin 80) (d : Fin 256) :
    arg10.view.readCov (kernelRun0_A.sl.HS0_21 c arg3 harg3 arg4 harg4 arg5 harg5 arg10 arg11 x0 x1 x2)
        (Rect.unit (s := S20x80x256) ![h.val, 0, 0] S1x80x256.size (inb_a h)).toLoadRect (ix3 0 r d)
      = newAcc x0 x1 x2 startM startA h r d :=
  (cov_a _ h (inb_a h) r d).trans ((stateA20 c arg3 harg3 arg4 harg4 arg5 harg5 arg10 arg11 x0 x1 x2).done h h.isLt r d)

end Cert.Kernel4Ideal.Step

end
-- ==== Proof.CtxStore.lean ====
/- What the context call stores in the output block: the sixteen groups of rows, from the weighted sums it has just finished. -/
module

public import proofs.«01_k».proof.Proof.CtxOutput
public import proofs.«01_k».proof.Proof.CtxFirst

@[expose] public section

set_option maxRecDepth 16384

noncomputable section

open scoped BigOperators
open Idealize.ShloMosaic

namespace Cert.Kernel4Ideal.Step

open Cert.Kernel4Ideal Cert.Kernel4Ideal.Gen
open Cert.KernelIdeal.Step (slab vhead)

/-- The output block, stored. -/
theorem out_A (c : Dev nD) (i : grid0.Coords) (arg3 : Memref sig .tc .vmem S1x20x128x256 .bf16) (harg3 : arg3.IsWhole)
    (arg4 : Memref sig .tc .vmem S1x256x896 .bf16) (harg4 : arg4.IsWhole) (arg5 : Memref sig .tc .vmem S1x10x80x256 .bf16) (harg5 : arg5.IsWhole)
    (arg6 : Memref sig .tc .vmem S4x32 .f32) (harg6 : arg6.IsWhole) (arg7 : Memref sig .tc .vmem S64x256 .f32) (harg7 : arg7.IsWhole)
    (arg9 : Memref sig .tc .vmem S1x1024x256 .bf16) (harg9 : arg9.IsWhole) (arg10 : Memref sig .tc .vmem S20x80x256 .f32) (harg10 : arg10.IsWhole)
    (arg11 : Memref sig .tc .vmem S20x1x256 .f32) (harg11 : arg11.IsWhole) (hc0 : cond0_0 i) (hc1 : cond0_1 i)
    (x0 : Vec Ideal S1x20x128x256 .bf16) (x1 : Vec Ideal S1x256x896 .bf16) (x2 : Vec Ideal S1x10x80x256 .bf16) (x3 : Vec Ideal S4x32 .f32)
    (x4 : Vec Ideal S64x256 .f32) (y : S1x1024x256.Idx) :
    out0_A_5 c i arg3 harg3 arg4 harg4 arg5 harg5 arg6 harg6 arg7 harg7 arg9 harg9 arg10 harg10 arg11 harg11 hc0 hc1 x0 x1 x2 x3 x4 y
      = outRow (newAcc x0 x1 x2 startM startA) x3 x4 ⟨(y 1).val / 64, by have : (y 1).val < 1024 := (y 1).isLt; omega⟩
        ⟨(y 1).val % 64, by omega⟩ (y 2) := by
  have rd := read_done c arg3 harg3 arg4 harg4 arg5 harg5 arg10 arg11 x0 x1 x2
  have key (h : Fin 20) (x : Vec Ideal S1x80x256 .f32) := plainVec_eq (newAcc x0 x1 x2 startM startA) x h
  have key2 (x y : Vec Ideal S1x80x256 .f32) (h h' : Fin 20) := pair_step (newAcc x0 x1 x2 startM startA) x3 x4 x y h h' _ _
    (read_l harg6 x3 (by decide)) (read_g harg7 x4 (by decide))
  generalize hA : newAcc x0 x1 x2 startM startA = A at rd key key2 ⊢
  unfold out0_A_5
  rw [View.read_writes_junk_eq_canon]
  refine View.canon_apply_of_pieces (fun y : S1x1024x256.Idx => outRow A x3 x4 ⟨(y 1).val / 64, by have : (y 1).val < 1024 := (y 1).isLt; omega⟩
        ⟨(y 1).val % 64, by omega⟩ (y 2)) _ ?_ y (cover0_A_5 c i arg3 harg3 arg4 harg4 arg5 harg5 arg6 harg6 arg7 harg7 arg9 harg9 arg10 harg10 arg11 harg11 hc0 hc1 x0 x1 x2 x3 x4 y)
  unfold kernelRun0_A
  dsimp only
  refine List.forall_mem_cons.2 ⟨piece_o (outRow A x3 x4) 15 960 rfl (by decide) _ (key 19 _ (rd 19)), ?_⟩
  refine List.forall_mem_cons.2 ⟨piece_o (outRow A x3 x4) 14 896 rfl (by decide) _ (key 18 _ (rd 18)), ?_⟩
  refine List.forall_mem_cons.2 ⟨piece_o (outRow A x3 x4) 13 832 rfl (by decide) _ (key 17 _ (rd 17)), ?_⟩
  refine List.forall_mem_cons.2 ⟨piece_o (outRow A x3 x4) 12 768 rfl (by decide) _ (fun r d => (congrFun (parts_plain16 _) _).trans (key 16 _ (rd 16) r d)), ?_⟩
  refine List.forall_mem_cons.2 ⟨piece_o (outRow A x3 x4) 11 704 rfl (by decide) _ (key 15 _ (rd 15)), ?_⟩
  refine List.forall_mem_cons.2 ⟨piece_o (outRow A x3 x4) 10 640 rfl (by decide) _ (key 14 _ (rd 14)), ?_⟩
  refine List.forall_mem_cons.2 ⟨piece_o (outRow A x3 x4) 9 576 rfl (by decide) _ (fun r d => (congrFun (parts_plain13 _) _).trans (key 13 _ (rd 13) r d)), ?_⟩
  refine List.forall_mem_cons.2 ⟨piece_o (outRow A x3 x4) 8 512 rfl (by decide) _ (key 12 _ (rd 12)), ?_⟩
  refine List.forall_mem_cons.2 ⟨piece_o (outRow A x3 x4) 7 448 rfl (by decide) _ (fun r d => (congrFun (parts_pair3 _ _ _ _) _).trans (key2 _ _ 10 11 (rd 10) (rd 11) r d)), ?_⟩
  refine List.forall_mem_cons.2 ⟨piece_o (outRow A x3 x4) 6 384 rfl (by decide) _ (key2 _ _ 8 9 (rd 8) (rd 9)), ?_⟩
  refine List.forall_mem_cons.2 ⟨piece_o (outRow A x3 x4) 5 320 rfl (by decide) _ (fun r d => (congrFun (parts_pair1 _ _ _ _) _).trans (key2 _ _ 6 7 (rd 6) (rd 7) r d)), ?_⟩
  refine List.forall_mem_cons.2 ⟨piece_o (outRow A x3 x4) 4 256 rfl (by decide) _ (fun r d => (congrFun (parts_pair0 _ _ _ _) _).trans (key2 _ _ 4 5 (rd 4) (rd 5) r d)), ?_⟩
  refine List.forall_mem_cons.2 ⟨piece_o (outRow A x3 x4) 3 192 rfl (by decide) _ (fun r d => (congrFun (parts_plain3 _) _).trans (key 3 _ (rd 3) r d)), ?_⟩
  refine List.forall_mem_cons.2 ⟨piece_o (outRow A x3 x4) 2 128 rfl (by decide) _ (key 2 _ (rd 2)), ?_⟩
  refine List.forall_mem_cons.2 ⟨piece_o (outRow A x3 x4) 1 64 rfl (by decide) _ (key 1 _ (rd 1)), ?_⟩
  refine List.forall_mem_cons.2 ⟨piece_o (outRow A x3 x4) 0 0 rfl (by decide) _ (key 0 _ (rd 0)), ?_⟩
  exact fun _ h => absurd h List.not_mem_nil

end Cert.Kernel4Ideal.Step

end
-- ==== Proof.CtxArray.lean ====
/- The result array of the attention of the context queries: its context columns are what the one step over the context keys
   leaves, its latent columns are those it was given. -/
module

public import proofs.«01_k».proof.Proof.CtxStore
public import proofs.«01_k».proof.Proof.AttnArray
public import Idealize.ShloMosaic.Lib.StableHlo.ReadAt

@[expose] public section

set_option maxRecDepth 16384

noncomputable section

open scoped BigOperators
open Idealize.ShloMosaic Idealize.ShloMosaic.TcCoe

namespace Cert.Kernel4Ideal.Array

open Cert.Kernel4Ideal Cert.Kernel4Ideal.Gen Cert.Kernel4Ideal.Step Cert.Softmax
open Cert.KernelIdeal.Step (slab vhead)
open Cert.KernelIdeal.Array (scoreAt)

variable (m : (ℓ : Loc nD τ sig) → Buf (Elt Ideal) ℓ)

theorem lam0_apply (c : Dev nD) (j : Fin 32) : V m c main_v4 (ix2 0 j) = m ((c : Thread nD τ).loc main_arg3) (ix1 j) := by
  unfold V; after_reads_at
  rw [StableHlo.unary_result]
  after_reads_at
theorem lam1_apply (c : Dev nD) (j : Fin 32) : V m c main_v4 (ix2 1 j) = m ((c : Thread nD τ).loc main_arg4) (ix1 j) := by
  unfold V; after_reads_at
  rw [StableHlo.unary_result]
  after_reads_at
theorem lam2_apply (c : Dev nD) (j : Fin 32) : V m c main_v4 (ix2 2 j) = m ((c : Thread nD τ).loc main_arg5) (ix1 j) := by
  unfold V; after_reads_at
  rw [StableHlo.unary_result]
  after_reads_at
theorem lam3_apply (c : Dev nD) (j : Fin 32) : V m c main_v4 (ix2 3 j) = m ((c : Thread nD τ).loc main_arg6) (ix1 j) := by
  unfold V; after_reads_at
  rw [StableHlo.unary_result]
  after_reads_at
theorem gain_apply (c : Dev nD) (r : Fin 64) (x : Fin 256) : V m c main_v7 (ix2 r x) = m ((c : Thread nD τ).loc main_arg7) (ix1 r) := by
  unfold V; after_reads_at

/-- The result array before the call is the one it is given. -/
theorem given_apply (c : Dev nD) (b : Fin 2) (i : Fin 1024) (t : Fin 8448) :
    V m c main_v8 (ix3 b i t) = m ((c : Thread nD τ).loc main_arg8) (ix3 b i t) := by
  unfold V; after_reads_at
  rfl

/-- The block indices of the windows, in closed form. -/
theorem idx_facts : ∀ t : Fin cfg0.N,
    (win0_0.index t 0 = t.val ∧ win0_0.index t 1 = 0 ∧ win0_0.index t 2 = 0 ∧ win0_0.index t 3 = 32)
    ∧ (win0_1.index t 0 = t.val ∧ win0_1.index t 1 = 32 ∧ win0_1.index t 2 = 0)
    ∧ (win0_2.index t 0 = t.val ∧ win0_2.index t 1 = 0 ∧ win0_2.index t 2 = 0 ∧ win0_2.index t 3 = 32)
    ∧ (win0_5.index t 0 = t.val ∧ win0_5.index t 1 = 0 ∧ win0_5.index t 2 = 32)
    ∧ (win0_3.index t 0 = 0 ∧ win0_3.index t 1 = 0) ∧ (win0_4.index t 0 = 0 ∧ win0_4.index t 1 = 0) :=
  (by decide +kernel : ∀ t : Fin grid0.N, _)

/-- The grid point of batch entry `b`. -/
abbrev pt (b : Fin 2) : Fin cfg0.N := ⟨b, show _ < 2 by omega⟩

/-- The column of a context token. -/
abbrev later (x : Fin 256) : Fin 8448 := ⟨8192 + x, by omega⟩

theorem block0 (c : Dev nD) (b : Fin 2) (h : Fin 20) (d : Fin 128) (x : Fin 256) :
    iblk m c 0 (pt b) (ix4 0 h d x) = m ((c : Thread nD τ).loc main_arg0) (ix4 b h d (later x)) := by
  obtain ⟨⟨e0, e1, e2, e3⟩, _⟩ := idx_facts (pt b)
  change _ = b.val at e0
  show V m c main_arg0 (((cfg0.win 0).blk (pt b)).view.emb (ix4 0 h d x)) = _
  rw [V_main_arg0]
  congr 1
  funext a; apply Fin.ext
  match a with
  | ⟨0, _⟩ => show win0_0.index (pt b) 0 * 1 + 1 * 0 = b.val; omega
  | ⟨1, _⟩ => show win0_0.index (pt b) 1 * 20 + 1 * h.val = h.val; omega
  | ⟨2, _⟩ => show win0_0.index (pt b) 2 * 128 + 1 * d.val = d.val; omega
  | ⟨3, _⟩ => show win0_0.index (pt b) 3 * 256 + 1 * x.val = 8192 + x.val; omega

theorem block1 (c : Dev nD) (b : Fin 2) (i : Fin 256) (j : Fin 896) :
    iblk m c 1 (pt b) (ix3 0 i j) = m ((c : Thread nD τ).loc main_arg1) (ix3 b (later i) j) := by
  obtain ⟨_, ⟨e0, e1, e2⟩, _⟩ := idx_facts (pt b)
  change _ = b.val at e0
  show V m c main_arg1 (((cfg0.win 1).blk (pt b)).view.emb (ix3 0 i j)) = _
  rw [V_main_arg1]
  congr 1
  funext a; apply Fin.ext
  match a with
  | ⟨0, _⟩ => show win0_1.index (pt b) 0 * 1 + 1 * 0 = b.val; omega
  | ⟨1, _⟩ => show win0_1.index (pt b) 1 * 256 + 1 * i.val = 8192 + i.val; omega
  | ⟨2, _⟩ => show win0_1.index (pt b) 2 * 896 + 1 * j.val = j.val; omega

theorem block2 (c : Dev nD) (b : Fin 2) (h : Fin 10) (r : Fin 80) (i : Fin 256) :
    iblk m c 2 (pt b) (ix4 0 h r i) = m ((c : Thread nD τ).loc main_arg2) (ix4 b h r (later i)) := by
  obtain ⟨_, _, ⟨e0, e1, e2, e3⟩, _⟩ := idx_facts (pt b)
  change _ = b.val at e0
  show V m c main_arg2 (((cfg0.win 2).blk (pt b)).view.emb (ix4 0 h r i)) = _
  rw [V_main_arg2]
  congr 1
  funext a; apply Fin.ext
  match a with
  | ⟨0, _⟩ => show win0_2.index (pt b) 0 * 1 + 1 * 0 = b.val; omega
  | ⟨1, _⟩ => show win0_2.index (pt b) 1 * 10 + 1 * h.val = h.val; omega
  | ⟨2, _⟩ => show win0_2.index (pt b) 2 * 80 + 1 * r.val = r.val; omega
  | ⟨3, _⟩ => show win0_2.index (pt b) 3 * 256 + 1 * i.val = 8192 + i.val; omega

theorem block3 (c : Dev nD) (t : Fin cfg0.N) : iblk m c 3 t = V m c main_v4 := by
  obtain ⟨_, _, _, _, ⟨e0, e1⟩, _⟩ := idx_facts t
  funext y; rw [eq_ix2 y]
  show V m c main_v4 (((cfg0.win 3).blk t).view.emb (ix2 (y 0) (y 1))) = _
  congr 1
  funext a; apply Fin.ext
  match a with
  | ⟨0, _⟩ => show win0_3.index t 0 * 4 + 1 * (y 0).val = (y 0).val; omega
  | ⟨1, _⟩ => show win0_3.index t 1 * 32 + 1 * (y 1).val = (y 1).val; omega

theorem block4 (c : Dev nD) (t : Fin cfg0.N) : iblk m c 4 t = V m c main_v7 := by
  obtain ⟨_, _, _, _, _, ⟨e0, e1⟩⟩ := idx_facts t
  funext y; rw [eq_ix2 y]
  show V m c main_v7 (((cfg0.win 4).blk t).view.emb (ix2 (y 0) (y 1))) = _
  congr 1
  funext a; apply Fin.ext
  match a with
  | ⟨0, _⟩ => show win0_4.index t 0 * 64 + 1 * (y 0).val = (y 0).val; omega
  | ⟨1, _⟩ => show win0_4.index t 1 * 256 + 1 * (y 1).val = (y 1).val; omega

theorem emb5 (b : Fin 2) (r : Fin 1024) (x : Fin 256) : ((cfg0.win 5).blk (pt b)).view.emb (ix3 0 r x) = ix3 b r (later x) := by
  obtain ⟨_, _, _, ⟨e0, e1, e2⟩, _⟩ := idx_facts (pt b)
  change _ = b.val at e0
  funext a; apply Fin.ext
  match a with
  | ⟨0, _⟩ => show win0_5.index (pt b) 0 * 1 + 1 * 0 = b.val; omega
  | ⟨1, _⟩ => show win0_5.index (pt b) 1 * 1024 + 1 * r.val = r.val; omega
  | ⟨2, _⟩ => show win0_5.index (pt b) 2 * 256 + 1 * x.val = 8192 + x.val; omega

theorem not_written (b : Fin 2) (i : Fin 1024) (t : Fin 8448) (ht : t.val < 8192) (p : Fin cfg0.N) :
    ix3 b i t ∉ ((cfg0.win 5).blk p).view.set := by
  intro hm
  have e2 : win0_5.index p 2 = 32 := (idx_facts p).2.2.2.1.2.2
  obtain ⟨y, -, hy⟩ := Finset.mem_map.1 hm
  have h := congrArg Fin.val (congrFun hy 2)
  have h' : win0_5.index p 2 * 256 + 1 * (y 2).val = t.val := h
  omega

/-- A latent column is as it was given. -/
theorem latent (c : Dev nD) (b : Fin 2) (i : Fin 1024) (t : Fin 8448) (ht : t.val < 8192) :
    (dats m 0 c).arrAt 5 cfg0.N (ix3 b i t) = m ((c : Thread nD τ).loc main_arg8) (ix3 b i t) :=
  (Value.entry5 m c (ix3 b i t) fun p _ => not_written b i t ht p).trans (given_apply m c b i t)

variable (c : Dev nD) (S : Fin 2 → Fin 20 → Fin 8448 → Fin 8448 → ℝ)

/-- The scores of a context query against the context keys, in one block. -/
abbrev ctxScores (b : Fin 2) (h : Fin 20) (x : Fin 256) : ℕ → Fin 256 → ℝ := fun _ i => S b h (later i) (later x)

/-- The values of a row of a head, in one block. -/
abbrev ctxValues (v : Vec Ideal S2x10x80x8448 .bf16) (b : Fin 2) (h : Fin 20) (r : Fin 80) : ℕ → Fin 256 → EReal :=
  fun _ i => v (ix4 b (vhead h) r (later i))

variable (hS : ∀ b h t x, scoreAt (m ((c : Thread nD τ).loc main_arg0)) (m ((c : Thread nD τ).loc main_arg1)) b h t x = ((S b h t x : ℝ) : EReal))

include hS in
theorem score_eq (b : Fin 2) (h : Fin 20) (i x : Fin 256) :
    score (iblk m c 0 (pt b)) (iblk m c 1 (pt b)) h i x = ((ctxScores S b h x 0 i : ℝ) : EReal) := by
  rw [← hS]
  unfold score scoreAt
  refine Finset.sum_congr rfl fun d _ => ?_
  exact congrArg₂ (· * ·) (block1 m c b i _) (block0 m c b h d x)

include hS in
theorem newMax_eq (b : Fin 2) (h : Fin 20) (x : Fin 256) :
    newMax (iblk m c 0 (pt b)) (iblk m c 1 (pt b)) startM h x = runMax (ctxScores S b h x) 1 := by
  unfold newMax
  rw [runMax]
  simp only [score_eq m c S hS]
  rfl

include hS in
theorem newAcc_eq (b : Fin 2) (h : Fin 20) (r : Fin 80) (x : Fin 256) :
    newAcc (iblk m c 0 (pt b)) (iblk m c 1 (pt b)) (iblk m c 2 (pt b)) startM startA h r x
      = runSum (ctxScores S b h x) (ctxValues (m ((c : Thread nD τ).loc main_arg2)) b h r) 1 := by
  unfold newAcc
  rw [runSum, newMax_eq m c S hS]
  refine congrArg₂ (· + ·) rfl (Finset.sum_congr rfl fun i _ => ?_)
  rw [score_eq m c S hS]
  exact congrArg (· * _) (block2 m c b (vhead h) r i)

include hS in
/-- A context column holds the heads' outputs over the context keys. -/
theorem context (b : Fin 2) (i : Fin 1024) (x : Fin 256) :
    (dats m 0 c).arrAt 5 cfg0.N (ix3 b i (later x))
      = outRow (fun h r x => runSum (ctxScores S b h x) (ctxValues (m ((c : Thread nD τ).loc main_arg2)) b h r) 1)
          (V m c main_v4) (V m c main_v7) ⟨i / 64, by omega⟩ ⟨i % 64, by omega⟩ x := by
  have h := congrFun (Value.blocks5 m c (pt b) (flush0_5 _)) (ix3 0 i x)
  rw [Value.flushed5_A] at h
  have h' : (dats m 0 c).arrAt 5 cfg0.N (((cfg0.win 5).blk (pt b)).view.emb (ix3 0 i x)) = out0_A_5 c _ _ _ _ _ _ _ _ _ _ _ _ _ _ _ _ _ _ _ _ _ _ _ _ (ix3 0 i x) := h
  rw [emb5] at h'
  rw [h']
  refine (out_A c _ _ _ _ _ _ _ _ _ _ _ _ _ _ _ _ _ _ _ _ _ _ _ _ (ix3 0 i x)).trans ?_
  rw [block3, block4, show newAcc (iblk m c 0 (pt b)) (iblk m c 1 (pt b)) (iblk m c 2 (pt b)) startM startA
    = fun h r x => runSum (ctxScores S b h x) (ctxValues (m ((c : Thread nD τ).loc main_arg2)) b h r) 1 from
      funext fun h => funext fun r => funext fun x => newAcc_eq m c S hS b h r x]
  rfl

end Cert.Kernel4Ideal.Array

end
-- ==== Proof.CtxRefSoftmax.lean ====
/- The stages of the plain attention program up to the heads: scores, weights and their averages of the values. -/
module

public import proofs.«01_k».proof.Proof.CtxArray
public import proofs.«01_k».proof.Proof.AttnRefSoftmax
public import proofs.«01_k».proof.Proof.Gen.Reference4Ideal.Read

@[expose] public section

set_option maxRecDepth 16384

noncomputable section

open scoped BigOperators
open Idealize.ShloMosaic

namespace Cert.Reference4Ideal.Rows

open Cert.Reference4Ideal Cert.Reference4Ideal.Read
open Cert.Kernel4Ideal.Array (later)

variable (x0 : Vec Ideal S2x20x128x8448 .bf16) (x1 : Vec Ideal S2x8448x896 .bf16) (x2 : Vec Ideal S2x10x80x8448 .bf16)
  (x3 x4 x5 x6 : Vec Ideal S32 .f32) (x7 : Vec Ideal S64 .f32)

/-- The score that the reference gives query column `c` and key `t` in head `h`, before its factor. -/
def refScore (b : Fin 2) (h : Fin 20) (c t : Fin 256) : EReal :=
  ∑ d : Fin 128, x0 (ix4 b h d (later c)) * x1 (ix3 b (later t) ⟨128 * (Cert.KernelIdeal.Step.slab h).val + d, by omega⟩)

theorem v6_apply (b : Fin 2) (h : Fin 7) (t : Fin 256) (d : Fin 128) :
    val_main_v6 (F := Ideal) x1 (ix4 b h t d) = x1 (ix3 b (later t) ⟨h * 128 + d, by omega⟩) := by
  pointwise [val_main_v6, val_main_v5, val_main_v4, val_main_v1]

theorem v13_apply (b : Fin 2) (j : Fin 8) (t : Fin 256) (d : Fin 128) :
    val_main_v13 (F := Ideal) x1 (ix4 b j t d) = x1 (ix3 b (later t) ⟨(4 + j / 4) * 128 + d, by omega⟩) := by
  pointwise [val_main_v13, val_main_v12, val_main_v11, val_main_v10, val_main_v6, val_main_v5, val_main_v4, val_main_v1]

theorem v17_apply (b : Fin 2) (j : Fin 8) (t : Fin 256) (d : Fin 128) :
    val_main_v17 (F := Ideal) x1 (ix4 b j t d) = x1 (ix3 b (later t) ⟨6 * 128 + d, by omega⟩) := by
  pointwise [val_main_v17, val_main_v16, val_main_v15, val_main_v14, val_main_v6, val_main_v5, val_main_v4, val_main_v1]

/-- The keys, each head's own. -/
theorem v18_apply (b : Fin 2) (h : Fin 20) (t : Fin 256) (d : Fin 128) :
    val_main_v18 (F := Ideal) x1 (ix4 b h t d)
      = x1 (ix3 b (later t) ⟨128 * (Cert.KernelIdeal.Step.slab h).val + d, by omega⟩) := by
  have hs := Cert.ReferenceIdeal.Rows.slab_val h
  pointwise [val_main_v18, val_main_v9]
  by_cases h1 : h.val < 4
  · rw [if_pos h1] at hs
    rw [dif_pos h1, v6_apply]
    congr 2; apply Fin.ext; show h.val * 128 + d.val = 128 * (Cert.KernelIdeal.Step.slab h).val + d.val; omega
  · rw [if_neg h1] at hs
    rw [dif_neg h1]
    by_cases h2 : h.val - 4 < 8
    · rw [if_pos h2] at hs
      rw [dif_pos h2, v13_apply]
      congr 2; apply Fin.ext
      show (4 + (h.val - 4) / 4) * 128 + d.val = 128 * (Cert.KernelIdeal.Step.slab h).val + d.val; omega
    · rw [if_neg h2] at hs
      rw [dif_neg h2, v17_apply]
      congr 2; apply Fin.ext; show 6 * 128 + d.val = 128 * (Cert.KernelIdeal.Step.slab h).val + d.val; omega

theorem v19_apply (b : Fin 2) (h : Fin 10) (r : Fin 64) (t : Fin 256) :
    val_main_v8 (F := Ideal) x2 (ix4 b h r t) = x2 (ix4 b h ⟨r, by omega⟩ (later t)) := by
  pointwise [val_main_v8, val_main_v7, val_main_v2]

theorem v23_apply (b : Fin 2) (j : Fin 8) (r : Fin 64) (t : Fin 256) :
    val_main_v23 (F := Ideal) x2 (ix4 b j r t) = x2 (ix4 b ⟨4 + j / 2, by omega⟩ ⟨r, by omega⟩ (later t)) := by
  pointwise [val_main_v23, val_main_v22, val_main_v21, val_main_v20, val_main_v8, val_main_v7, val_main_v2]

theorem v27_apply (b : Fin 2) (j : Fin 8) (r : Fin 64) (t : Fin 256) :
    val_main_v27 (F := Ideal) x2 (ix4 b j r t) = x2 (ix4 b ⟨8 + j / 4, by omega⟩ ⟨r, by omega⟩ (later t)) := by
  pointwise [val_main_v27, val_main_v26, val_main_v25, val_main_v24, val_main_v8, val_main_v7, val_main_v2]

/-- The values, each head's own. -/
theorem v28_apply (b : Fin 2) (h : Fin 20) (r : Fin 64) (t : Fin 256) :
    val_main_v28 (F := Ideal) x2 (ix4 b h r t) = x2 (ix4 b (Cert.KernelIdeal.Step.vhead h) ⟨r, by omega⟩ (later t)) := by
  have hs := Cert.ReferenceIdeal.Rows.vhead_val h
  pointwise [val_main_v28, val_main_v19]
  by_cases h1 : h.val < 4
  · rw [if_pos h1] at hs
    rw [dif_pos h1, v19_apply]
    congr 2; exact Fin.ext hs.symm
  · rw [if_neg h1] at hs
    rw [dif_neg h1]
    by_cases h2 : h.val - 4 < 8
    · rw [if_pos h2] at hs
      rw [dif_pos h2, v23_apply]
      congr 2; exact Fin.ext hs.symm
    · rw [if_neg h2] at hs
      rw [dif_neg h2, v27_apply]
      congr 2; exact Fin.ext hs.symm

theorem v32_apply (i : S2x20x256x256.Idx) : val_main_v32 (F := Ideal) i = ((Real.log 2 : ℝ) : EReal) := by
  rw [val_main_v32_apply, val_main_v31_apply, val_main_v30_apply, val_main_cst_apply]
  show Ideal.log (Ideal.ofBits .f32 0x40000000#32) = _
  rw [Cert.ReferenceIdeal.Rows.two, Ideal.log_coe, if_neg (by norm_num)]

/-- The scores. -/
theorem v33_apply (b : Fin 2) (h : Fin 20) (c t : Fin 256) :
    val_main_v33 (F := Ideal) x0 x1 (ix4 b h c t) = refScore x0 x1 b h c t * ((Real.log 2 : ℝ) : EReal) := by
  have e := v18_apply x1 b h t
  rw [val_main_v33_apply, v32_apply]
  revert e
  unfold val_main_v29 refScore
  generalize val_main_v18 (F := Ideal) x1 = k
  intro e
  pointwise [val_main_v3, val_main_v0]
  simp only [e]

/-- The greatest score of a query column. -/
theorem v34_apply (b : Fin 2) (h : Fin 20) (c : Fin 256) :
    val_main_v34 (F := Ideal) x0 x1 (ix3 b h c)
      = Finset.univ.fold max (Ideal.ofBits .f32 0xFF800000#32) fun t : Fin 256 => val_main_v33 (F := Ideal) x0 x1 (ix4 b h c t) := by
  unfold val_main_v34
  generalize val_main_v33 (F := Ideal) x0 x1 = s
  pointwise [val_main_cst_0]

theorem v38_apply (b : Fin 2) (h : Fin 20) (c t : Fin 256) :
    val_main_v38 (F := Ideal) x0 x1 (ix4 b h c t)
      = max (Ideal.ofBits .f32 0xFF800000#32) (val_main_v34 (F := Ideal) x0 x1 (ix3 b h c)) := by
  have e : idx_main_v37 (idx_main_v38 (ix4 b h c t)) = ix3 b h c := by
    funext a
    match a with | ⟨0, _⟩ => rfl | ⟨1, _⟩ => rfl | ⟨2, _⟩ => rfl
  rw [val_main_v38_apply, val_main_v37_apply, val_main_v36_apply, val_main_v35_apply, val_main_cst_1_apply, e]
  rfl

theorem v40_apply (b : Fin 2) (h : Fin 20) (c t : Fin 256) :
    val_main_v40 (F := Ideal) x0 x1 (ix4 b h c t)
      = Ideal.exp (val_main_v33 (F := Ideal) x0 x1 (ix4 b h c t) - val_main_v38 (F := Ideal) x0 x1 (ix4 b h c t)) := by
  rw [val_main_v40_apply, val_main_v39_apply]
  rfl

theorem v41_apply (b : Fin 2) (h : Fin 20) (c : Fin 256) :
    val_main_v41 (F := Ideal) x0 x1 (ix3 b h c) = ∑ t : Fin 256, val_main_v40 (F := Ideal) x0 x1 (ix4 b h c t) := by
  unfold val_main_v41
  generalize val_main_v40 (F := Ideal) x0 x1 = s
  pointwise [val_main_cst_2]

theorem v44_apply (b : Fin 2) (h : Fin 20) (c t : Fin 256) :
    val_main_v44 (F := Ideal) x0 x1 (ix4 b h c t)
      = Ideal.div (val_main_v40 (F := Ideal) x0 x1 (ix4 b h c t)) (val_main_v41 (F := Ideal) x0 x1 (ix3 b h c)) := by
  unfold val_main_v44 val_main_v43 val_main_v42
  generalize val_main_v40 (F := Ideal) x0 x1 = s
  generalize val_main_v41 (F := Ideal) x0 x1 = s'
  pointwise

/-- The average of a head's values. -/
theorem v45_apply (b : Fin 2) (h : Fin 20) (c : Fin 256) (r : Fin 64) :
    val_main_v45 (F := Ideal) x0 x1 x2 (ix4 b h c r)
      = ∑ t : Fin 256, val_main_v44 (F := Ideal) x0 x1 (ix4 b h c t) * x2 (ix4 b (Cert.KernelIdeal.Step.vhead h) ⟨r, by omega⟩ (later t)) := by
  have e := v28_apply x2 b h r
  revert e
  unfold val_main_v45
  generalize val_main_v44 (F := Ideal) x0 x1 = s
  generalize val_main_v28 (F := Ideal) x2 = s'
  intro e
  pointwise
  simp only [e]

end Cert.Reference4Ideal.Rows

end
-- ==== Proof.CtxHeads.lean ====
/- A head's output, as the context call gathers it over the context keys, is the plain softmax average of the values. -/
module

public import proofs.«01_k».proof.Proof.AttnHeads
public import proofs.«01_k».proof.Proof.CtxRefSoftmax

@[expose] public section

set_option maxRecDepth 16384

noncomputable section

open scoped BigOperators
open Idealize.ShloMosaic

namespace Cert.CtxHeads

open Cert.Reference4Ideal Cert.Reference4Ideal.Read Cert.Reference4Ideal.Rows Cert.Kernel4Ideal.Array Cert.Softmax
open Cert.KernelIdeal.Array (scoreAt)

variable (x0 : Vec Ideal S2x20x128x8448 .bf16) (x1 : Vec Ideal S2x8448x896 .bf16) (x2 : Vec Ideal S2x10x80x8448 .bf16)
  (S : Fin 2 → Fin 20 → Fin 8448 → Fin 8448 → ℝ) (hS : ∀ b h t x, scoreAt x0 x1 b h t x = ((S b h t x : ℝ) : EReal))
  (h1 : ∀ b h t, x2 (ix4 b h 64 t) = (1 : EReal))

include hS in
theorem ref_score (b : Fin 2) (h : Fin 20) (c t : Fin 256) :
    val_main_v33 (F := Ideal) x0 x1 (ix4 b h c t) = ((S b h (later t) (later c) : ℝ) : EReal) * ((Real.log 2 : ℝ) : EReal) := by
  rw [v33_apply, ← hS]
  refine congrArg (· * _) (Finset.sum_congr rfl fun d _ => ?_)
  exact mul_comm _ _

include hS in
/-- What the reference takes the scores of a column relative to is one real. -/
theorem ref_max (b : Fin 2) (h : Fin 20) (c : Fin 256) :
    ∃ M : ℝ, ∀ t, val_main_v38 (F := Ideal) x0 x1 (ix4 b h c t) = (M : EReal) := by
  obtain ⟨M, hM⟩ := fold_max_real (Finset.univ : Finset (Fin 256)) ⟨0, Finset.mem_univ _⟩ (fun t => S b h (later t) (later c) * Real.log 2)
  refine ⟨M, fun t => ?_⟩
  rw [v38_apply, v34_apply, Cert.AttnHeads.bot_f32, ← hM, max_eq_right bot_le]
  refine congrArg (Finset.fold max ⊥ · Finset.univ) (funext fun t => ?_)
  rw [ref_score x0 x1 S hS, EReal.coe_mul]

/-- The running weighted sum of a row of values over the context keys. -/
abbrev total (b : Fin 2) (h : Fin 20) (r : Fin 80) (c : Fin 256) : EReal :=
  runSum (ctxScores S b h c) (ctxValues x2 b h r) 1

include hS h1 in
theorem head_eq (b : Fin 2) (h : Fin 20) (r : Fin 64) (c : Fin 256) :
    Ideal.div (total x2 S b h ⟨r, by omega⟩ c) (total x2 S b h 64 c) = val_main_v45 (F := Ideal) x0 x1 x2 (ix4 b h c r) := by
  obtain ⟨M, hM⟩ := runMax_real (ctxScores S b h c) 0
  obtain ⟨M', hM'⟩ := ref_max x0 x1 S hS b h c
  have et (r : Fin 80) : total x2 S b h r c = ∑ t, x2 (ix4 b (Cert.KernelIdeal.Step.vhead h) r (later t)) * Ideal.exp2 (((S b h (later t) (later c) : ℝ) : EReal) - M) := by
    unfold total
    rw [runSum_eq, hM, Finset.sum_range_one]
  have e64 : total x2 S b h 64 c = ∑ t, Ideal.exp2 (((S b h (later t) (later c) : ℝ) : EReal) - M) := by
    rw [et]
    refine Finset.sum_congr rfl fun t _ => ?_
    rw [h1, one_mul]
  rw [et, e64, average (fun t => S b h (later t) (later c)) (fun t => x2 (ix4 b (Cert.KernelIdeal.Step.vhead h) ⟨r, by omega⟩ (later t))) M M', v45_apply]
  refine Finset.sum_congr rfl fun t _ => ?_
  rw [v44_apply, v41_apply]
  have e37 (t : Fin 256) : val_main_v40 (F := Ideal) x0 x1 (ix4 b h c t)
      = Ideal.exp (((S b h (later t) (later c) : ℝ) : EReal) * ((Real.log 2 : ℝ) : EReal) - M') := by
    rw [v40_apply, hM', ref_score x0 x1 S hS]
  simp only [e37]

end Cert.CtxHeads

end
-- ==== Proof.CtxRefPair.lean ====
/- The stages of the plain attention program after the heads: the pairs and the merge. -/
module

public import proofs.«01_k».proof.Proof.CtxArray
public import proofs.«01_k».proof.Proof.Gen.Reference4Ideal.Read

@[expose] public section

set_option maxRecDepth 16384

noncomputable section

open scoped BigOperators
open Idealize.ShloMosaic

namespace Cert.Reference4Ideal.Rows

open Cert.Reference4Ideal Cert.Reference4Ideal.Read
open Cert.Kernel4Ideal.Array (later)

variable (x0 : Vec Ideal S2x20x128x8448 .bf16) (x1 : Vec Ideal S2x8448x896 .bf16) (x2 : Vec Ideal S2x10x80x8448 .bf16)
  (x3 x4 x5 x6 : Vec Ideal S32 .f32) (x7 : Vec Ideal S64 .f32)

theorem v55_apply (b : Fin 2) (j : Fin 4) (p : Fin 2) (c : Fin 256) (r : Fin 64) :
    val_main_v55 (F := Ideal) x0 x1 x2 (ix5 b j p c r) = val_main_v45 (F := Ideal) x0 x1 x2 (ix4 b ⟨4 + (j * 2 + p), by omega⟩ c r) := by
  unfold val_main_v55 val_main_v54
  generalize val_main_v45 (F := Ideal) x0 x1 x2 = o
  pointwise

theorem v57_apply (b : Fin 2) (j : Fin 4) (c : Fin 256) (r : Fin 64) :
    val_main_v57 (F := Ideal) x0 x1 x2 (ix4 b j c r) = val_main_v55 (F := Ideal) x0 x1 x2 (ix5 b j 0 c r) := by
  unfold val_main_v57 val_main_v56
  generalize val_main_v55 (F := Ideal) x0 x1 x2 = o
  pointwise

theorem v59_apply (b : Fin 2) (j : Fin 4) (c : Fin 256) (r : Fin 64) :
    val_main_v59 (F := Ideal) x0 x1 x2 (ix4 b j c r) = val_main_v55 (F := Ideal) x0 x1 x2 (ix5 b j 1 c r) := by
  unfold val_main_v59 val_main_v58
  generalize val_main_v55 (F := Ideal) x0 x1 x2 = o
  pointwise

/-- The factor of the second head of a pair. -/
theorem v53_apply : val_main_v53 (F := Ideal) x3 x4 x5 x6 ix0
    = Ideal.exp (∑ i : Fin 32, x3 (ix1 i) * x4 (ix1 i)) - Ideal.exp (∑ i : Fin 32, x5 (ix1 i) * x6 (ix1 i))
      + Ideal.ofBits .f32 0x3E4CCCCD#32 := by
  pointwise [val_main_v53, val_main_v52, val_main_v51, val_main_v50, val_main_v49, val_main_v48, val_main_v47, val_main_v46, val_main_cst_3, val_main_cst_4, val_main_cst_5]

theorem v62_apply (b : Fin 2) (j : Fin 4) (c : Fin 256) (r : Fin 64) :
    val_main_v62 (F := Ideal) x0 x1 x2 x3 x4 x5 x6 (ix4 b j c r)
      = val_main_v57 (F := Ideal) x0 x1 x2 (ix4 b j c r)
        - val_main_v53 (F := Ideal) x3 x4 x5 x6 ix0 * val_main_v59 (F := Ideal) x0 x1 x2 (ix4 b j c r) := by
  have e : idx_main_v60 (ix4 b j c r) = ix0 := funext fun a => a.elim0
  rw [val_main_v62_apply, val_main_v61_apply, val_main_v60_apply, e]
  rfl

theorem v64_apply (b : Fin 2) (j : Fin 4) (c : Fin 256) :
    val_main_v64 (F := Ideal) x0 x1 x2 x3 x4 x5 x6 (ix3 b j c)
      = ∑ r : Fin 64, val_main_v62 (F := Ideal) x0 x1 x2 x3 x4 x5 x6 (ix4 b j c r)
          * val_main_v62 (F := Ideal) x0 x1 x2 x3 x4 x5 x6 (ix4 b j c r) := by
  rw [val_main_v64_apply, val_main_cst_6_apply, Ideal.ofBits_def, Ideal.ofBits_zero_f32, zero_add]
  refine Finset.sum_congr rfl fun r _ => ?_
  have e : idx_main_v64 (ix3 b j c) r = ix4 b j c r := by
    funext a
    match a with | ⟨0, _⟩ => rfl | ⟨1, _⟩ => rfl | ⟨2, _⟩ => rfl | ⟨3, _⟩ => rfl
  rw [e, val_main_v63_apply]
  rfl

theorem v71_apply (b : Fin 2) (j : Fin 4) (c : Fin 256) (r : Fin 64) :
    val_main_v71 (F := Ideal) x0 x1 x2 x3 x4 x5 x6 (ix4 b j c r)
      = Ideal.rsqrt (Ideal.div (val_main_v64 (F := Ideal) x0 x1 x2 x3 x4 x5 x6 (ix3 b j c)) (Ideal.ofBits .f32 0x42800000#32)
        + Ideal.ofBits .f32 0x358637BD#32) := by
  unfold val_main_v71 val_main_v70 val_main_v69 val_main_v67 val_main_v65
  generalize val_main_v64 (F := Ideal) x0 x1 x2 x3 x4 x5 x6 = p
  pointwise [val_main_v68, val_main_v66, val_main_cst_7, val_main_cst_8]

theorem v74_apply (b : Fin 2) (j : Fin 4) (c : Fin 256) (r : Fin 64) :
    val_main_v74 (F := Ideal) x7 (ix4 b j c r) = x7 (ix1 r) := by
  pointwise [val_main_v74, val_main_v73]

theorem v77_apply (b : Fin 2) (j : Fin 4) (c : Fin 256) (r : Fin 64) :
    val_main_v77 (F := Ideal) x0 x1 x2 x3 x4 x5 x6 x7 (ix4 b j c r)
      = val_main_v62 (F := Ideal) x0 x1 x2 x3 x4 x5 x6 (ix4 b j c r) * val_main_v71 (F := Ideal) x0 x1 x2 x3 x4 x5 x6 (ix4 b j c r)
        * x7 (ix1 r) * Ideal.ofBits .f32 0x3F4CCCCD#32 := by
  rw [val_main_v77_apply, val_main_v75_apply, val_main_v72_apply, v74_apply]
  rfl

end Cert.Reference4Ideal.Rows

end
-- ==== Proof.CtxRefMerge.lean ====
/- The last stages of the plain program of the context queries: the merge of the three groups of heads. -/
module

public import proofs.«01_k».proof.Proof.CtxArray
public import proofs.«01_k».proof.Proof.Gen.Reference4Ideal.Read

@[expose] public section

set_option maxRecDepth 16384

noncomputable section

open scoped BigOperators
open Idealize.ShloMosaic

namespace Cert.Reference4Ideal.Rows

open Cert.Reference4Ideal Cert.Reference4Ideal.Read
open Cert.Kernel4Ideal.Array (later)

variable (x0 : Vec Ideal S2x20x128x8448 .bf16) (x1 : Vec Ideal S2x8448x896 .bf16) (x2 : Vec Ideal S2x10x80x8448 .bf16)
  (x3 x4 x5 x6 : Vec Ideal S32 .f32) (x7 : Vec Ideal S64 .f32)

theorem v80_apply (b : Fin 2) (j : Fin 16) (c : Fin 256) (r : Fin 64) :
    val_main_v80 (F := Ideal) x0 x1 x2 x3 x4 x5 x6 x7 (ix4 b j c r)
      = if h : j.val < 4 then val_main_v45 (F := Ideal) x0 x1 x2 (ix4 b ⟨j.val, by omega⟩ c r)
        else if h' : j.val - 4 < 4 then val_main_v77 (F := Ideal) x0 x1 x2 x3 x4 x5 x6 x7 (ix4 b ⟨j.val - 4, by omega⟩ c r)
        else val_main_v45 (F := Ideal) x0 x1 x2 (ix4 b ⟨j.val + 4, by omega⟩ c r) := by
  unfold val_main_v80
  generalize val_main_v77 (F := Ideal) x0 x1 x2 x3 x4 x5 x6 x7 = s
  unfold val_main_v78 val_main_v79
  generalize val_main_v45 (F := Ideal) x0 x1 x2 = o
  pointwise
  by_cases h1 : j.val < 4
  · rw [dif_pos h1, dif_pos h1]
  · rw [dif_neg h1, dif_neg h1]
    by_cases h2 : j.val - 4 < 4
    · rw [dif_pos h2, dif_pos h2]
    · rw [dif_neg h2, dif_neg h2]
      congr 2; apply Fin.ext; show 12 + (j.val - 4 - 4) = j.val + 4; omega

theorem v83_apply (b : Fin 2) (i : Fin 1024) (c : Fin 256) :
    val_main_v83 (F := Ideal) x0 x1 x2 x3 x4 x5 x6 x7 (ix3 b i c)
      = val_main_v80 (F := Ideal) x0 x1 x2 x3 x4 x5 x6 x7 (ix4 b ⟨i / 64, by omega⟩ c ⟨i % 64, by omega⟩) := by
  have e : idx_main_v81 (idx_main_v82 (ix3 b i c)) = ix4 b ⟨i / 64, by omega⟩ c ⟨i % 64, by omega⟩ := by
    funext a; apply Fin.ext
    match a with
    | ⟨0, _⟩ => show ((b.val * 1024 + i.val) * 256 + c.val) / 262144 = b.val; omega
    | ⟨1, _⟩ => show ((b.val * 1024 + i.val) * 256 + c.val) / 16384 % 16 = i.val / 64; omega
    | ⟨2, _⟩ => show ((b.val * 1024 + i.val) * 256 + c.val) % 256 = c.val; omega
    | ⟨3, _⟩ => show ((b.val * 1024 + i.val) * 256 + c.val) / 256 % 64 = i.val % 64; omega
  rw [val_main_v83_apply, val_main_v82_apply, val_main_v81_apply, e]
  rfl

end Cert.Reference4Ideal.Rows

end
-- ==== Proof.CtxRows.lean ====
/- The sixteen groups of rows that the context call makes of its heads are the rows of the plain program, once the heads
are. -/
module

public import proofs.«01_k».proof.Proof.CtxRefPair
public import proofs.«01_k».proof.Proof.CtxRefMerge

@[expose] public section

set_option maxRecDepth 16384

noncomputable section

open scoped BigOperators
open Idealize.ShloMosaic

namespace Cert.CtxRows

open Cert.Reference4Ideal Cert.Reference4Ideal.Read Cert.Reference4Ideal.Rows Cert.Kernel4Ideal.Step

variable (x0 : Vec Ideal S2x20x128x8448 .bf16) (x1 : Vec Ideal S2x8448x896 .bf16) (x2 : Vec Ideal S2x10x80x8448 .bf16)
  (x3 x4 x5 x6 : Vec Ideal S32 .f32) (x7 : Vec Ideal S64 .f32)
  (a : Fin 20 → Fin 80 → Fin 256 → EReal) (lv : Vec Ideal Cert.Kernel4Ideal.S4x32 .f32) (gs : Vec Ideal Cert.Kernel4Ideal.S64x256 .f32)
  (b : Fin 2) (x : Fin 256) (c : Fin 256)
  (hH : ∀ h r, headOut a h r x = val_main_v45 (F := Ideal) x0 x1 x2 (ix4 b h c r))
  (h0 : ∀ j, lv (ix2 0 j) = x3 (ix1 j)) (h1 : ∀ j, lv (ix2 1 j) = x4 (ix1 j)) (h2 : ∀ j, lv (ix2 2 j) = x5 (ix1 j))
  (h3 : ∀ j, lv (ix2 3 j) = x6 (ix1 j)) (hg : ∀ r, gs (ix2 r x) = x7 (ix1 r))

include h0 h1 h2 h3 in
theorem lam_eq : lamOf lv = val_main_v53 (F := Ideal) x3 x4 x5 x6 ix0 := by
  rw [v53_apply]
  unfold lamOf
  simp only [h0, h1, h2, h3]

include hH h0 h1 h2 h3 in
theorem diff_eq (j : Fin 4) (h h' : Fin 20) (e : h.val = 4 + 2 * j.val) (e' : h'.val = 5 + 2 * j.val) (r : Fin 64) :
    diffOf a lv h h' r x = val_main_v62 (F := Ideal) x0 x1 x2 x3 x4 x5 x6 (ix4 b j c r) := by
  have e1 : h = ⟨4 + (j.val * 2 + (0 : Fin 2).val), by have := j.isLt; have := (0 : Fin 2).isLt; omega⟩ :=
    Fin.ext (by show h.val = 4 + (j.val * 2 + 0); omega)
  have e2 : h' = ⟨4 + (j.val * 2 + (1 : Fin 2).val), by have := j.isLt; have := (1 : Fin 2).isLt; omega⟩ :=
    Fin.ext (by show h'.val = 4 + (j.val * 2 + 1); omega)
  unfold diffOf
  rw [v62_apply, v57_apply, v59_apply, v55_apply, v55_apply, lam_eq x3 x4 x5 x6 lv h0 h1 h2 h3, hH, hH, e1, e2]

include hH h0 h1 h2 h3 hg in
theorem pair_eq (j : Fin 4) (h h' : Fin 20) (e : h.val = 4 + 2 * j.val) (e' : h'.val = 5 + 2 * j.val) (r : Fin 64) :
    pairOut a lv gs h h' r x = val_main_v77 (F := Ideal) x0 x1 x2 x3 x4 x5 x6 x7 (ix4 b j c r) := by
  unfold pairOut
  rw [v77_apply, v71_apply, v64_apply, hg]
  simp only [diff_eq x0 x1 x2 x3 x4 x5 x6 a lv b x c hH h0 h1 h2 h3 j h h' e e']

include hH h0 h1 h2 h3 hg in
theorem row_eq (j : Fin 16) (r : Fin 64) :
    outRow a lv gs j r x = val_main_v80 (F := Ideal) x0 x1 x2 x3 x4 x5 x6 x7 (ix4 b j c r) := by
  have hj := j.isLt
  rw [v80_apply]
  unfold outRow
  by_cases h : j.val < 4
  · rw [dif_pos h, dif_pos h, hH]
  · rw [dif_neg h, dif_neg h]
    by_cases h' : j.val < 8
    · rw [dif_pos h', dif_pos (show j.val - 4 < 4 by omega)]
      exact pair_eq x0 x1 x2 x3 x4 x5 x6 x7 a lv gs b x c hH h0 h1 h2 h3 hg ⟨j.val - 4, by omega⟩ _ _
        (by show 2 * j.val - 4 = 4 + 2 * (j.val - 4); omega) (by show 2 * j.val - 3 = 5 + 2 * (j.val - 4); omega) r
    · rw [dif_neg h', dif_neg (show ¬j.val - 4 < 4 by omega), hH]

end Cert.CtxRows

end
-- ==== Proof.CtxClaim.lean ====
/- The fourth claim: the attention of the context queries leaves the same result as the plain one. -/
module

public import proofs.«01_k».proof.Proof.AttnInputs
public import proofs.«01_k».proof.Proof.CtxHeads
public import proofs.«01_k».proof.Proof.CtxRows
public import proofs.«01_k».proof.Proof.Gen.Reference4Ideal.Run
public import proofs.«01_k».proof.Proof.Gen.Pre_finite_scores_unit_row_of_context
public import proofs.«01_k».proof.Defs

@[expose] public section

set_option maxRecDepth 16384

noncomputable section

open Idealize.ShloMosaic Idealize.SL.Sem

namespace Cert.CtxClaim

section Reference

open Cert.Reference4Ideal Cert.Reference4Ideal.Read Cert.Reference4Ideal.Rows
open Cert.Kernel4Ideal.Array (later)

variable (x0 : Vec Ideal S2x20x128x8448 .bf16) (x1 : Vec Ideal S2x8448x896 .bf16) (x2 : Vec Ideal S2x10x80x8448 .bf16)
  (x3 x4 x5 x6 : Vec Ideal S32 .f32) (x7 : Vec Ideal S64 .f32) (x8 : Vec Ideal S2x1024x8448 .bf16)

/-- A latent column of the plain result is as it was given. -/
theorem plain_latent (b : Fin 2) (i : Fin 1024) (t : Fin 8448) (ht : t.val < 8192) :
    val_main_v85 (F := Ideal) x0 x1 x2 x3 x4 x5 x6 x7 x8 (ix3 b i t) = x8 (ix3 b i t) := by
  unfold val_main_v85 val_main_v84
  generalize val_main_v83 (F := Ideal) x0 x1 x2 x3 x4 x5 x6 x7 = s
  pointwise
  rw [dif_pos ht]

/-- A context column of the plain result holds the rows of the heads. -/
theorem plain_context (b : Fin 2) (i : Fin 1024) (x : Fin 256) :
    val_main_v85 (F := Ideal) x0 x1 x2 x3 x4 x5 x6 x7 x8 (ix3 b i (later x))
      = val_main_v80 (F := Ideal) x0 x1 x2 x3 x4 x5 x6 x7 (ix4 b ⟨i / 64, by omega⟩ x ⟨i % 64, by omega⟩) := by
  rw [← v83_apply]
  unfold val_main_v85 val_main_v84
  generalize val_main_v83 (F := Ideal) x0 x1 x2 x3 x4 x5 x6 x7 = s
  pointwise

/-- The condition on the inputs asks of the first eight what the first claim's does. -/
theorem inputs (hp : Cert.Pre_finite_scores_unit_row_of_context.fn (F := Ideal) x0 x1 x2 x3 x4 x5 x6 x7 x8 = fun _ => 1#1) :
    Cert.Pre_finite_scores_unit_row.fn (F := Ideal) x0 x1 x2 x3 x4 x5 x6 x7 = fun _ => 1#1 := hp

end Reference

/-- A place in the kernel's result is the plain program's. -/
theorem value (m : (ℓ : Loc Cert.Kernel4Ideal.nD Cert.Kernel4Ideal.τ Cert.Kernel4Ideal.sig) → Buf (Elt Ideal) ℓ)
    (hp : Pre_Kernel4Ideal_finite_scores_unit_row_of_context m) (c : Dev Cert.Kernel4Ideal.nD) (b : Fin 2) (i : Fin 1024)
    (t : Fin 8448) :
    Cert.Reference4Ideal.Read.val_main_v85 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4))
      (m ((c.tc : Thread Cert.Kernel4Ideal.nD Cert.Kernel4Ideal.τ).loc Cert.Kernel4Ideal.main_arg5))
      (m ((c.tc : Thread Cert.Kernel4Ideal.nD Cert.Kernel4Ideal.τ).loc Cert.Kernel4Ideal.main_arg6))
      (m ((c.tc : Thread Cert.Kernel4Ideal.nD Cert.Kernel4Ideal.τ).loc Cert.Kernel4Ideal.main_arg7))
      (m ((c.tc : Thread Cert.Kernel4Ideal.nD Cert.Kernel4Ideal.τ).loc Cert.Kernel4Ideal.main_arg8)) (ix3 b i t)
    = (Cert.Kernel4Ideal.Gen.dats m 0 c).arrAt 5 Cert.Kernel4Ideal.cfg0.N (ix3 b i t) := by
  by_cases ht : t.val < 8192
  · rw [plain_latent _ _ _ _ _ _ _ _ _ b i t ht]
    exact (Cert.Kernel4Ideal.Array.latent m c b i t ht).symm
  · obtain ⟨S, hS⟩ := Cert.AttnInputs.scores_real _ _ _ _ _ _ _ _ (inputs _ _ _ _ _ _ _ _ _ (hp c))
    have h1 := Cert.AttnInputs.unit_row _ _ _ _ _ _ _ _ (inputs _ _ _ _ _ _ _ _ _ (hp c))
    obtain ⟨x, rfl⟩ : ∃ x : Fin 256, t = Cert.Kernel4Ideal.Array.later x :=
      ⟨⟨t.val - 8192, by omega⟩, Fin.ext (by show t.val = 8192 + (t.val - 8192); omega)⟩
    rw [plain_context]
    refine Eq.trans ?_ (Cert.Kernel4Ideal.Array.context m c S hS b i x).symm
    refine (Cert.CtxRows.row_eq _ _ _ _ _ _ _ _ _ _ _ b x x ?_
      (Cert.Kernel4Ideal.Array.lam0_apply m c) (Cert.Kernel4Ideal.Array.lam1_apply m c) (Cert.Kernel4Ideal.Array.lam2_apply m c)
      (Cert.Kernel4Ideal.Array.lam3_apply m c) (fun r => Cert.Kernel4Ideal.Array.gain_apply m c r x) _ _).symm
    intro h r
    exact Cert.CtxHeads.head_eq _ _ _ S hS h1 b h r x

/-- From equal arguments of the stated kind both programs end with the same result, their arguments unchanged. -/
theorem algebraic : algebraic_Kernel4Ideal_Reference4Ideal_pre_finite_scores_unit_row_of_context := by
  intro m g m' g' hp hargs
  refine ⟨fun c => (Cert.Kernel4Ideal.Gen.dats m 0 c).arrAt 5 Cert.Kernel4Ideal.cfg0.N,
    Cert.Kernel4Ideal.Value.run_blocks m g, ?_⟩
  refine (θ_run Cert.Reference4Ideal.defs _ _).mono (fun r h c => ⟨(h c).1.trans ?_, (h c).2⟩)
    (Cert.Reference4Ideal.Value.run m' g')
  refine (Cert.Reference4Ideal.Read.val_main_v85_eq _).trans ?_
  funext i
  obtain ⟨h0, h1, h2, h3, h4, h5, h6, h7, h8⟩ := hargs c
  idx_vars i
  refine Eq.trans ?_ (value m hp c _ _ _)
  rw [← h0, ← h1, ← h2, ← h3, ← h4, ← h5, ← h6, ← h7, ← h8]

end Cert.CtxClaim

end
-- ==== Proof.LastBlock.lean ====
/- What one grid point of the last layer's output call computes: each row of its block is the row function. -/
module

public import proofs.«01_k».proof.Proof.FfnRow
public import proofs.«01_k».proof.Proof.Gen.Kernel5Ideal.Value

@[expose] public section

set_option maxRecDepth 16384

noncomputable section

open scoped BigOperators
open Idealize.ShloMosaic

namespace Cert.Kernel5Ideal.Block

open Cert.Kernel5Ideal Cert.Kernel5Ideal.Gen Cert.FfnRow

/-- The slice of the modulation row that starts at column 3072. -/
theorem pay3_apply (md : Vec Ideal S1x1x6144 .f32) (j : Fin 1024) :
    k0_pay3 md (ix2 0 j) = md (ix3 0 0 ⟨3072 + j, by omega⟩) := by
  pointwise [k0_pay3, k0_pay2]

/-- The slice of the modulation row that starts at column 4096. -/
theorem pay4_apply (md : Vec Ideal S1x1x6144 .f32) (j : Fin 1024) :
    k0_pay4 md (ix2 0 j) = md (ix3 0 0 ⟨4096 + j, by omega⟩) := by
  pointwise [k0_pay4, k0_pay2]

/-- The slice of the modulation row that starts at column 5120. -/
theorem pay5_apply (md : Vec Ideal S1x1x6144 .f32) (j : Fin 1024) :
    k0_pay5 md (ix2 0 j) = md (ix3 0 0 ⟨5120 + j, by omega⟩) := by
  pointwise [k0_pay5, k0_pay2]

/-- The residual row after the projected attention is added. -/
theorem pay6_apply (y : Vec Ideal S1x1024x256 .bf16) (wo : Vec Ideal S1024x1024 .bf16) (md : Vec Ideal S1x1x6144 .f32)
    (x : Vec Ideal S1x256x1024 .f32) (ga : Vec Ideal S1x1024 .f32) (r : Fin 256) (j : Fin 1024) :
    k0_pay6 y wo md x ga (ix2 r j)
      = step (fun j => x (ix3 0 r j)) (fun j => md (ix3 0 0 ⟨2048 + j, by omega⟩)) (fun j => ga (ix2 0 j))
          (times (fun i => y (ix3 0 i r)) fun i j => wo (ix2 i j)) j := by
  pointwise [k0_pay6, k0_pay2, step, times, scale]

/-- Its reciprocal root mean square. -/
theorem pay7_apply (y : Vec Ideal S1x1024x256 .bf16) (wo : Vec Ideal S1024x1024 .bf16) (md : Vec Ideal S1x1x6144 .f32)
    (x : Vec Ideal S1x256x1024 .f32) (ga : Vec Ideal S1x1024 .f32) (r : Fin 256) :
    k0_pay7 y wo md x ga (ix2 r 0) = scale fun j => k0_pay6 y wo md x ga (ix2 r j) := by
  unfold k0_pay7
  generalize k0_pay6 y wo md x ga = z
  pointwise [scale]

/-- The feed-forward network's update of a row. -/
theorem pay8_apply (sh sc gt : FVec Ideal S1x1024 .f32) (v : FVec Ideal S256x1024 .f32) (s : FVec Ideal S256x1 .f32)
    (gf : Vec Ideal S1x1024 .f32) (wg wu : Vec Ideal S1024x2816 .bf16) (wd : Vec Ideal S2816x1024 .bf16)
    (gp : Vec Ideal S1x1024 .f32) (r : Fin 256) (j : Fin 1024) (hs : s (ix2 r 0) = scale fun j => v (ix2 r j)) :
    k0_pay8 sh sc gt v s gf wg wu wd gp (ix2 r j)
      = step (fun j => v (ix2 r j)) (fun j => gt (ix2 0 j)) (fun j => gp (ix2 0 j))
          (times (hid (modulated (fun j => v (ix2 r j)) (fun j => gf (ix2 0 j)) (fun j => sc (ix2 0 j)) fun j => sh (ix2 0 j))
            (fun i n => wg (ix2 i n)) fun i n => wu (ix2 i n)) fun n j => wd (ix2 n j)) j := by
  have h1 : Ideal.ofBits .f32 0x3F800000#32 = 1 := Ideal.ofBits_one_f32
  pointwise [k0_pay8, step, times, hid, modulated]
  simp only [hs, scale, times, FfnRow.hid, modulated]

/-- The block that a point leaves, at row `r` and column `j`. -/
theorem block_apply (y : Vec Ideal S1x1024x256 .bf16) (x : Vec Ideal S1x256x1024 .f32) (md : Vec Ideal S1x1x6144 .f32)
    (ga gf gp : Vec Ideal S1x1024 .f32) (wo : Vec Ideal S1024x1024 .bf16) (wg wu : Vec Ideal S1024x2816 .bf16)
    (wd : Vec Ideal S2816x1024 .bf16) (r : Fin 256) (j : Fin 1024) :
    out0_10 y x md ga gf gp wo wg wu wd (ix3 0 r j)
      = out (fun i => y (ix3 0 i r)) (fun j => x (ix3 0 r j)) (fun n => md (ix3 0 0 n)) (fun j => ga (ix2 0 j))
          (fun j => gf (ix2 0 j)) (fun j => gp (ix2 0 j)) (fun i j => wo (ix2 i j)) (fun i n => wg (ix2 i n))
          (fun i n => wu (ix2 i n)) (fun n j => wd (ix2 n j)) j := by
  have h3 : (![0, 0, 0] : Fin 3 → Nat) = fun _ => 0 := funext fun a => by fin_cases a <;> rfl
  have h2 : (![0, 0] : Fin 2 → Nat) = fun _ => 0 := funext fun a => by fin_cases a <;> rfl
  have l0 : View.ld y r0_0 = y := View.ld_unit_zero h3 _ _
  have l1 : View.ld wo r0_1 = wo := View.ld_unit_zero h2 _ _
  have l2 : View.ld md r0_2 = md := View.ld_unit_zero h3 _ _
  have l3 : View.ld x r0_3 = x := View.ld_unit_zero h3 _ _
  have l4 : ∀ g : Vec Ideal S1x1024 .f32, View.ld g r0_4 = g := fun g => View.ld_unit_zero h2 _ g
  have l5 : ∀ w : Vec Ideal S1024x2816 .bf16, View.ld w r0_5 = w := fun w => View.ld_unit_zero h2 _ w
  have l6 : View.ld wd r0_6 = wd := View.ld_unit_zero h2 _ _
  unfold out0_10
  rw [l0, l1, l2, l3, l4, l4, l4, l5, l5, l6]
  refine (congrFun (View.canon_unit_zero h3 _ _) _).trans ?_
  have e : ∀ z : FVec Ideal S256x1024 .f32, k0_pay1 z (ix3 0 r j) = z (ix2 r j) := fun z => by pointwise [k0_pay1]
  rw [e, pay8_apply _ _ _ _ _ _ _ _ _ _ _ _ (pay7_apply _ _ _ _ _ _)]
  simp only [pay6_apply, pay3_apply, pay4_apply, pay5_apply]
  rfl

end Cert.Kernel5Ideal.Block

end
-- ==== Proof.LastArray.lean ====
/- What the result array of the last layer's output call holds after the run: at every index, the row function of the
   arguments as they were launched. -/
module

public import proofs.«01_k».proof.Proof.LastBlock
public import Idealize.ShloMosaic.Lib.StableHlo.ReadAt

@[expose] public section

set_option maxRecDepth 16384

noncomputable section

open scoped BigOperators
open Idealize.ShloMosaic Idealize.ShloMosaic.TcCoe

namespace Cert.Kernel5Ideal.Array

open Cert.Kernel5Ideal Cert.Kernel5Ideal.Gen Cert.FfnRow

variable (m : (ℓ : Loc nD τ sig) → Buf (Elt Ideal) ℓ)

/-! ## What the host operations before the launch leave in the kernel's operands -/

theorem v0_apply (c : Dev nD) (j : Fin 1024) : V m c main_v0 (ix2 0 j) = m ((c : Thread nD τ).loc main_arg3) (ix1 j) := by
  unfold V; after_reads_at
theorem v1_apply (c : Dev nD) (j : Fin 1024) : V m c main_v1 (ix2 0 j) = m ((c : Thread nD τ).loc main_arg4) (ix1 j) := by
  unfold V; after_reads_at
theorem v2_apply (c : Dev nD) (j : Fin 1024) : V m c main_v2 (ix2 0 j) = m ((c : Thread nD τ).loc main_arg5) (ix1 j) := by
  unfold V; after_reads_at
theorem v3_apply (c : Dev nD) (i : Fin 1024) (j : Fin 1024) :
    V m c main_v3 (ix2 i j) = m ((c : Thread nD τ).loc main_arg6) (ix2 i j) := by
  unfold V; after_reads_at
theorem v4_apply (c : Dev nD) (i : Fin 1024) (j : Fin 2816) :
    V m c main_v4 (ix2 i j) = m ((c : Thread nD τ).loc main_arg7) (ix2 i j) := by
  unfold V; after_reads_at
theorem v5_apply (c : Dev nD) (i : Fin 1024) (j : Fin 2816) :
    V m c main_v5 (ix2 i j) = m ((c : Thread nD τ).loc main_arg8) (ix2 i j) := by
  unfold V; after_reads_at
theorem v6_apply (c : Dev nD) (i : Fin 2816) (j : Fin 1024) :
    V m c main_v6 (ix2 i j) = m ((c : Thread nD τ).loc main_arg9) (ix2 i j) := by
  unfold V; after_reads_at
theorem v7_apply (c : Dev nD) (i : Fin 8) (j : Fin 6144) :
    V m c main_v7 (ix3 i 0 j) = m ((c : Thread nD τ).loc main_arg2) (ix2 i j) := by
  unfold V; after_reads_at

/-! ## Where each window's block lies -/

/-- The block indices of the windows that move, in closed form. -/
theorem idx_facts : ∀ t : Fin cfg0.N,
    (win0_0.index t 0 = t.val / 32 ∧ win0_0.index t 1 = 0 ∧ win0_0.index t 2 = t.val % 32)
    ∧ (win0_1.index t 0 = t.val / 32 ∧ win0_1.index t 1 = t.val % 32 ∧ win0_1.index t 2 = 0)
    ∧ (win0_2.index t 0 = t.val / 32 ∧ win0_2.index t 1 = 0 ∧ win0_2.index t 2 = 0)
    ∧ (win0_10.index t 0 = t.val / 32 ∧ win0_10.index t 1 = t.val % 32 ∧ win0_10.index t 2 = 0) :=
  (by decide +kernel : ∀ t : Fin grid0.N, _)

/-- The block indices of the windows that stay, all zero. -/
theorem idx_zero : ∀ t : Fin cfg0.N,
    (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0)
    ∧ (win0_9.index t 0 = 0 ∧ win0_9.index t 1 = 0) :=
  (by decide +kernel : ∀ t : Fin grid0.N, _)

/-- The grid point of batch entry `b` and token tile `s`. -/
abbrev pt (b : Fin 2) (s : Fin 32) : Fin cfg0.N := ⟨b * 32 + s, show _ < 64 by omega⟩

theorem pt_div (b : Fin 2) (s : Fin 32) : (pt b s).val / 32 = b := by show (b.val * 32 + s.val) / 32 = _; omega
theorem pt_mod (b : Fin 2) (s : Fin 32) : (pt b s).val % 32 = s := by show (b.val * 32 + s.val) % 32 = _; omega

/-- The token that row `r` of tile `s` holds, among all tokens. -/
abbrev tok (s : Fin 32) (r : Fin 256) : Fin 8448 := ⟨s * 256 + r, by omega⟩

/-- The same token among the latent ones. -/
abbrev lat (s : Fin 32) (r : Fin 256) : Fin 8192 := ⟨s * 256 + r, by omega⟩

theorem iblk0 (c : Dev nD) (b : Fin 2) (s : Fin 32) (i : Fin 1024) (r : Fin 256) :
    iblk m c 0 (pt b s) (ix3 0 i r) = m ((c : Thread nD τ).loc main_arg0) (ix3 b i (tok s r)) := by
  obtain ⟨⟨e0, e1, e2⟩, _⟩ := idx_facts (pt b s)
  rw [pt_div] at e0; rw [pt_mod] at e2
  show V m c main_arg0 (((cfg0.win 0).blk (pt b s)).view.emb (ix3 0 i r)) = _
  rw [V_main_arg0]
  congr 1
  funext a; apply Fin.ext
  match a with
  | ⟨0, _⟩ => show win0_0.index (pt b s) 0 * 1 + 1 * 0 = b.val; omega
  | ⟨1, _⟩ => show win0_0.index (pt b s) 1 * 1024 + 1 * i.val = i.val; omega
  | ⟨2, _⟩ => show win0_0.index (pt b s) 2 * 256 + 1 * r.val = s.val * 256 + r.val; omega

theorem iblk1 (c : Dev nD) (b : Fin 2) (s : Fin 32) (r : Fin 256) (j : Fin 1024) :
    iblk m c 1 (pt b s) (ix3 0 r j) = m ((c : Thread nD τ).loc main_arg1) (ix3 b (tok s r) j) := by
  obtain ⟨_, ⟨e0, e1, e2⟩, _⟩ := idx_facts (pt b s)
  rw [pt_div] at e0; rw [pt_mod] at e1
  show V m c main_arg1 (((cfg0.win 1).blk (pt b s)).view.emb (ix3 0 r j)) = _
  rw [V_main_arg1]
  congr 1
  funext a; apply Fin.ext
  match a with
  | ⟨0, _⟩ => show win0_1.index (pt b s) 0 * 1 + 1 * 0 = b.val; omega
  | ⟨1, _⟩ => show win0_1.index (pt b s) 1 * 256 + 1 * r.val = s.val * 256 + r.val; omega
  | ⟨2, _⟩ => show win0_1.index (pt b s) 2 * 1024 + 1 * j.val = j.val; omega

theorem iblk2 (c : Dev nD) (b : Fin 2) (s : Fin 32) (r : Fin 256) (n : Fin 6144) :
    iblk m c 2 (pt b s) (ix3 0 0 n) = m ((c : Thread nD τ).loc main_arg2) (ix2 (modRow b (tok s r)) n) := by
  obtain ⟨_, _, ⟨e0, e1, e2⟩, _⟩ := idx_facts (pt b s)
  rw [pt_div] at e0
  rw [← v7_apply m]
  show V m c main_v7 (((cfg0.win 2).blk (pt b s)).view.emb (ix3 0 0 n)) = _
  congr 1
  funext a; apply Fin.ext
  match a with
  | ⟨0, _⟩ =>
    show win0_2.index (pt b s) 0 * 1 + 1 * 0 = (modRow b (tok s r)).val
    unfold modRow
    rw [if_pos (show s.val * 256 + r.val < 8192 by omega), e0]
    show b.val * 1 + 1 * 0 = b.val; omega
  | ⟨1, _⟩ => show win0_2.index (pt b s) 1 * 1 + 1 * 0 = 0; omega
  | ⟨2, _⟩ => show win0_2.index (pt b s) 2 * 6144 + 1 * n.val = n.val; omega

theorem iblk3 (c : Dev nD) (t : Fin cfg0.N) (i : Fin 1) (j : Fin 1024) :
    iblk m c 3 t (ix2 i j) = V m c main_v0 (ix2 i j) := by
  obtain ⟨⟨e0, e1⟩, _⟩ := idx_zero t
  show V m c main_v0 (((cfg0.win 3).blk t).view.emb (ix2 i j)) = _
  congr 1
  funext a; apply Fin.ext
  match a with
  | ⟨0, _⟩ => show win0_3.index t 0 * 1 + 1 * i.val = i.val; omega
  | ⟨1, _⟩ => show win0_3.index t 1 * 1024 + 1 * j.val = j.val; omega

theorem iblk4 (c : Dev nD) (t : Fin cfg0.N) (i : Fin 1) (j : Fin 1024) :
    iblk m c 4 t (ix2 i j) = V m c main_v1 (ix2 i j) := by
  obtain ⟨_, ⟨e0, e1⟩, _⟩ := idx_zero t
  show V m c main_v1 (((cfg0.win 4).blk t).view.emb (ix2 i j)) = _
  congr 1
  funext a; apply Fin.ext
  match a with
  | ⟨0, _⟩ => show win0_4.index t 0 * 1 + 1 * i.val = i.val; omega
  | ⟨1, _⟩ => show win0_4.index t 1 * 1024 + 1 * j.val = j.val; omega

theorem iblk5 (c : Dev nD) (t : Fin cfg0.N) (i : Fin 1) (j : Fin 1024) :
    iblk m c 5 t (ix2 i j) = V m c main_v2 (ix2 i j) := by
  obtain ⟨_, _, ⟨e0, e1⟩, _⟩ := idx_zero t
  show V m c main_v2 (((cfg0.win 5).blk t).view.emb (ix2 i j)) = _
  congr 1
  funext a; apply Fin.ext
  match a with
  | ⟨0, _⟩ => show win0_5.index t 0 * 1 + 1 * i.val = i.val; omega
  | ⟨1, _⟩ => show win0_5.index t 1 * 1024 + 1 * j.val = j.val; omega

theorem iblk6 (c : Dev nD) (t : Fin cfg0.N) (i : Fin 1024) (j : Fin 1024) :
    iblk m c 6 t (ix2 i j) = V m c main_v3 (ix2 i j) := by
  obtain ⟨_, _, _, ⟨e0, e1⟩, _⟩ := idx_zero t
  show V m c main_v3 (((cfg0.win 6).blk t).view.emb (ix2 i j)) = _
  congr 1
  funext a; apply Fin.ext
  match a with
  | ⟨0, _⟩ => show win0_6.index t 0 * 1024 + 1 * i.val = i.val; omega
  | ⟨1, _⟩ => show win0_6.index t 1 * 1024 + 1 * j.val = j.val; omega

theorem iblk7 (c : Dev nD) (t : Fin cfg0.N) (i : Fin 1024) (j : Fin 2816) :
    iblk m c 7 t (ix2 i j) = V m c main_v4 (ix2 i j) := by
  obtain ⟨_, _, _, _, ⟨e0, e1⟩, _⟩ := idx_zero t
  show V m c main_v4 (((cfg0.win 7).blk t).view.emb (ix2 i j)) = _
  congr 1
  funext a; apply Fin.ext
  match a with
  | ⟨0, _⟩ => show win0_7.index t 0 * 1024 + 1 * i.val = i.val; omega
  | ⟨1, _⟩ => show win0_7.index t 1 * 2816 + 1 * j.val = j.val; omega

theorem iblk8 (c : Dev nD) (t : Fin cfg0.N) (i : Fin 1024) (j : Fin 2816) :
    iblk m c 8 t (ix2 i j) = V m c main_v5 (ix2 i j) := by
  obtain ⟨_, _, _, _, _, ⟨e0, e1⟩, _⟩ := idx_zero t
  show V m c main_v5 (((cfg0.win 8).blk t).view.emb (ix2 i j)) = _
  congr 1
  funext a; apply Fin.ext
  match a with
  | ⟨0, _⟩ => show win0_8.index t 0 * 1024 + 1 * i.val = i.val; omega
  | ⟨1, _⟩ => show win0_8.index t 1 * 2816 + 1 * j.val = j.val; omega

theorem iblk9 (c : Dev nD) (t : Fin cfg0.N) (i : Fin 2816) (j : Fin 1024) :
    iblk m c 9 t (ix2 i j) = V m c main_v6 (ix2 i j) := by
  obtain ⟨_, _, _, _, _, _, ⟨e0, e1⟩⟩ := idx_zero t
  show V m c main_v6 (((cfg0.win 9).blk t).view.emb (ix2 i j)) = _
  congr 1
  funext a; apply Fin.ext
  match a with
  | ⟨0, _⟩ => show win0_9.index t 0 * 2816 + 1 * i.val = i.val; omega
  | ⟨1, _⟩ => show win0_9.index t 1 * 1024 + 1 * j.val = j.val; omega

/-- Where row `r` and column `j` of the result's block lie in the array. -/
theorem emb10 (b : Fin 2) (s : Fin 32) (r : Fin 256) (j : Fin 1024) :
    ((cfg0.win 10).blk (pt b s)).view.emb (ix3 0 r j) = ix3 b (lat s r) j := by
  obtain ⟨_, _, _, e0, e1, e2⟩ := idx_facts (pt b s)
  rw [pt_div] at e0; rw [pt_mod] at e1
  funext a; apply Fin.ext
  match a with
  | ⟨0, _⟩ => show win0_10.index (pt b s) 0 * 1 + 1 * 0 = b.val; omega
  | ⟨1, _⟩ => show win0_10.index (pt b s) 1 * 256 + 1 * r.val = s.val * 256 + r.val; omega
  | ⟨2, _⟩ => show win0_10.index (pt b s) 2 * 1024 + 1 * j.val = j.val; omega

/-- The result array after the run, at a token named by its tile and its row in the tile. -/
theorem final_tile (c : Dev nD) (b : Fin 2) (s : Fin 32) (r : Fin 256) (j : Fin 1024) :
    (dats m 0 c).arrAt 10 cfg0.N (ix3 b (lat s r) j)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) b (tok s r) j := by
  have h := congrFun (Value.blocks10 m c (pt b s) (flush0_10 _)) (ix3 0 r j)
  rw [Value.flushed10] at h
  have h' : (dats m 0 c).arrAt 10 cfg0.N (((cfg0.win 10).blk (pt b s)).view.emb (ix3 0 r j)) = out0_10 _ _ _ _ _ _ _ _ _ _ (ix3 0 r j) := h
  rw [emb10] at h'
  rw [h', Block.block_apply]
  unfold result
  simp only [iblk0 m, iblk1 m, iblk2 m c b s r, iblk3 m, iblk4 m, iblk5 m, iblk6 m, iblk7 m, iblk8 m, iblk9 m,
    v0_apply m, v1_apply m, v2_apply m, v3_apply m, v4_apply m, v5_apply m, v6_apply m]

/-- The result array after the run, at any index. -/
theorem final_apply (c : Dev nD) (b : Fin 2) (t : Fin 8192) (j : Fin 1024) :
    (dats m 0 c).arrAt 10 cfg0.N (ix3 b t j)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) b ⟨t, by omega⟩ j := by
  have e : t = lat ⟨t / 256, by omega⟩ ⟨t % 256, by omega⟩ := Fin.ext (show t.val = t.val / 256 * 256 + t.val % 256 by omega)
  rw [e]
  exact final_tile m c b _ _ j

end Cert.Kernel5Ideal.Array

end
-- ==== Proof.LastReference.lean ====
/- What the plain program of the last layer's output projection and feed-forward network computes: each row of its result is the
   row function. -/
module

public import proofs.«01_k».proof.Proof.FfnRow
public import proofs.«01_k».proof.Proof.Gen.Reference5Ideal.Read

@[expose] public section

set_option maxRecDepth 16384

noncomputable section

open scoped BigOperators
open Idealize.ShloMosaic

namespace Cert.Reference5Ideal.Rows

open Cert.Reference5Ideal Cert.Reference5Ideal.Read Cert.FfnRow

variable (y : Vec Ideal S2x1024x8448 .bf16) (x : Vec Ideal S2x8448x1024 .f32) (md : Vec Ideal S8x6144 .f32)
  (ga gf gp : Vec Ideal S1024 .f32) (wo : Vec Ideal S1024x1024 .f32) (wg wu : Vec Ideal S1024x2816 .f32)
  (wd : Vec Ideal S2816x1024 .f32)

/-- The projected attention of a latent token. -/
theorem v12_apply (b : Fin 2) (t : Fin 8192) (j : Fin 1024) :
    val_main_v12 (F := Ideal) y wo (ix3 b t j)
      = times (fun i => y (ix3 b i ⟨t, by omega⟩)) (fun i j => wo (ix2 i j)) j := by
  pointwise [val_main_v12, val_main_v3, val_main_v1, val_main_v0, times]

/-- The modulation row of a latent token. -/
theorem v5_apply (b : Fin 2) (n : Fin 6144) :
    val_main_v5 (F := Ideal) md (ix3 b 0 n) = md (ix2 ⟨b, by omega⟩ n) := by
  pointwise [val_main_v5, val_main_v4]

/-- The residual row of a latent token after the projected attention. -/
theorem v28_apply (b : Fin 2) (t : Fin 8192) (j : Fin 1024) :
    val_main_v28 (F := Ideal) y x md ga wo (ix3 b t j)
      = mid (fun i => y (ix3 b i ⟨t, by omega⟩)) (fun j => x (ix3 b ⟨t, by omega⟩ j)) (fun n => md (ix2 ⟨b, by omega⟩ n))
          (fun j => ga (ix1 j)) (fun i j => wo (ix2 i j)) j := by
  have e := v12_apply y wo b t
  have e5 := v5_apply md b
  revert e e5
  unfold val_main_v28 val_main_v27 val_main_v26 val_main_v25 val_main_v22 val_main_v21 val_main_v20 val_main_v19 val_main_v17 val_main_v15 val_main_v14 val_main_v13 val_main_v8
  generalize val_main_v12 (F := Ideal) y wo = z
  generalize val_main_v5 (F := Ideal) md = w
  intro e e5
  pointwise [val_main_v2, val_main_v24, val_main_v23, val_main_v18, val_main_v16, val_main_cst, val_main_cst_0, val_main_cst_1]
  simp only [e, e5]
  rfl

/-- The modulated normalised row of a latent token. -/
theorem v47_apply (b : Fin 2) (t : Fin 8192) (j : Fin 1024) :
    val_main_v47 (F := Ideal) y x md ga gf wo (ix3 b t j)
      = modulated (fun j => val_main_v28 (F := Ideal) y x md ga wo (ix3 b t j)) (fun j => gf (ix1 j))
          (fun j => md (ix2 ⟨b, by omega⟩ ⟨4096 + j, by omega⟩)) (fun j => md (ix2 ⟨b, by omega⟩ ⟨3072 + j, by omega⟩)) j := by
  have e5 := v5_apply md b
  have h1 : Ideal.ofBits .f32 0x3F800000#32 = 1 := Ideal.ofBits_one_f32
  revert e5
  unfold val_main_v47 val_main_v46 val_main_v45 val_main_v44 val_main_v43 val_main_v41 val_main_v38 val_main_v37 val_main_v36 val_main_v35 val_main_v33 val_main_v31 val_main_v30 val_main_v29 val_main_v9 val_main_v10
  generalize val_main_v28 (F := Ideal) y x md ga wo = z
  generalize val_main_v5 (F := Ideal) md = w
  intro e5
  pointwise [val_main_v42, val_main_v40, val_main_v39, val_main_v34, val_main_v32, val_main_cst_2, val_main_cst_3, val_main_cst_4, val_main_cst_5]
  simp only [e5, h1]
  rfl

/-- The gated hidden layer of a latent token. -/
theorem v51_apply (b : Fin 2) (t : Fin 8192) (n : Fin 2816) :
    val_main_v51 (F := Ideal) y x md ga gf wo wg wu (ix3 b t n)
      = FfnRow.hid (fun j => val_main_v47 (F := Ideal) y x md ga gf wo (ix3 b t j)) (fun i n => wg (ix2 i n))
          (fun i n => wu (ix2 i n)) n := by
  have h1 : Ideal.ofBits .f32 0x3F800000#32 = 1 := Ideal.ofBits_one_f32
  have eg : val_main_v48 (F := Ideal) y x md ga gf wo wg (ix3 b t n)
      = times (fun j => val_main_v47 (F := Ideal) y x md ga gf wo (ix3 b t j)) (fun i n => wg (ix2 i n)) n := by
    unfold val_main_v48
    generalize val_main_v47 (F := Ideal) y x md ga gf wo = z
    pointwise [times]
  have eu : val_main_v50 (F := Ideal) y x md ga gf wo wu (ix3 b t n)
      = times (fun j => val_main_v47 (F := Ideal) y x md ga gf wo (ix3 b t j)) (fun i n => wu (ix2 i n)) n := by
    unfold val_main_v50
    generalize val_main_v47 (F := Ideal) y x md ga gf wo = z
    pointwise [times]
  unfold FfnRow.hid
  rw [← eg, ← eu]
  unfold val_main_v51 val_main_v49 val_main_call0_v5 val_main_call0_v3 val_main_call0_v1 val_main_call0_v0
  generalize val_main_v48 (F := Ideal) y x md ga gf wo wg = p
  generalize val_main_v50 (F := Ideal) y x md ga gf wo wu = q
  pointwise [val_main_call0_v2, val_main_call0_v4, val_main_call0_cst, val_main_call0_cst_0]
  rfl

/-- The result of a latent token. -/
theorem v68_apply (b : Fin 2) (t : Fin 8192) (j : Fin 1024) :
    val_main_v68 (F := Ideal) y x md ga gf gp wo wg wu wd (ix3 b t j)
      = step (fun j => val_main_v28 (F := Ideal) y x md ga wo (ix3 b t j)) (fun j => md (ix2 ⟨b, by omega⟩ ⟨5120 + j, by omega⟩))
          (fun j => gp (ix1 j))
          (times (fun n => val_main_v51 (F := Ideal) y x md ga gf wo wg wu (ix3 b t n)) fun n j => wd (ix2 n j)) j := by
  have e5 := v5_apply md b
  have e : ∀ j, val_main_v52 (F := Ideal) y x md ga gf wo wg wu wd (ix3 b t j)
      = times (fun n => val_main_v51 (F := Ideal) y x md ga gf wo wg wu (ix3 b t n)) (fun n j => wd (ix2 n j)) j := by
    intro j
    unfold val_main_v52
    generalize val_main_v51 (F := Ideal) y x md ga gf wo wg wu = z
    pointwise [times]
  revert e e5
  unfold val_main_v68 val_main_v67 val_main_v66 val_main_v65 val_main_v62 val_main_v61 val_main_v60 val_main_v59 val_main_v57 val_main_v55 val_main_v54 val_main_v53 val_main_v11
  generalize val_main_v52 (F := Ideal) y x md ga gf wo wg wu wd = u
  generalize val_main_v51 (F := Ideal) y x md ga gf wo wg wu = z'
  generalize val_main_v28 (F := Ideal) y x md ga wo = z
  generalize val_main_v5 (F := Ideal) md = w
  intro e e5
  pointwise [val_main_v64, val_main_v63, val_main_v58, val_main_v56, val_main_cst_6, val_main_cst_7, val_main_cst_8]
  simp only [e, e5]
  rfl

/-- The result at any latent token. -/
theorem result_apply (b : Fin 2) (t : Fin 8192) (j : Fin 1024) :
    val_main_v68 (F := Ideal) y x md ga gf gp wo wg wu wd (ix3 b t j)
      = result y x md ga gf gp wo wg wu wd b ⟨t, by omega⟩ j := by
  have e1 := v68_apply y x md ga gf gp wo wg wu wd b t j
  simp only [v28_apply, v47_apply, v51_apply] at e1
  unfold result modRow
  rw [if_pos t.isLt]
  exact e1

end Cert.Reference5Ideal.Rows

end
-- ==== Proof.LastClaim.lean ====
/- The fifth claim: the last layer's output projection with the feed-forward network and its plain program leave the same
   result, which is the result of the whole program. -/
module

public import proofs.«01_k».proof.Proof.LastArray
public import proofs.«01_k».proof.Proof.LastReference
public import proofs.«01_k».proof.Proof.Gen.Reference5Ideal.Run
public import proofs.«01_k».proof.Defs

@[expose] public section

noncomputable section

open Idealize.ShloMosaic Idealize.SL.Sem

namespace Cert.LastClaim

/-- From equal arguments both programs end with the same result, their arguments unchanged. -/
theorem algebraic [hKernel5Ideal : Cert.Kernel5Ideal.Facts] [hReference5Ideal : Cert.Reference5Ideal.Facts] :
    algebraic_Kernel5Ideal_Reference5Ideal := by
  intro m g m' g' _ hargs
  refine ⟨fun c => (Cert.Kernel5Ideal.Gen.dats m 0 c).arrAt 10 Cert.Kernel5Ideal.cfg0.N,
    Cert.Kernel5Ideal.Value.run_blocks m g, ?_⟩
  refine (θ_run Cert.Reference5Ideal.defs _ _).mono (fun r h c => ⟨(h c).1.trans ?_, (h c).2⟩)
    (Cert.Reference5Ideal.Value.run m' g')
  refine (Cert.Reference5Ideal.Read.val_main_v68_eq m' c).trans ?_
  funext b
  idx_vars b
  refine (Cert.Reference5Ideal.Rows.result_apply _ _ _ _ _ _ _ _ _ _ _ _ _).trans ?_
  obtain ⟨h0, h1, h2, h3, h4, h5, h6, h7, h8, h9⟩ := hargs c
  refine Eq.trans ?_ (Cert.Kernel5Ideal.Array.final_apply m c _ _ _).symm
  rw [← h0, ← h1, ← h2, ← h3, ← h4, ← h5, ← h6, ← h7, ← h8, ← h9]

end Cert.LastClaim

end
-- ==== Proof.ValRow.lean ====
/- The value heads that the input projection computes for one token, as plain functions of that token's row, over the
   extended reals. Both programs of the sixth claim are shown to compute these functions. -/
module

public import proofs.«01_k».proof.Proof.FfnRow

@[expose] public section

noncomputable section

open scoped BigOperators
open Idealize.ShloMosaic

namespace Cert.ValRow

open Cert.FfnRow (times modulated modRow)

/-- The modulated normalised row that the projections start from: the modulation row's first 1024 numbers shift it, the
    next 1024 scale it. -/
def row (x : Fin 1024 → EReal) (md : Fin 6144 → EReal) (g : Fin 1024 → EReal) : Fin 1024 → EReal :=
  modulated x g (fun j => md ⟨1024 + j, by omega⟩) fun j => md ⟨j, by omega⟩

/-- The reciprocal root mean square of a row of 128 numbers, `1 / √(mean of squares + ε)`. -/
def scale (v : Fin 128 → EReal) : EReal :=
  Ideal.rsqrt (Ideal.div (∑ j, v j * v j) (Ideal.ofBits .f32 0x43000000#32) + Ideal.ofBits .f32 0x358637BD#32)

/-- The normalised compressed row. -/
def normal (v g : Fin 128 → EReal) (j : Fin 128) : EReal := v j * scale v * g j

/-- The row of ones that follows a head's sixty-four values. -/
def one : EReal := Ideal.ofBits .bf16 0x3F80#16

/-- Value head `k`, entry `r`, of the row `h`: the first four heads expand the normalised compressed row, the next four
    and the last two are columns of the projection. -/
def value (h : Fin 1024 → EReal) (w : Fin 1024 → Fin 1952 → EReal) (g : Fin 128 → EReal) (wb : Fin 128 → Fin 512 → EReal)
    (k : Fin 10) (r : Fin 64) : EReal :=
  if _ : k.val < 4 then times (normal (fun j => times h w ⟨256 + j, by omega⟩) g) wb ⟨128 * k + 64 + r, by omega⟩
  else if _ : k.val < 8 then times h w ⟨928 + 64 * (k - 4) + r, by omega⟩
  else times h w ⟨1824 + 64 * (k - 8) + r, by omega⟩

/-- A head of eighty entries: the sixty-four values, then ones. -/
def padded (v : Fin 10 → Fin 64 → EReal) (k : Fin 10) (s : Fin 80) : EReal :=
  if hs : s.val < 64 then v k ⟨s, hs⟩ else one

/-- The same heads from weights whose columns are regrouped: the compressed row's columns start at 256, the six plain
    heads' columns follow one another from 1920, and the expansion has sixty-four columns a head. -/
def grouped (h : Fin 1024 → EReal) (wq : Fin 1024 → Fin 2304 → EReal) (g : Fin 128 → EReal) (wv : Fin 128 → Fin 256 → EReal)
    (k : Fin 10) (r : Fin 64) : EReal :=
  if _ : k.val < 4 then times (normal (fun j => times h wq ⟨256 + j, by omega⟩) g) wv ⟨64 * k + r, by omega⟩
  else times h wq ⟨1920 + 64 * (k - 4) + r, by omega⟩

/-- The result at batch entry `b`, head `k`, entry `s`, token `t`, from the six arguments it depends on. -/
def result (x : Vec Ideal ⟨3, ![2, 8448, 1024]⟩ .f32) (md : Vec Ideal ⟨2, ![8, 6144]⟩ .f32)
    (w : Vec Ideal ⟨2, ![1024, 1952]⟩ .f32) (g : Vec Ideal ⟨1, ![1024]⟩ .f32) (gk : Vec Ideal ⟨1, ![128]⟩ .f32)
    (wb : Vec Ideal ⟨2, ![128, 512]⟩ .f32) (b : Fin 2) (k : Fin 10) (s : Fin 80) (t : Fin 8448) : EReal :=
  padded (value (row (fun j => x (ix3 b t j)) (fun n => md (ix2 (modRow b t) n)) fun j => g (ix1 j)) (fun i n => w (ix2 i n))
    (fun j => gk (ix1 j)) fun i n => wb (ix2 i n)) k s

end Cert.ValRow

end
-- ==== Proof.ValBlock.lean ====
/- What one grid point of the input projection computes for the value heads: each head of each token is the plain
   function of the token's row. -/
module

public import proofs.«01_k».proof.Proof.ValRow
public import proofs.«01_k».proof.Proof.Gen.Kernel6Ideal.Skeleton

@[expose] public section

set_option maxRecDepth 16384

noncomputable section

open scoped BigOperators
open Idealize.ShloMosaic

namespace Cert.Kernel6Ideal.Block

open Cert.Kernel6Ideal Cert.Kernel6Ideal.Gen Cert.ValRow
open Cert.FfnRow (times modulated)

/-- The modulated normalised row. -/
theorem pay7_apply (x : Vec Ideal S1x256x1024 .f32) (md : Vec Ideal S1x1x6144 .f32) (g : Vec Ideal S1x1024 .f32)
    (r : Fin 256) (j : Fin 1024) :
    k0_pay7 x md g (ix2 r j) = row (fun j => x (ix3 0 r j)) (fun n => md (ix3 0 0 n)) (fun j => g (ix2 0 j)) j := by
  pointwise [k0_pay7, row, modulated, FfnRow.scale]

/-- The projection, with a token's numbers in a column. -/
theorem pay9_apply (x : Vec Ideal S1x256x1024 .f32) (md : Vec Ideal S1x1x6144 .f32) (g : Vec Ideal S1x1024 .f32)
    (w : Vec Ideal S2304x1024 .bf16) (n : Fin 2304) (r : Fin 256) :
    k0_pay9 x md g w (ix2 n r)
      = times (row (fun j => x (ix3 0 r j)) (fun n => md (ix3 0 0 n)) fun j => g (ix2 0 j)) (fun i n => w (ix2 n i)) n := by
  have e := pay7_apply x md g r
  revert e
  unfold k0_pay9
  generalize k0_pay7 x md g = z
  intro e
  pointwise [times]
  exact Finset.sum_congr rfl fun i _ => by rw [e]; exact mul_comm _ _

/-- The reciprocal root mean square of the compressed row. -/
theorem pay48_apply (z : FVec Ideal S2304x256 .f32) (j : Fin 128) (r : Fin 256) :
    k0_pay48 z (ix2 j r) = scale fun j => z (ix2 ⟨256 + j, by omega⟩ r) := by
  pointwise [k0_pay48, k0_pay47, scale]

/-- The expanded compressed row. -/
theorem pay49_apply (z : FVec Ideal S2304x256 .f32) (g : Vec Ideal S128x256 .f32) (w : Vec Ideal S256x128 .bf16)
    (n : Fin 256) (r : Fin 256) :
    k0_pay49 (k0_pay47 z) (k0_pay48 z) g w (ix2 n r)
      = times (normal (fun j => z (ix2 ⟨256 + j, by omega⟩ r)) fun j => g (ix2 j r)) (fun i n => w (ix2 n i)) n := by
  have e := fun j => pay48_apply z j r
  revert e
  generalize k0_pay48 z = s
  intro e
  pointwise [k0_pay49, k0_pay47, times, normal]
  exact Finset.sum_congr rfl fun i _ => by rw [e]; exact mul_comm _ _

section
variable (a s : FVec Ideal S128x256 .f32) (g : Vec Ideal S128x256 .f32) (w : Vec Ideal S256x128 .bf16)
  (v : FVec Ideal S256x256 .f32) (z : FVec Ideal S2304x256 .f32) (j : Fin 64) (r : Fin 256)

theorem pay50_apply : k0_pay50 a s g w (ix4 0 0 j r) = k0_pay49 a s g w (ix2 ⟨64 * 0 + j, by omega⟩ r) := by
  unfold k0_pay50
  generalize k0_pay49 a s g w = u
  pointwise []
theorem pay52_apply : k0_pay52 a s g w (ix4 0 0 j r) = k0_pay49 a s g w (ix2 ⟨64 * 1 + j, by omega⟩ r) := by
  unfold k0_pay52
  generalize k0_pay49 a s g w = u
  pointwise []
theorem pay54_apply : k0_pay54 a s g w (ix4 0 0 j r) = k0_pay49 a s g w (ix2 ⟨64 * 2 + j, by omega⟩ r) := by
  unfold k0_pay54
  generalize k0_pay49 a s g w = u
  pointwise []
theorem pay56_apply : k0_pay56 v (ix4 0 0 j r) = v (ix2 ⟨64 * 3 + j, by omega⟩ r) := by
  pointwise [k0_pay56]
theorem pay94_apply : k0_pay94 z (ix4 0 0 j r) = z (ix2 ⟨1920 + 64 * (4 - 4) + j, by omega⟩ r) := by
  pointwise [k0_pay94, k0_pay93]
theorem pay96_apply : k0_pay96 z (ix4 0 0 j r) = z (ix2 ⟨1920 + 64 * (5 - 4) + j, by omega⟩ r) := by
  pointwise [k0_pay96, k0_pay93]
  exact congrArg (fun n => z (ix2 n r)) (Fin.ext (by simp only; omega))
theorem pay98_apply : k0_pay98 (k0_pay93 z) (ix4 0 0 j r) = z (ix2 ⟨1920 + 64 * (6 - 4) + j, by omega⟩ r) := by
  pointwise [k0_pay98, k0_pay93]
  exact congrArg (fun n => z (ix2 n r)) (Fin.ext (by simp only; omega))
theorem pay100_apply : k0_pay100 (k0_pay93 z) (ix4 0 0 j r) = z (ix2 ⟨1920 + 64 * (7 - 4) + j, by omega⟩ r) := by
  pointwise [k0_pay100, k0_pay93]
  exact congrArg (fun n => z (ix2 n r)) (Fin.ext (by simp only; omega))
theorem pay3_apply : k0_pay3 z (ix4 0 0 j r) = z (ix2 ⟨1920 + 64 * (8 - 4) + j, by omega⟩ r) := by
  pointwise [k0_pay3, k0_pay2]
theorem pay5_apply : k0_pay5 z (ix4 0 0 j r) = z (ix2 ⟨1920 + 64 * (9 - 4) + j, by omega⟩ r) := by
  pointwise [k0_pay5, k0_pay2]
  exact congrArg (fun n => z (ix2 n r)) (Fin.ext (by simp only; omega))
end

/-- The rows of ones, as stored. -/
theorem ones_apply (j : Fin 16) (r : Fin 256) : k0_pay51 (F := Ideal) k0_pay18 (ix4 0 0 j r) = one := by
  pointwise [k0_pay51, k0_pay18, one]

end Cert.Kernel6Ideal.Block

end
-- ==== Proof.ValStore.lean ====
/- What the input projection stores in the value block: ten heads, each sixty-four values and sixteen ones. -/
module

public import Idealize.ShloMosaic.Lib.WholeRead
public import proofs.«01_k».proof.Proof.ValBlock
public import proofs.«01_k».proof.Proof.Gen.Kernel6Ideal.Value

@[expose] public section

set_option maxRecDepth 16384

noncomputable section

open scoped BigOperators
open Idealize.ShloMosaic

namespace Cert.Kernel6Ideal.Block

open Cert.Kernel6Ideal Cert.Kernel6Ideal.Gen Cert.ValRow
open Cert.FfnRow (times)

/-- A whole block, read. -/
theorem read_whole {s : Shape} {e : EltTy} {M : Memref sig .tc .vmem s e} (hM : M.IsWhole) (x : Vec Ideal s e)
    (off : Fin s.rank → ℕ) (h : off = fun _ => 0) (inb : ∀ a, off a + s.size a ≤ s.size a) :
    View.readAt (Elt Ideal) M.view (Rect.unit (s := s) off s.size inb).toLoadRect (hM.unread x) = x := by
  subst h
  funext y
  refine (hM.readAt_unread x _ _).trans (congrArg x (funext fun a => Fin.ext ?_))
  show 0 + 1 * (y a).val = (y a).val
  omega

/-- Head `k`, entry `s`, column `r` of the value block, from the projection's columns. -/
def block (z : FVec Ideal S2304x256 .f32) (gk : Vec Ideal S128x256 .f32) (wv : Vec Ideal S256x128 .bf16) (k : Fin 10) (s : Fin 80)
    (r : Fin 256) : EReal :=
  padded (fun k j =>
    if _ : k.val < 4 then times (normal (fun j => z (ix2 ⟨256 + j, by omega⟩ r)) fun j => gk (ix2 j r)) (fun i n => wv (ix2 n i))
      ⟨64 * k + j, by omega⟩
    else z (ix2 ⟨1920 + 64 * (k - 4) + j, by omega⟩ r)) k s

/-- A value of a head in the block. -/
theorem block_value (z : FVec Ideal S2304x256 .f32) (gk : Vec Ideal S128x256 .f32) (wv : Vec Ideal S256x128 .bf16) (k : Fin 10)
    (s : Fin 64) (r : Fin 256) :
    block z gk wv k ⟨s, by omega⟩ r
      = if _ : k.val < 4 then times (normal (fun j => z (ix2 ⟨256 + j, by omega⟩ r)) fun j => gk (ix2 j r)) (fun i n => wv (ix2 n i))
          ⟨64 * k + s, by omega⟩
        else z (ix2 ⟨1920 + 64 * (k - 4) + s, by omega⟩ r) :=
  dif_pos s.isLt

section
variable (z : FVec Ideal S2304x256 .f32) (gk : Vec Ideal S128x256 .f32) (wv : Vec Ideal S256x128 .bf16) (s : Fin 64) (r : Fin 256)

theorem head0 : k0_pay50 (k0_pay47 z) (k0_pay48 z) gk wv (ix4 0 0 s r) = block z gk wv 0 ⟨s, by omega⟩ r :=
  ((pay50_apply _ _ _ _ s r).trans (pay49_apply z gk wv _ r)).trans ((block_value z gk wv 0 s r).trans (dif_pos (by decide))).symm
theorem head1 : k0_pay52 (k0_pay47 z) (k0_pay48 z) gk wv (ix4 0 0 s r) = block z gk wv 1 ⟨s, by omega⟩ r :=
  ((pay52_apply _ _ _ _ s r).trans (pay49_apply z gk wv _ r)).trans ((block_value z gk wv 1 s r).trans (dif_pos (by decide))).symm
theorem head2 : k0_pay54 (k0_pay47 z) (k0_pay48 z) gk wv (ix4 0 0 s r) = block z gk wv 2 ⟨s, by omega⟩ r :=
  ((pay54_apply _ _ _ _ s r).trans (pay49_apply z gk wv _ r)).trans ((block_value z gk wv 2 s r).trans (dif_pos (by decide))).symm
theorem head3 : k0_pay56 (k0_pay49 (k0_pay47 z) (k0_pay48 z) gk wv) (ix4 0 0 s r) = block z gk wv 3 ⟨s, by omega⟩ r :=
  ((pay56_apply _ s r).trans (pay49_apply z gk wv _ r)).trans ((block_value z gk wv 3 s r).trans (dif_pos (by decide))).symm
theorem head4 : k0_pay94 z (ix4 0 0 s r) = block z gk wv 4 ⟨s, by omega⟩ r :=
  ((pay94_apply _ s r)).trans ((block_value z gk wv 4 s r).trans (dif_neg (by decide))).symm
theorem head5 : k0_pay96 z (ix4 0 0 s r) = block z gk wv 5 ⟨s, by omega⟩ r :=
  ((pay96_apply _ s r)).trans ((block_value z gk wv 5 s r).trans (dif_neg (by decide))).symm
theorem head6 : k0_pay98 (k0_pay93 z) (ix4 0 0 s r) = block z gk wv 6 ⟨s, by omega⟩ r :=
  ((pay98_apply _ s r)).trans ((block_value z gk wv 6 s r).trans (dif_neg (by decide))).symm
theorem head7 : k0_pay100 (k0_pay93 z) (ix4 0 0 s r) = block z gk wv 7 ⟨s, by omega⟩ r :=
  ((pay100_apply _ s r)).trans ((block_value z gk wv 7 s r).trans (dif_neg (by decide))).symm
theorem head8 : k0_pay3 z (ix4 0 0 s r) = block z gk wv 8 ⟨s, by omega⟩ r :=
  ((pay3_apply _ s r)).trans ((block_value z gk wv 8 s r).trans (dif_neg (by decide))).symm
theorem head9 : k0_pay5 z (ix4 0 0 s r) = block z gk wv 9 ⟨s, by omega⟩ r :=
  ((pay5_apply _ s r)).trans ((block_value z gk wv 9 s r).trans (dif_neg (by decide))).symm

/-- Every row past the sixty-fourth is ones. -/
theorem ones (k : Fin 10) (j : Fin 16) : k0_pay51 (F := Ideal) k0_pay18 (ix4 0 0 j r) = block z gk wv k ⟨64 + j, by omega⟩ r := by
  refine (ones_apply j r).trans ?_
  unfold block padded
  have h : ¬ (⟨64 + j.val, by omega⟩ : Fin 80).val < 64 := by simp only; omega
  rw [dif_neg h]
end

/-- A store of a head's values agrees with a function of head, entry and column once its entries do. -/
theorem piece_value (B : Fin 10 → Fin 80 → Fin 256 → EReal) (k : Fin 10)
    (inb : ∀ a, (![0, k.val, 0, 0] : Fin 4 → ℕ) a + S1x1x64x256.size a ≤ S1x10x80x256.size a) (W : Vec Ideal S1x1x64x256 .bf16)
    (hW : ∀ (s : Fin 64) r, W (ix4 0 0 s r) = B k ⟨s, by omega⟩ r)
    (x : (Rect.unit (s := S1x10x80x256) ![0, k.val, 0, 0] S1x1x64x256.size inb).shape.Idx) :
    W x = (fun i : S1x10x80x256.Idx => B (i 1) (i 2) (i 3))
      ((Rect.unit (s := S1x10x80x256) ![0, k.val, 0, 0] S1x1x64x256.size inb).emb x) := by
  change S1x1x64x256.Idx at x
  idx_vars x
  obtain rfl : x0 = 0 := Subsingleton.elim _ _
  obtain rfl : x1 = 0 := Subsingleton.elim _ _
  refine (hW x2 x3).trans (congr (congr (congrArg B ?_) ?_) ?_)
  · apply Fin.ext; show k.val = k.val + 1 * 0; omega
  · apply Fin.ext; show x2.val = 0 + 1 * x2.val; omega
  · apply Fin.ext; show x3.val = 0 + 1 * x3.val; omega

/-- The same for a store of ones. -/
theorem piece_ones (B : Fin 10 → Fin 80 → Fin 256 → EReal) (k : Fin 10)
    (inb : ∀ a, (![0, k.val, 64, 0] : Fin 4 → ℕ) a + S1x1x16x256.size a ≤ S1x10x80x256.size a) (W : Vec Ideal S1x1x16x256 .bf16)
    (hW : ∀ (s : Fin 16) r, W (ix4 0 0 s r) = B k ⟨64 + s, by omega⟩ r)
    (x : (Rect.unit (s := S1x10x80x256) ![0, k.val, 64, 0] S1x1x16x256.size inb).shape.Idx) :
    W x = (fun i : S1x10x80x256.Idx => B (i 1) (i 2) (i 3))
      ((Rect.unit (s := S1x10x80x256) ![0, k.val, 64, 0] S1x1x16x256.size inb).emb x) := by
  change S1x1x16x256.Idx at x
  idx_vars x
  obtain rfl : x0 = 0 := Subsingleton.elim _ _
  obtain rfl : x1 = 0 := Subsingleton.elim _ _
  refine (hW x2 x3).trans (congr (congr (congrArg B ?_) ?_) ?_)
  · apply Fin.ext; show k.val = k.val + 1 * 0; omega
  · apply Fin.ext; show 64 + x2.val = 64 + 1 * x2.val; omega
  · apply Fin.ext; show x3.val = 0 + 1 * x3.val; omega

/-- The value block, stored. -/
theorem out_A
    (c : Dev nD) (i : grid0.Coords) (arg2 : Memref sig .tc .vmem S1x256x1024 .f32) (harg2 : arg2.IsWhole)
    (arg3 : Memref sig .tc .vmem S1x1x6144 .f32) (harg3 : arg3.IsWhole) (arg4 : Memref sig .tc .vmem S1x1024 .f32)
    (harg4 : arg4.IsWhole) (arg5 : Memref sig .tc .vmem S1024x1152 .bf16) (harg5 : arg5.IsWhole)
    (arg6 : Memref sig .tc .vmem S2304x1024 .bf16) (harg6 : arg6.IsWhole) (arg7 : Memref sig .tc .vmem S512x256 .bf16)
    (harg7 : arg7.IsWhole) (arg8 : Memref sig .tc .vmem S128x512 .bf16) (harg8 : arg8.IsWhole)
    (arg9 : Memref sig .tc .vmem S256x128 .bf16) (harg9 : arg9.IsWhole) (arg10 : Memref sig .tc .vmem S256x256 .f32)
    (harg10 : arg10.IsWhole) (arg11 : Memref sig .tc .vmem S1x128 .f32) (harg11 : arg11.IsWhole)
    (arg12 : Memref sig .tc .vmem S128x256 .f32) (harg12 : arg12.IsWhole) (arg13 : Memref sig .tc .vmem S64x256 .f32)
    (harg13 : arg13.IsWhole) (arg14 : Memref sig .tc .vmem S64x256 .f32) (harg14 : arg14.IsWhole)
    (arg15 : Memref sig .tc .vmem S1x128 .f32) (harg15 : arg15.IsWhole) (arg16 : Memref sig .tc .vmem S1x128 .f32)
    (harg16 : arg16.IsWhole) (arg17 : Memref sig .tc .vmem S256x256 .f32) (harg17 : arg17.IsWhole)
    (arg18 : Memref sig .tc .vmem S256x256 .f32) (harg18 : arg18.IsWhole) (arg19 : Memref sig .tc .vmem S256x128 .f32)
    (harg19 : arg19.IsWhole) (arg20 : Memref sig .tc .vmem S256x128 .f32) (harg20 : arg20.IsWhole)
    (arg21 : Memref sig .tc .vmem S32x256 .f32) (harg21 : arg21.IsWhole) (arg22 : Memref sig .tc .vmem S32x256 .f32)
    (harg22 : arg22.IsWhole) (arg23 : Memref sig .tc .vmem S64x256 .f32) (harg23 : arg23.IsWhole)
    (arg24 : Memref sig .tc .vmem S64x256 .f32) (harg24 : arg24.IsWhole)
    (arg25 : Memref sig .tc .vmem S1x20x128x256 .bf16) (harg25 : arg25.IsWhole)
    (arg26 : Memref sig .tc .vmem S1x256x896 .bf16) (harg26 : arg26.IsWhole)
    (arg27 : Memref sig .tc .vmem S1x10x80x256 .bf16) (harg27 : arg27.IsWhole) (x0 : Vec Ideal S1x256x1024 .f32)
    (x1 : Vec Ideal S1x1x6144 .f32) (x2 : Vec Ideal S1x1024 .f32) (x3 : Vec Ideal S1024x1152 .bf16)
    (x4 : Vec Ideal S2304x1024 .bf16) (x5 : Vec Ideal S512x256 .bf16) (x6 : Vec Ideal S128x512 .bf16)
    (x7 : Vec Ideal S256x128 .bf16) (x8 : Vec Ideal S256x256 .f32) (x9 : Vec Ideal S1x128 .f32)
    (x10 : Vec Ideal S128x256 .f32) (x11 : Vec Ideal S64x256 .f32) (x12 : Vec Ideal S64x256 .f32)
    (x13 : Vec Ideal S1x128 .f32) (x14 : Vec Ideal S1x128 .f32) (x15 : Vec Ideal S256x256 .f32)
    (x16 : Vec Ideal S256x256 .f32) (x17 : Vec Ideal S256x128 .f32) (x18 : Vec Ideal S256x128 .f32)
    (x19 : Vec Ideal S32x256 .f32) (x20 : Vec Ideal S32x256 .f32) (x21 : Vec Ideal S64x256 .f32)
    (x22 : Vec Ideal S64x256 .f32)
    (y : S1x10x80x256.Idx) :
    out0_A_25 c i arg2 harg2 arg3 harg3 arg4 harg4 arg5 harg5 arg6 harg6 arg7 harg7 arg8 harg8 arg9 harg9
        arg10 harg10 arg11 harg11 arg12 harg12 arg13 harg13 arg14 harg14 arg15 harg15 arg16 harg16
        arg17 harg17 arg18 harg18 arg19 harg19 arg20 harg20 arg21 harg21 arg22 harg22 arg23 harg23
        arg24 harg24 arg25 harg25 arg26 harg26 arg27 harg27 x0 x1 x2 x3 x4 x5 x6 x7 x8 x9 x10 x11
        x12 x13 x14 x15 x16 x17 x18 x19 x20 x21 x22 y
      = block (k0_pay9 x0 x1 x2 x4) x10 x7 (y 1) (y 2) (y 3) := by
  have h2 : (![0, 0] : Fin 2 → ℕ) = fun _ => 0 := funext fun a => by fin_cases a <;> rfl
  have h3 : (![0, 0, 0] : Fin 3 → ℕ) = fun _ => 0 := funext fun a => by fin_cases a <;> rfl
  unfold out0_A_25
  rw [View.read_writes_junk_eq_canon]
  refine View.canon_apply_of_pieces (fun y : S1x10x80x256.Idx => block (k0_pay9 x0 x1 x2 x4) x10 x7 (y 1) (y 2) (y 3)) _ ?_ y
    (cover0_A_25 c i arg2 harg2 arg3 harg3 arg4 harg4 arg5 harg5 arg6 harg6 arg7 harg7 arg8 harg8 arg9 harg9
        arg10 harg10 arg11 harg11 arg12 harg12 arg13 harg13 arg14 harg14 arg15 harg15 arg16 harg16
        arg17 harg17 arg18 harg18 arg19 harg19 arg20 harg20 arg21 harg21 arg22 harg22 arg23 harg23
        arg24 harg24 arg25 harg25 arg26 harg26 arg27 harg27 x0 x1 x2 x3 x4 x5 x6 x7 x8 x9 x10 x11
        x12 x13 x14 x15 x16 x17 x18 x19 x20 x21 x22 y)
  unfold kernelRun0_A
  dsimp only
  have r1 := congr (congr (congr (congrArg (k0_pay9 (F := Ideal)) (read_whole harg2 x0 ![0, 0, 0] h3 inb_S1x256x1024_S1x256x1024_0_0_0))
    (read_whole harg3 x1 ![0, 0, 0] h3 inb_S1x1x6144_S1x1x6144_0_0_0)) (read_whole harg4 x2 ![0, 0] h2 inb_S1x1024_S1x1024_0_0))
    (read_whole harg6 x4 ![0, 0] h2 inb_S2304x1024_S2304x1024_0_0)
  have e7 := read_whole harg9 x7 ![0, 0] h2 inb_S256x128_S256x128_0_0
  have e10 := read_whole harg12 x10 ![0, 0] h2 inb_S128x256_S128x256_0_0
  have r47 := congrArg (k0_pay47 (F := Ideal)) r1
  have r48 := congrArg (k0_pay48 (F := Ideal)) r1
  have r49 := congr (congr (congr (congrArg (k0_pay49 (F := Ideal)) r47) r48) e10) e7
  have r93 := congrArg (k0_pay93 (F := Ideal)) r1
  refine List.forall_mem_cons.2 ⟨piece_ones (block (k0_pay9 x0 x1 x2 x4) x10 x7) 9 (by decide) _ fun j r => ones (k0_pay9 x0 x1 x2 x4) x10 x7 r 9 j, ?_⟩
  refine List.forall_mem_cons.2 ⟨piece_value (block (k0_pay9 x0 x1 x2 x4) x10 x7) 9 (by decide) _ fun s r =>
    (congrFun (congrArg (k0_pay5 (F := Ideal)) r1) _).trans (head9 (k0_pay9 x0 x1 x2 x4) x10 x7 s r), ?_⟩
  refine List.forall_mem_cons.2 ⟨piece_ones (block (k0_pay9 x0 x1 x2 x4) x10 x7) 8 (by decide) _ fun j r => ones (k0_pay9 x0 x1 x2 x4) x10 x7 r 8 j, ?_⟩
  refine List.forall_mem_cons.2 ⟨piece_value (block (k0_pay9 x0 x1 x2 x4) x10 x7) 8 (by decide) _ fun s r =>
    (congrFun (congrArg (k0_pay3 (F := Ideal)) r1) _).trans (head8 (k0_pay9 x0 x1 x2 x4) x10 x7 s r), ?_⟩
  refine List.forall_mem_cons.2 ⟨piece_ones (block (k0_pay9 x0 x1 x2 x4) x10 x7) 7 (by decide) _ fun j r => ones (k0_pay9 x0 x1 x2 x4) x10 x7 r 7 j, ?_⟩
  refine List.forall_mem_cons.2 ⟨piece_value (block (k0_pay9 x0 x1 x2 x4) x10 x7) 7 (by decide) _ fun s r =>
    (congrFun (congrArg (k0_pay100 (F := Ideal)) r93) _).trans (head7 (k0_pay9 x0 x1 x2 x4) x10 x7 s r), ?_⟩
  refine List.forall_mem_cons.2 ⟨piece_ones (block (k0_pay9 x0 x1 x2 x4) x10 x7) 6 (by decide) _ fun j r => ones (k0_pay9 x0 x1 x2 x4) x10 x7 r 6 j, ?_⟩
  refine List.forall_mem_cons.2 ⟨piece_value (block (k0_pay9 x0 x1 x2 x4) x10 x7) 6 (by decide) _ fun s r =>
    (congrFun (congrArg (k0_pay98 (F := Ideal)) r93) _).trans (head6 (k0_pay9 x0 x1 x2 x4) x10 x7 s r), ?_⟩
  refine List.forall_mem_cons.2 ⟨piece_ones (block (k0_pay9 x0 x1 x2 x4) x10 x7) 5 (by decide) _ fun j r => ones (k0_pay9 x0 x1 x2 x4) x10 x7 r 5 j, ?_⟩
  refine List.forall_mem_cons.2 ⟨piece_value (block (k0_pay9 x0 x1 x2 x4) x10 x7) 5 (by decide) _ fun s r =>
    (congrFun (congrArg (k0_pay96 (F := Ideal)) r1) _).trans (head5 (k0_pay9 x0 x1 x2 x4) x10 x7 s r), ?_⟩
  refine List.forall_mem_cons.2 ⟨piece_ones (block (k0_pay9 x0 x1 x2 x4) x10 x7) 4 (by decide) _ fun j r => ones (k0_pay9 x0 x1 x2 x4) x10 x7 r 4 j, ?_⟩
  refine List.forall_mem_cons.2 ⟨piece_value (block (k0_pay9 x0 x1 x2 x4) x10 x7) 4 (by decide) _ fun s r =>
    (congrFun (congrArg (k0_pay94 (F := Ideal)) r1) _).trans (head4 (k0_pay9 x0 x1 x2 x4) x10 x7 s r), ?_⟩
  refine List.forall_mem_cons.2 ⟨piece_ones (block (k0_pay9 x0 x1 x2 x4) x10 x7) 3 (by decide) _ fun j r => ones (k0_pay9 x0 x1 x2 x4) x10 x7 r 3 j, ?_⟩
  refine List.forall_mem_cons.2 ⟨piece_value (block (k0_pay9 x0 x1 x2 x4) x10 x7) 3 (by decide) _ fun s r =>
    (congrFun (congrArg (k0_pay56 (F := Ideal)) r49) _).trans (head3 (k0_pay9 x0 x1 x2 x4) x10 x7 s r), ?_⟩
  refine List.forall_mem_cons.2 ⟨piece_ones (block (k0_pay9 x0 x1 x2 x4) x10 x7) 2 (by decide) _ fun j r => ones (k0_pay9 x0 x1 x2 x4) x10 x7 r 2 j, ?_⟩
  refine List.forall_mem_cons.2 ⟨piece_value (block (k0_pay9 x0 x1 x2 x4) x10 x7) 2 (by decide) _ fun s r =>
    (congrFun (congr (congr (congr (congrArg (k0_pay54 (F := Ideal)) r47) r48) e10) e7) _).trans (head2 (k0_pay9 x0 x1 x2 x4) x10 x7 s r), ?_⟩
  refine List.forall_mem_cons.2 ⟨piece_ones (block (k0_pay9 x0 x1 x2 x4) x10 x7) 1 (by decide) _ fun j r => ones (k0_pay9 x0 x1 x2 x4) x10 x7 r 1 j, ?_⟩
  refine List.forall_mem_cons.2 ⟨piece_value (block (k0_pay9 x0 x1 x2 x4) x10 x7) 1 (by decide) _ fun s r =>
    (congrFun (congr (congr (congr (congrArg (k0_pay52 (F := Ideal)) r47) r48) e10) e7) _).trans (head1 (k0_pay9 x0 x1 x2 x4) x10 x7 s r), ?_⟩
  refine List.forall_mem_cons.2 ⟨piece_ones (block (k0_pay9 x0 x1 x2 x4) x10 x7) 0 (by decide) _ fun j r => ones (k0_pay9 x0 x1 x2 x4) x10 x7 r 0 j, ?_⟩
  refine List.forall_mem_cons.2 ⟨piece_value (block (k0_pay9 x0 x1 x2 x4) x10 x7) 0 (by decide) _ fun s r =>
    (congrFun (congr (congr (congr (congrArg (k0_pay50 (F := Ideal)) r47) r48) e10) e7) _).trans (head0 (k0_pay9 x0 x1 x2 x4) x10 x7 s r), ?_⟩
  exact fun _ h => absurd h List.not_mem_nil

end Cert.Kernel6Ideal.Block

end
-- ==== Proof.ValArray.lean ====
/- What the input projection's value array holds after the run: at every index, the plain function of the arguments as
   they were launched. -/
module

public import proofs.«01_k».proof.Proof.ValStore
public import Idealize.ShloMosaic.Lib.StableHlo.ReadAt

@[expose] public section

set_option maxRecDepth 16384

noncomputable section

open scoped BigOperators
open Idealize.ShloMosaic Idealize.ShloMosaic.TcCoe

namespace Cert.Kernel6Ideal.Array

open Cert.Kernel6Ideal Cert.Kernel6Ideal.Gen Cert.ValRow
open Cert.FfnRow (times modulated modRow)

variable (m : (ℓ : Loc nD τ sig) → Buf (Elt Ideal) ℓ)

/-! ## What the host operations before the launch leave in the kernel's operands -/

/-- The normalisation's gain. -/
theorem v64_apply (c : Dev nD) (j : Fin 1024) : V m c main_v64 (ix2 0 j) = m ((c : Thread nD τ).loc main_arg3) (ix1 j) := by
  unfold V; after_reads_at
/-- The modulation rows. -/
theorem v96_apply (c : Dev nD) (i : Fin 8) (j : Fin 6144) :
    V m c main_v96 (ix3 i 0 j) = m ((c : Thread nD τ).loc main_arg1) (ix2 i j) := by
  unfold V; after_reads_at
/-- The compressed row's gain, repeated across the columns. -/
theorem v77_apply (c : Dev nD) (j : Fin 128) (r : Fin 256) :
    V m c main_v77 (ix2 j r) = m ((c : Thread nD τ).loc main_arg6) (ix1 j) := by
  unfold V; after_reads_at
/-- The expansion's value columns: the second half of each group of 128. -/
theorem v72_apply (c : Dev nD) (k : Fin 4) (r : Fin 64) (i : Fin 128) :
    V m c main_v72 (ix2 ⟨64 * k + r, by omega⟩ i) = m ((c : Thread nD τ).loc main_arg7) (ix2 i ⟨128 * k + 64 + r, by omega⟩) := by
  unfold V; after_reads_at
  exact congrArg (fun n => m ((c : Thread nD τ).loc main_arg7) (ix2 i n)) (Fin.ext (by simp only; omega))
/-- The regrouped projection's columns of the compressed row. -/
theorem v67_latent (c : Dev nD) (j : Fin 128) (i : Fin 1024) :
    V m c main_v67 (ix2 ⟨256 + j, by omega⟩ i) = m ((c : Thread nD τ).loc main_arg2) (ix2 i ⟨256 + j, by omega⟩) := by
  unfold V; after_reads_at
  after_reads_at
/-- The regrouped projection's columns of heads four to seven. -/
theorem v67_wide (c : Dev nD) (j : Fin 256) (i : Fin 1024) :
    V m c main_v67 (ix2 ⟨1920 + j, by omega⟩ i) = m ((c : Thread nD τ).loc main_arg2) (ix2 i ⟨928 + j, by omega⟩) := by
  unfold V; after_reads_at
  rw [dif_neg (show ¬ 1920 + j.val < 256 by omega),
    dif_neg (show ¬ 1920 + j.val - 256 < 128 by omega),
    dif_neg (show ¬ 1920 + j.val - 256 - 128 < 256 by omega),
    dif_neg (show ¬ 1920 + j.val - 256 - 128 - 256 < 256 by omega),
    dif_neg (show ¬ 1920 + j.val - 256 - 128 - 256 - 256 < 512 by omega),
    dif_neg (show ¬ 1920 + j.val - 256 - 128 - 256 - 256 - 512 < 512 by omega),
    dif_pos (show 1920 + j.val - 256 - 128 - 256 - 256 - 512 - 512 < 256 by omega)]
  after_reads_at
  exact congrArg (fun n => m ((c : Thread nD τ).loc main_arg2) (ix2 i n)) (Fin.ext (by simp only; omega))
/-- The regrouped projection's columns of heads eight and nine. -/
theorem v67_last (c : Dev nD) (j : Fin 128) (i : Fin 1024) :
    V m c main_v67 (ix2 ⟨2176 + j, by omega⟩ i) = m ((c : Thread nD τ).loc main_arg2) (ix2 i ⟨1824 + j, by omega⟩) := by
  unfold V; after_reads_at
  rw [dif_neg (show ¬ 2176 + j.val < 256 by omega),
    dif_neg (show ¬ 2176 + j.val - 256 < 128 by omega),
    dif_neg (show ¬ 2176 + j.val - 256 - 128 < 256 by omega),
    dif_neg (show ¬ 2176 + j.val - 256 - 128 - 256 < 256 by omega),
    dif_neg (show ¬ 2176 + j.val - 256 - 128 - 256 - 256 < 512 by omega),
    dif_neg (show ¬ 2176 + j.val - 256 - 128 - 256 - 256 - 512 < 512 by omega),
    dif_neg (show ¬ 2176 + j.val - 256 - 128 - 256 - 256 - 512 - 512 < 256 by omega)]
  after_reads_at
  exact congrArg (fun n => m ((c : Thread nD τ).loc main_arg2) (ix2 i n)) (Fin.ext (by simp only; omega))

/-! ## Where each window's block lies -/

/-- The block indices of the windows that move, in closed form. -/
theorem idx_facts : ∀ t : Fin cfg0.N,
    (win0_0.index t 0 = t.val / 33 ∧ win0_0.index t 1 = t.val % 33 ∧ win0_0.index t 2 = 0)
    ∧ (win0_1.index t 0 = (if t.val % 33 = 32 then 2 else t.val / 33) ∧ win0_1.index t 1 = 0 ∧ win0_1.index t 2 = 0)
    ∧ (win0_25.index t 0 = t.val / 33 ∧ win0_25.index t 1 = 0 ∧ win0_25.index t 2 = 0 ∧ win0_25.index t 3 = t.val % 33) :=
  (by decide +kernel : ∀ t : Fin grid0.N, _)

/-- The block indices of the windows that stay, all zero. -/
theorem idx_zero : ∀ t : Fin cfg0.N,
    (win0_2.index t 0 = 0 ∧ win0_2.index t 1 = 0) ∧ (win0_4.index t 0 = 0 ∧ win0_4.index t 1 = 0)
    ∧ (win0_7.index t 0 = 0 ∧ win0_7.index t 1 = 0) ∧ (win0_10.index t 0 = 0 ∧ win0_10.index t 1 = 0) :=
  (by decide +kernel : ∀ t : Fin grid0.N, _)

/-- The grid point of batch entry `b` and token tile `s`. -/
abbrev pt (b : Fin 2) (s : Fin 33) : Fin cfg0.N := ⟨b * 33 + s, show _ < 66 by omega⟩

theorem pt_div (b : Fin 2) (s : Fin 33) : (pt b s).val / 33 = b := by show (b.val * 33 + s.val) / 33 = _; omega
theorem pt_mod (b : Fin 2) (s : Fin 33) : (pt b s).val % 33 = s := by show (b.val * 33 + s.val) % 33 = _; omega

/-- The token that row `r` of tile `s` holds. -/
abbrev tok (s : Fin 33) (r : Fin 256) : Fin 8448 := ⟨s * 256 + r, by omega⟩

theorem iblk0 (c : Dev nD) (b : Fin 2) (s : Fin 33) (r : Fin 256) (j : Fin 1024) :
    iblk m c 0 (pt b s) (ix3 0 r j) = m ((c : Thread nD τ).loc main_arg0) (ix3 b (tok s r) j) := by
  obtain ⟨⟨e0, e1, e2⟩, _⟩ := idx_facts (pt b s)
  rw [pt_div] at e0; rw [pt_mod] at e1
  show V m c main_arg0 (((cfg0.win 0).blk (pt b s)).view.emb (ix3 0 r j)) = _
  rw [V_main_arg0]
  congr 1
  funext a; apply Fin.ext
  match a with
  | ⟨0, _⟩ => show win0_0.index (pt b s) 0 * 1 + 1 * 0 = b.val; omega
  | ⟨1, _⟩ => show win0_0.index (pt b s) 1 * 256 + 1 * r.val = s.val * 256 + r.val; omega
  | ⟨2, _⟩ => show win0_0.index (pt b s) 2 * 1024 + 1 * j.val = j.val; omega

theorem iblk1 (c : Dev nD) (b : Fin 2) (s : Fin 33) (r : Fin 256) (n : Fin 6144) :
    iblk m c 1 (pt b s) (ix3 0 0 n) = m ((c : Thread nD τ).loc main_arg1) (ix2 (modRow b (tok s r)) n) := by
  obtain ⟨_, ⟨e0, e1, e2⟩, _⟩ := idx_facts (pt b s)
  rw [pt_div, pt_mod] at e0
  rw [← v96_apply m]
  show V m c main_v96 (((cfg0.win 1).blk (pt b s)).view.emb (ix3 0 0 n)) = _
  congr 1
  funext a; apply Fin.ext
  match a with
  | ⟨0, _⟩ =>
    show win0_1.index (pt b s) 0 * 1 + 1 * 0 = (modRow b (tok s r)).val
    rw [e0]
    unfold modRow
    by_cases h : s.val = 32
    · rw [if_pos h, if_neg (show ¬ s.val * 256 + r.val < 8192 by omega)]; rfl
    · rw [if_neg h, if_pos (show s.val * 256 + r.val < 8192 by omega)]
      show b.val * 1 + 1 * 0 = b.val; omega
  | ⟨1, _⟩ => show win0_1.index (pt b s) 1 * 1 + 1 * 0 = 0; omega
  | ⟨2, _⟩ => show win0_1.index (pt b s) 2 * 6144 + 1 * n.val = n.val; omega

theorem iblk2 (c : Dev nD) (t : Fin cfg0.N) (i : Fin 1) (j : Fin 1024) :
    iblk m c 2 t (ix2 i j) = V m c main_v64 (ix2 i j) := by
  obtain ⟨⟨e0, e1⟩, _⟩ := idx_zero t
  show V m c main_v64 (((cfg0.win 2).blk t).view.emb (ix2 i j)) = _
  congr 1
  funext a; apply Fin.ext
  match a with
  | ⟨0, _⟩ => show win0_2.index t 0 * 1 + 1 * i.val = i.val; omega
  | ⟨1, _⟩ => show win0_2.index t 1 * 1024 + 1 * j.val = j.val; omega

theorem iblk4 (c : Dev nD) (t : Fin cfg0.N) (i : Fin 2304) (j : Fin 1024) :
    iblk m c 4 t (ix2 i j) = V m c main_v67 (ix2 i j) := by
  obtain ⟨_, ⟨e0, e1⟩, _⟩ := idx_zero t
  show V m c main_v67 (((cfg0.win 4).blk t).view.emb (ix2 i j)) = _
  congr 1
  funext a; apply Fin.ext
  match a with
  | ⟨0, _⟩ => show win0_4.index t 0 * 2304 + 1 * i.val = i.val; omega
  | ⟨1, _⟩ => show win0_4.index t 1 * 1024 + 1 * j.val = j.val; omega

theorem iblk7 (c : Dev nD) (t : Fin cfg0.N) (i : Fin 256) (j : Fin 128) :
    iblk m c 7 t (ix2 i j) = V m c main_v72 (ix2 i j) := by
  obtain ⟨_, _, ⟨e0, e1⟩, _⟩ := idx_zero t
  show V m c main_v72 (((cfg0.win 7).blk t).view.emb (ix2 i j)) = _
  congr 1
  funext a; apply Fin.ext
  match a with
  | ⟨0, _⟩ => show win0_7.index t 0 * 256 + 1 * i.val = i.val; omega
  | ⟨1, _⟩ => show win0_7.index t 1 * 128 + 1 * j.val = j.val; omega

theorem iblk10 (c : Dev nD) (t : Fin cfg0.N) (i : Fin 128) (j : Fin 256) :
    iblk m c 10 t (ix2 i j) = V m c main_v77 (ix2 i j) := by
  obtain ⟨_, _, _, e0, e1⟩ := idx_zero t
  show V m c main_v77 (((cfg0.win 10).blk t).view.emb (ix2 i j)) = _
  congr 1
  funext a; apply Fin.ext
  match a with
  | ⟨0, _⟩ => show win0_10.index t 0 * 128 + 1 * i.val = i.val; omega
  | ⟨1, _⟩ => show win0_10.index t 1 * 256 + 1 * j.val = j.val; omega

/-- Where head `k`, entry `q` and column `r` of the result's block lie in the array. -/
theorem emb25 (b : Fin 2) (s : Fin 33) (k : Fin 10) (q : Fin 80) (r : Fin 256) :
    ((cfg0.win 25).blk (pt b s)).view.emb (ix4 0 k q r) = ix4 b k q (tok s r) := by
  obtain ⟨_, _, e0, e1, e2, e3⟩ := idx_facts (pt b s)
  rw [pt_div] at e0; rw [pt_mod] at e3
  funext a; apply Fin.ext
  match a with
  | ⟨0, _⟩ => show win0_25.index (pt b s) 0 * 1 + 1 * 0 = b.val; omega
  | ⟨1, _⟩ => show win0_25.index (pt b s) 1 * 10 + 1 * k.val = k.val; omega
  | ⟨2, _⟩ => show win0_25.index (pt b s) 2 * 80 + 1 * q.val = q.val; omega
  | ⟨3, _⟩ => show win0_25.index (pt b s) 3 * 256 + 1 * r.val = s.val * 256 + r.val; omega

/-- The regrouped weights give the plain heads. -/
theorem grouped_eq (h : Fin 1024 → EReal) (w : Fin 1024 → Fin 1952 → EReal) (wq : Fin 1024 → Fin 2304 → EReal)
    (g : Fin 128 → EReal) (wb : Fin 128 → Fin 512 → EReal) (wv : Fin 128 → Fin 256 → EReal)
    (hc : ∀ i (j : Fin 128), wq i ⟨256 + j, by omega⟩ = w i ⟨256 + j, by omega⟩)
    (hd : ∀ i (j : Fin 256), wq i ⟨1920 + j, by omega⟩ = w i ⟨928 + j, by omega⟩)
    (hg : ∀ i (j : Fin 128), wq i ⟨2176 + j, by omega⟩ = w i ⟨1824 + j, by omega⟩)
    (hv : ∀ i (k : Fin 4) (r : Fin 64), wv i ⟨64 * k + r, by omega⟩ = wb i ⟨128 * k + 64 + r, by omega⟩)
    (k : Fin 10) (r : Fin 64) : grouped h wq g wv k r = value h w g wb k r := by
  unfold grouped value
  by_cases h4 : k.val < 4
  · rw [dif_pos h4, dif_pos h4]
    unfold times
    simp only [hc]
    exact Finset.sum_congr rfl fun i _ => congrArg _ (hv i ⟨k, h4⟩ r)
  · rw [dif_neg h4, dif_neg h4]
    by_cases h8 : k.val < 8
    · rw [dif_pos h8]
      unfold times
      exact Finset.sum_congr rfl fun i _ => congrArg _
        ((congrArg (wq i) (Fin.ext (by simp only; omega))).trans ((hd i ⟨64 * (k.val - 4) + r, by omega⟩).trans
          (congrArg (w i) (Fin.ext (by simp only; omega)))))
    · rw [dif_neg h8]
      unfold times
      exact Finset.sum_congr rfl fun i _ => congrArg _
        ((congrArg (wq i) (Fin.ext (by simp only; omega))).trans ((hg i ⟨64 * (k.val - 8) + r, by omega⟩).trans
          (congrArg (w i) (Fin.ext (by simp only; omega)))))

/-- The value block in terms of its operands' rows. -/
theorem block_eq (x : Vec Ideal S1x256x1024 .f32) (md : Vec Ideal S1x1x6144 .f32) (g : Vec Ideal S1x1024 .f32)
    (wq : Vec Ideal S2304x1024 .bf16) (gk : Vec Ideal S128x256 .f32) (wv : Vec Ideal S256x128 .bf16) (k : Fin 10) (q : Fin 80)
    (r : Fin 256) :
    Block.block (k0_pay9 x md g wq) gk wv k q r
      = padded (grouped (row (fun j => x (ix3 0 r j)) (fun n => md (ix3 0 0 n)) fun j => g (ix2 0 j)) (fun i n => wq (ix2 n i))
          (fun j => gk (ix2 j r)) fun i n => wv (ix2 n i)) k q := by
  unfold Block.block
  simp only [Block.pay9_apply]
  rfl

/-- The result array after the run, at a token named by its tile and its row in the tile. -/
theorem final_tile (c : Dev nD) (b : Fin 2) (s : Fin 33) (k : Fin 10) (q : Fin 80) (r : Fin 256) :
    (dats m 0 c).arrAt 25 cfg0.N (ix4 b k q (tok s r))
      = result (m ((c : Thread nD τ).loc main_arg0)) (m ((c : Thread nD τ).loc main_arg1)) (m ((c : Thread nD τ).loc main_arg2))
          (m ((c : Thread nD τ).loc main_arg3)) (m ((c : Thread nD τ).loc main_arg6)) (m ((c : Thread nD τ).loc main_arg7))
          b k q (tok s r) := by
  refine (congrArg ((dats m 0 c).arrAt 25 cfg0.N) (emb25 b s k q r)).symm.trans ?_
  refine (congrFun (Value.blocks25 m c (pt b s) (flush0_25 _)) (ix4 0 k q r)).trans ?_
  refine (congrFun (Value.flushed25_A m c (pt b s)) (ix4 0 k q r)).trans ?_
  refine (Block.out_A _ _ _ _ _ _ _ _ _ _ _ _ _ _ _ _ _ _ _ _ _ _ _ _ _ _ _ _ _ _ _ _ _ _ _ _ _ _ _ _ _ _ _ _ _ _ _ _ _ _ _ _ _ _
    _ _ _ _ _ _ _ _ _ _ _ _ _ _ _ _ _ _ _ _ _ _ _ (ix4 0 k q r)).trans ?_
  refine (block_eq _ _ _ _ _ _ k q r).trans ?_
  unfold result
  simp only [iblk0 m, iblk1 m c b s r, iblk2 m, iblk4 m, iblk7 m, iblk10 m, v64_apply m, v77_apply m]
  refine congrArg (fun v => padded v k q) (funext fun k => funext fun j => ?_)
  have hc := v67_latent m c
  have hd := v67_wide m c
  have hg := v67_last m c
  have hv := v72_apply m c
  revert hc hd hg hv
  generalize V m c main_v67 = wq
  generalize V m c main_v72 = wv
  intro hc hd hg hv
  exact grouped_eq _ _ _ _ _ _ (fun i j => hc j i) (fun i j => hd j i) (fun i j => hg j i) (fun i k r => hv k r i) k j

/-- The result array after the run, at any index. -/
theorem final_apply (c : Dev nD) (b : Fin 2) (k : Fin 10) (q : Fin 80) (t : Fin 8448) :
    (dats m 0 c).arrAt 25 cfg0.N (ix4 b k q t)
      = result (m ((c : Thread nD τ).loc main_arg0)) (m ((c : Thread nD τ).loc main_arg1)) (m ((c : Thread nD τ).loc main_arg2))
          (m ((c : Thread nD τ).loc main_arg3)) (m ((c : Thread nD τ).loc main_arg6)) (m ((c : Thread nD τ).loc main_arg7))
          b k q t := by
  have e : t = tok ⟨t / 256, by omega⟩ ⟨t % 256, by omega⟩ := Fin.ext (show t.val = t.val / 256 * 256 + t.val % 256 by omega)
  rw [e]
  exact final_tile m c b _ k q _

end Cert.Kernel6Ideal.Array

end
-- ==== Proof.ValReference.lean ====
/- What the plain program of the value heads computes: each of its entries is the plain function of the token's row. -/
module

public import proofs.«01_k».proof.Proof.ValRow
public import proofs.«01_k».proof.Proof.Gen.Reference6Ideal.Read

@[expose] public section

set_option maxRecDepth 16384

noncomputable section

open scoped BigOperators
open Idealize.ShloMosaic

namespace Cert.Reference6Ideal.Rows

open Cert.Reference6Ideal Cert.Reference6Ideal.Read Cert.ValRow
open Cert.FfnRow (times modulated modRow)

variable (x : Vec Ideal S2x8448x1024 .f32) (md : Vec Ideal S8x6144 .f32) (w : Vec Ideal S1024x1952 .f32)
  (g : Vec Ideal S1024 .f32) (gk : Vec Ideal S128 .f32) (wb : Vec Ideal S128x512 .f32)

/-- The modulated normalised row of a latent token. -/
theorem v23_apply (b : Fin 2) (t : Fin 8192) (j : Fin 1024) :
    val_main_v23 (F := Ideal) x md g (ix3 b t j)
      = row (fun j => x (ix3 b ⟨t, by omega⟩ j)) (fun n => md (ix2 ⟨b, by omega⟩ n)) (fun j => g (ix1 j)) j := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rfl

/-- The modulated normalised row of a context token. -/
theorem v48_apply (b : Fin 2) (t : Fin 256) (j : Fin 1024) :
    val_main_v48 (F := Ideal) x md g (ix3 b t j)
      = row (fun j => x (ix3 b ⟨8192 + t, by omega⟩ j)) (fun n => md (ix2 2 n)) (fun j => g (ix1 j)) j := by
  pointwise [val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_cst_3, val_main_cst_4, val_main_cst_5, val_main_cst_6]
  rfl

/-- The modulated normalised row of any token. -/
theorem v49_apply (b : Fin 2) (t : Fin 8448) (j : Fin 1024) :
    val_main_v49 (F := Ideal) x md g (ix3 b t j)
      = row (fun j => x (ix3 b t j)) (fun n => md (ix2 (modRow b t) n)) (fun j => g (ix1 j)) j := by
  unfold val_main_v49
  have e1 := v23_apply x md g b
  have e2 := v48_apply x md g b
  revert e1 e2
  generalize val_main_v23 (F := Ideal) x md g = p
  generalize val_main_v48 (F := Ideal) x md g = q
  intro e1 e2
  unfold modRow
  by_cases h : t.val < 8192
  · rw [if_pos h]
    refine Eq.trans ?_ (e1 ⟨t, h⟩ j)
    pointwise []
    simp [h]
  · rw [if_neg h]
    have ht : t = ⟨8192 + (⟨t.val - 8192, by omega⟩ : Fin 256).val, by have := t.isLt; simp only; omega⟩ := Fin.ext (by simp only; omega)
    refine Eq.trans ?_ ((e2 ⟨t.val - 8192, by omega⟩ j).trans (by rw [← ht]))
    pointwise []
    simp [h]

/-- The compressed row of a token. -/
theorem v51_apply (b : Fin 2) (t : Fin 8448) (j : Fin 128) :
    val_main_v51 (F := Ideal) x md w g (ix3 b t j)
      = times (fun j => val_main_v49 (F := Ideal) x md g (ix3 b t j)) (fun i n => w (ix2 i n)) ⟨256 + j, by omega⟩ := by
  unfold val_main_v51
  generalize val_main_v49 (F := Ideal) x md g = z
  pointwise [val_main_v50, times]

/-- The plain heads four to seven of a token, side by side. -/
theorem v53_apply (b : Fin 2) (t : Fin 8448) (j : Fin 256) :
    val_main_v53 (F := Ideal) x md w g (ix3 b t j)
      = times (fun j => val_main_v49 (F := Ideal) x md g (ix3 b t j)) (fun i n => w (ix2 i n)) ⟨928 + j, by omega⟩ := by
  unfold val_main_v53
  generalize val_main_v49 (F := Ideal) x md g = z
  pointwise [val_main_v52, times]

/-- The plain heads eight and nine of a token, side by side. -/
theorem v55_apply (b : Fin 2) (t : Fin 8448) (j : Fin 128) :
    val_main_v55 (F := Ideal) x md w g (ix3 b t j)
      = times (fun j => val_main_v49 (F := Ideal) x md g (ix3 b t j)) (fun i n => w (ix2 i n)) ⟨1824 + j, by omega⟩ := by
  unfold val_main_v55
  generalize val_main_v49 (F := Ideal) x md g = z
  pointwise [val_main_v54, times]

/-- The normalised compressed row of a token. -/
theorem v68_apply (b : Fin 2) (t : Fin 8448) (j : Fin 128) :
    val_main_v68 (F := Ideal) x md w g gk (ix3 b t j)
      = normal (fun j => val_main_v51 (F := Ideal) x md w g (ix3 b t j)) (fun j => gk (ix1 j)) j := by
  unfold val_main_v68 val_main_v65 val_main_v64 val_main_v63 val_main_v62 val_main_v60 val_main_v58 val_main_v57 val_main_v56
  generalize val_main_v51 (F := Ideal) x md w g = z
  pointwise [val_main_v67, val_main_v66, val_main_v61, val_main_v59, val_main_cst_7, val_main_cst_8, val_main_cst_9]
  rfl

/-- The expanded compressed row of a token. -/
theorem v69_apply (b : Fin 2) (t : Fin 8448) (n : Fin 512) :
    val_main_v69 (F := Ideal) x md w g gk wb (ix3 b t n)
      = times (fun j => val_main_v68 (F := Ideal) x md w g gk (ix3 b t j)) (fun i n => wb (ix2 i n)) n := by
  unfold val_main_v69
  generalize val_main_v68 (F := Ideal) x md w g gk = z
  pointwise [times]

/-- The first four heads: the second half of each group of 128 expanded numbers. -/
theorem v71_apply (b : Fin 2) (t : Fin 8448) (k : Fin 4) (r : Fin 64) :
    val_main_v71 (F := Ideal) x md w g gk wb (ix4 b t k r)
      = val_main_v69 (F := Ideal) x md w g gk wb (ix3 b t ⟨128 * k + 64 + r, by omega⟩) := by
  unfold val_main_v71 val_main_v70
  generalize val_main_v69 (F := Ideal) x md w g gk wb = z
  pointwise []
  exact congrArg (fun n => z (ix3 b t n)) (Fin.ext (by simp only; omega))

/-- The next four heads. -/
theorem v72_apply (b : Fin 2) (t : Fin 8448) (k : Fin 4) (r : Fin 64) :
    val_main_v72 (F := Ideal) x md w g (ix4 b t k r)
      = val_main_v53 (F := Ideal) x md w g (ix3 b t ⟨64 * k + r, by omega⟩) := by
  unfold val_main_v72
  generalize val_main_v53 (F := Ideal) x md w g = z
  pointwise []
  exact congrArg (fun n => z (ix3 b t n)) (Fin.ext (by simp only; omega))

/-- The last two heads. -/
theorem v73_apply (b : Fin 2) (t : Fin 8448) (k : Fin 2) (r : Fin 64) :
    val_main_v73 (F := Ideal) x md w g (ix4 b t k r)
      = val_main_v55 (F := Ideal) x md w g (ix3 b t ⟨64 * k + r, by omega⟩) := by
  unfold val_main_v73
  generalize val_main_v55 (F := Ideal) x md w g = z
  pointwise []
  exact congrArg (fun n => z (ix3 b t n)) (Fin.ext (by simp only; omega))

/-- All ten heads. -/
theorem v74_apply (b : Fin 2) (t : Fin 8448) (k : Fin 10) (r : Fin 64) :
    val_main_v74 (F := Ideal) x md w g gk wb (ix4 b t k r)
      = value (row (fun j => x (ix3 b t j)) (fun n => md (ix2 (modRow b t) n)) fun j => g (ix1 j)) (fun i n => w (ix2 i n))
          (fun j => gk (ix1 j)) (fun i n => wb (ix2 i n)) k r := by
  have e1 := v71_apply x md w g gk wb b t
  have e2 := v72_apply x md w g b t
  have e3 := v73_apply x md w g b t
  simp only [v69_apply, v68_apply, v51_apply, v49_apply] at e1
  simp only [v53_apply, v49_apply] at e2
  simp only [v55_apply, v49_apply] at e3
  unfold val_main_v74
  revert e1 e2 e3
  generalize val_main_v71 (F := Ideal) x md w g gk wb = p
  generalize val_main_v72 (F := Ideal) x md w g = q
  generalize val_main_v73 (F := Ideal) x md w g = u
  intro e1 e2 e3
  unfold value
  by_cases h4 : k.val < 4
  · rw [dif_pos h4]
    refine Eq.trans ?_ (e1 ⟨k, h4⟩ r)
    pointwise []
    exact dif_pos h4
  · rw [dif_neg h4]
    by_cases h8 : k.val < 8
    · rw [dif_pos h8]
      refine Eq.trans ?_ ((e2 ⟨k.val - 4, by omega⟩ r).trans (congrArg _ (Fin.ext (by simp only; omega))))
      pointwise []
      exact (dif_neg h4).trans (dif_pos (show k.val - 4 < 4 by omega))
    · rw [dif_neg h8]
      refine Eq.trans ?_ ((e3 ⟨k.val - 8, by omega⟩ r).trans (congrArg _ (Fin.ext (by simp only; omega))))
      pointwise []
      exact (dif_neg h4).trans ((dif_neg (show ¬ k.val - 4 < 4 by omega)).trans rfl)

/-- The result, at any index. -/
theorem v78_apply (b : Fin 2) (k : Fin 10) (s : Fin 80) (t : Fin 8448) :
    val_main_v78 (F := Ideal) x md w g gk wb (ix4 b k s t) = result x md w g gk wb b k s t := by
  have e := fun r => v74_apply x md w g gk wb b t k r
  unfold val_main_v78 val_main_v76 val_main_v75
  revert e
  generalize val_main_v74 (F := Ideal) x md w g gk wb = z
  intro e
  unfold result padded
  by_cases hs : s.val < 64
  · rw [dif_pos hs, ← e]
    pointwise []
    exact dif_pos hs
  · rw [dif_neg hs]
    pointwise [val_main_v77, val_main_cst_10, one]
    exact dif_neg hs

end Cert.Reference6Ideal.Rows

end
-- ==== Proof.ValClaim.lean ====
/- The sixth claim: the input projection's kernel and its plain program leave the same value heads. -/
module

public import proofs.«01_k».proof.Proof.ValArray
public import proofs.«01_k».proof.Proof.ValReference
public import proofs.«01_k».proof.Proof.Gen.Reference6Ideal.Run
public import proofs.«01_k».proof.Defs

@[expose] public section

noncomputable section

open Idealize.ShloMosaic Idealize.SL.Sem

namespace Cert.ValClaim

/-- From equal arguments both programs end with the same value heads, their arguments unchanged. -/
theorem algebraic [hKernel6Ideal : Cert.Kernel6Ideal.Facts] [hReference6Ideal : Cert.Reference6Ideal.Facts] :
    algebraic_Kernel6Ideal_Reference6Ideal := by
  intro m g m' g' _ hargs
  refine ⟨fun c => (Cert.Kernel6Ideal.Gen.dats m 0 c).arrAt 25 Cert.Kernel6Ideal.cfg0.N,
    (θ_run Cert.Kernel6Ideal.defs _ _).mono (fun r h c => (h c).2.2) (Cert.Kernel6Ideal.Value.run_blocks m g), ?_⟩
  refine (θ_run Cert.Reference6Ideal.defs _ _).mono (fun r h c => ⟨(h c).1.trans ?_, (h c).2⟩)
    (Cert.Reference6Ideal.Value.run m' g')
  refine (Cert.Reference6Ideal.Read.val_main_v78_eq m' c).trans ?_
  funext b
  idx_vars b
  refine (Cert.Reference6Ideal.Rows.v78_apply _ _ _ _ _ _ _ _ _ _).trans ?_
  obtain ⟨h0, h1, h2, h3, h4, h5, h6, h7, h8, h9⟩ := hargs c
  refine Eq.trans ?_ (Cert.Kernel6Ideal.Array.final_apply m c _ _ _ _).symm
  rw [← h0, ← h1, ← h2, ← h3, ← h6, ← h7]

end Cert.ValClaim

end
-- ==== Proof.lean ====
/- The certificate, assembled: every claim of `Cert.Claim` (proofs.«01_k».proof.Defs).

   * The attention: `Cert.AttnClaim.algebraic` (Proof/AttnClaim.lean). The kernel's step over one block of keys is read in
     AttnStep, AttnReads, AttnFirst, AttnMiddle, AttnLast, AttnOutput and AttnStore; AttnArray follows the running maxima and
     sums over the blocks to the result array; AttnSoftmax is the mathematics of the running softmax; the AttnRef modules read
     the plain program; AttnInputs reads the condition on the inputs; AttnHeads and AttnRows join the two sides.
   * The output projection with the feed-forward network: `Cert.FfnClaim.algebraic` (Proof/FfnClaim.lean, over the Ffn modules).
   * The modulation vectors: `Cert.ModClaim.algebraic` (Proof/ModClaim.lean, over ModArray).
   * The attention of the context queries: `Cert.CtxClaim.algebraic` (Proof/CtxClaim.lean). One block holds all the keys;
     CtxStep, CtxReads, CtxFirst, CtxOutput and CtxStore read the kernel's step over it, CtxArray the result array, the CtxRef
     modules the plain program, and CtxHeads and CtxRows join the two sides.
   * The last layer's output projection with the feed-forward network: `Cert.LastClaim.algebraic` (Proof/LastClaim.lean, over
     the Last modules and FfnRow).
   * The value heads of the input projection: `Cert.ValClaim.algebraic` (Proof/ValClaim.lean, over the Val modules and FfnRow).
   * The frames: the kernels' from their generated frames, the plain programs' from their generated runs. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Pre_finite_scores_unit_row
public import proofs.«01_k».proof.Proof.Gen.On_latent_columns
public import proofs.«01_k».proof.Proof.Gen.Pre_finite_scores_unit_row_of_context
public import proofs.«01_k».proof.Proof.AttnClaim
public import proofs.«01_k».proof.Proof.FfnClaim
public import proofs.«01_k».proof.Proof.ModClaim
public import proofs.«01_k».proof.Proof.CtxClaim
public import proofs.«01_k».proof.Proof.LastClaim
public import proofs.«01_k».proof.Proof.ValClaim

@[expose] public section

noncomputable section

namespace Cert.Proof

open Idealize.ShloMosaic Idealize.SL.Sem

/-- The plain attention runs to the end, leaving its arguments and every semaphore counter at zero. -/
theorem frame_attention : quiescent_ReferenceIdeal :=
  fun m ρ _ => (θ_run Cert.ReferenceIdeal.defs _ _).mono
    (fun r h => ⟨fun c => (h c).2, Idealize.ShloMosaic.sem_eq_zero_of_no_sems (by decide) r.2⟩) (Cert.ReferenceIdeal.Value.run m ρ)

/-- So does the plain output projection with the feed-forward network. -/
theorem frame_network : quiescent_Reference2Ideal :=
  fun m ρ _ => (θ_run Cert.Reference2Ideal.defs _ _).mono
    (fun r h => ⟨fun c => (h c).2, Idealize.ShloMosaic.sem_eq_zero_of_no_sems (by decide) r.2⟩) (Cert.Reference2Ideal.Value.run m ρ)

/-- And the plain modulation vectors. -/
theorem frame_modulation : quiescent_Reference3Ideal :=
  fun m ρ _ => (θ_run Cert.Reference3Ideal.defs _ _).mono
    (fun r h => ⟨fun c => (h c).2, Idealize.ShloMosaic.sem_eq_zero_of_no_sems (by decide) r.2⟩) (Cert.Reference3Ideal.Value.run m ρ)

/-- And the plain attention of the context queries. -/
theorem frame_context : quiescent_Reference4Ideal :=
  fun m ρ _ => (θ_run Cert.Reference4Ideal.defs _ _).mono
    (fun r h => ⟨fun c => (h c).2, Idealize.ShloMosaic.sem_eq_zero_of_no_sems (by decide) r.2⟩) (Cert.Reference4Ideal.Value.run m ρ)

/-- And the plain output projection with the feed-forward network of the last layer. -/
theorem frame_last : quiescent_Reference5Ideal :=
  fun m ρ _ => (θ_run Cert.Reference5Ideal.defs _ _).mono
    (fun r h => ⟨fun c => (h c).2, Idealize.ShloMosaic.sem_eq_zero_of_no_sems (by decide) r.2⟩) (Cert.Reference5Ideal.Value.run m ρ)

/-- And the plain value heads. -/
theorem frame_values : quiescent_Reference6Ideal :=
  fun m ρ _ => (θ_run Cert.Reference6Ideal.defs _ _).mono
    (fun r h => ⟨fun c => (h c).2, Idealize.ShloMosaic.sem_eq_zero_of_no_sems (by decide) r.2⟩) (Cert.Reference6Ideal.Value.run m ρ)

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Kernel4.Gen.facts,
    Cert.Kernel4Ideal.Gen.facts, Cert.Reference4Ideal.Gen.facts, Cert.Kernel5.Gen.facts,
    Cert.Kernel5Ideal.Gen.facts, Cert.Reference5Ideal.Gen.facts, Cert.Kernel6.Gen.facts,
    Cert.Kernel6Ideal.Gen.facts, Cert.Reference6Ideal.Gen.facts, Cert.Pre_finite_scores_unit_row.Gen.facts,
    Cert.Pre_finite_scores_unit_row_of_context.Gen.facts, Cert.On_latent_columns.Gen.facts,
    fun m g _ => Cert.Kernel.Gen.frame m g,
    fun m g _ => Cert.KernelIdeal.Gen.frame m g,
    fun m g _ => Cert.KernelIdeal.Gen.frame m g,
    frame_attention,
    fun m g _ => frame_attention m g trivial,
    fun m g _ => Cert.Kernel2.Gen.frame m g,
    fun m g _ => Cert.Kernel2Ideal.Gen.frame m g,
    frame_network,
    fun m g _ => Cert.Kernel3.Gen.frame m g,
    fun m g _ => Cert.Kernel3Ideal.Gen.frame m g,
    frame_modulation,
    fun m g _ => Cert.Kernel4.Gen.frame m g,
    fun m g _ => Cert.Kernel4Ideal.Gen.frame m g,
    fun m g _ => Cert.Kernel4Ideal.Gen.frame m g,
    frame_context,
    fun m g _ => frame_context m g trivial,
    fun m g _ => Cert.Kernel5.Gen.frame m g,
    fun m g _ => Cert.Kernel5Ideal.Gen.frame m g,
    frame_last,
    fun m g _ => Cert.Kernel6.Gen.frame m g,
    fun m g _ => Cert.Kernel6Ideal.Gen.frame m g,
    frame_values,
    trivial,
    Cert.AttnClaim.algebraic,
    trivial,
    Cert.FfnClaim.algebraic,
    trivial,
    Cert.ModClaim.algebraic,
    trivial,
    Cert.CtxClaim.algebraic,
    trivial,
    Cert.LastClaim.algebraic,
    trivial,
    Cert.ValClaim.algebraic⟩

end Cert.Proof

end
